-- ==== Defs.lean ====
def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_keys_of_scores [hPre_keys_of_scores : Cert.Pre_keys_of_scores.Facts] (m : (ℓ : Loc Cert.SelectIdeal.nD Cert.SelectIdeal.τ Cert.SelectIdeal.sig) → Buf (Elt Ideal) ℓ) : Prop :=
  ∀ c : Dev Cert.SelectIdeal.nD,
    (Cert.Pre_keys_of_scores.fn (F := Ideal) (m ((c.tc : Thread Cert.SelectIdeal.nD Cert.SelectIdeal.τ).loc Cert.SelectIdeal.main_arg0))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_keys_of_scores [hPre_keys_of_scores : Cert.Pre_keys_of_scores.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_keys_of_scores.fn (F := Ideal) (m ((c.tc : Thread Cert.SelectReferenceIdeal.nD Cert.SelectReferenceIdeal.τ).loc Cert.SelectReferenceIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectIdeal_pre_keys_of_scores [hSelectIdeal : Cert.SelectIdeal.Facts] [hPre_keys_of_scores : Cert.Pre_keys_of_scores.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_keys_of_scores m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_SelectReferenceIdeal_pre_keys_of_scores [hSelectReferenceIdeal : Cert.SelectReferenceIdeal.Facts] [hPre_keys_of_scores : Cert.Pre_keys_of_scores.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_keys_of_scores m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def preserves_Select_SelectIdeal : Prop :=
  True

def algebraic_SelectIdeal_SelectReferenceIdeal_pre_keys_of_scores [hSelectIdeal : Cert.SelectIdeal.Facts] [hSelectReferenceIdeal : Cert.SelectReferenceIdeal.Facts] [hPre_keys_of_scores : Cert.Pre_keys_of_scores.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_keys_of_scores m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v3)) (v1 : (c : Dev Cert.SelectIdeal.nD) → Buf (Elt Ideal) ((c.tc : Thread Cert.SelectIdeal.nD Cert.SelectIdeal.τ).loc Cert.SelectIdeal.main_v4)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v3) = v0 c
          ∧ r.2.mem ((c.tc : Thread Cert.SelectIdeal.nD Cert.SelectIdeal.τ).loc Cert.SelectIdeal.main_v4) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v10) = v0 c
          ∧ r.2.mem ((c.tc : Thread Cert.SelectReferenceIdeal.nD Cert.SelectReferenceIdeal.τ).loc Cert.SelectReferenceIdeal.main_v12) = v1 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v47_0)) (v1 : (c : Dev Cert.InProjIdeal.nD) → Buf (Elt Ideal) ((c.tc : Thread Cert.InProjIdeal.nD Cert.InProjIdeal.τ).loc Cert.InProjIdeal.main_v47_1)) (v2 : (c : Dev Cert.InProjIdeal.nD) → Buf (Elt Ideal) ((c.tc : Thread Cert.InProjIdeal.nD Cert.InProjIdeal.τ).loc Cert.InProjIdeal.main_v47_2)) (v3 : (c : Dev Cert.InProjIdeal.nD) → Buf (Elt Ideal) ((c.tc : Thread Cert.InProjIdeal.nD Cert.InProjIdeal.τ).loc Cert.InProjIdeal.main_v47_3)) (v4 : (c : Dev Cert.InProjIdeal.nD) → Buf (Elt Ideal) ((c.tc : Thread Cert.InProjIdeal.nD Cert.InProjIdeal.τ).loc Cert.InProjIdeal.main_v47_4)) (v5 : (c : Dev Cert.InProjIdeal.nD) → Buf (Elt Ideal) ((c.tc : Thread Cert.InProjIdeal.nD Cert.InProjIdeal.τ).loc Cert.InProjIdeal.main_v47_5)) (v6 : (c : Dev Cert.InProjIdeal.nD) → Buf (Elt Ideal) ((c.tc : Thread Cert.InProjIdeal.nD Cert.InProjIdeal.τ).loc Cert.InProjIdeal.main_v47_6)) (v7 : (c : Dev Cert.InProjIdeal.nD) → Buf (Elt Ideal) ((c.tc : Thread Cert.InProjIdeal.nD Cert.InProjIdeal.τ).loc Cert.InProjIdeal.main_v47_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v47_0) = v0 c
          ∧ r.2.mem ((c.tc : Thread Cert.InProjIdeal.nD Cert.InProjIdeal.τ).loc Cert.InProjIdeal.main_v47_1) = v1 c
          ∧ r.2.mem ((c.tc : Thread Cert.InProjIdeal.nD Cert.InProjIdeal.τ).loc Cert.InProjIdeal.main_v47_2) = v2 c
          ∧ r.2.mem ((c.tc : Thread Cert.InProjIdeal.nD Cert.InProjIdeal.τ).loc Cert.InProjIdeal.main_v47_3) = v3 c
          ∧ r.2.mem ((c.tc : Thread Cert.InProjIdeal.nD Cert.InProjIdeal.τ).loc Cert.InProjIdeal.main_v47_4) = v4 c
          ∧ r.2.mem ((c.tc : Thread Cert.InProjIdeal.nD Cert.InProjIdeal.τ).loc Cert.InProjIdeal.main_v47_5) = v5 c
          ∧ r.2.mem ((c.tc : Thread Cert.InProjIdeal.nD Cert.InProjIdeal.τ).loc Cert.InProjIdeal.main_v47_6) = v6 c
          ∧ r.2.mem ((c.tc : Thread Cert.InProjIdeal.nD Cert.InProjIdeal.τ).loc Cert.InProjIdeal.main_v47_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v14) = v0 c
          ∧ r.2.mem ((c.tc : Thread Cert.InProjReferenceIdeal.nD Cert.InProjReferenceIdeal.τ).loc Cert.InProjReferenceIdeal.main_v15) = v1 c
          ∧ r.2.mem ((c.tc : Thread Cert.InProjReferenceIdeal.nD Cert.InProjReferenceIdeal.τ).loc Cert.InProjReferenceIdeal.main_v18) = v2 c
          ∧ r.2.mem ((c.tc : Thread Cert.InProjReferenceIdeal.nD Cert.InProjReferenceIdeal.τ).loc Cert.InProjReferenceIdeal.main_v61) = v3 c
          ∧ r.2.mem ((c.tc : Thread Cert.InProjReferenceIdeal.nD Cert.InProjReferenceIdeal.τ).loc Cert.InProjReferenceIdeal.main_v83) = v4 c
          ∧ r.2.mem ((c.tc : Thread Cert.InProjReferenceIdeal.nD Cert.InProjReferenceIdeal.τ).loc Cert.InProjReferenceIdeal.main_v21) = v5 c
          ∧ r.2.mem ((c.tc : Thread Cert.InProjReferenceIdeal.nD Cert.InProjReferenceIdeal.τ).loc Cert.InProjReferenceIdeal.main_v105) = v6 c
          ∧ r.2.mem ((c.tc : Thread Cert.InProjReferenceIdeal.nD Cert.InProjReferenceIdeal.τ).loc Cert.InProjReferenceIdeal.main_v127) = v7 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def Claim : Prop :=
  ∃ (hSelect : Cert.Select.Facts) (hSelectIdeal : Cert.SelectIdeal.Facts) (hSelectReferenceIdeal : Cert.SelectReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hPre_keys_of_scores : Cert.Pre_keys_of_scores.Facts),
    quiescent_Select (hSelect := hSelect)
    ∧ quiescent_SelectIdeal (hSelectIdeal := hSelectIdeal)
    ∧ quiescent_SelectIdeal_pre_keys_of_scores (hSelectIdeal := hSelectIdeal) (hPre_keys_of_scores := hPre_keys_of_scores)
    ∧ quiescent_SelectReferenceIdeal (hSelectReferenceIdeal := hSelectReferenceIdeal)
    ∧ quiescent_SelectReferenceIdeal_pre_keys_of_scores (hSelectReferenceIdeal := hSelectReferenceIdeal) (hPre_keys_of_scores := hPre_keys_of_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Select_SelectIdeal
    ∧ algebraic_SelectIdeal_SelectReferenceIdeal_pre_keys_of_scores (hSelectIdeal := hSelectIdeal) (hSelectReferenceIdeal := hSelectReferenceIdeal) (hPre_keys_of_scores := hPre_keys_of_scores)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
-- ==== Pre_keys_of_scores.lean ====
abbrev S2x8192x8192 : Shape := ⟨3, ![2, 8192, 8192]⟩
abbrev S_ : Shape := ⟨0, ![]⟩

class Facts : Prop where
  bcast_S_S2x8192x8192 : S_.BroadcastsInDim S2x8192x8192 (![] : Fin 0 → Fin S2x8192x8192.rank)
  reducesTo_S2x8192x8192_S_d0_1_2 : S2x8192x8192.ReducesTo [0, 1, 2] S_
  h_S_ : 0 < S_.numel

variable [Facts]

def fn {F : FTy → Type} [FloatOps F] (main_arg0 : IVec S2x8192x8192 32) : IVec S_ 1 :=
  let main_c : IVec S_ 32 := constantI S_ 32 2155872255#32
  let main_v0 : IVec S2x8192x8192 32 := broadcastInDim S2x8192x8192 ![] bcast_S_S2x8192x8192 main_c
  let main_v1 : IVec S2x8192x8192 1 := cmpi .sge main_arg0 main_v0
  let main_c_0 : IVec S_ 1 := constantI S_ 1 1#1
  let main_v2 : IVec S_ 1 := (fun x v => Host.reduce IntOp.andi x v reducesTo_S2x8192x8192_S_d0_1_2 h_S_) main_v1 main_c_0
  main_v2
-- ==== Select.lean ====
abbrev S2x8192x8192 : Shape := ⟨3, ![2, 8192, 8192]⟩
abbrev S2x16x512x8192 : Shape := ⟨4, ![2, 16, 512, 8192]⟩
abbrev S2x1x8192 : Shape := ⟨3, ![2, 1, 8192]⟩
abbrev S1x16x512x256 : Shape := ⟨4, ![1, 16, 512, 256]⟩
abbrev S1x1x256 : Shape := ⟨3, ![1, 1, 256]⟩
abbrev S16x512x256 : Shape := ⟨3, ![16, 512, 256]⟩
abbrev S32x32x8x256 : Shape := ⟨4, ![32, 32, 8, 256]⟩
abbrev S32x8x256 : Shape := ⟨3, ![32, 8, 256]⟩
abbrev S128x256 : Shape := ⟨2, ![128, 256]⟩
abbrev S1x1x128x256 : Shape := ⟨4, ![1, 1, 128, 256]⟩
abbrev S1x128x256 : Shape := ⟨3, ![1, 128, 256]⟩
abbrev S1x8x128 : Shape := ⟨3, ![1, 8, 128]⟩
abbrev S8x128 : Shape := ⟨2, ![8, 128]⟩
abbrev S1x1x8x128 : Shape := ⟨4, ![1, 1, 8, 128]⟩
abbrev S8x256 : Shape := ⟨2, ![8, 256]⟩
abbrev S1x8x256 : Shape := ⟨3, ![1, 8, 256]⟩
abbrev S1x256 : Shape := ⟨2, ![1, 256]⟩
abbrev S1x1x8x256 : Shape := ⟨4, ![1, 1, 8, 256]⟩
abbrev S256 : Shape := ⟨1, ![256]⟩
abbrev S2x8192 : Shape := ⟨2, ![2, 8192]⟩

abbrev nBuf : Space → Nat
  | .hbm => 7
  | .vmem => 9
  | .smem => 0
  | _ => 0

abbrev bufTy : (tb : Table) → Fin (tcTables nBuf tb) → BufTy
  | .hbm, ⟨0, _⟩ => ⟨S2x8192x8192, .i32⟩
  | .hbm, ⟨1, _⟩ => ⟨S2x8192x8192, .i32⟩
  | .hbm, ⟨2, _⟩ => ⟨S2x16x512x8192, .i32⟩
  | .hbm, ⟨3, _⟩ => ⟨S2x1x8192, .i32⟩
  | .hbm, ⟨4, _⟩ => ⟨S2x1x8192, .i32⟩
  | .hbm, ⟨5, _⟩ => ⟨S2x8192, .i32⟩
  | .hbm, ⟨6, _⟩ => ⟨S2x8192, .i32⟩
  | .local _ .vmem, ⟨0, _⟩ => ⟨S1x16x512x256, .i32⟩
  | .local _ .vmem, ⟨1, _⟩ => ⟨S1x16x512x256, .i32⟩
  | .local _ .vmem, ⟨2, _⟩ => ⟨S1x1x256, .i32⟩
  | .local _ .vmem, ⟨3, _⟩ => ⟨S1x1x256, .i32⟩
  | .local _ .vmem, ⟨4, _⟩ => ⟨S1x1x256, .i32⟩
  | .local _ .vmem, ⟨5, _⟩ => ⟨S1x1x256, .i32⟩
  | .local _ .vmem, ⟨6, _⟩ => ⟨S16x512x256, .i32⟩
  | .local _ .vmem, ⟨7, _⟩ => ⟨S32x32x8x256, .i32⟩
  | .local _ .vmem, ⟨8, _⟩ => ⟨S32x8x256, .i32⟩
  | _, _ => ⟨S2x8192x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_3 : BitVec 32 := 1#32
  ⟨c0_i32_1, v13, c1_i32_3⟩
def k0_off1 (i : grid0.Coords) (k0_t1 : Fin (k0_t1_loop i).trips) : Fin 4 → Nat :=
  let c0_16704 : Index := 0#32
  let c0_i32_1 : BitVec 32 := 0#32
  let c1_i32_3 : BitVec 32 := 1#32
  let arg8 : BitVec 32 := Scf.iv c0_i32_1 c1_i32_3 k0_t1
  let v18302 : Index := Scalar.indexCast arg8
  let c0_16705 : Index := 0#32
  let c0_16706 : Index := 0#32
  ![0, v18302.toNat, 0, 0]
def k0_off2 (i : grid0.Coords) (k0_t1 : Fin (k0_t1_loop i).trips) : Fin 3 → Nat :=
  let c0_i32_1 : BitVec 32 := 0#32
  let c1_i32_3 : BitVec 32 := 1#32
  let arg8 : BitVec 32 := Scf.iv c0_i32_1 c1_i32_3 k0_t1
  let v18305 : Index := Scalar.indexCast arg8
  let c0_16707 : Index := 0#32
  let c0_16708 : Index := 0#32
  ![v18305.toNat, 0, 0]
def k0_off3 (i : grid0.Coords) (k0_t1 : Fin (k0_t1_loop i).trips) : Fin 4 → Nat :=
  let c0_16709 : Index := 0#32
  let c0_i32_1 : BitVec 32 := 0#32
  let c1_i32_3 : BitVec 32 := 1#32
  let arg8 : BitVec 32 := Scf.iv c0_i32_1 c1_i32_3 k0_t1
  let v18309 : Index := Scalar.indexCast arg8
  let c128_16710 : Index := 128#32
  let c0_16711 : Index := 0#32
  ![0, v18309.toNat, 128, 0]
def k0_off4 (i : grid0.Coords) (k0_t1 : Fin (k0_t1_loop i).trips) : Fin 3 → Nat :=
  let c0_i32_1 : BitVec 32 := 0#32
  let c1_i32_3 : BitVec 32 := 1#32
  let arg8 : BitVec 32 := Scf.iv c0_i32_1 c1_i32_3 k0_t1
  let v18312 : Index := Scalar.indexCast arg8
  let c128_16712 : Index := 128#32
  let c0_16713 : Index := 0#32
  ![v18312.toNat, 128, 0]
def k0_off5 (i : grid0.Coords) (k0_t1 : Fin (k0_t1_loop i).trips) : Fin 4 → Nat :=
  let c0_16714 : Index := 0#32
  let c0_i32_1 : BitVec 32 := 0#32
  let c1_i32_3 : BitVec 32 := 1#32
  let arg8 : BitVec 32 := Scf.iv c0_i32_1 c1_i32_3 k0_t1
  let v18316 : Index := Scalar.indexCast arg8
  let c256_16715 : Index := 256#32
  let c0_16716 : Index := 0#32
  ![0, v18316.toNat, 256, 0]
def k0_off6 (i : grid0.Coords) (k0_t1 : Fin (k0_t1_loop i).trips) : Fin 3 → Nat :=
  let c0_i32_1 : BitVec 32 := 0#32
  let c1_i32_3 : BitVec 32 := 1#32
  let arg8 : BitVec 32 := Scf.iv c0_i32_1 c1_i32_3 k0_t1
  let v18319 : Index := Scalar.indexCast arg8
  let c256_16717 : Index := 256#32
  let c0_16718 : Index := 0#32
  ![v18319.toNat, 256, 0]
def k0_off7 (i : grid0.Coords) (k0_t1 : Fin (k0_t1_loop i).trips) : Fin 4 → Nat :=
  let c0_16719 : Index := 0#32
  let c0_i32_1 : BitVec 32 := 0#32
  let c1_i32_3 : BitVec 32 := 1#32
  let arg8 : BitVec 32 := Scf.iv c0_i32_1 c1_i32_3 k0_t1
  let v18323 : Index := Scalar.indexCast arg8
  let c384_16720 : Index := 384#32
  let c0_16721 : Index := 0#32
  ![0, v18323.toNat, 384, 0]
def k0_off8 (i : grid0.Coords) (k0_t1 : Fin (k0_t1_loop i).trips) : Fin 3 → Nat :=
  let c0_i32_1 : BitVec 32 := 0#32
  let c1_i32_3 : BitVec 32 := 1#32
  let arg8 : BitVec 32 := Scf.iv c0_i32_1 c1_i32_3 k0_t1
  let v18326 : Index := Scalar.indexCast arg8
  let c384_16722 : Index := 384#32
  let c0_16723 : Index := 0#32
  ![v18326.toNat, 384, 0]
@[reducible] def k0_t2_loop (i : grid0.Coords) : Scf.Loop 32 :=
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let v10 : BitVec 32 := Scalar.addi c0_i32_1 v9
  let c1_i32_4 : BitVec 32 := 1#32
  ⟨v13, v10, c1_i32_4⟩
def k0_off9 (i : grid0.Coords) (k0_t2 : Fin (k0_t2_loop i).trips) : Fin 4 → Nat :=
  let c0_16704 : Index := 0#32
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_4 : BitVec 32 := 1#32
  let arg8 : BitVec 32 := Scf.iv v13 c1_i32_4 k0_t2
  let v18302 : Index := Scalar.indexCast arg8
  let c0_16705 : Index := 0#32
  let c0_16706 : Index := 0#32
  ![0, v18302.toNat, 0, 0]
def k0_off10 (i : grid0.Coords) (k0_t2 : Fin (k0_t2_loop i).trips) : Fin 3 → Nat :=
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_4 : BitVec 32 := 1#32
  let arg8 : BitVec 32 := Scf.iv v13 c1_i32_4 k0_t2
  let v18305 : Index := Scalar.indexCast arg8
  let c0_16707 : Index := 0#32
  let c0_16708 : Index := 0#32
  ![v18305.toNat, 0, 0]
def k0_off11 (i : grid0.Coords) (k0_t2 : Fin (k0_t2_loop i).trips) : Fin 4 → Nat :=
  let c0_16709 : Index := 0#32
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_4 : BitVec 32 := 1#32
  let arg8 : BitVec 32 := Scf.iv v13 c1_i32_4 k0_t2
  let v18309 : Index := Scalar.indexCast arg8
  let c128_16710 : Index := 128#32
  let c0_16711 : Index := 0#32
  ![0, v18309.toNat, 128, 0]
def k0_off12 (i : grid0.Coords) (k0_t2 : Fin (k0_t2_loop i).trips) : Fin 3 → Nat :=
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_4 : BitVec 32 := 1#32
  let arg8 : BitVec 32 := Scf.iv v13 c1_i32_4 k0_t2
  let v18312 : Index := Scalar.indexCast arg8
  let c128_16712 : Index := 128#32
  let c0_16713 : Index := 0#32
  ![v18312.toNat, 128, 0]
def k0_off13 (i : grid0.Coords) (k0_t2 : Fin (k0_t2_loop i).trips) : Fin 4 → Nat :=
  let c0_16714 : Index := 0#32
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_4 : BitVec 32 := 1#32
  let arg8 : BitVec 32 := Scf.iv v13 c1_i32_4 k0_t2
  let v18316 : Index := Scalar.indexCast arg8
  let c256_16715 : Index := 256#32
  let c0_16716 : Index := 0#32
  ![0, v18316.toNat, 256, 0]
def k0_off14 (i : grid0.Coords) (k0_t2 : Fin (k0_t2_loop i).trips) : Fin 3 → Nat :=
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_4 : BitVec 32 := 1#32
  let arg8 : BitVec 32 := Scf.iv v13 c1_i32_4 k0_t2
  let v18319 : Index := Scalar.indexCast arg8
  let c256_16717 : Index := 256#32
  let c0_16718 : Index := 0#32
  ![v18319.toNat, 256, 0]
def k0_off15 (i : grid0.Coords) (k0_t2 : Fin (k0_t2_loop i).trips) : Fin 4 → Nat :=
  let c0_16719 : Index := 0#32
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_4 : BitVec 32 := 1#32
  let arg8 : BitVec 32 := Scf.iv v13 c1_i32_4 k0_t2
  let v18323 : Index := Scalar.indexCast arg8
  let c384_16720 : Index := 384#32
  let c0_16721 : Index := 0#32
  ![0, v18323.toNat, 384, 0]
def k0_off16 (i : grid0.Coords) (k0_t2 : Fin (k0_t2_loop i).trips) : Fin 3 → Nat :=
  let c0_i32_1 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v9 : BitVec 32 := Scalar.subi v3 c0_i32_1
  let c1_i32_2 : BitVec 32 := 1#32
  let v11 : BitVec 32 := Scalar.divsi v9 c1_i32_2
  let v12 : BitVec 32 := Scalar.muli v11 c1_i32_2
  let v13 : BitVec 32 := Scalar.addi c0_i32_1 v12
  let c1_i32_4 : BitVec 32 := 1#32
  let arg8 : BitVec 32 := Scf.iv v13 c1_i32_4 k0_t2
  let v18326 : Index := Scalar.indexCast arg8
  let c384_16722 : Index := 384#32
  let c0_16723 : Index := 0#32
  ![v18326.toNat, 384, 0]
def k0_off17 (i : grid0.Coords) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let c1_i32_5 : BitVec 32 := 1#32
  let v14 : BitVec 32 := Scalar.subi v3 c1_i32_5
  let v20 : Index := Scalar.indexCast v14
  let c0 : Index := 0#32
  let c0_8 : Index := 0#32
  ![v20.toNat, 0, 0]
def k0_off18 (i : grid0.Coords) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let c1_i32_5 : BitVec 32 := 1#32
  let v14 : BitVec 32 := Scalar.subi v3 c1_i32_5
  let v34 : Index := Scalar.indexCast v14
  let c128 : Index := 128#32
  let c0_12 : Index := 0#32
  ![v34.toNat, 128, 0]
def k0_off19 (i : grid0.Coords) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let c1_i32_5 : BitVec 32 := 1#32
  let v14 : BitVec 32 := Scalar.subi v3 c1_i32_5
  let v48 : Index := Scalar.indexCast v14
  let c256 : Index := 256#32
  let c0_18 : Index := 0#32
  ![v48.toNat, 256, 0]
def k0_off20 (i : grid0.Coords) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let c1_i32_5 : BitVec 32 := 1#32
  let v14 : BitVec 32 := Scalar.subi v3 c1_i32_5
  let v62 : Index := Scalar.indexCast v14
  let c384 : Index := 384#32
  let c0_23 : Index := 0#32
  ![v62.toNat, 384, 0]
@[reducible] def k0_t3_loop (i : grid0.Coords) : Scf.Loop 32 :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_33 : BitVec 32 := 1#32
  ⟨c0_i32_31, v80, c1_i32_33⟩
def k0_off21 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18302 : Index := Scalar.indexCast arg8
  let c0_16704 : Index := 0#32
  let c0_16705 : Index := 0#32
  ![v18302.toNat, 0, 0]
def k0_off22 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18305 : Index := Scalar.indexCast arg8
  let c8_16706 : Index := 8#32
  let c0_16707 : Index := 0#32
  ![v18305.toNat, 8, 0]
def k0_off23 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18308 : Index := Scalar.indexCast arg8
  let c16_16708 : Index := 16#32
  let c0_16709 : Index := 0#32
  ![v18308.toNat, 16, 0]
def k0_off24 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18311 : Index := Scalar.indexCast arg8
  let c24_16710 : Index := 24#32
  let c0_16711 : Index := 0#32
  ![v18311.toNat, 24, 0]
def k0_off25 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18314 : Index := Scalar.indexCast arg8
  let c32 : Index := 32#32
  let c0_16712 : Index := 0#32
  ![v18314.toNat, 32, 0]
def k0_off26 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18317 : Index := Scalar.indexCast arg8
  let c40 : Index := 40#32
  let c0_16713 : Index := 0#32
  ![v18317.toNat, 40, 0]
def k0_off27 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18320 : Index := Scalar.indexCast arg8
  let c48 : Index := 48#32
  let c0_16714 : Index := 0#32
  ![v18320.toNat, 48, 0]
def k0_off28 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18323 : Index := Scalar.indexCast arg8
  let c56 : Index := 56#32
  let c0_16715 : Index := 0#32
  ![v18323.toNat, 56, 0]
def k0_off29 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18326 : Index := Scalar.indexCast arg8
  let c64 : Index := 64#32
  let c0_16716 : Index := 0#32
  ![v18326.toNat, 64, 0]
def k0_off30 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18329 : Index := Scalar.indexCast arg8
  let c72 : Index := 72#32
  let c0_16717 : Index := 0#32
  ![v18329.toNat, 72, 0]
def k0_off31 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18332 : Index := Scalar.indexCast arg8
  let c80 : Index := 80#32
  let c0_16718 : Index := 0#32
  ![v18332.toNat, 80, 0]
def k0_off32 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18335 : Index := Scalar.indexCast arg8
  let c88 : Index := 88#32
  let c0_16719 : Index := 0#32
  ![v18335.toNat, 88, 0]
def k0_off33 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18338 : Index := Scalar.indexCast arg8
  let c96 : Index := 96#32
  let c0_16720 : Index := 0#32
  ![v18338.toNat, 96, 0]
def k0_off34 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18341 : Index := Scalar.indexCast arg8
  let c104 : Index := 104#32
  let c0_16721 : Index := 0#32
  ![v18341.toNat, 104, 0]
def k0_off35 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18344 : Index := Scalar.indexCast arg8
  let c112 : Index := 112#32
  let c0_16722 : Index := 0#32
  ![v18344.toNat, 112, 0]
def k0_off36 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18347 : Index := Scalar.indexCast arg8
  let c120 : Index := 120#32
  let c0_16723 : Index := 0#32
  ![v18347.toNat, 120, 0]
def k0_off37 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18350 : Index := Scalar.indexCast arg8
  let c128_16724 : Index := 128#32
  let c0_16725 : Index := 0#32
  ![v18350.toNat, 128, 0]
def k0_off38 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18353 : Index := Scalar.indexCast arg8
  let c136 : Index := 136#32
  let c0_16726 : Index := 0#32
  ![v18353.toNat, 136, 0]
def k0_off39 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18356 : Index := Scalar.indexCast arg8
  let c144 : Index := 144#32
  let c0_16727 : Index := 0#32
  ![v18356.toNat, 144, 0]
def k0_off40 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18359 : Index := Scalar.indexCast arg8
  let c152 : Index := 152#32
  let c0_16728 : Index := 0#32
  ![v18359.toNat, 152, 0]
def k0_off41 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18362 : Index := Scalar.indexCast arg8
  let c160 : Index := 160#32
  let c0_16729 : Index := 0#32
  ![v18362.toNat, 160, 0]
def k0_off42 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18365 : Index := Scalar.indexCast arg8
  let c168 : Index := 168#32
  let c0_16730 : Index := 0#32
  ![v18365.toNat, 168, 0]
def k0_off43 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18368 : Index := Scalar.indexCast arg8
  let c176 : Index := 176#32
  let c0_16731 : Index := 0#32
  ![v18368.toNat, 176, 0]
def k0_off44 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18371 : Index := Scalar.indexCast arg8
  let c184 : Index := 184#32
  let c0_16732 : Index := 0#32
  ![v18371.toNat, 184, 0]
def k0_off45 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18374 : Index := Scalar.indexCast arg8
  let c192 : Index := 192#32
  let c0_16733 : Index := 0#32
  ![v18374.toNat, 192, 0]
def k0_off46 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18377 : Index := Scalar.indexCast arg8
  let c200 : Index := 200#32
  let c0_16734 : Index := 0#32
  ![v18377.toNat, 200, 0]
def k0_off47 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18380 : Index := Scalar.indexCast arg8
  let c208 : Index := 208#32
  let c0_16735 : Index := 0#32
  ![v18380.toNat, 208, 0]
def k0_off48 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18383 : Index := Scalar.indexCast arg8
  let c216 : Index := 216#32
  let c0_16736 : Index := 0#32
  ![v18383.toNat, 216, 0]
def k0_off49 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18386 : Index := Scalar.indexCast arg8
  let c224 : Index := 224#32
  let c0_16737 : Index := 0#32
  ![v18386.toNat, 224, 0]
def k0_off50 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18389 : Index := Scalar.indexCast arg8
  let c232 : Index := 232#32
  let c0_16738 : Index := 0#32
  ![v18389.toNat, 232, 0]
def k0_off51 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18392 : Index := Scalar.indexCast arg8
  let c240 : Index := 240#32
  let c0_16739 : Index := 0#32
  ![v18392.toNat, 240, 0]
def k0_off52 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v18395 : Index := Scalar.indexCast arg8
  let c248 : Index := 248#32
  let c0_16740 : Index := 0#32
  ![v18395.toNat, 248, 0]
def k0_off53 (i : grid0.Coords) (k0_t3 : Fin (k0_t3_loop i).trips) (c0_i32_16977 : BitVec 32) : Fin 4 → Nat :=
  let c31_16978 : Index := 31#32
  let c0_i32_31 : BitVec 32 := 0#32
  let c1_i32_33 : BitVec 32 := 1#32
  let arg8 : BitVec 32 := Scf.iv c0_i32_31 c1_i32_33 k0_t3
  let c2_i32_16976 : BitVec 32 := 2#32
  let v19118 : BitVec 32 := Scalar.muli arg8 c2_i32_16976
  let v19119 : BitVec 32 := Scalar.addi v19118 c0_i32_16977
  let v19120 : Index := Scalar.indexCast v19119
  let c0_16979 : Index := 0#32
  let c0_16980 : Index := 0#32
  ![31, v19120.toNat, 0, 0]
def k0_off54 (i : grid0.Coords) (k0_t3 : Fin (k0_t3_loop i).trips) (c0_i32_16982 : BitVec 32) : Fin 4 → Nat :=
  let c30_16983 : Index := 30#32
  let c0_i32_31 : BitVec 32 := 0#32
  let c1_i32_33 : BitVec 32 := 1#32
  let arg8 : BitVec 32 := Scf.iv c0_i32_31 c1_i32_33 k0_t3
  let c2_i32_16981 : BitVec 32 := 2#32
  let v19124 : BitVec 32 := Scalar.muli arg8 c2_i32_16981
  let v19125 : BitVec 32 := Scalar.addi v19124 c0_i32_16982
  let v19126 : Index := Scalar.indexCast v19125
  let c0_16984 : Index := 0#32
  let c0_16985 : Index := 0#32
  ![30, v19126.toNat, 0, 0]
def k0_off55 (i : grid0.Coords) (k0_t3 : Fin (k0_t3_loop i).trips) (c0_i32_16987 : BitVec 32) : Fin 4 → Nat :=
  let c29_16988 : Index := 29#32
  let c0_i32_31 : BitVec 32 := 0#32
  let c1_i32_33 : BitVec 32 := 1#32
  let arg8 : BitVec 32 := Scf.iv c0_i32_31 c1_i32_33 k0_t3
  let c2_i32_16986 : BitVec 32 := 2#32
  let v19130 : BitVec 32 := Scalar.muli arg8 c2_i32_16986
  let v19131 : BitVec 32 := Scalar.addi v19130 c0_i32_16987
  let v19132 : Index := Scalar.indexCast v19131
  let c0_16989 : Index := 0#32
  let c0_16990 : Index := 0#32
  ![29, v19132.toNat, 0, 0]
def k0_off56 (i : grid0.Coords) (k0_t3 : Fin (k0_t3_loop i).trips) (c0_i32_16992 : BitVec 32) : Fin 4 → Nat :=
  let c28_16993 : Index := 28#32
  let c0_i32_31 : BitVec 32 := 0#32
  let c1_i32_33 : BitVec 32 := 1#32
  let arg8 : BitVec 32 := Scf.iv c0_i32_31 c1_i32_33 k0_t3
  let c2_i32_16991 : BitVec 32 := 2#32
  let v19136 : BitVec 32 := Scalar.muli arg8 c2_i32_16991
  let v19137 : BitVec 32 := Scalar.addi v19136 c0_i32_16992
  let v19138 : Index := Scalar.indexCast v19137
  let c0_16994 : Index := 0#32
  let c0_16995 : Index := 0#32
  ![28, v19138.toNat, 0, 0]
def k0_off57 (i : grid0.Coords) (k0_t3 : Fin (k0_t3_loop i).trips) (c0_i32_16997 : BitVec 32) : Fin 4 → Nat :=
  let c27_16998 : Index := 27#32
  let c0_i32_31 : BitVec 32 := 0#32
  let c1_i32_33 : BitVec 32 := 1#32
  let arg8 : BitVec 32 := Scf.iv c0_i32_31 c1_i32_33 k0_t3
  let c2_i32_16996 : BitVec 32 := 2#32
  let v19142 : BitVec 32 := Scalar.muli arg8 c2_i32_16996
  let v19143 : BitVec 32 := Scalar.addi v19142 c0_i32_16997
  let v19144 : Index := Scalar.indexCast v19143
  let c0_16999 : Index := 0#32
  let c0_17000 : Index := 0#32
  ![27, v19144.toNat, 0, 0]
def k0_off58 (i : grid0.Coords) (k0_t3 : Fin (k0_t3_loop i).trips) (c0_i32_17002 : BitVec 32) : Fin 4 → Nat :=
  let c26_17003 : Index := 26#32
  let c0_i32_31 : BitVec 32 := 0#32
  let c1_i32_33 : BitVec 32 := 1#32
  let arg8 : BitVec 32 := Scf.iv c0_i32_31 c1_i32_33 k0_t3
  let c2_i32_17001 : BitVec 32 := 2#32
  let v19148 : BitVec 32 := Scalar.muli arg8 c2_i32_17001
  let v19149 : BitVec 32 := Scalar.addi v19148 c0_i32_17002
  let v19150 : Index := Scalar.indexCast v19149
  let c0_17004 : Index := 0#32
  let c0_17005 : Index := 0#32
  ![26, v19150.toNat, 0, 0]
def k0_off59 (i : grid0.Coords) (k0_t3 : Fin (k0_t3_loop i).trips) (c0_i32_17007 : BitVec 32) : Fin 4 → Nat :=
  let c25_17008 : Index := 25#32
  let c0_i32_31 : BitVec 32 := 0#32
  let c1_i32_33 : BitVec 32 := 1#32
  let arg8 : BitVec 32 := Scf.iv c0_i32_31 c1_i32_33 k0_t3
  let c2_i32_17006 : BitVec 32 := 2#32
  let v19154 : BitVec 32 := Scalar.muli arg8 c2_i32_17006
  let v19155 : BitVec 32 := Scalar.addi v19154 c0_i32_17007
  let v19156 : Index := Scalar.indexCast v19155
  let c0_17009 : Index := 0#32
  let c0_17010 : Index := 0#32
  ![25, v19156.toNat, 0, 0]
def k0_off60 (i : grid0.Coords) (k0_t3 : Fin (k0_t3_loop i).trips) (c0_i32_17012 : BitVec 32) : Fin 4 → Nat :=
  let c24_17013 : Index := 24#32
  let c0_i32_31 : BitVec 32 := 0#32
  let c1_i32_33 : BitVec 32 := 1#32
  let arg8 : BitVec 32 := Scf.iv c0_i32_31 c1_i32_33 k0_t3
  let c2_i32_17011 : BitVec 32 := 2#32
  let v19160 : BitVec 32 := Scalar.muli arg8 c2_i32_17011
  let v19161 : BitVec 32 := Scalar.addi v19160 c0_i32_17012
  let v19162 : Index := Scalar.indexCast v19161
  let c0_17014 : Index := 0#32
  let c0_17015 : Index := 0#32
  ![24, v19162.toNat, 0, 0]
def k0_off61 (i : grid0.Coords) (k0_t3 : Fin (k0_t3_loop i).trips) (c0_i32_17017 : BitVec 32) : Fin 4 → Nat :=
  let c23_17018 : Index := 23#32
  let c0_i32_31 : BitVec 32 := 0#32
  let c1_i32_33 : BitVec 32 := 1#32
  let arg8 : BitVec 32 := Scf.iv c0_i32_31 c1_i32_33 k0_t3
  let c2_i32_17016 : BitVec 32 := 2#32
  let v19166 : BitVec 32 := Scalar.muli arg8 c2_i32_17016
  let v19167 : BitVec 32 := Scalar.addi v19166 c0_i32_17017
  let v19168 : Index := Scalar.indexCast v19167
  let c0_17019 : Index := 0#32
  let c0_17020 : Index := 0#32
  ![23, v19168.toNat, 0, 0]
def k0_off62 (i : grid0.Coords) (k0_t3 : Fin (k0_t3_loop i).trips) (c0_i32_17022 : BitVec 32) : Fin 4 → Nat :=
  let c22_17023 : Index := 22#32
  let c0_i32_31 : BitVec 32 := 0#32
  let c1_i32_33 : BitVec 32 := 1#32
  let arg8 : BitVec 32 := Scf.iv c0_i32_31 c1_i32_33 k0_t3
  let c2_i32_17021 : BitVec 32 := 2#32
  let v19172 : BitVec 32 := Scalar.muli arg8 c2_i32_17021
  let v19173 : BitVec 32 := Scalar.addi v19172 c0_i32_17022
  let v19174 : Index := Scalar.indexCast v19173
  let c0_17024 : Index := 0#32
  let c0_17025 : Index := 0#32
  ![22, v19174.toNat, 0, 0]
def k0_off63 (i : grid0.Coords) (k0_t3 : Fin (k0_t3_loop i).trips) (c0_i32_17027 : BitVec 32) : Fin 4 → Nat :=
  let c21_17028 : Index := 21#32
  let c0_i32_31 : BitVec 32 := 0#32
  let c1_i32_33 : BitVec 32 := 1#32
  let arg8 : BitVec 32 := Scf.iv c0_i32_31 c1_i32_33 k0_t3
  let c2_i32_17026 : BitVec 32 := 2#32
  let v19178 : BitVec 32 := Scalar.muli arg8 c2_i32_17026
  let v19179 : BitVec 32 := Scalar.addi v19178 c0_i32_17027
  let v19180 : Index := Scalar.indexCast v19179
  let c0_17029 : Index := 0#32
  let c0_17030 : Index := 0#32
  ![21, v19180.toNat, 0, 0]
def k0_off64 (i : grid0.Coords) (k0_t3 : Fin (k0_t3_loop i).trips) (c0_i32_17032 : BitVec 32) : Fin 4 → Nat :=
  let c20_17033 : Index := 20#32
  let c0_i32_31 : BitVec 32 := 0#32
  let c1_i32_33 : BitVec 32 := 1#32
  let arg8 : BitVec 32 := Scf.iv c0_i32_31 c1_i32_33 k0_t3
  let c2_i32_17031 : BitVec 32 := 2#32
  let v19184 : BitVec 32 := Scalar.muli arg8 c2_i32_17031
  let v19185 : BitVec 32 := Scalar.addi v19184 c0_i32_17032
  let v19186 : Index := Scalar.indexCast v19185
  let c0_17034 : Index := 0#32
  let c0_17035 : Index := 0#32
  ![20, v19186.toNat, 0, 0]
def k0_off65 (i : grid0.Coords) (k0_t3 : Fin (k0_t3_loop i).trips) (c0_i32_17037 : BitVec 32) : Fin 4 → Nat :=
  let c19_17038 : Index := 19#32
  let c0_i32_31 : BitVec 32 := 0#32
  let c1_i32_33 : BitVec 32 := 1#32
  let arg8 : BitVec 32 := Scf.iv c0_i32_31 c1_i32_33 k0_t3
  let c2_i32_17036 : BitVec 32 := 2#32
  let v19190 : BitVec 32 := Scalar.muli arg8 c2_i32_17036
  let v19191 : BitVec 32 := Scalar.addi v19190 c0_i32_17037
  let v19192 : Index := Scalar.indexCast v19191
  let c0_17039 : Index := 0#32
  let c0_17040 : Index := 0#32
  ![19, v19192.toNat, 0, 0]
def k0_off66 (i : grid0.Coords) (k0_t3 : Fin (k0_t3_loop i).trips) (c0_i32_17042 : BitVec 32) : Fin 4 → Nat :=
  let c18_17043 : Index := 18#32
  let c0_i32_31 : BitVec 32 := 0#32
  let c1_i32_33 : BitVec 32 := 1#32
  let arg8 : BitVec 32 := Scf.iv c0_i32_31 c1_i32_33 k0_t3
  let c2_i32_17041 : BitVec 32 := 2#32
  let v19196 : BitVec 32 := Scalar.muli arg8 c2_i32_17041
  let v19197 : BitVec 32 := Scalar.addi v19196 c0_i32_17042
  let v19198 : Index := Scalar.indexCast v19197
  let c0_17044 : Index := 0#32
  let c0_17045 : Index := 0#32
  ![18, v19198.toNat, 0, 0]
def k0_off67 (i : grid0.Coords) (k0_t3 : Fin (k0_t3_loop i).trips) (c0_i32_17047 : BitVec 32) : Fin 4 → Nat :=
  let c17_17048 : Index := 17#32
  let c0_i32_31 : BitVec 32 := 0#32
  let c1_i32_33 : BitVec 32 := 1#32
  let arg8 : BitVec 32 := Scf.iv c0_i32_31 c1_i32_33 k0_t3
  let c2_i32_17046 : BitVec 32 := 2#32
  let v19202 : BitVec 32 := Scalar.muli arg8 c2_i32_17046
  let v19203 : BitVec 32 := Scalar.addi v19202 c0_i32_17047
  let v19204 : Index := Scalar.indexCast v19203
  let c0_17049 : Index := 0#32
  let c0_17050 : Index := 0#32
  ![17, v19204.toNat, 0, 0]
def k0_off68 (i : grid0.Coords) (k0_t3 : Fin (k0_t3_loop i).trips) (c0_i32_17052 : BitVec 32) : Fin 4 → Nat :=
  let c16_17053 : Index := 16#32
  let c0_i32_31 : BitVec 32 := 0#32
  let c1_i32_33 : BitVec 32 := 1#32
  let arg8 : BitVec 32 := Scf.iv c0_i32_31 c1_i32_33 k0_t3
  let c2_i32_17051 : BitVec 32 := 2#32
  let v19208 : BitVec 32 := Scalar.muli arg8 c2_i32_17051
  let v19209 : BitVec 32 := Scalar.addi v19208 c0_i32_17052
  let v19210 : Index := Scalar.indexCast v19209
  let c0_17054 : Index := 0#32
  let c0_17055 : Index := 0#32
  ![16, v19210.toNat, 0, 0]
def k0_off69 (i : grid0.Coords) (k0_t3 : Fin (k0_t3_loop i).trips) (c0_i32_17057 : BitVec 32) : Fin 4 → Nat :=
  let c15_17058 : Index := 15#32
  let c0_i32_31 : BitVec 32 := 0#32
  let c1_i32_33 : BitVec 32 := 1#32
  let arg8 : BitVec 32 := Scf.iv c0_i32_31 c1_i32_33 k0_t3
  let c2_i32_17056 : BitVec 32 := 2#32
  let v19214 : BitVec 32 := Scalar.muli arg8 c2_i32_17056
  let v19215 : BitVec 32 := Scalar.addi v19214 c0_i32_17057
  let v19216 : Index := Scalar.indexCast v19215
  let c0_17059 : Index := 0#32
  let c0_17060 : Index := 0#32
  ![15, v19216.toNat, 0, 0]
def k0_off70 (i : grid0.Coords) (k0_t3 : Fin (k0_t3_loop i).trips) (c0_i32_17062 : BitVec 32) : Fin 4 → Nat :=
  let c14_17063 : Index := 14#32
  let c0_i32_31 : BitVec 32 := 0#32
  let c1_i32_33 : BitVec 32 := 1#32
  let arg8 : BitVec 32 := Scf.iv c0_i32_31 c1_i32_33 k0_t3
  let c2_i32_17061 : BitVec 32 := 2#32
  let v19220 : BitVec 32 := Scalar.muli arg8 c2_i32_17061
  let v19221 : BitVec 32 := Scalar.addi v19220 c0_i32_17062
  let v19222 : Index := Scalar.indexCast v19221
  let c0_17064 : Index := 0#32
  let c0_17065 : Index := 0#32
  ![14, v19222.toNat, 0, 0]
def k0_off71 (i : grid0.Coords) (k0_t3 : Fin (k0_t3_loop i).trips) (c0_i32_17067 : BitVec 32) : Fin 4 → Nat :=
  let c13_17068 : Index := 13#32
  let c0_i32_31 : BitVec 32 := 0#32
  let c1_i32_33 : BitVec 32 := 1#32
  let arg8 : BitVec 32 := Scf.iv c0_i32_31 c1_i32_33 k0_t3
  let c2_i32_17066 : BitVec 32 := 2#32
  let v19226 : BitVec 32 := Scalar.muli arg8 c2_i32_17066
  let v19227 : BitVec 32 := Scalar.addi v19226 c0_i32_17067
  let v19228 : Index := Scalar.indexCast v19227
  let c0_17069 : Index := 0#32
  let c0_17070 : Index := 0#32
  ![13, v19228.toNat, 0, 0]
def k0_off72 (i : grid0.Coords) (k0_t3 : Fin (k0_t3_loop i).trips) (c0_i32_17072 : BitVec 32) : Fin 4 → Nat :=
  let c12_17073 : Index := 12#32
  let c0_i32_31 : BitVec 32 := 0#32
  let c1_i32_33 : BitVec 32 := 1#32
  let arg8 : BitVec 32 := Scf.iv c0_i32_31 c1_i32_33 k0_t3
  let c2_i32_17071 : BitVec 32 := 2#32
  let v19232 : BitVec 32 := Scalar.muli arg8 c2_i32_17071
  let v19233 : BitVec 32 := Scalar.addi v19232 c0_i32_17072
  let v19234 : Index := Scalar.indexCast v19233
  let c0_17074 : Index := 0#32
  let c0_17075 : Index := 0#32
  ![12, v19234.toNat, 0, 0]
def k0_off73 (i : grid0.Coords) (k0_t3 : Fin (k0_t3_loop i).trips) (c0_i32_17077 : BitVec 32) : Fin 4 → Nat :=
  let c11_17078 : Index := 11#32
  let c0_i32_31 : BitVec 32 := 0#32
  let c1_i32_33 : BitVec 32 := 1#32
  let arg8 : BitVec 32 := Scf.iv c0_i32_31 c1_i32_33 k0_t3
  let c2_i32_17076 : BitVec 32 := 2#32
  let v19238 : BitVec 32 := Scalar.muli arg8 c2_i32_17076
  let v19239 : BitVec 32 := Scalar.addi v19238 c0_i32_17077
  let v19240 : Index := Scalar.indexCast v19239
  let c0_17079 : Index := 0#32
  let c0_17080 : Index := 0#32
  ![11, v19240.toNat, 0, 0]
def k0_off74 (i : grid0.Coords) (k0_t3 : Fin (k0_t3_loop i).trips) (c0_i32_17082 : BitVec 32) : Fin 4 → Nat :=
  let c10_17083 : Index := 10#32
  let c0_i32_31 : BitVec 32 := 0#32
  let c1_i32_33 : BitVec 32 := 1#32
  let arg8 : BitVec 32 := Scf.iv c0_i32_31 c1_i32_33 k0_t3
  let c2_i32_17081 : BitVec 32 := 2#32
  let v19244 : BitVec 32 := Scalar.muli arg8 c2_i32_17081
  let v19245 : BitVec 32 := Scalar.addi v19244 c0_i32_17082
  let v19246 : Index := Scalar.indexCast v19245
  let c0_17084 : Index := 0#32
  let c0_17085 : Index := 0#32
  ![10, v19246.toNat, 0, 0]
def k0_off75 (i : grid0.Coords) (k0_t3 : Fin (k0_t3_loop i).trips) (c0_i32_17087 : BitVec 32) : Fin 4 → Nat :=
  let c9_17088 : Index := 9#32
  let c0_i32_31 : BitVec 32 := 0#32
  let c1_i32_33 : BitVec 32 := 1#32
  let arg8 : BitVec 32 := Scf.iv c0_i32_31 c1_i32_33 k0_t3
  let c2_i32_17086 : BitVec 32 := 2#32
  let v19250 : BitVec 32 := Scalar.muli arg8 c2_i32_17086
  let v19251 : BitVec 32 := Scalar.addi v19250 c0_i32_17087
  let v19252 : Index := Scalar.indexCast v19251
  let c0_17089 : Index := 0#32
  let c0_17090 : Index := 0#32
  ![9, v19252.toNat, 0, 0]
def k0_off76 (i : grid0.Coords) (k0_t3 : Fin (k0_t3_loop i).trips) (c0_i32_17092 : BitVec 32) : Fin 4 → Nat :=
  let c8_17093 : Index := 8#32
  let c0_i32_31 : BitVec 32 := 0#32
  let c1_i32_33 : BitVec 32 := 1#32
  let arg8 : BitVec 32 := Scf.iv c0_i32_31 c1_i32_33 k0_t3
  let c2_i32_17091 : BitVec 32 := 2#32
  let v19256 : BitVec 32 := Scalar.muli arg8 c2_i32_17091
  let v19257 : BitVec 32 := Scalar.addi v19256 c0_i32_17092
  let v19258 : Index := Scalar.indexCast v19257
  let c0_17094 : Index := 0#32
  let c0_17095 : Index := 0#32
  ![8, v19258.toNat, 0, 0]
def k0_off77 (i : grid0.Coords) (k0_t3 : Fin (k0_t3_loop i).trips) (c0_i32_17097 : BitVec 32) : Fin 4 → Nat :=
  let c7_17098 : Index := 7#32
  let c0_i32_31 : BitVec 32 := 0#32
  let c1_i32_33 : BitVec 32 := 1#32
  let arg8 : BitVec 32 := Scf.iv c0_i32_31 c1_i32_33 k0_t3
  let c2_i32_17096 : BitVec 32 := 2#32
  let v19262 : BitVec 32 := Scalar.muli arg8 c2_i32_17096
  let v19263 : BitVec 32 := Scalar.addi v19262 c0_i32_17097
  let v19264 : Index := Scalar.indexCast v19263
  let c0_17099 : Index := 0#32
  let c0_17100 : Index := 0#32
  ![7, v19264.toNat, 0, 0]
def k0_off78 (i : grid0.Coords) (k0_t3 : Fin (k0_t3_loop i).trips) (c0_i32_17102 : BitVec 32) : Fin 4 → Nat :=
  let c6_17103 : Index := 6#32
  let c0_i32_31 : BitVec 32 := 0#32
  let c1_i32_33 : BitVec 32 := 1#32
  let arg8 : BitVec 32 := Scf.iv c0_i32_31 c1_i32_33 k0_t3
  let c2_i32_17101 : BitVec 32 := 2#32
  let v19268 : BitVec 32 := Scalar.muli arg8 c2_i32_17101
  let v19269 : BitVec 32 := Scalar.addi v19268 c0_i32_17102
  let v19270 : Index := Scalar.indexCast v19269
  let c0_17104 : Index := 0#32
  let c0_17105 : Index := 0#32
  ![6, v19270.toNat, 0, 0]
def k0_off79 (i : grid0.Coords) (k0_t3 : Fin (k0_t3_loop i).trips) (c0_i32_17107 : BitVec 32) : Fin 4 → Nat :=
  let c5_17108 : Index := 5#32
  let c0_i32_31 : BitVec 32 := 0#32
  let c1_i32_33 : BitVec 32 := 1#32
  let arg8 : BitVec 32 := Scf.iv c0_i32_31 c1_i32_33 k0_t3
  let c2_i32_17106 : BitVec 32 := 2#32
  let v19274 : BitVec 32 := Scalar.muli arg8 c2_i32_17106
  let v19275 : BitVec 32 := Scalar.addi v19274 c0_i32_17107
  let v19276 : Index := Scalar.indexCast v19275
  let c0_17109 : Index := 0#32
  let c0_17110 : Index := 0#32
  ![5, v19276.toNat, 0, 0]
def k0_off80 (i : grid0.Coords) (k0_t3 : Fin (k0_t3_loop i).trips) (c0_i32_17112 : BitVec 32) : Fin 4 → Nat :=
  let c4_17113 : Index := 4#32
  let c0_i32_31 : BitVec 32 := 0#32
  let c1_i32_33 : BitVec 32 := 1#32
  let arg8 : BitVec 32 := Scf.iv c0_i32_31 c1_i32_33 k0_t3
  let c2_i32_17111 : BitVec 32 := 2#32
  let v19280 : BitVec 32 := Scalar.muli arg8 c2_i32_17111
  let v19281 : BitVec 32 := Scalar.addi v19280 c0_i32_17112
  let v19282 : Index := Scalar.indexCast v19281
  let c0_17114 : Index := 0#32
  let c0_17115 : Index := 0#32
  ![4, v19282.toNat, 0, 0]
def k0_off81 (i : grid0.Coords) (k0_t3 : Fin (k0_t3_loop i).trips) (c0_i32_17117 : BitVec 32) : Fin 4 → Nat :=
  let c3_17118 : Index := 3#32
  let c0_i32_31 : BitVec 32 := 0#32
  let c1_i32_33 : BitVec 32 := 1#32
  let arg8 : BitVec 32 := Scf.iv c0_i32_31 c1_i32_33 k0_t3
  let c2_i32_17116 : BitVec 32 := 2#32
  let v19286 : BitVec 32 := Scalar.muli arg8 c2_i32_17116
  let v19287 : BitVec 32 := Scalar.addi v19286 c0_i32_17117
  let v19288 : Index := Scalar.indexCast v19287
  let c0_17119 : Index := 0#32
  let c0_17120 : Index := 0#32
  ![3, v19288.toNat, 0, 0]
def k0_off82 (i : grid0.Coords) (k0_t3 : Fin (k0_t3_loop i).trips) (c0_i32_17122 : BitVec 32) : Fin 4 → Nat :=
  let c2_17123 : Index := 2#32
  let c0_i32_31 : BitVec 32 := 0#32
  let c1_i32_33 : BitVec 32 := 1#32
  let arg8 : BitVec 32 := Scf.iv c0_i32_31 c1_i32_33 k0_t3
  let c2_i32_17121 : BitVec 32 := 2#32
  let v19292 : BitVec 32 := Scalar.muli arg8 c2_i32_17121
  let v19293 : BitVec 32 := Scalar.addi v19292 c0_i32_17122
  let v19294 : Index := Scalar.indexCast v19293
  let c0_17124 : Index := 0#32
  let c0_17125 : Index := 0#32
  ![2, v19294.toNat, 0, 0]
def k0_off83 (i : grid0.Coords) (k0_t3 : Fin (k0_t3_loop i).trips) (c0_i32_17127 : BitVec 32) : Fin 4 → Nat :=
  let c1_17128 : Index := 1#32
  let c0_i32_31 : BitVec 32 := 0#32
  let c1_i32_33 : BitVec 32 := 1#32
  let arg8 : BitVec 32 := Scf.iv c0_i32_31 c1_i32_33 k0_t3
  let c2_i32_17126 : BitVec 32 := 2#32
  let v19298 : BitVec 32 := Scalar.muli arg8 c2_i32_17126
  let v19299 : BitVec 32 := Scalar.addi v19298 c0_i32_17127
  let v19300 : Index := Scalar.indexCast v19299
  let c0_17129 : Index := 0#32
  let c0_17130 : Index := 0#32
  ![1, v19300.toNat, 0, 0]
def k0_off84 (i : grid0.Coords) (k0_t3 : Fin (k0_t3_loop i).trips) (c0_i32_17132 : BitVec 32) : Fin 4 → Nat :=
  let c0_17133 : Index := 0#32
  let c0_i32_31 : BitVec 32 := 0#32
  let c1_i32_33 : BitVec 32 := 1#32
  let arg8 : BitVec 32 := Scf.iv c0_i32_31 c1_i32_33 k0_t3
  let c2_i32_17131 : BitVec 32 := 2#32
  let v19304 : BitVec 32 := Scalar.muli arg8 c2_i32_17131
  let v19305 : BitVec 32 := Scalar.addi v19304 c0_i32_17132
  let v19306 : Index := Scalar.indexCast v19305
  let c0_17134 : Index := 0#32
  let c0_17135 : Index := 0#32
  ![0, v19306.toNat, 0, 0]
def k0_off85 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19310 : Index := Scalar.indexCast arg8
  let c0_17136 : Index := 0#32
  let c128_17137 : Index := 128#32
  ![v19310.toNat, 0, 128]
def k0_off86 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19313 : Index := Scalar.indexCast arg8
  let c8_17138 : Index := 8#32
  let c128_17139 : Index := 128#32
  ![v19313.toNat, 8, 128]
def k0_off87 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19316 : Index := Scalar.indexCast arg8
  let c16_17140 : Index := 16#32
  let c128_17141 : Index := 128#32
  ![v19316.toNat, 16, 128]
def k0_off88 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19319 : Index := Scalar.indexCast arg8
  let c24_17142 : Index := 24#32
  let c128_17143 : Index := 128#32
  ![v19319.toNat, 24, 128]
def k0_off89 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19322 : Index := Scalar.indexCast arg8
  let c32_17144 : Index := 32#32
  let c128_17145 : Index := 128#32
  ![v19322.toNat, 32, 128]
def k0_off90 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19325 : Index := Scalar.indexCast arg8
  let c40_17146 : Index := 40#32
  let c128_17147 : Index := 128#32
  ![v19325.toNat, 40, 128]
def k0_off91 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19328 : Index := Scalar.indexCast arg8
  let c48_17148 : Index := 48#32
  let c128_17149 : Index := 128#32
  ![v19328.toNat, 48, 128]
def k0_off92 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19331 : Index := Scalar.indexCast arg8
  let c56_17150 : Index := 56#32
  let c128_17151 : Index := 128#32
  ![v19331.toNat, 56, 128]
def k0_off93 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19334 : Index := Scalar.indexCast arg8
  let c64_17152 : Index := 64#32
  let c128_17153 : Index := 128#32
  ![v19334.toNat, 64, 128]
def k0_off94 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19337 : Index := Scalar.indexCast arg8
  let c72_17154 : Index := 72#32
  let c128_17155 : Index := 128#32
  ![v19337.toNat, 72, 128]
def k0_off95 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19340 : Index := Scalar.indexCast arg8
  let c80_17156 : Index := 80#32
  let c128_17157 : Index := 128#32
  ![v19340.toNat, 80, 128]
def k0_off96 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19343 : Index := Scalar.indexCast arg8
  let c88_17158 : Index := 88#32
  let c128_17159 : Index := 128#32
  ![v19343.toNat, 88, 128]
def k0_off97 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19346 : Index := Scalar.indexCast arg8
  let c96_17160 : Index := 96#32
  let c128_17161 : Index := 128#32
  ![v19346.toNat, 96, 128]
def k0_off98 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19349 : Index := Scalar.indexCast arg8
  let c104_17162 : Index := 104#32
  let c128_17163 : Index := 128#32
  ![v19349.toNat, 104, 128]
def k0_off99 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19352 : Index := Scalar.indexCast arg8
  let c112_17164 : Index := 112#32
  let c128_17165 : Index := 128#32
  ![v19352.toNat, 112, 128]
def k0_off100 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19355 : Index := Scalar.indexCast arg8
  let c120_17166 : Index := 120#32
  let c128_17167 : Index := 128#32
  ![v19355.toNat, 120, 128]
def k0_off101 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19358 : Index := Scalar.indexCast arg8
  let c128_17168 : Index := 128#32
  let c128_17169 : Index := 128#32
  ![v19358.toNat, 128, 128]
def k0_off102 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19361 : Index := Scalar.indexCast arg8
  let c136_17170 : Index := 136#32
  let c128_17171 : Index := 128#32
  ![v19361.toNat, 136, 128]
def k0_off103 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19364 : Index := Scalar.indexCast arg8
  let c144_17172 : Index := 144#32
  let c128_17173 : Index := 128#32
  ![v19364.toNat, 144, 128]
def k0_off104 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19367 : Index := Scalar.indexCast arg8
  let c152_17174 : Index := 152#32
  let c128_17175 : Index := 128#32
  ![v19367.toNat, 152, 128]
def k0_off105 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19370 : Index := Scalar.indexCast arg8
  let c160_17176 : Index := 160#32
  let c128_17177 : Index := 128#32
  ![v19370.toNat, 160, 128]
def k0_off106 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19373 : Index := Scalar.indexCast arg8
  let c168_17178 : Index := 168#32
  let c128_17179 : Index := 128#32
  ![v19373.toNat, 168, 128]
def k0_off107 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19376 : Index := Scalar.indexCast arg8
  let c176_17180 : Index := 176#32
  let c128_17181 : Index := 128#32
  ![v19376.toNat, 176, 128]
def k0_off108 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19379 : Index := Scalar.indexCast arg8
  let c184_17182 : Index := 184#32
  let c128_17183 : Index := 128#32
  ![v19379.toNat, 184, 128]
def k0_off109 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19382 : Index := Scalar.indexCast arg8
  let c192_17184 : Index := 192#32
  let c128_17185 : Index := 128#32
  ![v19382.toNat, 192, 128]
def k0_off110 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19385 : Index := Scalar.indexCast arg8
  let c200_17186 : Index := 200#32
  let c128_17187 : Index := 128#32
  ![v19385.toNat, 200, 128]
def k0_off111 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19388 : Index := Scalar.indexCast arg8
  let c208_17188 : Index := 208#32
  let c128_17189 : Index := 128#32
  ![v19388.toNat, 208, 128]
def k0_off112 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19391 : Index := Scalar.indexCast arg8
  let c216_17190 : Index := 216#32
  let c128_17191 : Index := 128#32
  ![v19391.toNat, 216, 128]
def k0_off113 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19394 : Index := Scalar.indexCast arg8
  let c224_17192 : Index := 224#32
  let c128_17193 : Index := 128#32
  ![v19394.toNat, 224, 128]
def k0_off114 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19397 : Index := Scalar.indexCast arg8
  let c232_17194 : Index := 232#32
  let c128_17195 : Index := 128#32
  ![v19397.toNat, 232, 128]
def k0_off115 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19400 : Index := Scalar.indexCast arg8
  let c240_17196 : Index := 240#32
  let c128_17197 : Index := 128#32
  ![v19400.toNat, 240, 128]
def k0_off116 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v19403 : Index := Scalar.indexCast arg8
  let c248_17198 : Index := 248#32
  let c128_17199 : Index := 128#32
  ![v19403.toNat, 248, 128]
def k0_off117 (i : grid0.Coords) (k0_t3 : Fin (k0_t3_loop i).trips) (c0_i32_17441 : BitVec 32) : Fin 4 → Nat :=
  let c31_17442 : Index := 31#32
  let c0_i32_31 : BitVec 32 := 0#32
  let c1_i32_33 : BitVec 32 := 1#32
  let arg8 : BitVec 32 := Scf.iv c0_i32_31 c1_i32_33 k0_t3
  let c2_i32_17440 : BitVec 32 := 2#32
  let v20126 : BitVec 32 := Scalar.muli arg8 c2_i32_17440
  let v20127 : BitVec 32 := Scalar.addi v20126 c0_i32_17441
  let v20128 : Index := Scalar.indexCast v20127
  let c0_17443 : Index := 0#32
  let c128_17444 : Index := 128#32
  ![31, v20128.toNat, 0, 128]
def k0_off118 (i : grid0.Coords) (k0_t3 : Fin (k0_t3_loop i).trips) (c0_i32_17446 : BitVec 32) : Fin 4 → Nat :=
  let c30_17447 : Index := 30#32
  let c0_i32_31 : BitVec 32 := 0#32
  let c1_i32_33 : BitVec 32 := 1#32
  let arg8 : BitVec 32 := Scf.iv c0_i32_31 c1_i32_33 k0_t3
  let c2_i32_17445 : BitVec 32 := 2#32
  let v20132 : BitVec 32 := Scalar.muli arg8 c2_i32_17445
  let v20133 : BitVec 32 := Scalar.addi v20132 c0_i32_17446
  let v20134 : Index := Scalar.indexCast v20133
  let c0_17448 : Index := 0#32
  let c128_17449 : Index := 128#32
  ![30, v20134.toNat, 0, 128]
def k0_off119 (i : grid0.Coords) (k0_t3 : Fin (k0_t3_loop i).trips) (c0_i32_17451 : BitVec 32) : Fin 4 → Nat :=
  let c29_17452 : Index := 29#32
  let c0_i32_31 : BitVec 32 := 0#32
  let c1_i32_33 : BitVec 32 := 1#32
  let arg8 : BitVec 32 := Scf.iv c0_i32_31 c1_i32_33 k0_t3
  let c2_i32_17450 : BitVec 32 := 2#32
  let v20138 : BitVec 32 := Scalar.muli arg8 c2_i32_17450
  let v20139 : BitVec 32 := Scalar.addi v20138 c0_i32_17451
  let v20140 : Index := Scalar.indexCast v20139
  let c0_17453 : Index := 0#32
  let c128_17454 : Index := 128#32
  ![29, v20140.toNat, 0, 128]
def k0_off120 (i : grid0.Coords) (k0_t3 : Fin (k0_t3_loop i).trips) (c0_i32_17456 : BitVec 32) : Fin 4 → Nat :=
  let c28_17457 : Index := 28#32
  let c0_i32_31 : BitVec 32 := 0#32
  let c1_i32_33 : BitVec 32 := 1#32
  let arg8 : BitVec 32 := Scf.iv c0_i32_31 c1_i32_33 k0_t3
  let c2_i32_17455 : BitVec 32 := 2#32
  let v20144 : BitVec 32 := Scalar.muli arg8 c2_i32_17455
  let v20145 : BitVec 32 := Scalar.addi v20144 c0_i32_17456
  let v20146 : Index := Scalar.indexCast v20145
  let c0_17458 : Index := 0#32
  let c128_17459 : Index := 128#32
  ![28, v20146.toNat, 0, 128]
def k0_off121 (i : grid0.Coords) (k0_t3 : Fin (k0_t3_loop i).trips) (c0_i32_17461 : BitVec 32) : Fin 4 → Nat :=
  let c27_17462 : Index := 27#32
  let c0_i32_31 : BitVec 32 := 0#32
  let c1_i32_33 : BitVec 32 := 1#32
  let arg8 : BitVec 32 := Scf.iv c0_i32_31 c1_i32_33 k0_t3
  let c2_i32_17460 : BitVec 32 := 2#32
  let v20150 : BitVec 32 := Scalar.muli arg8 c2_i32_17460
  let v20151 : BitVec 32 := Scalar.addi v20150 c0_i32_17461
  let v20152 : Index := Scalar.indexCast v20151
  let c0_17463 : Index := 0#32
  let c128_17464 : Index := 128#32
  ![27, v20152.toNat, 0, 128]
def k0_off122 (i : grid0.Coords) (k0_t3 : Fin (k0_t3_loop i).trips) (c0_i32_17466 : BitVec 32) : Fin 4 → Nat :=
  let c26_17467 : Index := 26#32
  let c0_i32_31 : BitVec 32 := 0#32
  let c1_i32_33 : BitVec 32 := 1#32
  let arg8 : BitVec 32 := Scf.iv c0_i32_31 c1_i32_33 k0_t3
  let c2_i32_17465 : BitVec 32 := 2#32
  let v20156 : BitVec 32 := Scalar.muli arg8 c2_i32_17465
  let v20157 : BitVec 32 := Scalar.addi v20156 c0_i32_17466
  let v20158 : Index := Scalar.indexCast v20157
  let c0_17468 : Index := 0#32
  let c128_17469 : Index := 128#32
  ![26, v20158.toNat, 0, 128]
def k0_off123 (i : grid0.Coords) (k0_t3 : Fin (k0_t3_loop i).trips) (c0_i32_17471 : BitVec 32) : Fin 4 → Nat :=
  let c25_17472 : Index := 25#32
  let c0_i32_31 : BitVec 32 := 0#32
  let c1_i32_33 : BitVec 32 := 1#32
  let arg8 : BitVec 32 := Scf.iv c0_i32_31 c1_i32_33 k0_t3
  let c2_i32_17470 : BitVec 32 := 2#32
  let v20162 : BitVec 32 := Scalar.muli arg8 c2_i32_17470
  let v20163 : BitVec 32 := Scalar.addi v20162 c0_i32_17471
  let v20164 : Index := Scalar.indexCast v20163
  let c0_17473 : Index := 0#32
  let c128_17474 : Index := 128#32
  ![25, v20164.toNat, 0, 128]
def k0_off124 (i : grid0.Coords) (k0_t3 : Fin (k0_t3_loop i).trips) (c0_i32_17476 : BitVec 32) : Fin 4 → Nat :=
  let c24_17477 : Index := 24#32
  let c0_i32_31 : BitVec 32 := 0#32
  let c1_i32_33 : BitVec 32 := 1#32
  let arg8 : BitVec 32 := Scf.iv c0_i32_31 c1_i32_33 k0_t3
  let c2_i32_17475 : BitVec 32 := 2#32
  let v20168 : BitVec 32 := Scalar.muli arg8 c2_i32_17475
  let v20169 : BitVec 32 := Scalar.addi v20168 c0_i32_17476
  let v20170 : Index := Scalar.indexCast v20169
  let c0_17478 : Index := 0#32
  let c128_17479 : Index := 128#32
  ![24, v20170.toNat, 0, 128]
def k0_off125 (i : grid0.Coords) (k0_t3 : Fin (k0_t3_loop i).trips) (c0_i32_17481 : BitVec 32) : Fin 4 → Nat :=
  let c23_17482 : Index := 23#32
  let c0_i32_31 : BitVec 32 := 0#32
  let c1_i32_33 : BitVec 32 := 1#32
  let arg8 : BitVec 32 := Scf.iv c0_i32_31 c1_i32_33 k0_t3
  let c2_i32_17480 : BitVec 32 := 2#32
  let v20174 : BitVec 32 := Scalar.muli arg8 c2_i32_17480
  let v20175 : BitVec 32 := Scalar.addi v20174 c0_i32_17481
  let v20176 : Index := Scalar.indexCast v20175
  let c0_17483 : Index := 0#32
  let c128_17484 : Index := 128#32
  ![23, v20176.toNat, 0, 128]
def k0_off126 (i : grid0.Coords) (k0_t3 : Fin (k0_t3_loop i).trips) (c0_i32_17486 : BitVec 32) : Fin 4 → Nat :=
  let c22_17487 : Index := 22#32
  let c0_i32_31 : BitVec 32 := 0#32
  let c1_i32_33 : BitVec 32 := 1#32
  let arg8 : BitVec 32 := Scf.iv c0_i32_31 c1_i32_33 k0_t3
  let c2_i32_17485 : BitVec 32 := 2#32
  let v20180 : BitVec 32 := Scalar.muli arg8 c2_i32_17485
  let v20181 : BitVec 32 := Scalar.addi v20180 c0_i32_17486
  let v20182 : Index := Scalar.indexCast v20181
  let c0_17488 : Index := 0#32
  let c128_17489 : Index := 128#32
  ![22, v20182.toNat, 0, 128]
def k0_off127 (i : grid0.Coords) (k0_t3 : Fin (k0_t3_loop i).trips) (c0_i32_17491 : BitVec 32) : Fin 4 → Nat :=
  let c21_17492 : Index := 21#32
  let c0_i32_31 : BitVec 32 := 0#32
  let c1_i32_33 : BitVec 32 := 1#32
  let arg8 : BitVec 32 := Scf.iv c0_i32_31 c1_i32_33 k0_t3
  let c2_i32_17490 : BitVec 32 := 2#32
  let v20186 : BitVec 32 := Scalar.muli arg8 c2_i32_17490
  let v20187 : BitVec 32 := Scalar.addi v20186 c0_i32_17491
  let v20188 : Index := Scalar.indexCast v20187
  let c0_17493 : Index := 0#32
  let c128_17494 : Index := 128#32
  ![21, v20188.toNat, 0, 128]
def k0_off128 (i : grid0.Coords) (k0_t3 : Fin (k0_t3_loop i).trips) (c0_i32_17496 : BitVec 32) : Fin 4 → Nat :=
  let c20_17497 : Index := 20#32
  let c0_i32_31 : BitVec 32 := 0#32
  let c1_i32_33 : BitVec 32 := 1#32
  let arg8 : BitVec 32 := Scf.iv c0_i32_31 c1_i32_33 k0_t3
  let c2_i32_17495 : BitVec 32 := 2#32
  let v20192 : BitVec 32 := Scalar.muli arg8 c2_i32_17495
  let v20193 : BitVec 32 := Scalar.addi v20192 c0_i32_17496
  let v20194 : Index := Scalar.indexCast v20193
  let c0_17498 : Index := 0#32
  let c128_17499 : Index := 128#32
  ![20, v20194.toNat, 0, 128]
def k0_off129 (i : grid0.Coords) (k0_t3 : Fin (k0_t3_loop i).trips) (c0_i32_17501 : BitVec 32) : Fin 4 → Nat :=
  let c19_17502 : Index := 19#32
  let c0_i32_31 : BitVec 32 := 0#32
  let c1_i32_33 : BitVec 32 := 1#32
  let arg8 : BitVec 32 := Scf.iv c0_i32_31 c1_i32_33 k0_t3
  let c2_i32_17500 : BitVec 32 := 2#32
  let v20198 : BitVec 32 := Scalar.muli arg8 c2_i32_17500
  let v20199 : BitVec 32 := Scalar.addi v20198 c0_i32_17501
  let v20200 : Index := Scalar.indexCast v20199
  let c0_17503 : Index := 0#32
  let c128_17504 : Index := 128#32
  ![19, v20200.toNat, 0, 128]
def k0_off130 (i : grid0.Coords) (k0_t3 : Fin (k0_t3_loop i).trips) (c0_i32_17506 : BitVec 32) : Fin 4 → Nat :=
  let c18_17507 : Index := 18#32
  let c0_i32_31 : BitVec 32 := 0#32
  let c1_i32_33 : BitVec 32 := 1#32
  let arg8 : BitVec 32 := Scf.iv c0_i32_31 c1_i32_33 k0_t3
  let c2_i32_17505 : BitVec 32 := 2#32
  let v20204 : BitVec 32 := Scalar.muli arg8 c2_i32_17505
  let v20205 : BitVec 32 := Scalar.addi v20204 c0_i32_17506
  let v20206 : Index := Scalar.indexCast v20205
  let c0_17508 : Index := 0#32
  let c128_17509 : Index := 128#32
  ![18, v20206.toNat, 0, 128]
def k0_off131 (i : grid0.Coords) (k0_t3 : Fin (k0_t3_loop i).trips) (c0_i32_17511 : BitVec 32) : Fin 4 → Nat :=
  let c17_17512 : Index := 17#32
  let c0_i32_31 : BitVec 32 := 0#32
  let c1_i32_33 : BitVec 32 := 1#32
  let arg8 : BitVec 32 := Scf.iv c0_i32_31 c1_i32_33 k0_t3
  let c2_i32_17510 : BitVec 32 := 2#32
  let v20210 : BitVec 32 := Scalar.muli arg8 c2_i32_17510
  let v20211 : BitVec 32 := Scalar.addi v20210 c0_i32_17511
  let v20212 : Index := Scalar.indexCast v20211
  let c0_17513 : Index := 0#32
  let c128_17514 : Index := 128#32
  ![17, v20212.toNat, 0, 128]
def k0_off132 (i : grid0.Coords) (k0_t3 : Fin (k0_t3_loop i).trips) (c0_i32_17516 : BitVec 32) : Fin 4 → Nat :=
  let c16_17517 : Index := 16#32
  let c0_i32_31 : BitVec 32 := 0#32
  let c1_i32_33 : BitVec 32 := 1#32
  let arg8 : BitVec 32 := Scf.iv c0_i32_31 c1_i32_33 k0_t3
  let c2_i32_17515 : BitVec 32 := 2#32
  let v20216 : BitVec 32 := Scalar.muli arg8 c2_i32_17515
  let v20217 : BitVec 32 := Scalar.addi v20216 c0_i32_17516
  let v20218 : Index := Scalar.indexCast v20217
  let c0_17518 : Index := 0#32
  let c128_17519 : Index := 128#32
  ![16, v20218.toNat, 0, 128]
def k0_off133 (i : grid0.Coords) (k0_t3 : Fin (k0_t3_loop i).trips) (c0_i32_17521 : BitVec 32) : Fin 4 → Nat :=
  let c15_17522 : Index := 15#32
  let c0_i32_31 : BitVec 32 := 0#32
  let c1_i32_33 : BitVec 32 := 1#32
  let arg8 : BitVec 32 := Scf.iv c0_i32_31 c1_i32_33 k0_t3
  let c2_i32_17520 : BitVec 32 := 2#32
  let v20222 : BitVec 32 := Scalar.muli arg8 c2_i32_17520
  let v20223 : BitVec 32 := Scalar.addi v20222 c0_i32_17521
  let v20224 : Index := Scalar.indexCast v20223
  let c0_17523 : Index := 0#32
  let c128_17524 : Index := 128#32
  ![15, v20224.toNat, 0, 128]
def k0_off134 (i : grid0.Coords) (k0_t3 : Fin (k0_t3_loop i).trips) (c0_i32_17526 : BitVec 32) : Fin 4 → Nat :=
  let c14_17527 : Index := 14#32
  let c0_i32_31 : BitVec 32 := 0#32
  let c1_i32_33 : BitVec 32 := 1#32
  let arg8 : BitVec 32 := Scf.iv c0_i32_31 c1_i32_33 k0_t3
  let c2_i32_17525 : BitVec 32 := 2#32
  let v20228 : BitVec 32 := Scalar.muli arg8 c2_i32_17525
  let v20229 : BitVec 32 := Scalar.addi v20228 c0_i32_17526
  let v20230 : Index := Scalar.indexCast v20229
  let c0_17528 : Index := 0#32
  let c128_17529 : Index := 128#32
  ![14, v20230.toNat, 0, 128]
def k0_off135 (i : grid0.Coords) (k0_t3 : Fin (k0_t3_loop i).trips) (c0_i32_17531 : BitVec 32) : Fin 4 → Nat :=
  let c13_17532 : Index := 13#32
  let c0_i32_31 : BitVec 32 := 0#32
  let c1_i32_33 : BitVec 32 := 1#32
  let arg8 : BitVec 32 := Scf.iv c0_i32_31 c1_i32_33 k0_t3
  let c2_i32_17530 : BitVec 32 := 2#32
  let v20234 : BitVec 32 := Scalar.muli arg8 c2_i32_17530
  let v20235 : BitVec 32 := Scalar.addi v20234 c0_i32_17531
  let v20236 : Index := Scalar.indexCast v20235
  let c0_17533 : Index := 0#32
  let c128_17534 : Index := 128#32
  ![13, v20236.toNat, 0, 128]
def k0_off136 (i : grid0.Coords) (k0_t3 : Fin (k0_t3_loop i).trips) (c0_i32_17536 : BitVec 32) : Fin 4 → Nat :=
  let c12_17537 : Index := 12#32
  let c0_i32_31 : BitVec 32 := 0#32
  let c1_i32_33 : BitVec 32 := 1#32
  let arg8 : BitVec 32 := Scf.iv c0_i32_31 c1_i32_33 k0_t3
  let c2_i32_17535 : BitVec 32 := 2#32
  let v20240 : BitVec 32 := Scalar.muli arg8 c2_i32_17535
  let v20241 : BitVec 32 := Scalar.addi v20240 c0_i32_17536
  let v20242 : Index := Scalar.indexCast v20241
  let c0_17538 : Index := 0#32
  let c128_17539 : Index := 128#32
  ![12, v20242.toNat, 0, 128]
def k0_off137 (i : grid0.Coords) (k0_t3 : Fin (k0_t3_loop i).trips) (c0_i32_17541 : BitVec 32) : Fin 4 → Nat :=
  let c11_17542 : Index := 11#32
  let c0_i32_31 : BitVec 32 := 0#32
  let c1_i32_33 : BitVec 32 := 1#32
  let arg8 : BitVec 32 := Scf.iv c0_i32_31 c1_i32_33 k0_t3
  let c2_i32_17540 : BitVec 32 := 2#32
  let v20246 : BitVec 32 := Scalar.muli arg8 c2_i32_17540
  let v20247 : BitVec 32 := Scalar.addi v20246 c0_i32_17541
  let v20248 : Index := Scalar.indexCast v20247
  let c0_17543 : Index := 0#32
  let c128_17544 : Index := 128#32
  ![11, v20248.toNat, 0, 128]
def k0_off138 (i : grid0.Coords) (k0_t3 : Fin (k0_t3_loop i).trips) (c0_i32_17546 : BitVec 32) : Fin 4 → Nat :=
  let c10_17547 : Index := 10#32
  let c0_i32_31 : BitVec 32 := 0#32
  let c1_i32_33 : BitVec 32 := 1#32
  let arg8 : BitVec 32 := Scf.iv c0_i32_31 c1_i32_33 k0_t3
  let c2_i32_17545 : BitVec 32 := 2#32
  let v20252 : BitVec 32 := Scalar.muli arg8 c2_i32_17545
  let v20253 : BitVec 32 := Scalar.addi v20252 c0_i32_17546
  let v20254 : Index := Scalar.indexCast v20253
  let c0_17548 : Index := 0#32
  let c128_17549 : Index := 128#32
  ![10, v20254.toNat, 0, 128]
def k0_off139 (i : grid0.Coords) (k0_t3 : Fin (k0_t3_loop i).trips) (c0_i32_17551 : BitVec 32) : Fin 4 → Nat :=
  let c9_17552 : Index := 9#32
  let c0_i32_31 : BitVec 32 := 0#32
  let c1_i32_33 : BitVec 32 := 1#32
  let arg8 : BitVec 32 := Scf.iv c0_i32_31 c1_i32_33 k0_t3
  let c2_i32_17550 : BitVec 32 := 2#32
  let v20258 : BitVec 32 := Scalar.muli arg8 c2_i32_17550
  let v20259 : BitVec 32 := Scalar.addi v20258 c0_i32_17551
  let v20260 : Index := Scalar.indexCast v20259
  let c0_17553 : Index := 0#32
  let c128_17554 : Index := 128#32
  ![9, v20260.toNat, 0, 128]
def k0_off140 (i : grid0.Coords) (k0_t3 : Fin (k0_t3_loop i).trips) (c0_i32_17556 : BitVec 32) : Fin 4 → Nat :=
  let c8_17557 : Index := 8#32
  let c0_i32_31 : BitVec 32 := 0#32
  let c1_i32_33 : BitVec 32 := 1#32
  let arg8 : BitVec 32 := Scf.iv c0_i32_31 c1_i32_33 k0_t3
  let c2_i32_17555 : BitVec 32 := 2#32
  let v20264 : BitVec 32 := Scalar.muli arg8 c2_i32_17555
  let v20265 : BitVec 32 := Scalar.addi v20264 c0_i32_17556
  let v20266 : Index := Scalar.indexCast v20265
  let c0_17558 : Index := 0#32
  let c128_17559 : Index := 128#32
  ![8, v20266.toNat, 0, 128]
def k0_off141 (i : grid0.Coords) (k0_t3 : Fin (k0_t3_loop i).trips) (c0_i32_17561 : BitVec 32) : Fin 4 → Nat :=
  let c7_17562 : Index := 7#32
  let c0_i32_31 : BitVec 32 := 0#32
  let c1_i32_33 : BitVec 32 := 1#32
  let arg8 : BitVec 32 := Scf.iv c0_i32_31 c1_i32_33 k0_t3
  let c2_i32_17560 : BitVec 32 := 2#32
  let v20270 : BitVec 32 := Scalar.muli arg8 c2_i32_17560
  let v20271 : BitVec 32 := Scalar.addi v20270 c0_i32_17561
  let v20272 : Index := Scalar.indexCast v20271
  let c0_17563 : Index := 0#32
  let c128_17564 : Index := 128#32
  ![7, v20272.toNat, 0, 128]
def k0_off142 (i : grid0.Coords) (k0_t3 : Fin (k0_t3_loop i).trips) (c0_i32_17566 : BitVec 32) : Fin 4 → Nat :=
  let c6_17567 : Index := 6#32
  let c0_i32_31 : BitVec 32 := 0#32
  let c1_i32_33 : BitVec 32 := 1#32
  let arg8 : BitVec 32 := Scf.iv c0_i32_31 c1_i32_33 k0_t3
  let c2_i32_17565 : BitVec 32 := 2#32
  let v20276 : BitVec 32 := Scalar.muli arg8 c2_i32_17565
  let v20277 : BitVec 32 := Scalar.addi v20276 c0_i32_17566
  let v20278 : Index := Scalar.indexCast v20277
  let c0_17568 : Index := 0#32
  let c128_17569 : Index := 128#32
  ![6, v20278.toNat, 0, 128]
def k0_off143 (i : grid0.Coords) (k0_t3 : Fin (k0_t3_loop i).trips) (c0_i32_17571 : BitVec 32) : Fin 4 → Nat :=
  let c5_17572 : Index := 5#32
  let c0_i32_31 : BitVec 32 := 0#32
  let c1_i32_33 : BitVec 32 := 1#32
  let arg8 : BitVec 32 := Scf.iv c0_i32_31 c1_i32_33 k0_t3
  let c2_i32_17570 : BitVec 32 := 2#32
  let v20282 : BitVec 32 := Scalar.muli arg8 c2_i32_17570
  let v20283 : BitVec 32 := Scalar.addi v20282 c0_i32_17571
  let v20284 : Index := Scalar.indexCast v20283
  let c0_17573 : Index := 0#32
  let c128_17574 : Index := 128#32
  ![5, v20284.toNat, 0, 128]
def k0_off144 (i : grid0.Coords) (k0_t3 : Fin (k0_t3_loop i).trips) (c0_i32_17576 : BitVec 32) : Fin 4 → Nat :=
  let c4_17577 : Index := 4#32
  let c0_i32_31 : BitVec 32 := 0#32
  let c1_i32_33 : BitVec 32 := 1#32
  let arg8 : BitVec 32 := Scf.iv c0_i32_31 c1_i32_33 k0_t3
  let c2_i32_17575 : BitVec 32 := 2#32
  let v20288 : BitVec 32 := Scalar.muli arg8 c2_i32_17575
  let v20289 : BitVec 32 := Scalar.addi v20288 c0_i32_17576
  let v20290 : Index := Scalar.indexCast v20289
  let c0_17578 : Index := 0#32
  let c128_17579 : Index := 128#32
  ![4, v20290.toNat, 0, 128]
def k0_off145 (i : grid0.Coords) (k0_t3 : Fin (k0_t3_loop i).trips) (c0_i32_17581 : BitVec 32) : Fin 4 → Nat :=
  let c3_17582 : Index := 3#32
  let c0_i32_31 : BitVec 32 := 0#32
  let c1_i32_33 : BitVec 32 := 1#32
  let arg8 : BitVec 32 := Scf.iv c0_i32_31 c1_i32_33 k0_t3
  let c2_i32_17580 : BitVec 32 := 2#32
  let v20294 : BitVec 32 := Scalar.muli arg8 c2_i32_17580
  let v20295 : BitVec 32 := Scalar.addi v20294 c0_i32_17581
  let v20296 : Index := Scalar.indexCast v20295
  let c0_17583 : Index := 0#32
  let c128_17584 : Index := 128#32
  ![3, v20296.toNat, 0, 128]
def k0_off146 (i : grid0.Coords) (k0_t3 : Fin (k0_t3_loop i).trips) (c0_i32_17586 : BitVec 32) : Fin 4 → Nat :=
  let c2_17587 : Index := 2#32
  let c0_i32_31 : BitVec 32 := 0#32
  let c1_i32_33 : BitVec 32 := 1#32
  let arg8 : BitVec 32 := Scf.iv c0_i32_31 c1_i32_33 k0_t3
  let c2_i32_17585 : BitVec 32 := 2#32
  let v20300 : BitVec 32 := Scalar.muli arg8 c2_i32_17585
  let v20301 : BitVec 32 := Scalar.addi v20300 c0_i32_17586
  let v20302 : Index := Scalar.indexCast v20301
  let c0_17588 : Index := 0#32
  let c128_17589 : Index := 128#32
  ![2, v20302.toNat, 0, 128]
def k0_off147 (i : grid0.Coords) (k0_t3 : Fin (k0_t3_loop i).trips) (c0_i32_17591 : BitVec 32) : Fin 4 → Nat :=
  let c1_17592 : Index := 1#32
  let c0_i32_31 : BitVec 32 := 0#32
  let c1_i32_33 : BitVec 32 := 1#32
  let arg8 : BitVec 32 := Scf.iv c0_i32_31 c1_i32_33 k0_t3
  let c2_i32_17590 : BitVec 32 := 2#32
  let v20306 : BitVec 32 := Scalar.muli arg8 c2_i32_17590
  let v20307 : BitVec 32 := Scalar.addi v20306 c0_i32_17591
  let v20308 : Index := Scalar.indexCast v20307
  let c0_17593 : Index := 0#32
  let c128_17594 : Index := 128#32
  ![1, v20308.toNat, 0, 128]
def k0_off148 (i : grid0.Coords) (k0_t3 : Fin (k0_t3_loop i).trips) (c0_i32_17596 : BitVec 32) : Fin 4 → Nat :=
  let c0_17597 : Index := 0#32
  let c0_i32_31 : BitVec 32 := 0#32
  let c1_i32_33 : BitVec 32 := 1#32
  let arg8 : BitVec 32 := Scf.iv c0_i32_31 c1_i32_33 k0_t3
  let c2_i32_17595 : BitVec 32 := 2#32
  let v20312 : BitVec 32 := Scalar.muli arg8 c2_i32_17595
  let v20313 : BitVec 32 := Scalar.addi v20312 c0_i32_17596
  let v20314 : Index := Scalar.indexCast v20313
  let c0_17598 : Index := 0#32
  let c128_17599 : Index := 128#32
  ![0, v20314.toNat, 0, 128]
def k0_off149 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20318 : Index := Scalar.indexCast arg8
  let c256_17600 : Index := 256#32
  let c0_17601 : Index := 0#32
  ![v20318.toNat, 256, 0]
def k0_off150 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20321 : Index := Scalar.indexCast arg8
  let c264 : Index := 264#32
  let c0_17602 : Index := 0#32
  ![v20321.toNat, 264, 0]
def k0_off151 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20324 : Index := Scalar.indexCast arg8
  let c272 : Index := 272#32
  let c0_17603 : Index := 0#32
  ![v20324.toNat, 272, 0]
def k0_off152 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20327 : Index := Scalar.indexCast arg8
  let c280 : Index := 280#32
  let c0_17604 : Index := 0#32
  ![v20327.toNat, 280, 0]
def k0_off153 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20330 : Index := Scalar.indexCast arg8
  let c288 : Index := 288#32
  let c0_17605 : Index := 0#32
  ![v20330.toNat, 288, 0]
def k0_off154 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20333 : Index := Scalar.indexCast arg8
  let c296 : Index := 296#32
  let c0_17606 : Index := 0#32
  ![v20333.toNat, 296, 0]
def k0_off155 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20336 : Index := Scalar.indexCast arg8
  let c304 : Index := 304#32
  let c0_17607 : Index := 0#32
  ![v20336.toNat, 304, 0]
def k0_off156 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20339 : Index := Scalar.indexCast arg8
  let c312 : Index := 312#32
  let c0_17608 : Index := 0#32
  ![v20339.toNat, 312, 0]
def k0_off157 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20342 : Index := Scalar.indexCast arg8
  let c320 : Index := 320#32
  let c0_17609 : Index := 0#32
  ![v20342.toNat, 320, 0]
def k0_off158 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20345 : Index := Scalar.indexCast arg8
  let c328 : Index := 328#32
  let c0_17610 : Index := 0#32
  ![v20345.toNat, 328, 0]
def k0_off159 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20348 : Index := Scalar.indexCast arg8
  let c336 : Index := 336#32
  let c0_17611 : Index := 0#32
  ![v20348.toNat, 336, 0]
def k0_off160 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20351 : Index := Scalar.indexCast arg8
  let c344 : Index := 344#32
  let c0_17612 : Index := 0#32
  ![v20351.toNat, 344, 0]
def k0_off161 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20354 : Index := Scalar.indexCast arg8
  let c352 : Index := 352#32
  let c0_17613 : Index := 0#32
  ![v20354.toNat, 352, 0]
def k0_off162 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20357 : Index := Scalar.indexCast arg8
  let c360 : Index := 360#32
  let c0_17614 : Index := 0#32
  ![v20357.toNat, 360, 0]
def k0_off163 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20360 : Index := Scalar.indexCast arg8
  let c368 : Index := 368#32
  let c0_17615 : Index := 0#32
  ![v20360.toNat, 368, 0]
def k0_off164 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20363 : Index := Scalar.indexCast arg8
  let c376 : Index := 376#32
  let c0_17616 : Index := 0#32
  ![v20363.toNat, 376, 0]
def k0_off165 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20366 : Index := Scalar.indexCast arg8
  let c384_17617 : Index := 384#32
  let c0_17618 : Index := 0#32
  ![v20366.toNat, 384, 0]
def k0_off166 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20369 : Index := Scalar.indexCast arg8
  let c392 : Index := 392#32
  let c0_17619 : Index := 0#32
  ![v20369.toNat, 392, 0]
def k0_off167 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20372 : Index := Scalar.indexCast arg8
  let c400 : Index := 400#32
  let c0_17620 : Index := 0#32
  ![v20372.toNat, 400, 0]
def k0_off168 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20375 : Index := Scalar.indexCast arg8
  let c408 : Index := 408#32
  let c0_17621 : Index := 0#32
  ![v20375.toNat, 408, 0]
def k0_off169 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20378 : Index := Scalar.indexCast arg8
  let c416 : Index := 416#32
  let c0_17622 : Index := 0#32
  ![v20378.toNat, 416, 0]
def k0_off170 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20381 : Index := Scalar.indexCast arg8
  let c424 : Index := 424#32
  let c0_17623 : Index := 0#32
  ![v20381.toNat, 424, 0]
def k0_off171 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20384 : Index := Scalar.indexCast arg8
  let c432 : Index := 432#32
  let c0_17624 : Index := 0#32
  ![v20384.toNat, 432, 0]
def k0_off172 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20387 : Index := Scalar.indexCast arg8
  let c440 : Index := 440#32
  let c0_17625 : Index := 0#32
  ![v20387.toNat, 440, 0]
def k0_off173 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20390 : Index := Scalar.indexCast arg8
  let c448 : Index := 448#32
  let c0_17626 : Index := 0#32
  ![v20390.toNat, 448, 0]
def k0_off174 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20393 : Index := Scalar.indexCast arg8
  let c456 : Index := 456#32
  let c0_17627 : Index := 0#32
  ![v20393.toNat, 456, 0]
def k0_off175 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20396 : Index := Scalar.indexCast arg8
  let c464 : Index := 464#32
  let c0_17628 : Index := 0#32
  ![v20396.toNat, 464, 0]
def k0_off176 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20399 : Index := Scalar.indexCast arg8
  let c472 : Index := 472#32
  let c0_17629 : Index := 0#32
  ![v20399.toNat, 472, 0]
def k0_off177 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20402 : Index := Scalar.indexCast arg8
  let c480 : Index := 480#32
  let c0_17630 : Index := 0#32
  ![v20402.toNat, 480, 0]
def k0_off178 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20405 : Index := Scalar.indexCast arg8
  let c488 : Index := 488#32
  let c0_17631 : Index := 0#32
  ![v20405.toNat, 488, 0]
def k0_off179 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20408 : Index := Scalar.indexCast arg8
  let c496 : Index := 496#32
  let c0_17632 : Index := 0#32
  ![v20408.toNat, 496, 0]
def k0_off180 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v20411 : Index := Scalar.indexCast arg8
  let c504 : Index := 504#32
  let c0_17633 : Index := 0#32
  ![v20411.toNat, 504, 0]
def k0_off181 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21326 : Index := Scalar.indexCast arg8
  let c256_18034 : Index := 256#32
  let c128_18035 : Index := 128#32
  ![v21326.toNat, 256, 128]
def k0_off182 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21329 : Index := Scalar.indexCast arg8
  let c264_18036 : Index := 264#32
  let c128_18037 : Index := 128#32
  ![v21329.toNat, 264, 128]
def k0_off183 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21332 : Index := Scalar.indexCast arg8
  let c272_18038 : Index := 272#32
  let c128_18039 : Index := 128#32
  ![v21332.toNat, 272, 128]
def k0_off184 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21335 : Index := Scalar.indexCast arg8
  let c280_18040 : Index := 280#32
  let c128_18041 : Index := 128#32
  ![v21335.toNat, 280, 128]
def k0_off185 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21338 : Index := Scalar.indexCast arg8
  let c288_18042 : Index := 288#32
  let c128_18043 : Index := 128#32
  ![v21338.toNat, 288, 128]
def k0_off186 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21341 : Index := Scalar.indexCast arg8
  let c296_18044 : Index := 296#32
  let c128_18045 : Index := 128#32
  ![v21341.toNat, 296, 128]
def k0_off187 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21344 : Index := Scalar.indexCast arg8
  let c304_18046 : Index := 304#32
  let c128_18047 : Index := 128#32
  ![v21344.toNat, 304, 128]
def k0_off188 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21347 : Index := Scalar.indexCast arg8
  let c312_18048 : Index := 312#32
  let c128_18049 : Index := 128#32
  ![v21347.toNat, 312, 128]
def k0_off189 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21350 : Index := Scalar.indexCast arg8
  let c320_18050 : Index := 320#32
  let c128_18051 : Index := 128#32
  ![v21350.toNat, 320, 128]
def k0_off190 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21353 : Index := Scalar.indexCast arg8
  let c328_18052 : Index := 328#32
  let c128_18053 : Index := 128#32
  ![v21353.toNat, 328, 128]
def k0_off191 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21356 : Index := Scalar.indexCast arg8
  let c336_18054 : Index := 336#32
  let c128_18055 : Index := 128#32
  ![v21356.toNat, 336, 128]
def k0_off192 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21359 : Index := Scalar.indexCast arg8
  let c344_18056 : Index := 344#32
  let c128_18057 : Index := 128#32
  ![v21359.toNat, 344, 128]
def k0_off193 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21362 : Index := Scalar.indexCast arg8
  let c352_18058 : Index := 352#32
  let c128_18059 : Index := 128#32
  ![v21362.toNat, 352, 128]
def k0_off194 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21365 : Index := Scalar.indexCast arg8
  let c360_18060 : Index := 360#32
  let c128_18061 : Index := 128#32
  ![v21365.toNat, 360, 128]
def k0_off195 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21368 : Index := Scalar.indexCast arg8
  let c368_18062 : Index := 368#32
  let c128_18063 : Index := 128#32
  ![v21368.toNat, 368, 128]
def k0_off196 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21371 : Index := Scalar.indexCast arg8
  let c376_18064 : Index := 376#32
  let c128_18065 : Index := 128#32
  ![v21371.toNat, 376, 128]
def k0_off197 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21374 : Index := Scalar.indexCast arg8
  let c384_18066 : Index := 384#32
  let c128_18067 : Index := 128#32
  ![v21374.toNat, 384, 128]
def k0_off198 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21377 : Index := Scalar.indexCast arg8
  let c392_18068 : Index := 392#32
  let c128_18069 : Index := 128#32
  ![v21377.toNat, 392, 128]
def k0_off199 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21380 : Index := Scalar.indexCast arg8
  let c400_18070 : Index := 400#32
  let c128_18071 : Index := 128#32
  ![v21380.toNat, 400, 128]
def k0_off200 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21383 : Index := Scalar.indexCast arg8
  let c408_18072 : Index := 408#32
  let c128_18073 : Index := 128#32
  ![v21383.toNat, 408, 128]
def k0_off201 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21386 : Index := Scalar.indexCast arg8
  let c416_18074 : Index := 416#32
  let c128_18075 : Index := 128#32
  ![v21386.toNat, 416, 128]
def k0_off202 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21389 : Index := Scalar.indexCast arg8
  let c424_18076 : Index := 424#32
  let c128_18077 : Index := 128#32
  ![v21389.toNat, 424, 128]
def k0_off203 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21392 : Index := Scalar.indexCast arg8
  let c432_18078 : Index := 432#32
  let c128_18079 : Index := 128#32
  ![v21392.toNat, 432, 128]
def k0_off204 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21395 : Index := Scalar.indexCast arg8
  let c440_18080 : Index := 440#32
  let c128_18081 : Index := 128#32
  ![v21395.toNat, 440, 128]
def k0_off205 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21398 : Index := Scalar.indexCast arg8
  let c448_18082 : Index := 448#32
  let c128_18083 : Index := 128#32
  ![v21398.toNat, 448, 128]
def k0_off206 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21401 : Index := Scalar.indexCast arg8
  let c456_18084 : Index := 456#32
  let c128_18085 : Index := 128#32
  ![v21401.toNat, 456, 128]
def k0_off207 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21404 : Index := Scalar.indexCast arg8
  let c464_18086 : Index := 464#32
  let c128_18087 : Index := 128#32
  ![v21404.toNat, 464, 128]
def k0_off208 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21407 : Index := Scalar.indexCast arg8
  let c472_18088 : Index := 472#32
  let c128_18089 : Index := 128#32
  ![v21407.toNat, 472, 128]
def k0_off209 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21410 : Index := Scalar.indexCast arg8
  let c480_18090 : Index := 480#32
  let c128_18091 : Index := 128#32
  ![v21410.toNat, 480, 128]
def k0_off210 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21413 : Index := Scalar.indexCast arg8
  let c488_18092 : Index := 488#32
  let c128_18093 : Index := 128#32
  ![v21413.toNat, 488, 128]
def k0_off211 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21416 : Index := Scalar.indexCast arg8
  let c496_18094 : Index := 496#32
  let c128_18095 : Index := 128#32
  ![v21416.toNat, 496, 128]
def k0_off212 (i : grid0.Coords) (k0_t3 : Fin (k0_t3_loop i).trips) : Fin 3 → Nat :=
  let c0_i32_31 : BitVec 32 := 0#32
  let c1_i32_33 : BitVec 32 := 1#32
  let arg8 : BitVec 32 := Scf.iv c0_i32_31 c1_i32_33 k0_t3
  let v21419 : Index := Scalar.indexCast arg8
  let c504_18096 : Index := 504#32
  let c128_18097 : Index := 128#32
  ![v21419.toNat, 504, 128]
@[reducible] def k0_t4_loop (i : grid0.Coords) : Scf.Loop 32 :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let v77 : BitVec 32 := Scalar.addi c0_i32_31 v76
  let c1_i32_34 : BitVec 32 := 1#32
  ⟨v80, v77, c1_i32_34⟩
def k0_off213 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18302 : Index := Scalar.indexCast arg8
  let c0_16704 : Index := 0#32
  let c0_16705 : Index := 0#32
  ![v18302.toNat, 0, 0]
def k0_off214 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18305 : Index := Scalar.indexCast arg8
  let c8_16706 : Index := 8#32
  let c0_16707 : Index := 0#32
  ![v18305.toNat, 8, 0]
def k0_off215 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18308 : Index := Scalar.indexCast arg8
  let c16_16708 : Index := 16#32
  let c0_16709 : Index := 0#32
  ![v18308.toNat, 16, 0]
def k0_off216 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18311 : Index := Scalar.indexCast arg8
  let c24_16710 : Index := 24#32
  let c0_16711 : Index := 0#32
  ![v18311.toNat, 24, 0]
def k0_off217 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18314 : Index := Scalar.indexCast arg8
  let c32 : Index := 32#32
  let c0_16712 : Index := 0#32
  ![v18314.toNat, 32, 0]
def k0_off218 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18317 : Index := Scalar.indexCast arg8
  let c40 : Index := 40#32
  let c0_16713 : Index := 0#32
  ![v18317.toNat, 40, 0]
def k0_off219 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18320 : Index := Scalar.indexCast arg8
  let c48 : Index := 48#32
  let c0_16714 : Index := 0#32
  ![v18320.toNat, 48, 0]
def k0_off220 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18323 : Index := Scalar.indexCast arg8
  let c56 : Index := 56#32
  let c0_16715 : Index := 0#32
  ![v18323.toNat, 56, 0]
def k0_off221 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18326 : Index := Scalar.indexCast arg8
  let c64 : Index := 64#32
  let c0_16716 : Index := 0#32
  ![v18326.toNat, 64, 0]
def k0_off222 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18329 : Index := Scalar.indexCast arg8
  let c72 : Index := 72#32
  let c0_16717 : Index := 0#32
  ![v18329.toNat, 72, 0]
def k0_off223 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18332 : Index := Scalar.indexCast arg8
  let c80 : Index := 80#32
  let c0_16718 : Index := 0#32
  ![v18332.toNat, 80, 0]
def k0_off224 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18335 : Index := Scalar.indexCast arg8
  let c88 : Index := 88#32
  let c0_16719 : Index := 0#32
  ![v18335.toNat, 88, 0]
def k0_off225 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18338 : Index := Scalar.indexCast arg8
  let c96 : Index := 96#32
  let c0_16720 : Index := 0#32
  ![v18338.toNat, 96, 0]
def k0_off226 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18341 : Index := Scalar.indexCast arg8
  let c104 : Index := 104#32
  let c0_16721 : Index := 0#32
  ![v18341.toNat, 104, 0]
def k0_off227 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18344 : Index := Scalar.indexCast arg8
  let c112 : Index := 112#32
  let c0_16722 : Index := 0#32
  ![v18344.toNat, 112, 0]
def k0_off228 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18347 : Index := Scalar.indexCast arg8
  let c120 : Index := 120#32
  let c0_16723 : Index := 0#32
  ![v18347.toNat, 120, 0]
def k0_off229 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18350 : Index := Scalar.indexCast arg8
  let c128_16724 : Index := 128#32
  let c0_16725 : Index := 0#32
  ![v18350.toNat, 128, 0]
def k0_off230 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18353 : Index := Scalar.indexCast arg8
  let c136 : Index := 136#32
  let c0_16726 : Index := 0#32
  ![v18353.toNat, 136, 0]
def k0_off231 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18356 : Index := Scalar.indexCast arg8
  let c144 : Index := 144#32
  let c0_16727 : Index := 0#32
  ![v18356.toNat, 144, 0]
def k0_off232 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18359 : Index := Scalar.indexCast arg8
  let c152 : Index := 152#32
  let c0_16728 : Index := 0#32
  ![v18359.toNat, 152, 0]
def k0_off233 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18362 : Index := Scalar.indexCast arg8
  let c160 : Index := 160#32
  let c0_16729 : Index := 0#32
  ![v18362.toNat, 160, 0]
def k0_off234 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18365 : Index := Scalar.indexCast arg8
  let c168 : Index := 168#32
  let c0_16730 : Index := 0#32
  ![v18365.toNat, 168, 0]
def k0_off235 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18368 : Index := Scalar.indexCast arg8
  let c176 : Index := 176#32
  let c0_16731 : Index := 0#32
  ![v18368.toNat, 176, 0]
def k0_off236 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18371 : Index := Scalar.indexCast arg8
  let c184 : Index := 184#32
  let c0_16732 : Index := 0#32
  ![v18371.toNat, 184, 0]
def k0_off237 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18374 : Index := Scalar.indexCast arg8
  let c192 : Index := 192#32
  let c0_16733 : Index := 0#32
  ![v18374.toNat, 192, 0]
def k0_off238 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18377 : Index := Scalar.indexCast arg8
  let c200 : Index := 200#32
  let c0_16734 : Index := 0#32
  ![v18377.toNat, 200, 0]
def k0_off239 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18380 : Index := Scalar.indexCast arg8
  let c208 : Index := 208#32
  let c0_16735 : Index := 0#32
  ![v18380.toNat, 208, 0]
def k0_off240 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18383 : Index := Scalar.indexCast arg8
  let c216 : Index := 216#32
  let c0_16736 : Index := 0#32
  ![v18383.toNat, 216, 0]
def k0_off241 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18386 : Index := Scalar.indexCast arg8
  let c224 : Index := 224#32
  let c0_16737 : Index := 0#32
  ![v18386.toNat, 224, 0]
def k0_off242 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18389 : Index := Scalar.indexCast arg8
  let c232 : Index := 232#32
  let c0_16738 : Index := 0#32
  ![v18389.toNat, 232, 0]
def k0_off243 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18392 : Index := Scalar.indexCast arg8
  let c240 : Index := 240#32
  let c0_16739 : Index := 0#32
  ![v18392.toNat, 240, 0]
def k0_off244 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v18395 : Index := Scalar.indexCast arg8
  let c248 : Index := 248#32
  let c0_16740 : Index := 0#32
  ![v18395.toNat, 248, 0]
def k0_off245 (i : grid0.Coords) (k0_t4 : Fin (k0_t4_loop i).trips) (c0_i32_16977 : BitVec 32) : Fin 4 → Nat :=
  let c31_16978 : Index := 31#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_16976 : BitVec 32 := 2#32
  let v19118 : BitVec 32 := Scalar.muli arg8 c2_i32_16976
  let v19119 : BitVec 32 := Scalar.addi v19118 c0_i32_16977
  let v19120 : Index := Scalar.indexCast v19119
  let c0_16979 : Index := 0#32
  let c0_16980 : Index := 0#32
  ![31, v19120.toNat, 0, 0]
def k0_off246 (i : grid0.Coords) (k0_t4 : Fin (k0_t4_loop i).trips) (c0_i32_16982 : BitVec 32) : Fin 4 → Nat :=
  let c30_16983 : Index := 30#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_16981 : BitVec 32 := 2#32
  let v19124 : BitVec 32 := Scalar.muli arg8 c2_i32_16981
  let v19125 : BitVec 32 := Scalar.addi v19124 c0_i32_16982
  let v19126 : Index := Scalar.indexCast v19125
  let c0_16984 : Index := 0#32
  let c0_16985 : Index := 0#32
  ![30, v19126.toNat, 0, 0]
def k0_off247 (i : grid0.Coords) (k0_t4 : Fin (k0_t4_loop i).trips) (c0_i32_16987 : BitVec 32) : Fin 4 → Nat :=
  let c29_16988 : Index := 29#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_16986 : BitVec 32 := 2#32
  let v19130 : BitVec 32 := Scalar.muli arg8 c2_i32_16986
  let v19131 : BitVec 32 := Scalar.addi v19130 c0_i32_16987
  let v19132 : Index := Scalar.indexCast v19131
  let c0_16989 : Index := 0#32
  let c0_16990 : Index := 0#32
  ![29, v19132.toNat, 0, 0]
def k0_off248 (i : grid0.Coords) (k0_t4 : Fin (k0_t4_loop i).trips) (c0_i32_16992 : BitVec 32) : Fin 4 → Nat :=
  let c28_16993 : Index := 28#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_16991 : BitVec 32 := 2#32
  let v19136 : BitVec 32 := Scalar.muli arg8 c2_i32_16991
  let v19137 : BitVec 32 := Scalar.addi v19136 c0_i32_16992
  let v19138 : Index := Scalar.indexCast v19137
  let c0_16994 : Index := 0#32
  let c0_16995 : Index := 0#32
  ![28, v19138.toNat, 0, 0]
def k0_off249 (i : grid0.Coords) (k0_t4 : Fin (k0_t4_loop i).trips) (c0_i32_16997 : BitVec 32) : Fin 4 → Nat :=
  let c27_16998 : Index := 27#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_16996 : BitVec 32 := 2#32
  let v19142 : BitVec 32 := Scalar.muli arg8 c2_i32_16996
  let v19143 : BitVec 32 := Scalar.addi v19142 c0_i32_16997
  let v19144 : Index := Scalar.indexCast v19143
  let c0_16999 : Index := 0#32
  let c0_17000 : Index := 0#32
  ![27, v19144.toNat, 0, 0]
def k0_off250 (i : grid0.Coords) (k0_t4 : Fin (k0_t4_loop i).trips) (c0_i32_17002 : BitVec 32) : Fin 4 → Nat :=
  let c26_17003 : Index := 26#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17001 : BitVec 32 := 2#32
  let v19148 : BitVec 32 := Scalar.muli arg8 c2_i32_17001
  let v19149 : BitVec 32 := Scalar.addi v19148 c0_i32_17002
  let v19150 : Index := Scalar.indexCast v19149
  let c0_17004 : Index := 0#32
  let c0_17005 : Index := 0#32
  ![26, v19150.toNat, 0, 0]
def k0_off251 (i : grid0.Coords) (k0_t4 : Fin (k0_t4_loop i).trips) (c0_i32_17007 : BitVec 32) : Fin 4 → Nat :=
  let c25_17008 : Index := 25#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17006 : BitVec 32 := 2#32
  let v19154 : BitVec 32 := Scalar.muli arg8 c2_i32_17006
  let v19155 : BitVec 32 := Scalar.addi v19154 c0_i32_17007
  let v19156 : Index := Scalar.indexCast v19155
  let c0_17009 : Index := 0#32
  let c0_17010 : Index := 0#32
  ![25, v19156.toNat, 0, 0]
def k0_off252 (i : grid0.Coords) (k0_t4 : Fin (k0_t4_loop i).trips) (c0_i32_17012 : BitVec 32) : Fin 4 → Nat :=
  let c24_17013 : Index := 24#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17011 : BitVec 32 := 2#32
  let v19160 : BitVec 32 := Scalar.muli arg8 c2_i32_17011
  let v19161 : BitVec 32 := Scalar.addi v19160 c0_i32_17012
  let v19162 : Index := Scalar.indexCast v19161
  let c0_17014 : Index := 0#32
  let c0_17015 : Index := 0#32
  ![24, v19162.toNat, 0, 0]
def k0_off253 (i : grid0.Coords) (k0_t4 : Fin (k0_t4_loop i).trips) (c0_i32_17017 : BitVec 32) : Fin 4 → Nat :=
  let c23_17018 : Index := 23#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17016 : BitVec 32 := 2#32
  let v19166 : BitVec 32 := Scalar.muli arg8 c2_i32_17016
  let v19167 : BitVec 32 := Scalar.addi v19166 c0_i32_17017
  let v19168 : Index := Scalar.indexCast v19167
  let c0_17019 : Index := 0#32
  let c0_17020 : Index := 0#32
  ![23, v19168.toNat, 0, 0]
def k0_off254 (i : grid0.Coords) (k0_t4 : Fin (k0_t4_loop i).trips) (c0_i32_17022 : BitVec 32) : Fin 4 → Nat :=
  let c22_17023 : Index := 22#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17021 : BitVec 32 := 2#32
  let v19172 : BitVec 32 := Scalar.muli arg8 c2_i32_17021
  let v19173 : BitVec 32 := Scalar.addi v19172 c0_i32_17022
  let v19174 : Index := Scalar.indexCast v19173
  let c0_17024 : Index := 0#32
  let c0_17025 : Index := 0#32
  ![22, v19174.toNat, 0, 0]
def k0_off255 (i : grid0.Coords) (k0_t4 : Fin (k0_t4_loop i).trips) (c0_i32_17027 : BitVec 32) : Fin 4 → Nat :=
  let c21_17028 : Index := 21#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17026 : BitVec 32 := 2#32
  let v19178 : BitVec 32 := Scalar.muli arg8 c2_i32_17026
  let v19179 : BitVec 32 := Scalar.addi v19178 c0_i32_17027
  let v19180 : Index := Scalar.indexCast v19179
  let c0_17029 : Index := 0#32
  let c0_17030 : Index := 0#32
  ![21, v19180.toNat, 0, 0]
def k0_off256 (i : grid0.Coords) (k0_t4 : Fin (k0_t4_loop i).trips) (c0_i32_17032 : BitVec 32) : Fin 4 → Nat :=
  let c20_17033 : Index := 20#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17031 : BitVec 32 := 2#32
  let v19184 : BitVec 32 := Scalar.muli arg8 c2_i32_17031
  let v19185 : BitVec 32 := Scalar.addi v19184 c0_i32_17032
  let v19186 : Index := Scalar.indexCast v19185
  let c0_17034 : Index := 0#32
  let c0_17035 : Index := 0#32
  ![20, v19186.toNat, 0, 0]
def k0_off257 (i : grid0.Coords) (k0_t4 : Fin (k0_t4_loop i).trips) (c0_i32_17037 : BitVec 32) : Fin 4 → Nat :=
  let c19_17038 : Index := 19#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17036 : BitVec 32 := 2#32
  let v19190 : BitVec 32 := Scalar.muli arg8 c2_i32_17036
  let v19191 : BitVec 32 := Scalar.addi v19190 c0_i32_17037
  let v19192 : Index := Scalar.indexCast v19191
  let c0_17039 : Index := 0#32
  let c0_17040 : Index := 0#32
  ![19, v19192.toNat, 0, 0]
def k0_off258 (i : grid0.Coords) (k0_t4 : Fin (k0_t4_loop i).trips) (c0_i32_17042 : BitVec 32) : Fin 4 → Nat :=
  let c18_17043 : Index := 18#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17041 : BitVec 32 := 2#32
  let v19196 : BitVec 32 := Scalar.muli arg8 c2_i32_17041
  let v19197 : BitVec 32 := Scalar.addi v19196 c0_i32_17042
  let v19198 : Index := Scalar.indexCast v19197
  let c0_17044 : Index := 0#32
  let c0_17045 : Index := 0#32
  ![18, v19198.toNat, 0, 0]
def k0_off259 (i : grid0.Coords) (k0_t4 : Fin (k0_t4_loop i).trips) (c0_i32_17047 : BitVec 32) : Fin 4 → Nat :=
  let c17_17048 : Index := 17#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17046 : BitVec 32 := 2#32
  let v19202 : BitVec 32 := Scalar.muli arg8 c2_i32_17046
  let v19203 : BitVec 32 := Scalar.addi v19202 c0_i32_17047
  let v19204 : Index := Scalar.indexCast v19203
  let c0_17049 : Index := 0#32
  let c0_17050 : Index := 0#32
  ![17, v19204.toNat, 0, 0]
def k0_off260 (i : grid0.Coords) (k0_t4 : Fin (k0_t4_loop i).trips) (c0_i32_17052 : BitVec 32) : Fin 4 → Nat :=
  let c16_17053 : Index := 16#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17051 : BitVec 32 := 2#32
  let v19208 : BitVec 32 := Scalar.muli arg8 c2_i32_17051
  let v19209 : BitVec 32 := Scalar.addi v19208 c0_i32_17052
  let v19210 : Index := Scalar.indexCast v19209
  let c0_17054 : Index := 0#32
  let c0_17055 : Index := 0#32
  ![16, v19210.toNat, 0, 0]
def k0_off261 (i : grid0.Coords) (k0_t4 : Fin (k0_t4_loop i).trips) (c0_i32_17057 : BitVec 32) : Fin 4 → Nat :=
  let c15_17058 : Index := 15#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17056 : BitVec 32 := 2#32
  let v19214 : BitVec 32 := Scalar.muli arg8 c2_i32_17056
  let v19215 : BitVec 32 := Scalar.addi v19214 c0_i32_17057
  let v19216 : Index := Scalar.indexCast v19215
  let c0_17059 : Index := 0#32
  let c0_17060 : Index := 0#32
  ![15, v19216.toNat, 0, 0]
def k0_off262 (i : grid0.Coords) (k0_t4 : Fin (k0_t4_loop i).trips) (c0_i32_17062 : BitVec 32) : Fin 4 → Nat :=
  let c14_17063 : Index := 14#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17061 : BitVec 32 := 2#32
  let v19220 : BitVec 32 := Scalar.muli arg8 c2_i32_17061
  let v19221 : BitVec 32 := Scalar.addi v19220 c0_i32_17062
  let v19222 : Index := Scalar.indexCast v19221
  let c0_17064 : Index := 0#32
  let c0_17065 : Index := 0#32
  ![14, v19222.toNat, 0, 0]
def k0_off263 (i : grid0.Coords) (k0_t4 : Fin (k0_t4_loop i).trips) (c0_i32_17067 : BitVec 32) : Fin 4 → Nat :=
  let c13_17068 : Index := 13#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17066 : BitVec 32 := 2#32
  let v19226 : BitVec 32 := Scalar.muli arg8 c2_i32_17066
  let v19227 : BitVec 32 := Scalar.addi v19226 c0_i32_17067
  let v19228 : Index := Scalar.indexCast v19227
  let c0_17069 : Index := 0#32
  let c0_17070 : Index := 0#32
  ![13, v19228.toNat, 0, 0]
def k0_off264 (i : grid0.Coords) (k0_t4 : Fin (k0_t4_loop i).trips) (c0_i32_17072 : BitVec 32) : Fin 4 → Nat :=
  let c12_17073 : Index := 12#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17071 : BitVec 32 := 2#32
  let v19232 : BitVec 32 := Scalar.muli arg8 c2_i32_17071
  let v19233 : BitVec 32 := Scalar.addi v19232 c0_i32_17072
  let v19234 : Index := Scalar.indexCast v19233
  let c0_17074 : Index := 0#32
  let c0_17075 : Index := 0#32
  ![12, v19234.toNat, 0, 0]
def k0_off265 (i : grid0.Coords) (k0_t4 : Fin (k0_t4_loop i).trips) (c0_i32_17077 : BitVec 32) : Fin 4 → Nat :=
  let c11_17078 : Index := 11#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17076 : BitVec 32 := 2#32
  let v19238 : BitVec 32 := Scalar.muli arg8 c2_i32_17076
  let v19239 : BitVec 32 := Scalar.addi v19238 c0_i32_17077
  let v19240 : Index := Scalar.indexCast v19239
  let c0_17079 : Index := 0#32
  let c0_17080 : Index := 0#32
  ![11, v19240.toNat, 0, 0]
def k0_off266 (i : grid0.Coords) (k0_t4 : Fin (k0_t4_loop i).trips) (c0_i32_17082 : BitVec 32) : Fin 4 → Nat :=
  let c10_17083 : Index := 10#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17081 : BitVec 32 := 2#32
  let v19244 : BitVec 32 := Scalar.muli arg8 c2_i32_17081
  let v19245 : BitVec 32 := Scalar.addi v19244 c0_i32_17082
  let v19246 : Index := Scalar.indexCast v19245
  let c0_17084 : Index := 0#32
  let c0_17085 : Index := 0#32
  ![10, v19246.toNat, 0, 0]
def k0_off267 (i : grid0.Coords) (k0_t4 : Fin (k0_t4_loop i).trips) (c0_i32_17087 : BitVec 32) : Fin 4 → Nat :=
  let c9_17088 : Index := 9#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17086 : BitVec 32 := 2#32
  let v19250 : BitVec 32 := Scalar.muli arg8 c2_i32_17086
  let v19251 : BitVec 32 := Scalar.addi v19250 c0_i32_17087
  let v19252 : Index := Scalar.indexCast v19251
  let c0_17089 : Index := 0#32
  let c0_17090 : Index := 0#32
  ![9, v19252.toNat, 0, 0]
def k0_off268 (i : grid0.Coords) (k0_t4 : Fin (k0_t4_loop i).trips) (c0_i32_17092 : BitVec 32) : Fin 4 → Nat :=
  let c8_17093 : Index := 8#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17091 : BitVec 32 := 2#32
  let v19256 : BitVec 32 := Scalar.muli arg8 c2_i32_17091
  let v19257 : BitVec 32 := Scalar.addi v19256 c0_i32_17092
  let v19258 : Index := Scalar.indexCast v19257
  let c0_17094 : Index := 0#32
  let c0_17095 : Index := 0#32
  ![8, v19258.toNat, 0, 0]
def k0_off269 (i : grid0.Coords) (k0_t4 : Fin (k0_t4_loop i).trips) (c0_i32_17097 : BitVec 32) : Fin 4 → Nat :=
  let c7_17098 : Index := 7#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17096 : BitVec 32 := 2#32
  let v19262 : BitVec 32 := Scalar.muli arg8 c2_i32_17096
  let v19263 : BitVec 32 := Scalar.addi v19262 c0_i32_17097
  let v19264 : Index := Scalar.indexCast v19263
  let c0_17099 : Index := 0#32
  let c0_17100 : Index := 0#32
  ![7, v19264.toNat, 0, 0]
def k0_off270 (i : grid0.Coords) (k0_t4 : Fin (k0_t4_loop i).trips) (c0_i32_17102 : BitVec 32) : Fin 4 → Nat :=
  let c6_17103 : Index := 6#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17101 : BitVec 32 := 2#32
  let v19268 : BitVec 32 := Scalar.muli arg8 c2_i32_17101
  let v19269 : BitVec 32 := Scalar.addi v19268 c0_i32_17102
  let v19270 : Index := Scalar.indexCast v19269
  let c0_17104 : Index := 0#32
  let c0_17105 : Index := 0#32
  ![6, v19270.toNat, 0, 0]
def k0_off271 (i : grid0.Coords) (k0_t4 : Fin (k0_t4_loop i).trips) (c0_i32_17107 : BitVec 32) : Fin 4 → Nat :=
  let c5_17108 : Index := 5#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17106 : BitVec 32 := 2#32
  let v19274 : BitVec 32 := Scalar.muli arg8 c2_i32_17106
  let v19275 : BitVec 32 := Scalar.addi v19274 c0_i32_17107
  let v19276 : Index := Scalar.indexCast v19275
  let c0_17109 : Index := 0#32
  let c0_17110 : Index := 0#32
  ![5, v19276.toNat, 0, 0]
def k0_off272 (i : grid0.Coords) (k0_t4 : Fin (k0_t4_loop i).trips) (c0_i32_17112 : BitVec 32) : Fin 4 → Nat :=
  let c4_17113 : Index := 4#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17111 : BitVec 32 := 2#32
  let v19280 : BitVec 32 := Scalar.muli arg8 c2_i32_17111
  let v19281 : BitVec 32 := Scalar.addi v19280 c0_i32_17112
  let v19282 : Index := Scalar.indexCast v19281
  let c0_17114 : Index := 0#32
  let c0_17115 : Index := 0#32
  ![4, v19282.toNat, 0, 0]
def k0_off273 (i : grid0.Coords) (k0_t4 : Fin (k0_t4_loop i).trips) (c0_i32_17117 : BitVec 32) : Fin 4 → Nat :=
  let c3_17118 : Index := 3#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17116 : BitVec 32 := 2#32
  let v19286 : BitVec 32 := Scalar.muli arg8 c2_i32_17116
  let v19287 : BitVec 32 := Scalar.addi v19286 c0_i32_17117
  let v19288 : Index := Scalar.indexCast v19287
  let c0_17119 : Index := 0#32
  let c0_17120 : Index := 0#32
  ![3, v19288.toNat, 0, 0]
def k0_off274 (i : grid0.Coords) (k0_t4 : Fin (k0_t4_loop i).trips) (c0_i32_17122 : BitVec 32) : Fin 4 → Nat :=
  let c2_17123 : Index := 2#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17121 : BitVec 32 := 2#32
  let v19292 : BitVec 32 := Scalar.muli arg8 c2_i32_17121
  let v19293 : BitVec 32 := Scalar.addi v19292 c0_i32_17122
  let v19294 : Index := Scalar.indexCast v19293
  let c0_17124 : Index := 0#32
  let c0_17125 : Index := 0#32
  ![2, v19294.toNat, 0, 0]
def k0_off275 (i : grid0.Coords) (k0_t4 : Fin (k0_t4_loop i).trips) (c0_i32_17127 : BitVec 32) : Fin 4 → Nat :=
  let c1_17128 : Index := 1#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17126 : BitVec 32 := 2#32
  let v19298 : BitVec 32 := Scalar.muli arg8 c2_i32_17126
  let v19299 : BitVec 32 := Scalar.addi v19298 c0_i32_17127
  let v19300 : Index := Scalar.indexCast v19299
  let c0_17129 : Index := 0#32
  let c0_17130 : Index := 0#32
  ![1, v19300.toNat, 0, 0]
def k0_off276 (i : grid0.Coords) (k0_t4 : Fin (k0_t4_loop i).trips) (c0_i32_17132 : BitVec 32) : Fin 4 → Nat :=
  let c0_17133 : Index := 0#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17131 : BitVec 32 := 2#32
  let v19304 : BitVec 32 := Scalar.muli arg8 c2_i32_17131
  let v19305 : BitVec 32 := Scalar.addi v19304 c0_i32_17132
  let v19306 : Index := Scalar.indexCast v19305
  let c0_17134 : Index := 0#32
  let c0_17135 : Index := 0#32
  ![0, v19306.toNat, 0, 0]
def k0_off277 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19310 : Index := Scalar.indexCast arg8
  let c0_17136 : Index := 0#32
  let c128_17137 : Index := 128#32
  ![v19310.toNat, 0, 128]
def k0_off278 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19313 : Index := Scalar.indexCast arg8
  let c8_17138 : Index := 8#32
  let c128_17139 : Index := 128#32
  ![v19313.toNat, 8, 128]
def k0_off279 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19316 : Index := Scalar.indexCast arg8
  let c16_17140 : Index := 16#32
  let c128_17141 : Index := 128#32
  ![v19316.toNat, 16, 128]
def k0_off280 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19319 : Index := Scalar.indexCast arg8
  let c24_17142 : Index := 24#32
  let c128_17143 : Index := 128#32
  ![v19319.toNat, 24, 128]
def k0_off281 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19322 : Index := Scalar.indexCast arg8
  let c32_17144 : Index := 32#32
  let c128_17145 : Index := 128#32
  ![v19322.toNat, 32, 128]
def k0_off282 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19325 : Index := Scalar.indexCast arg8
  let c40_17146 : Index := 40#32
  let c128_17147 : Index := 128#32
  ![v19325.toNat, 40, 128]
def k0_off283 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19328 : Index := Scalar.indexCast arg8
  let c48_17148 : Index := 48#32
  let c128_17149 : Index := 128#32
  ![v19328.toNat, 48, 128]
def k0_off284 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19331 : Index := Scalar.indexCast arg8
  let c56_17150 : Index := 56#32
  let c128_17151 : Index := 128#32
  ![v19331.toNat, 56, 128]
def k0_off285 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19334 : Index := Scalar.indexCast arg8
  let c64_17152 : Index := 64#32
  let c128_17153 : Index := 128#32
  ![v19334.toNat, 64, 128]
def k0_off286 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19337 : Index := Scalar.indexCast arg8
  let c72_17154 : Index := 72#32
  let c128_17155 : Index := 128#32
  ![v19337.toNat, 72, 128]
def k0_off287 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19340 : Index := Scalar.indexCast arg8
  let c80_17156 : Index := 80#32
  let c128_17157 : Index := 128#32
  ![v19340.toNat, 80, 128]
def k0_off288 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19343 : Index := Scalar.indexCast arg8
  let c88_17158 : Index := 88#32
  let c128_17159 : Index := 128#32
  ![v19343.toNat, 88, 128]
def k0_off289 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19346 : Index := Scalar.indexCast arg8
  let c96_17160 : Index := 96#32
  let c128_17161 : Index := 128#32
  ![v19346.toNat, 96, 128]
def k0_off290 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19349 : Index := Scalar.indexCast arg8
  let c104_17162 : Index := 104#32
  let c128_17163 : Index := 128#32
  ![v19349.toNat, 104, 128]
def k0_off291 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19352 : Index := Scalar.indexCast arg8
  let c112_17164 : Index := 112#32
  let c128_17165 : Index := 128#32
  ![v19352.toNat, 112, 128]
def k0_off292 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19355 : Index := Scalar.indexCast arg8
  let c120_17166 : Index := 120#32
  let c128_17167 : Index := 128#32
  ![v19355.toNat, 120, 128]
def k0_off293 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19358 : Index := Scalar.indexCast arg8
  let c128_17168 : Index := 128#32
  let c128_17169 : Index := 128#32
  ![v19358.toNat, 128, 128]
def k0_off294 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19361 : Index := Scalar.indexCast arg8
  let c136_17170 : Index := 136#32
  let c128_17171 : Index := 128#32
  ![v19361.toNat, 136, 128]
def k0_off295 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19364 : Index := Scalar.indexCast arg8
  let c144_17172 : Index := 144#32
  let c128_17173 : Index := 128#32
  ![v19364.toNat, 144, 128]
def k0_off296 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19367 : Index := Scalar.indexCast arg8
  let c152_17174 : Index := 152#32
  let c128_17175 : Index := 128#32
  ![v19367.toNat, 152, 128]
def k0_off297 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19370 : Index := Scalar.indexCast arg8
  let c160_17176 : Index := 160#32
  let c128_17177 : Index := 128#32
  ![v19370.toNat, 160, 128]
def k0_off298 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19373 : Index := Scalar.indexCast arg8
  let c168_17178 : Index := 168#32
  let c128_17179 : Index := 128#32
  ![v19373.toNat, 168, 128]
def k0_off299 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19376 : Index := Scalar.indexCast arg8
  let c176_17180 : Index := 176#32
  let c128_17181 : Index := 128#32
  ![v19376.toNat, 176, 128]
def k0_off300 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19379 : Index := Scalar.indexCast arg8
  let c184_17182 : Index := 184#32
  let c128_17183 : Index := 128#32
  ![v19379.toNat, 184, 128]
def k0_off301 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19382 : Index := Scalar.indexCast arg8
  let c192_17184 : Index := 192#32
  let c128_17185 : Index := 128#32
  ![v19382.toNat, 192, 128]
def k0_off302 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19385 : Index := Scalar.indexCast arg8
  let c200_17186 : Index := 200#32
  let c128_17187 : Index := 128#32
  ![v19385.toNat, 200, 128]
def k0_off303 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19388 : Index := Scalar.indexCast arg8
  let c208_17188 : Index := 208#32
  let c128_17189 : Index := 128#32
  ![v19388.toNat, 208, 128]
def k0_off304 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19391 : Index := Scalar.indexCast arg8
  let c216_17190 : Index := 216#32
  let c128_17191 : Index := 128#32
  ![v19391.toNat, 216, 128]
def k0_off305 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19394 : Index := Scalar.indexCast arg8
  let c224_17192 : Index := 224#32
  let c128_17193 : Index := 128#32
  ![v19394.toNat, 224, 128]
def k0_off306 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19397 : Index := Scalar.indexCast arg8
  let c232_17194 : Index := 232#32
  let c128_17195 : Index := 128#32
  ![v19397.toNat, 232, 128]
def k0_off307 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19400 : Index := Scalar.indexCast arg8
  let c240_17196 : Index := 240#32
  let c128_17197 : Index := 128#32
  ![v19400.toNat, 240, 128]
def k0_off308 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v19403 : Index := Scalar.indexCast arg8
  let c248_17198 : Index := 248#32
  let c128_17199 : Index := 128#32
  ![v19403.toNat, 248, 128]
def k0_off309 (i : grid0.Coords) (k0_t4 : Fin (k0_t4_loop i).trips) (c0_i32_17441 : BitVec 32) : Fin 4 → Nat :=
  let c31_17442 : Index := 31#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17440 : BitVec 32 := 2#32
  let v20126 : BitVec 32 := Scalar.muli arg8 c2_i32_17440
  let v20127 : BitVec 32 := Scalar.addi v20126 c0_i32_17441
  let v20128 : Index := Scalar.indexCast v20127
  let c0_17443 : Index := 0#32
  let c128_17444 : Index := 128#32
  ![31, v20128.toNat, 0, 128]
def k0_off310 (i : grid0.Coords) (k0_t4 : Fin (k0_t4_loop i).trips) (c0_i32_17446 : BitVec 32) : Fin 4 → Nat :=
  let c30_17447 : Index := 30#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17445 : BitVec 32 := 2#32
  let v20132 : BitVec 32 := Scalar.muli arg8 c2_i32_17445
  let v20133 : BitVec 32 := Scalar.addi v20132 c0_i32_17446
  let v20134 : Index := Scalar.indexCast v20133
  let c0_17448 : Index := 0#32
  let c128_17449 : Index := 128#32
  ![30, v20134.toNat, 0, 128]
def k0_off311 (i : grid0.Coords) (k0_t4 : Fin (k0_t4_loop i).trips) (c0_i32_17451 : BitVec 32) : Fin 4 → Nat :=
  let c29_17452 : Index := 29#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17450 : BitVec 32 := 2#32
  let v20138 : BitVec 32 := Scalar.muli arg8 c2_i32_17450
  let v20139 : BitVec 32 := Scalar.addi v20138 c0_i32_17451
  let v20140 : Index := Scalar.indexCast v20139
  let c0_17453 : Index := 0#32
  let c128_17454 : Index := 128#32
  ![29, v20140.toNat, 0, 128]
def k0_off312 (i : grid0.Coords) (k0_t4 : Fin (k0_t4_loop i).trips) (c0_i32_17456 : BitVec 32) : Fin 4 → Nat :=
  let c28_17457 : Index := 28#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17455 : BitVec 32 := 2#32
  let v20144 : BitVec 32 := Scalar.muli arg8 c2_i32_17455
  let v20145 : BitVec 32 := Scalar.addi v20144 c0_i32_17456
  let v20146 : Index := Scalar.indexCast v20145
  let c0_17458 : Index := 0#32
  let c128_17459 : Index := 128#32
  ![28, v20146.toNat, 0, 128]
def k0_off313 (i : grid0.Coords) (k0_t4 : Fin (k0_t4_loop i).trips) (c0_i32_17461 : BitVec 32) : Fin 4 → Nat :=
  let c27_17462 : Index := 27#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17460 : BitVec 32 := 2#32
  let v20150 : BitVec 32 := Scalar.muli arg8 c2_i32_17460
  let v20151 : BitVec 32 := Scalar.addi v20150 c0_i32_17461
  let v20152 : Index := Scalar.indexCast v20151
  let c0_17463 : Index := 0#32
  let c128_17464 : Index := 128#32
  ![27, v20152.toNat, 0, 128]
def k0_off314 (i : grid0.Coords) (k0_t4 : Fin (k0_t4_loop i).trips) (c0_i32_17466 : BitVec 32) : Fin 4 → Nat :=
  let c26_17467 : Index := 26#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17465 : BitVec 32 := 2#32
  let v20156 : BitVec 32 := Scalar.muli arg8 c2_i32_17465
  let v20157 : BitVec 32 := Scalar.addi v20156 c0_i32_17466
  let v20158 : Index := Scalar.indexCast v20157
  let c0_17468 : Index := 0#32
  let c128_17469 : Index := 128#32
  ![26, v20158.toNat, 0, 128]
def k0_off315 (i : grid0.Coords) (k0_t4 : Fin (k0_t4_loop i).trips) (c0_i32_17471 : BitVec 32) : Fin 4 → Nat :=
  let c25_17472 : Index := 25#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17470 : BitVec 32 := 2#32
  let v20162 : BitVec 32 := Scalar.muli arg8 c2_i32_17470
  let v20163 : BitVec 32 := Scalar.addi v20162 c0_i32_17471
  let v20164 : Index := Scalar.indexCast v20163
  let c0_17473 : Index := 0#32
  let c128_17474 : Index := 128#32
  ![25, v20164.toNat, 0, 128]
def k0_off316 (i : grid0.Coords) (k0_t4 : Fin (k0_t4_loop i).trips) (c0_i32_17476 : BitVec 32) : Fin 4 → Nat :=
  let c24_17477 : Index := 24#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17475 : BitVec 32 := 2#32
  let v20168 : BitVec 32 := Scalar.muli arg8 c2_i32_17475
  let v20169 : BitVec 32 := Scalar.addi v20168 c0_i32_17476
  let v20170 : Index := Scalar.indexCast v20169
  let c0_17478 : Index := 0#32
  let c128_17479 : Index := 128#32
  ![24, v20170.toNat, 0, 128]
def k0_off317 (i : grid0.Coords) (k0_t4 : Fin (k0_t4_loop i).trips) (c0_i32_17481 : BitVec 32) : Fin 4 → Nat :=
  let c23_17482 : Index := 23#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17480 : BitVec 32 := 2#32
  let v20174 : BitVec 32 := Scalar.muli arg8 c2_i32_17480
  let v20175 : BitVec 32 := Scalar.addi v20174 c0_i32_17481
  let v20176 : Index := Scalar.indexCast v20175
  let c0_17483 : Index := 0#32
  let c128_17484 : Index := 128#32
  ![23, v20176.toNat, 0, 128]
def k0_off318 (i : grid0.Coords) (k0_t4 : Fin (k0_t4_loop i).trips) (c0_i32_17486 : BitVec 32) : Fin 4 → Nat :=
  let c22_17487 : Index := 22#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17485 : BitVec 32 := 2#32
  let v20180 : BitVec 32 := Scalar.muli arg8 c2_i32_17485
  let v20181 : BitVec 32 := Scalar.addi v20180 c0_i32_17486
  let v20182 : Index := Scalar.indexCast v20181
  let c0_17488 : Index := 0#32
  let c128_17489 : Index := 128#32
  ![22, v20182.toNat, 0, 128]
def k0_off319 (i : grid0.Coords) (k0_t4 : Fin (k0_t4_loop i).trips) (c0_i32_17491 : BitVec 32) : Fin 4 → Nat :=
  let c21_17492 : Index := 21#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17490 : BitVec 32 := 2#32
  let v20186 : BitVec 32 := Scalar.muli arg8 c2_i32_17490
  let v20187 : BitVec 32 := Scalar.addi v20186 c0_i32_17491
  let v20188 : Index := Scalar.indexCast v20187
  let c0_17493 : Index := 0#32
  let c128_17494 : Index := 128#32
  ![21, v20188.toNat, 0, 128]
def k0_off320 (i : grid0.Coords) (k0_t4 : Fin (k0_t4_loop i).trips) (c0_i32_17496 : BitVec 32) : Fin 4 → Nat :=
  let c20_17497 : Index := 20#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17495 : BitVec 32 := 2#32
  let v20192 : BitVec 32 := Scalar.muli arg8 c2_i32_17495
  let v20193 : BitVec 32 := Scalar.addi v20192 c0_i32_17496
  let v20194 : Index := Scalar.indexCast v20193
  let c0_17498 : Index := 0#32
  let c128_17499 : Index := 128#32
  ![20, v20194.toNat, 0, 128]
def k0_off321 (i : grid0.Coords) (k0_t4 : Fin (k0_t4_loop i).trips) (c0_i32_17501 : BitVec 32) : Fin 4 → Nat :=
  let c19_17502 : Index := 19#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17500 : BitVec 32 := 2#32
  let v20198 : BitVec 32 := Scalar.muli arg8 c2_i32_17500
  let v20199 : BitVec 32 := Scalar.addi v20198 c0_i32_17501
  let v20200 : Index := Scalar.indexCast v20199
  let c0_17503 : Index := 0#32
  let c128_17504 : Index := 128#32
  ![19, v20200.toNat, 0, 128]
def k0_off322 (i : grid0.Coords) (k0_t4 : Fin (k0_t4_loop i).trips) (c0_i32_17506 : BitVec 32) : Fin 4 → Nat :=
  let c18_17507 : Index := 18#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17505 : BitVec 32 := 2#32
  let v20204 : BitVec 32 := Scalar.muli arg8 c2_i32_17505
  let v20205 : BitVec 32 := Scalar.addi v20204 c0_i32_17506
  let v20206 : Index := Scalar.indexCast v20205
  let c0_17508 : Index := 0#32
  let c128_17509 : Index := 128#32
  ![18, v20206.toNat, 0, 128]
def k0_off323 (i : grid0.Coords) (k0_t4 : Fin (k0_t4_loop i).trips) (c0_i32_17511 : BitVec 32) : Fin 4 → Nat :=
  let c17_17512 : Index := 17#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17510 : BitVec 32 := 2#32
  let v20210 : BitVec 32 := Scalar.muli arg8 c2_i32_17510
  let v20211 : BitVec 32 := Scalar.addi v20210 c0_i32_17511
  let v20212 : Index := Scalar.indexCast v20211
  let c0_17513 : Index := 0#32
  let c128_17514 : Index := 128#32
  ![17, v20212.toNat, 0, 128]
def k0_off324 (i : grid0.Coords) (k0_t4 : Fin (k0_t4_loop i).trips) (c0_i32_17516 : BitVec 32) : Fin 4 → Nat :=
  let c16_17517 : Index := 16#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17515 : BitVec 32 := 2#32
  let v20216 : BitVec 32 := Scalar.muli arg8 c2_i32_17515
  let v20217 : BitVec 32 := Scalar.addi v20216 c0_i32_17516
  let v20218 : Index := Scalar.indexCast v20217
  let c0_17518 : Index := 0#32
  let c128_17519 : Index := 128#32
  ![16, v20218.toNat, 0, 128]
def k0_off325 (i : grid0.Coords) (k0_t4 : Fin (k0_t4_loop i).trips) (c0_i32_17521 : BitVec 32) : Fin 4 → Nat :=
  let c15_17522 : Index := 15#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17520 : BitVec 32 := 2#32
  let v20222 : BitVec 32 := Scalar.muli arg8 c2_i32_17520
  let v20223 : BitVec 32 := Scalar.addi v20222 c0_i32_17521
  let v20224 : Index := Scalar.indexCast v20223
  let c0_17523 : Index := 0#32
  let c128_17524 : Index := 128#32
  ![15, v20224.toNat, 0, 128]
def k0_off326 (i : grid0.Coords) (k0_t4 : Fin (k0_t4_loop i).trips) (c0_i32_17526 : BitVec 32) : Fin 4 → Nat :=
  let c14_17527 : Index := 14#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17525 : BitVec 32 := 2#32
  let v20228 : BitVec 32 := Scalar.muli arg8 c2_i32_17525
  let v20229 : BitVec 32 := Scalar.addi v20228 c0_i32_17526
  let v20230 : Index := Scalar.indexCast v20229
  let c0_17528 : Index := 0#32
  let c128_17529 : Index := 128#32
  ![14, v20230.toNat, 0, 128]
def k0_off327 (i : grid0.Coords) (k0_t4 : Fin (k0_t4_loop i).trips) (c0_i32_17531 : BitVec 32) : Fin 4 → Nat :=
  let c13_17532 : Index := 13#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17530 : BitVec 32 := 2#32
  let v20234 : BitVec 32 := Scalar.muli arg8 c2_i32_17530
  let v20235 : BitVec 32 := Scalar.addi v20234 c0_i32_17531
  let v20236 : Index := Scalar.indexCast v20235
  let c0_17533 : Index := 0#32
  let c128_17534 : Index := 128#32
  ![13, v20236.toNat, 0, 128]
def k0_off328 (i : grid0.Coords) (k0_t4 : Fin (k0_t4_loop i).trips) (c0_i32_17536 : BitVec 32) : Fin 4 → Nat :=
  let c12_17537 : Index := 12#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17535 : BitVec 32 := 2#32
  let v20240 : BitVec 32 := Scalar.muli arg8 c2_i32_17535
  let v20241 : BitVec 32 := Scalar.addi v20240 c0_i32_17536
  let v20242 : Index := Scalar.indexCast v20241
  let c0_17538 : Index := 0#32
  let c128_17539 : Index := 128#32
  ![12, v20242.toNat, 0, 128]
def k0_off329 (i : grid0.Coords) (k0_t4 : Fin (k0_t4_loop i).trips) (c0_i32_17541 : BitVec 32) : Fin 4 → Nat :=
  let c11_17542 : Index := 11#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17540 : BitVec 32 := 2#32
  let v20246 : BitVec 32 := Scalar.muli arg8 c2_i32_17540
  let v20247 : BitVec 32 := Scalar.addi v20246 c0_i32_17541
  let v20248 : Index := Scalar.indexCast v20247
  let c0_17543 : Index := 0#32
  let c128_17544 : Index := 128#32
  ![11, v20248.toNat, 0, 128]
def k0_off330 (i : grid0.Coords) (k0_t4 : Fin (k0_t4_loop i).trips) (c0_i32_17546 : BitVec 32) : Fin 4 → Nat :=
  let c10_17547 : Index := 10#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17545 : BitVec 32 := 2#32
  let v20252 : BitVec 32 := Scalar.muli arg8 c2_i32_17545
  let v20253 : BitVec 32 := Scalar.addi v20252 c0_i32_17546
  let v20254 : Index := Scalar.indexCast v20253
  let c0_17548 : Index := 0#32
  let c128_17549 : Index := 128#32
  ![10, v20254.toNat, 0, 128]
def k0_off331 (i : grid0.Coords) (k0_t4 : Fin (k0_t4_loop i).trips) (c0_i32_17551 : BitVec 32) : Fin 4 → Nat :=
  let c9_17552 : Index := 9#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17550 : BitVec 32 := 2#32
  let v20258 : BitVec 32 := Scalar.muli arg8 c2_i32_17550
  let v20259 : BitVec 32 := Scalar.addi v20258 c0_i32_17551
  let v20260 : Index := Scalar.indexCast v20259
  let c0_17553 : Index := 0#32
  let c128_17554 : Index := 128#32
  ![9, v20260.toNat, 0, 128]
def k0_off332 (i : grid0.Coords) (k0_t4 : Fin (k0_t4_loop i).trips) (c0_i32_17556 : BitVec 32) : Fin 4 → Nat :=
  let c8_17557 : Index := 8#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17555 : BitVec 32 := 2#32
  let v20264 : BitVec 32 := Scalar.muli arg8 c2_i32_17555
  let v20265 : BitVec 32 := Scalar.addi v20264 c0_i32_17556
  let v20266 : Index := Scalar.indexCast v20265
  let c0_17558 : Index := 0#32
  let c128_17559 : Index := 128#32
  ![8, v20266.toNat, 0, 128]
def k0_off333 (i : grid0.Coords) (k0_t4 : Fin (k0_t4_loop i).trips) (c0_i32_17561 : BitVec 32) : Fin 4 → Nat :=
  let c7_17562 : Index := 7#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17560 : BitVec 32 := 2#32
  let v20270 : BitVec 32 := Scalar.muli arg8 c2_i32_17560
  let v20271 : BitVec 32 := Scalar.addi v20270 c0_i32_17561
  let v20272 : Index := Scalar.indexCast v20271
  let c0_17563 : Index := 0#32
  let c128_17564 : Index := 128#32
  ![7, v20272.toNat, 0, 128]
def k0_off334 (i : grid0.Coords) (k0_t4 : Fin (k0_t4_loop i).trips) (c0_i32_17566 : BitVec 32) : Fin 4 → Nat :=
  let c6_17567 : Index := 6#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17565 : BitVec 32 := 2#32
  let v20276 : BitVec 32 := Scalar.muli arg8 c2_i32_17565
  let v20277 : BitVec 32 := Scalar.addi v20276 c0_i32_17566
  let v20278 : Index := Scalar.indexCast v20277
  let c0_17568 : Index := 0#32
  let c128_17569 : Index := 128#32
  ![6, v20278.toNat, 0, 128]
def k0_off335 (i : grid0.Coords) (k0_t4 : Fin (k0_t4_loop i).trips) (c0_i32_17571 : BitVec 32) : Fin 4 → Nat :=
  let c5_17572 : Index := 5#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17570 : BitVec 32 := 2#32
  let v20282 : BitVec 32 := Scalar.muli arg8 c2_i32_17570
  let v20283 : BitVec 32 := Scalar.addi v20282 c0_i32_17571
  let v20284 : Index := Scalar.indexCast v20283
  let c0_17573 : Index := 0#32
  let c128_17574 : Index := 128#32
  ![5, v20284.toNat, 0, 128]
def k0_off336 (i : grid0.Coords) (k0_t4 : Fin (k0_t4_loop i).trips) (c0_i32_17576 : BitVec 32) : Fin 4 → Nat :=
  let c4_17577 : Index := 4#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17575 : BitVec 32 := 2#32
  let v20288 : BitVec 32 := Scalar.muli arg8 c2_i32_17575
  let v20289 : BitVec 32 := Scalar.addi v20288 c0_i32_17576
  let v20290 : Index := Scalar.indexCast v20289
  let c0_17578 : Index := 0#32
  let c128_17579 : Index := 128#32
  ![4, v20290.toNat, 0, 128]
def k0_off337 (i : grid0.Coords) (k0_t4 : Fin (k0_t4_loop i).trips) (c0_i32_17581 : BitVec 32) : Fin 4 → Nat :=
  let c3_17582 : Index := 3#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17580 : BitVec 32 := 2#32
  let v20294 : BitVec 32 := Scalar.muli arg8 c2_i32_17580
  let v20295 : BitVec 32 := Scalar.addi v20294 c0_i32_17581
  let v20296 : Index := Scalar.indexCast v20295
  let c0_17583 : Index := 0#32
  let c128_17584 : Index := 128#32
  ![3, v20296.toNat, 0, 128]
def k0_off338 (i : grid0.Coords) (k0_t4 : Fin (k0_t4_loop i).trips) (c0_i32_17586 : BitVec 32) : Fin 4 → Nat :=
  let c2_17587 : Index := 2#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17585 : BitVec 32 := 2#32
  let v20300 : BitVec 32 := Scalar.muli arg8 c2_i32_17585
  let v20301 : BitVec 32 := Scalar.addi v20300 c0_i32_17586
  let v20302 : Index := Scalar.indexCast v20301
  let c0_17588 : Index := 0#32
  let c128_17589 : Index := 128#32
  ![2, v20302.toNat, 0, 128]
def k0_off339 (i : grid0.Coords) (k0_t4 : Fin (k0_t4_loop i).trips) (c0_i32_17591 : BitVec 32) : Fin 4 → Nat :=
  let c1_17592 : Index := 1#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17590 : BitVec 32 := 2#32
  let v20306 : BitVec 32 := Scalar.muli arg8 c2_i32_17590
  let v20307 : BitVec 32 := Scalar.addi v20306 c0_i32_17591
  let v20308 : Index := Scalar.indexCast v20307
  let c0_17593 : Index := 0#32
  let c128_17594 : Index := 128#32
  ![1, v20308.toNat, 0, 128]
def k0_off340 (i : grid0.Coords) (k0_t4 : Fin (k0_t4_loop i).trips) (c0_i32_17596 : BitVec 32) : Fin 4 → Nat :=
  let c0_17597 : Index := 0#32
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let c2_i32_17595 : BitVec 32 := 2#32
  let v20312 : BitVec 32 := Scalar.muli arg8 c2_i32_17595
  let v20313 : BitVec 32 := Scalar.addi v20312 c0_i32_17596
  let v20314 : Index := Scalar.indexCast v20313
  let c0_17598 : Index := 0#32
  let c128_17599 : Index := 128#32
  ![0, v20314.toNat, 0, 128]
def k0_off341 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20318 : Index := Scalar.indexCast arg8
  let c256_17600 : Index := 256#32
  let c0_17601 : Index := 0#32
  ![v20318.toNat, 256, 0]
def k0_off342 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20321 : Index := Scalar.indexCast arg8
  let c264 : Index := 264#32
  let c0_17602 : Index := 0#32
  ![v20321.toNat, 264, 0]
def k0_off343 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20324 : Index := Scalar.indexCast arg8
  let c272 : Index := 272#32
  let c0_17603 : Index := 0#32
  ![v20324.toNat, 272, 0]
def k0_off344 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20327 : Index := Scalar.indexCast arg8
  let c280 : Index := 280#32
  let c0_17604 : Index := 0#32
  ![v20327.toNat, 280, 0]
def k0_off345 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20330 : Index := Scalar.indexCast arg8
  let c288 : Index := 288#32
  let c0_17605 : Index := 0#32
  ![v20330.toNat, 288, 0]
def k0_off346 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20333 : Index := Scalar.indexCast arg8
  let c296 : Index := 296#32
  let c0_17606 : Index := 0#32
  ![v20333.toNat, 296, 0]
def k0_off347 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20336 : Index := Scalar.indexCast arg8
  let c304 : Index := 304#32
  let c0_17607 : Index := 0#32
  ![v20336.toNat, 304, 0]
def k0_off348 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20339 : Index := Scalar.indexCast arg8
  let c312 : Index := 312#32
  let c0_17608 : Index := 0#32
  ![v20339.toNat, 312, 0]
def k0_off349 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20342 : Index := Scalar.indexCast arg8
  let c320 : Index := 320#32
  let c0_17609 : Index := 0#32
  ![v20342.toNat, 320, 0]
def k0_off350 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20345 : Index := Scalar.indexCast arg8
  let c328 : Index := 328#32
  let c0_17610 : Index := 0#32
  ![v20345.toNat, 328, 0]
def k0_off351 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20348 : Index := Scalar.indexCast arg8
  let c336 : Index := 336#32
  let c0_17611 : Index := 0#32
  ![v20348.toNat, 336, 0]
def k0_off352 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20351 : Index := Scalar.indexCast arg8
  let c344 : Index := 344#32
  let c0_17612 : Index := 0#32
  ![v20351.toNat, 344, 0]
def k0_off353 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20354 : Index := Scalar.indexCast arg8
  let c352 : Index := 352#32
  let c0_17613 : Index := 0#32
  ![v20354.toNat, 352, 0]
def k0_off354 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20357 : Index := Scalar.indexCast arg8
  let c360 : Index := 360#32
  let c0_17614 : Index := 0#32
  ![v20357.toNat, 360, 0]
def k0_off355 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20360 : Index := Scalar.indexCast arg8
  let c368 : Index := 368#32
  let c0_17615 : Index := 0#32
  ![v20360.toNat, 368, 0]
def k0_off356 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20363 : Index := Scalar.indexCast arg8
  let c376 : Index := 376#32
  let c0_17616 : Index := 0#32
  ![v20363.toNat, 376, 0]
def k0_off357 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20366 : Index := Scalar.indexCast arg8
  let c384_17617 : Index := 384#32
  let c0_17618 : Index := 0#32
  ![v20366.toNat, 384, 0]
def k0_off358 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20369 : Index := Scalar.indexCast arg8
  let c392 : Index := 392#32
  let c0_17619 : Index := 0#32
  ![v20369.toNat, 392, 0]
def k0_off359 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20372 : Index := Scalar.indexCast arg8
  let c400 : Index := 400#32
  let c0_17620 : Index := 0#32
  ![v20372.toNat, 400, 0]
def k0_off360 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20375 : Index := Scalar.indexCast arg8
  let c408 : Index := 408#32
  let c0_17621 : Index := 0#32
  ![v20375.toNat, 408, 0]
def k0_off361 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20378 : Index := Scalar.indexCast arg8
  let c416 : Index := 416#32
  let c0_17622 : Index := 0#32
  ![v20378.toNat, 416, 0]
def k0_off362 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20381 : Index := Scalar.indexCast arg8
  let c424 : Index := 424#32
  let c0_17623 : Index := 0#32
  ![v20381.toNat, 424, 0]
def k0_off363 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20384 : Index := Scalar.indexCast arg8
  let c432 : Index := 432#32
  let c0_17624 : Index := 0#32
  ![v20384.toNat, 432, 0]
def k0_off364 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20387 : Index := Scalar.indexCast arg8
  let c440 : Index := 440#32
  let c0_17625 : Index := 0#32
  ![v20387.toNat, 440, 0]
def k0_off365 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20390 : Index := Scalar.indexCast arg8
  let c448 : Index := 448#32
  let c0_17626 : Index := 0#32
  ![v20390.toNat, 448, 0]
def k0_off366 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20393 : Index := Scalar.indexCast arg8
  let c456 : Index := 456#32
  let c0_17627 : Index := 0#32
  ![v20393.toNat, 456, 0]
def k0_off367 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20396 : Index := Scalar.indexCast arg8
  let c464 : Index := 464#32
  let c0_17628 : Index := 0#32
  ![v20396.toNat, 464, 0]
def k0_off368 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20399 : Index := Scalar.indexCast arg8
  let c472 : Index := 472#32
  let c0_17629 : Index := 0#32
  ![v20399.toNat, 472, 0]
def k0_off369 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20402 : Index := Scalar.indexCast arg8
  let c480 : Index := 480#32
  let c0_17630 : Index := 0#32
  ![v20402.toNat, 480, 0]
def k0_off370 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20405 : Index := Scalar.indexCast arg8
  let c488 : Index := 488#32
  let c0_17631 : Index := 0#32
  ![v20405.toNat, 488, 0]
def k0_off371 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20408 : Index := Scalar.indexCast arg8
  let c496 : Index := 496#32
  let c0_17632 : Index := 0#32
  ![v20408.toNat, 496, 0]
def k0_off372 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v20411 : Index := Scalar.indexCast arg8
  let c504 : Index := 504#32
  let c0_17633 : Index := 0#32
  ![v20411.toNat, 504, 0]
def k0_off373 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21326 : Index := Scalar.indexCast arg8
  let c256_18034 : Index := 256#32
  let c128_18035 : Index := 128#32
  ![v21326.toNat, 256, 128]
def k0_off374 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21329 : Index := Scalar.indexCast arg8
  let c264_18036 : Index := 264#32
  let c128_18037 : Index := 128#32
  ![v21329.toNat, 264, 128]
def k0_off375 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21332 : Index := Scalar.indexCast arg8
  let c272_18038 : Index := 272#32
  let c128_18039 : Index := 128#32
  ![v21332.toNat, 272, 128]
def k0_off376 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21335 : Index := Scalar.indexCast arg8
  let c280_18040 : Index := 280#32
  let c128_18041 : Index := 128#32
  ![v21335.toNat, 280, 128]
def k0_off377 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21338 : Index := Scalar.indexCast arg8
  let c288_18042 : Index := 288#32
  let c128_18043 : Index := 128#32
  ![v21338.toNat, 288, 128]
def k0_off378 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21341 : Index := Scalar.indexCast arg8
  let c296_18044 : Index := 296#32
  let c128_18045 : Index := 128#32
  ![v21341.toNat, 296, 128]
def k0_off379 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21344 : Index := Scalar.indexCast arg8
  let c304_18046 : Index := 304#32
  let c128_18047 : Index := 128#32
  ![v21344.toNat, 304, 128]
def k0_off380 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21347 : Index := Scalar.indexCast arg8
  let c312_18048 : Index := 312#32
  let c128_18049 : Index := 128#32
  ![v21347.toNat, 312, 128]
def k0_off381 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21350 : Index := Scalar.indexCast arg8
  let c320_18050 : Index := 320#32
  let c128_18051 : Index := 128#32
  ![v21350.toNat, 320, 128]
def k0_off382 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21353 : Index := Scalar.indexCast arg8
  let c328_18052 : Index := 328#32
  let c128_18053 : Index := 128#32
  ![v21353.toNat, 328, 128]
def k0_off383 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21356 : Index := Scalar.indexCast arg8
  let c336_18054 : Index := 336#32
  let c128_18055 : Index := 128#32
  ![v21356.toNat, 336, 128]
def k0_off384 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21359 : Index := Scalar.indexCast arg8
  let c344_18056 : Index := 344#32
  let c128_18057 : Index := 128#32
  ![v21359.toNat, 344, 128]
def k0_off385 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21362 : Index := Scalar.indexCast arg8
  let c352_18058 : Index := 352#32
  let c128_18059 : Index := 128#32
  ![v21362.toNat, 352, 128]
def k0_off386 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21365 : Index := Scalar.indexCast arg8
  let c360_18060 : Index := 360#32
  let c128_18061 : Index := 128#32
  ![v21365.toNat, 360, 128]
def k0_off387 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21368 : Index := Scalar.indexCast arg8
  let c368_18062 : Index := 368#32
  let c128_18063 : Index := 128#32
  ![v21368.toNat, 368, 128]
def k0_off388 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21371 : Index := Scalar.indexCast arg8
  let c376_18064 : Index := 376#32
  let c128_18065 : Index := 128#32
  ![v21371.toNat, 376, 128]
def k0_off389 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21374 : Index := Scalar.indexCast arg8
  let c384_18066 : Index := 384#32
  let c128_18067 : Index := 128#32
  ![v21374.toNat, 384, 128]
def k0_off390 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21377 : Index := Scalar.indexCast arg8
  let c392_18068 : Index := 392#32
  let c128_18069 : Index := 128#32
  ![v21377.toNat, 392, 128]
def k0_off391 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21380 : Index := Scalar.indexCast arg8
  let c400_18070 : Index := 400#32
  let c128_18071 : Index := 128#32
  ![v21380.toNat, 400, 128]
def k0_off392 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21383 : Index := Scalar.indexCast arg8
  let c408_18072 : Index := 408#32
  let c128_18073 : Index := 128#32
  ![v21383.toNat, 408, 128]
def k0_off393 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21386 : Index := Scalar.indexCast arg8
  let c416_18074 : Index := 416#32
  let c128_18075 : Index := 128#32
  ![v21386.toNat, 416, 128]
def k0_off394 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21389 : Index := Scalar.indexCast arg8
  let c424_18076 : Index := 424#32
  let c128_18077 : Index := 128#32
  ![v21389.toNat, 424, 128]
def k0_off395 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21392 : Index := Scalar.indexCast arg8
  let c432_18078 : Index := 432#32
  let c128_18079 : Index := 128#32
  ![v21392.toNat, 432, 128]
def k0_off396 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21395 : Index := Scalar.indexCast arg8
  let c440_18080 : Index := 440#32
  let c128_18081 : Index := 128#32
  ![v21395.toNat, 440, 128]
def k0_off397 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21398 : Index := Scalar.indexCast arg8
  let c448_18082 : Index := 448#32
  let c128_18083 : Index := 128#32
  ![v21398.toNat, 448, 128]
def k0_off398 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21401 : Index := Scalar.indexCast arg8
  let c456_18084 : Index := 456#32
  let c128_18085 : Index := 128#32
  ![v21401.toNat, 456, 128]
def k0_off399 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21404 : Index := Scalar.indexCast arg8
  let c464_18086 : Index := 464#32
  let c128_18087 : Index := 128#32
  ![v21404.toNat, 464, 128]
def k0_off400 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21407 : Index := Scalar.indexCast arg8
  let c472_18088 : Index := 472#32
  let c128_18089 : Index := 128#32
  ![v21407.toNat, 472, 128]
def k0_off401 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21410 : Index := Scalar.indexCast arg8
  let c480_18090 : Index := 480#32
  let c128_18091 : Index := 128#32
  ![v21410.toNat, 480, 128]
def k0_off402 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21413 : Index := Scalar.indexCast arg8
  let c488_18092 : Index := 488#32
  let c128_18093 : Index := 128#32
  ![v21413.toNat, 488, 128]
def k0_off403 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21416 : Index := Scalar.indexCast arg8
  let c496_18094 : Index := 496#32
  let c128_18095 : Index := 128#32
  ![v21416.toNat, 496, 128]
def k0_off404 (i : grid0.Coords) (k0_t4 : Fin (k0_t4_loop i).trips) : Fin 3 → Nat :=
  let c0_i32_31 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.addi v1 c511_i32
  let c512_i32 : BitVec 32 := 512#32
  let v3 : BitVec 32 := Scalar.divsi v2 c512_i32
  let v76 : BitVec 32 := Scalar.subi v3 c0_i32_31
  let c1_i32_32 : BitVec 32 := 1#32
  let v78 : BitVec 32 := Scalar.divsi v76 c1_i32_32
  let v79 : BitVec 32 := Scalar.muli v78 c1_i32_32
  let v80 : BitVec 32 := Scalar.addi c0_i32_31 v79
  let c1_i32_34 : BitVec 32 := 1#32
  let arg8 : BitVec 32 := Scf.iv v80 c1_i32_34 k0_t4
  let v21419 : Index := Scalar.indexCast arg8
  let c504_18096 : Index := 504#32
  let c128_18097 : Index := 128#32
  ![v21419.toNat, 504, 128]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SelectReferenceIdeal.lean ====
abbrev S2x8192x8192 : Shape := ⟨3, ![2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S2x8192x256 : Shape := ⟨3, ![2, 8192, 256]⟩
abbrev S2x8192x1 : Shape := ⟨3, ![2, 8192, 1]⟩
abbrev S2x8192 : Shape := ⟨2, ![2, 8192]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x8192, .i32⟩
  | .hbm, ⟨1, _⟩ => ⟨S8192, .i32⟩
  | .hbm, ⟨2, _⟩ => ⟨S1x8192, .i32⟩
  | .hbm, ⟨3, _⟩ => ⟨S8192, .i32⟩
  | .hbm, ⟨4, _⟩ => ⟨S8192x1, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S1x8192x8192, .i1⟩
  | .hbm, ⟨9, _⟩ => ⟨S_, .i32⟩
  | .hbm, ⟨10, _⟩ => ⟨S_, .i32⟩
  | .hbm, ⟨11, _⟩ => ⟨S2x8192x8192, .i1⟩
  | .hbm, ⟨12, _⟩ => ⟨S2x8192x8192, .i32⟩
  | .hbm, ⟨13, _⟩ => ⟨S2x8192x8192, .i32⟩
  | .hbm, ⟨14, _⟩ => ⟨S2x8192x256, .i32⟩
  | .hbm, ⟨15, _⟩ => ⟨S2x8192x256, .i32⟩
  | .hbm, ⟨16, _⟩ => ⟨S2x8192x1, .i32⟩
  | .hbm, ⟨17, _⟩ => ⟨S2x8192, .i32⟩
  | .hbm, ⟨18, _⟩ => ⟨S2x8192x1, .i32⟩
  | .hbm, ⟨19, _⟩ => ⟨S2x8192, .i32⟩
  | _, _ => ⟨S2x8192x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Ffn.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S384x1024 : Shape := ⟨2, ![384, 1024]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 17
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x384, .f32⟩
  | .hbm, ⟨2, _⟩ => ⟨S16384x256, .f32⟩
  | .hbm, ⟨3, _⟩ => ⟨S16384x384, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x384, .f32⟩
  | .local _ .vmem, ⟨7, _⟩ => ⟨S512x384, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnReferenceIdeal.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .f32⟩
  | .hbm, ⟨2, _⟩ => ⟨S16384x256, .f32⟩
  | .hbm, ⟨3, _⟩ => ⟨S16384x384, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x3280 : Shape := ⟨2, ![1024, 3280]⟩
abbrev S1x1024 : Shape := ⟨2, ![1, 1024]⟩
abbrev S1024x1152 : Shape := ⟨2, ![1024, 1152]⟩
abbrev S1024x384 : Shape := ⟨2, ![1024, 384]⟩
abbrev S1024x6 : Shape := ⟨2, ![1024, 6]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x48 : Shape := ⟨2, ![1024, 48]⟩
abbrev S1024x3328 : Shape := ⟨2, ![1024, 3328]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x1152 : Shape := ⟨2, ![16384, 1152]⟩
abbrev S16384x384 : Shape := ⟨2, ![16384, 384]⟩
abbrev S16384x256 : Shape := ⟨2, ![16384, 256]⟩
abbrev S16384x128 : Shape := ⟨2, ![16384, 128]⟩
abbrev S512x1024 : Shape := ⟨2, ![512, 1024]⟩
abbrev S512x128 : Shape := ⟨2, ![512, 128]⟩
abbrev S512x1152 : Shape := ⟨2, ![512, 1152]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S1024x128 : Shape := ⟨2, ![1024, 128]⟩

abbrev nBuf : Space → Nat
  | .hbm => 65
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3280, .f32⟩
  | .hbm, ⟨3, _⟩ => ⟨S1x1024, .f32⟩
  | .hbm, ⟨4, _⟩ => ⟨S1024x1152, .f32⟩
  | .hbm, ⟨5, _⟩ => ⟨S1024x384, .f32⟩
  | .hbm, ⟨6, _⟩ => ⟨S1024x6, .f32⟩
  | .hbm, ⟨7, _⟩ => ⟨S1024x6, .f32⟩
  | .hbm, ⟨8, _⟩ => ⟨S1024x256, .f32⟩
  | .hbm, ⟨9, _⟩ => ⟨S1024x384, .f32⟩
  | .hbm, ⟨10, _⟩ => ⟨S1024x384, .f32⟩
  | .hbm, ⟨11, _⟩ => ⟨S1024x384, .f32⟩
  | .hbm, ⟨12, _⟩ => ⟨S1024x256, .f32⟩
  | .hbm, ⟨13, _⟩ => ⟨S1024x64, .f32⟩
  | .hbm, ⟨14, _⟩ => ⟨S1024x4, .f32⟩
  | .hbm, ⟨15, _⟩ => ⟨S_, .f32⟩
  | .hbm, ⟨16, _⟩ => ⟨S1024x48, .f32⟩
  | .hbm, ⟨17, _⟩ => ⟨S1024x3328, .f32⟩
  | .hbm, ⟨18, _⟩ => ⟨S1024x3328, .bf16⟩
  | .hbm, ⟨19, _⟩ => ⟨S8192, .i32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8192, .f32⟩
  | .hbm, ⟨29, _⟩ => ⟨S8192x1, .f32⟩
  | .hbm, ⟨30, _⟩ => ⟨S1x8, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S_, .f32⟩
  | .hbm, ⟨37, _⟩ => ⟨S8192x48, .f32⟩
  | .hbm, ⟨38, _⟩ => ⟨S8192x64, .f32⟩
  | .hbm, ⟨39, _⟩ => ⟨S8192x8, .f32⟩
  | .hbm, ⟨40, _⟩ => ⟨S_, .f32⟩
  | .hbm, ⟨41, _⟩ => ⟨S8192x56, .f32⟩
  | .hbm, ⟨42, _⟩ => ⟨S8192x64, .f32⟩
  | .hbm, ⟨43, _⟩ => ⟨S_, .f32⟩
  | .hbm, ⟨44, _⟩ => ⟨S8192x8, .f32⟩
  | .hbm, ⟨45, _⟩ => ⟨S_, .f32⟩
  | .hbm, ⟨46, _⟩ => ⟨S8192x48, .f32⟩
  | .hbm, ⟨47, _⟩ => ⟨S8192x64, .f32⟩
  | .hbm, ⟨48, _⟩ => ⟨S1x8192x1x64, .f32⟩
  | .hbm, ⟨49, _⟩ => ⟨S1x8192x2x64, .f32⟩
  | .hbm, ⟨50, _⟩ => ⟨S8192x128, .f32⟩
  | .hbm, ⟨51, _⟩ => ⟨S1x8192x1x64, .f32⟩
  | .hbm, ⟨52, _⟩ => ⟨S1x8192x2x64, .f32⟩
  | .hbm, ⟨53, _⟩ => ⟨S8192x128, .f32⟩
  | .hbm, ⟨54, _⟩ => ⟨S1x8192x1x64, .f32⟩
  | .hbm, ⟨55, _⟩ => ⟨S1x8192x2x64, .f32⟩
  | .hbm, ⟨56, _⟩ => ⟨S8192x128, .f32⟩
  | .hbm, ⟨57, _⟩ => ⟨S16384x1152, .f32⟩
  | .hbm, ⟨58, _⟩ => ⟨S16384x384, .f32⟩
  | .hbm, ⟨59, _⟩ => ⟨S16384x256, .f32⟩
  | .hbm, ⟨60, _⟩ => ⟨S16384x384, .f32⟩
  | .hbm, ⟨61, _⟩ => ⟨S16384x384, .f32⟩
  | .hbm, ⟨62, _⟩ => ⟨S16384x384, .f32⟩
  | .hbm, ⟨63, _⟩ => ⟨S16384x256, .f32⟩
  | .hbm, ⟨64, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1152, .f32⟩
  | .local _ .vmem, ⟨11, _⟩ => ⟨S512x1152, .f32⟩
  | .local _ .vmem, ⟨12, _⟩ => ⟨S512x384, .f32⟩
  | .local _ .vmem, ⟨13, _⟩ => ⟨S512x384, .f32⟩
  | .local _ .vmem, ⟨14, _⟩ => ⟨S512x256, .f32⟩
  | .local _ .vmem, ⟨15, _⟩ => ⟨S512x256, .f32⟩
  | .local _ .vmem, ⟨16, _⟩ => ⟨S512x384, .f32⟩
  | .local _ .vmem, ⟨17, _⟩ => ⟨S512x384, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x384, .f32⟩
  | .local _ .vmem, ⟨22, _⟩ => ⟨S512x256, .f32⟩
  | .local _ .vmem, ⟨23, _⟩ => ⟨S512x256, .f32⟩
  | .local _ .vmem, ⟨24, _⟩ => ⟨S512x128, .f32⟩
  | .local _ .vmem, ⟨25, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47_0 : Ref sig .tc := ⟨.hbm, 57, rfl⟩
abbrev main_v47_1 : Ref sig .tc := ⟨.hbm, 58, rfl⟩
abbrev main_v47_2 : Ref sig .tc := ⟨.hbm, 59, rfl⟩
abbrev main_v47_3 : Ref sig .tc := ⟨.hbm, 60, rfl⟩
abbrev main_v47_4 : Ref sig .tc := ⟨.hbm, 61, rfl⟩
abbrev main_v47_5 : Ref sig .tc := ⟨.hbm, 62, rfl⟩
abbrev main_v47_6 : Ref sig .tc := ⟨.hbm, 63, rfl⟩
abbrev main_v47_7 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjReferenceIdeal.lean ====
abbrev S16384x1024 : Shape := ⟨2, ![16384, 1024]⟩
abbrev S1024 : Shape := ⟨1, ![1024]⟩
abbrev S1024x3280 : Shape := ⟨2, ![1024, 3280]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3280 : Shape := ⟨2, ![16384, 3280]⟩
abbrev S16384x1152 : Shape := ⟨2, ![16384, 1152]⟩
abbrev S16384x384 : Shape := ⟨2, ![16384, 384]⟩
abbrev S16384x6 : Shape := ⟨2, ![16384, 6]⟩
abbrev S16384x256 : Shape := ⟨2, ![16384, 256]⟩
abbrev S16384x64 : Shape := ⟨2, ![16384, 64]⟩
abbrev S16384x4 : Shape := ⟨2, ![16384, 4]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S2x8192x6x64 : Shape := ⟨4, ![2, 8192, 6, 64]⟩
abbrev S8192x1x8 : Shape := ⟨3, ![8192, 1, 8]⟩
abbrev S2x8192x6x8 : Shape := ⟨4, ![2, 8192, 6, 8]⟩
abbrev S1x8192x1x8 : Shape := ⟨4, ![1, 8192, 1, 8]⟩
abbrev S2x8192x6x48 : Shape := ⟨4, ![2, 8192, 6, 48]⟩
abbrev S2x8192x4x64 : Shape := ⟨4, ![2, 8192, 4, 64]⟩
abbrev S2x8192x4x8 : Shape := ⟨4, ![2, 8192, 4, 8]⟩
abbrev S2x8192x4x48 : Shape := ⟨4, ![2, 8192, 4, 48]⟩
abbrev S2x8192x64 : Shape := ⟨3, ![2, 8192, 64]⟩
abbrev S2x8192x8 : Shape := ⟨3, ![2, 8192, 8]⟩
abbrev S1x8192x8 : Shape := ⟨3, ![1, 8192, 8]⟩
abbrev S2x8192x48 : Shape := ⟨3, ![2, 8192, 48]⟩
abbrev S16384x48 : Shape := ⟨2, ![16384, 48]⟩
abbrev S16384x128 : Shape := ⟨2, ![16384, 128]⟩

abbrev nBuf : Space → Nat
  | .hbm => 137
  | .vmem => 0
  | .smem => 0
  | _ => 0

abbrev hbmTy0_0 (i : Nat) : BufTy := match i % 128 with
  | 0 => ⟨S16384x1024, .f32⟩
  | 1 => ⟨S1024, .f32⟩
  | 2 => ⟨S1024x3280, .f32⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S16384x3280, .f32⟩
  | 20 => ⟨S16384x1152, .f32⟩
  | 21 => ⟨S16384x384, .f32⟩
  | 22 => ⟨S16384x6, .f32⟩
  | 23 => ⟨S16384x6, .f32⟩
  | 24 => ⟨S16384x256, .f32⟩
  | 25 => ⟨S16384x384, .f32⟩
  | 26 => ⟨S16384x384, .f32⟩
  | 27 => ⟨S16384x384, .f32⟩
  | 28 => ⟨S16384x256, .f32⟩
  | 29 => ⟨S16384x64, .f32⟩
  | 30 => ⟨S16384x4, .f32⟩
  | 31 => ⟨S8192, .i32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S8192, .f32⟩
  | 41 => ⟨S8192x1, .f32⟩
  | 42 => ⟨S1x8, .f32⟩
  | 43 => ⟨S8192x8, .f32⟩
  | 44 => ⟨S8192x8, .f32⟩
  | 45 => ⟨S8192x8, .f32⟩
  | 46 => ⟨S8192x8, .f32⟩
  | 47 => ⟨S8192x8, .f32⟩
  | 48 => ⟨S2x8192x6x64, .f32⟩
  | 49 => ⟨S8192x1x8, .f32⟩
  | 50 => ⟨S8192x1x8, .f32⟩
  | 51 => ⟨S2x8192x6x8, .f32⟩
  | 52 => ⟨S2x8192x6x8, .f32⟩
  | 53 => ⟨S1x8192x1x8, .f32⟩
  | 54 => ⟨S2x8192x6x8, .f32⟩
  | 55 => ⟨S2x8192x6x8, .f32⟩
  | 56 => ⟨S1x8192x1x8, .f32⟩
  | 57 => ⟨S2x8192x6x8, .f32⟩
  | 58 => ⟨S2x8192x6x8, .f32⟩
  | 59 => ⟨S2x8192x6x8, .f32⟩
  | 60 => ⟨S1x8192x1x8, .f32⟩
  | 61 => ⟨S2x8192x6x8, .f32⟩
  | 62 => ⟨S2x8192x6x8, .f32⟩
  | 63 => ⟨S1x8192x1x8, .f32⟩
  | 64 => ⟨S2x8192x6x8, .f32⟩
  | 65 => ⟨S2x8192x6x8, .f32⟩
  | 66 => ⟨S2x8192x6x8, .f32⟩
  | 67 => ⟨S2x8192x6x48, .f32⟩
  | 68 => ⟨S2x8192x6x64, .f32⟩
  | 69 => ⟨S16384x384, .f32⟩
  | 70 => ⟨S2x8192x6x64, .f32⟩
  | 71 => ⟨S8192x1x8, .f32⟩
  | 72 => ⟨S8192x1x8, .f32⟩
  | 73 => ⟨S2x8192x6x8, .f32⟩
  | 74 => ⟨S2x8192x6x8, .f32⟩
  | 75 => ⟨S1x8192x1x8, .f32⟩
  | 76 => ⟨S2x8192x6x8, .f32⟩
  | 77 => ⟨S2x8192x6x8, .f32⟩
  | 78 => ⟨S1x8192x1x8, .f32⟩
  | 79 => ⟨S2x8192x6x8, .f32⟩
  | 80 => ⟨S2x8192x6x8, .f32⟩
  | 81 => ⟨S2x8192x6x8, .f32⟩
  | 82 => ⟨S1x8192x1x8, .f32⟩
  | 83 => ⟨S2x8192x6x8, .f32⟩
  | 84 => ⟨S2x8192x6x8, .f32⟩
  | 85 => ⟨S1x8192x1x8, .f32⟩
  | 86 => ⟨S2x8192x6x8, .f32⟩
  | 87 => ⟨S2x8192x6x8, .f32⟩
  | 88 => ⟨S2x8192x6x8, .f32⟩
  | 89 => ⟨S2x8192x6x48, .f32⟩
  | 90 => ⟨S2x8192x6x64, .f32⟩
  | 91 => ⟨S16384x384, .f32⟩
  | 92 => ⟨S2x8192x4x64, .f32⟩
  | 93 => ⟨S8192x1x8, .f32⟩
  | 94 => ⟨S8192x1x8, .f32⟩
  | 95 => ⟨S2x8192x4x8, .f32⟩
  | 96 => ⟨S2x8192x4x8, .f32⟩
  | 97 => ⟨S1x8192x1x8, .f32⟩
  | 98 => ⟨S2x8192x4x8, .f32⟩
  | 99 => ⟨S2x8192x4x8, .f32⟩
  | 100 => ⟨S1x8192x1x8, .f32⟩
  | 101 => ⟨S2x8192x4x8, .f32⟩
  | 102 => ⟨S2x8192x4x8, .f32⟩
  | 103 => ⟨S2x8192x4x8, .f32⟩
  | 104 => ⟨S1x8192x1x8, .f32⟩
  | 105 => ⟨S2x8192x4x8, .f32⟩
  | 106 => ⟨S2x8192x4x8, .f32⟩
  | 107 => ⟨S1x8192x1x8, .f32⟩
  | 108 => ⟨S2x8192x4x8, .f32⟩
  | 109 => ⟨S2x8192x4x8, .f32⟩
  | 110 => ⟨S2x8192x4x8, .f32⟩
  | 111 => ⟨S2x8192x4x48, .f32⟩
  | 112 => ⟨S2x8192x4x64, .f32⟩
  | 113 => ⟨S16384x256, .f32⟩
  | 114 => ⟨S2x8192x64, .f32⟩
  | 115 => ⟨S2x8192x8, .f32⟩
  | 116 => ⟨S2x8192x8, .f32⟩
  | 117 => ⟨S1x8192x8, .f32⟩
  | 118 => ⟨S2x8192x8, .f32⟩
  | 119 => ⟨S2x8192x8, .f32⟩
  | 120 => ⟨S1x8192x8, .f32⟩
  | 121 => ⟨S2x8192x8, .f32⟩
  | 122 => ⟨S2x8192x8, .f32⟩
  | 123 => ⟨S2x8192x8, .f32⟩
  | 124 => ⟨S1x8192x8, .f32⟩
  | 125 => ⟨S2x8192x8, .f32⟩
  | 126 => ⟨S2x8192x8, .f32⟩
  | 127 => ⟨S1x8192x8, .f32⟩
  | _ => ⟨S16384x1024, .f32⟩

abbrev hbmTy0_1 (i : Nat) : BufTy := match i % 128 with
  | 0 => ⟨S2x8192x8, .f32⟩
  | 1 => ⟨S2x8192x8, .f32⟩
  | 2 => ⟨S2x8192x8, .f32⟩
  | 3 => ⟨S2x8192x48, .f32⟩
  | 4 => ⟨S2x8192x64, .f32⟩
  | 5 => ⟨S16384x64, .f32⟩
  | 6 => ⟨S_, .f32⟩
  | 7 => ⟨S16384x48, .f32⟩
  | 8 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_cst_4 : Ref sig .tc := ⟨.hbm, 134, rfl⟩
abbrev main_v126 : Ref sig .tc := ⟨.hbm, 135, rfl⟩
abbrev main_v127 : Ref sig .tc := ⟨.hbm, 136, rfl⟩

abbrev nD : Nat := 1
abbrev τ : Topo := Topo.v7x

variable {F : FTy → Type} [FloatOps F]
-- ==== Proof.Count.lean ====
module

public import Idealize.ShloMosaic.Lib.BitWord
public import Mathlib.Algebra.BigOperators.Intervals
public import Mathlib.Algebra.BigOperators.Fin

@[expose] public section

/-! Counting positions, and words whose bits stand for positions. -/

namespace Cert.SelectIdeal

open Idealize.ShloMosaic Idealize.ShloMosaic.Bits

/-- How many of the first `n` positions meet `P`. -/
def cnt₀ (P : Nat → Bool) (n : Nat) : Nat := ∑ s ∈ Finset.range n, (P s).toNat

theorem cnt₀_add (P : Nat → Bool) (a b : Nat) : cnt₀ P (a + b) = cnt₀ P a + cnt₀ (fun k => P (a + k)) b := by
  unfold cnt₀; exact Finset.sum_range_add ..

theorem cnt₀_succ (P : Nat → Bool) (n : Nat) : cnt₀ P (n + 1) = cnt₀ P n + (P n).toNat := by
  unfold cnt₀; exact Finset.sum_range_succ ..

theorem cnt₀_zero (P : Nat → Bool) : cnt₀ P 0 = 0 := rfl

theorem cnt₀_le (P : Nat → Bool) (n : Nat) : cnt₀ P n ≤ n := by
  induction n with
  | zero => simp [cnt₀_zero]
  | succ n ih => rw [cnt₀_succ]; have := (P n).toNat_le; omega

theorem cnt₀_mono (P : Nat → Bool) {m n : Nat} (h : m ≤ n) : cnt₀ P m ≤ cnt₀ P n := by
  obtain ⟨k, rfl⟩ := Nat.exists_eq_add_of_le h
  rw [cnt₀_add]; omega

theorem cnt₀_congr {P Q : Nat → Bool} {n : Nat} (h : ∀ s < n, P s = Q s) : cnt₀ P n = cnt₀ Q n := by
  unfold cnt₀
  exact Finset.sum_congr rfl fun s hs => by rw [h s (Finset.mem_range.mp hs)]

/-- Two disjoint properties count together. -/
theorem cnt₀_or {P Q R : Nat → Bool} {n : Nat} (h : ∀ s < n, (R s).toNat = (P s).toNat + (Q s).toNat) : cnt₀ R n = cnt₀ P n + cnt₀ Q n := by
  unfold cnt₀
  rw [← Finset.sum_add_distrib]
  exact Finset.sum_congr rfl fun s hs => h s (Finset.mem_range.mp hs)

/-- Blocks of `k` positions. -/
theorem cnt₀_mul (P : Nat → Bool) (k n : Nat) : cnt₀ P (k * n) = ∑ j ∈ Finset.range n, cnt₀ (fun i => P (k * j + i)) k := by
  induction n with
  | zero => simp [cnt₀_zero]
  | succ n ih => rw [Nat.mul_succ, cnt₀_add, ih, Finset.sum_range_succ]

/-- The word whose bit `p` says whether the position eight times `31 - p` above `base` meets `P`. -/
def word (P : Nat → Bool) (base : Nat) : BitVec 32 := bitWord (fun p => P (base + 8 * (31 - p))) 32

theorem getLsbD_word (P : Nat → Bool) (base p : Nat) (hp : p < 32) : (word P base).getLsbD p = P (base + 8 * (31 - p)) := by
  rw [word, getLsbD_bitWord _ _ le_rfl]; simp [hp]

theorem eq_word {x : BitVec 32} {P : Nat → Bool} {base : Nat} (h : ∀ p < 32, x.getLsbD p = P (base + 8 * (31 - p))) : x = word P base := by
  apply BitVec.eq_of_getLsbD_eq
  intro p hp
  rw [h p hp, getLsbD_word _ _ _ hp]

theorem length_filter_range (act : Nat → Bool) (n : Nat) : ((List.range n).filter act).length = ∑ p ∈ Finset.range n, (act p).toNat := by
  induction n with
  | zero => simp
  | succ n ih =>
    rw [List.range_succ, List.filter_append, List.length_append, ih, Finset.sum_range_succ]
    cases h : act n <;> simp [h]

theorem ctpop_word (P : Nat → Bool) (base : Nat) :
    IntOp.ctpop (word P base) = BitVec.ofNat 32 (∑ k ∈ Finset.range 32, (P (base + 8 * k)).toNat) := by
  apply BitVec.eq_of_toNat_eq
  rw [word, toNat_ctpop_bitWord _ _ le_rfl, length_filter_range]
  rw [← Finset.sum_range_reflect (fun k => (P (base + 8 * k)).toNat)]
  rw [BitVec.toNat_ofNat, Nat.mod_eq_of_lt]
  exact lt_of_le_of_lt (cnt₀_le (fun j => P (base + 8 * (32 - 1 - j))) 32) (by decide)

/-- The eight words of a group stand for its 256 positions. -/
theorem cnt₀_group (P : Nat → Bool) (b : Nat) :
    ∑ s ∈ Finset.range 8, ∑ k ∈ Finset.range 32, (P (b + s + 8 * k)).toNat = cnt₀ (fun i => P (b + i)) 256 := by
  rw [show 256 = 8 * 32 from rfl, cnt₀_mul, Finset.sum_comm]
  refine Finset.sum_congr rfl fun k _ => Finset.sum_congr rfl fun s _ => ?_
  rw [show b + s + 8 * k = b + (8 * k + s) by omega]

theorem getLsbD_ones {p : Nat} (hp : p < 32) : (4294967295#32 : BitVec 32).getLsbD p = true := by
  rw [show (4294967295#32 : BitVec 32) = BitVec.allOnes 32 by decide, BitVec.getLsbD_allOnes]; simp [hp]

theorem getLsbD_zero' {p : Nat} : (0#32 : BitVec 32).getLsbD p = false := BitVec.getLsbD_zero

end Cert.SelectIdeal
-- ==== Proof.Clean.lean ====
module

public import proofs.«01_k».proof.Proof.Gen.SelectIdeal.Launch

@[expose] public section

/-! The selection kernel's body written with loops over groups, planes and rounds. -/

namespace Cert.SelectIdeal

open Idealize.ShloMosaic Idealize.SL.Sem
open K0.Facts₀ Shapes1.Facts₀ Shapes2.Facts₀

variable [Facts] {F : FTy → Type} [FloatOps F]

/-- Programs of the kernel. -/
abbrev Pg (F : FTy → Type) [FloatOps F] (α : Type) := Prog (TpuEff nD τ sig (Elt F) Λ₀ .tc) α

/-- The number `n` as a group or plane number. -/
abbrev gi (n : Nat) : Fin 32 := Fin.ofNat 32 n

theorem inbA (g : Fin 32) : ∀ a, (![g.val, 0, 0] : Fin 3 → Nat) a + S1x8x256.size a ≤ S32x8x256.size a := by
  intro a; have := g.isLt; fin_cases a <;> simp [S1x8x256, S32x8x256] <;> omega

theorem inbP (b g : Fin 32) : ∀ a, (![b.val, g.val, 0, 0] : Fin 4 → Nat) a + S1x1x8x256.size a ≤ S32x32x8x256.size a := by
  intro a; have := g.isLt; have := b.isLt; fin_cases a <;> simp [S1x1x8x256, S32x32x8x256] <;> omega

section
variable (arg6 : Memref sig .tc .vmem S32x32x8x256 .i32) (arg7 : Memref sig .tc .vmem S32x8x256 .i32) {α : Type}

/-- Reads the active bits of group `g`. -/
noncomputable def ldA (g : Fin 32) (k : IVec S8x256 32 → Pg F α) : Pg F α :=
  .op (.load arg7 (Rect.unit (s := S32x8x256) ![g.val, 0, 0] S1x8x256.size (inbA g)).toLoadRect (View.loadsAt_vmem h_S1x8x256))
    fun v => k (shapeCast S8x256 v shapeCasts_S1x8x256_S8x256)

/-- Writes the active bits of group `g`. -/
noncomputable def stA (g : Fin 32) (x : IVec S8x256 32) (k : Pg F α) : Pg F α :=
  .op (.store arg7 (Rect.unit (s := S32x8x256) ![g.val, 0, 0] S1x8x256.size (inbA g)) (shapeCast S1x8x256 x shapeCasts_S8x256_S1x8x256)
    Finset.univ (View.stores_vmem_bits_univ h_S1x8x256 rfl) (.inl rfl)) fun _ => k

/-- Reads plane `b` of group `g`. -/
noncomputable def ldP (b g : Fin 32) (k : IVec S8x256 32 → Pg F α) : Pg F α :=
  .op (.load arg6 (Rect.unit (s := S32x32x8x256) ![b.val, g.val, 0, 0] S1x1x8x256.size (inbP b g)).toLoadRect (View.loadsAt_vmem h_S1x1x8x256))
    fun v => k (shapeCast S8x256 v shapeCasts_S1x1x8x256_S8x256)

/-- Reads the active bits of group `g`, as they lie. -/
noncomputable def ldA' (g : Fin 32) (k : Vec F S1x8x256 .i32 → Pg F α) : Pg F α :=
  .op (.load arg7 (Rect.unit (s := S32x8x256) ![g.val, 0, 0] S1x8x256.size (inbA g)).toLoadRect (View.loadsAt_vmem h_S1x8x256)) k

/-- Reads plane `b` of group `g`, as it lies. -/
noncomputable def ldP' (b g : Fin 32) (k : Vec F S1x1x8x256 .i32 → Pg F α) : Pg F α :=
  .op (.load arg6 (Rect.unit (s := S32x32x8x256) ![b.val, g.val, 0, 0] S1x1x8x256.size (inbP b g)).toLoadRect (View.loadsAt_vmem h_S1x1x8x256)) k

/-- All ones. -/
abbrev ones8 : IVec S8x256 32 := constantI S8x256 32 4294967295#32

/-- The four partial counts. -/
structure Parts where
  a : IVec S8x256 32
  b : IVec S8x256 32
  c : IVec S8x256 32
  d : IVec S8x256 32

/-- Adds the population counts of `x` to the first partial count and turns the four. -/
noncomputable def Parts.add (p : Parts) (x : IVec S8x256 32) : Parts := ⟨p.b, p.c, p.d, addi p.a (ctpop x)⟩

/-- The four partial counts at zero. -/
noncomputable def Parts.zero : Parts := ⟨broadcast S8x256 0#32, broadcast S8x256 0#32, broadcast S8x256 0#32, broadcast S8x256 0#32⟩

/-- The active bits after the decision on the plane `pb`: kept where the plane, as the decision left it, agrees. -/
noncomputable def actNext (pb : Nat) (keep act pl : IVec S8x256 32) : IVec S8x256 32 :=
  andi act (xori (xori (match pb == 31 with | true => xori pl ones8 | false => pl) keep) ones8)

/-- What a round carries: the count above, the bits found, the mask of the last decision. -/
structure Reg where
  above : IVec S1x256 32
  bits : IVec S1x256 32
  keep : IVec S8x256 32

/-- The reads of one group's update after the decision on plane `pb`. -/
noncomputable def updL (pb g : Nat) (keep : IVec S8x256 32) (k : IVec S8x256 32 → Pg F α) : Pg F α :=
  ldA arg7 (gi g) fun act => ldP arg6 (gi pb) (gi g) fun pl => ldA arg7 (gi g) fun _ => k (actNext pb keep act pl)

/-- One group's update. -/
noncomputable def upd (pb g : Nat) (keep : IVec S8x256 32) (k : IVec S8x256 32 → Pg F α) : Pg F α :=
  updL arg6 arg7 pb g keep fun act => stA arg7 (gi g) act (k act)

/-- One group's count at bit `b`. -/
noncomputable def cnt (b g : Nat) (act : IVec S8x256 32) (p : Parts) (k : Parts → Pg F α) : Pg F α :=
  ldP arg6 (gi b) (gi g) fun pl => k (p.add (andi act pl))

/-- `n` groups from `g` on, updated and counted at bit `b`. -/
noncomputable def groups (b : Nat) (keep : IVec S8x256 32) : (g n : Nat) → Parts → (Parts → Pg F α) → Pg F α
  | _, 0, p, k => k p
  | g, n + 1, p, k => upd arg6 arg7 (b + 1) g keep fun act => cnt arg6 b g act p fun p => groups b keep (g + 1) n p k

/-- The end of a round: the bit `bc` is taken when the count with it reaches 256. -/
noncomputable def regEnd (bc : BitVec 32) (r : Reg) (p : Parts) : Reg :=
  let c := addi r.above (shapeCast S1x256 (multiReductionI .add [0] S256 (addi (addi p.a p.b) (addi p.c p.d)) 0#32 reduces_S8x256_S256 rfl) shapeCasts_S256_S1x256)
  let take := cmpi .sge c (broadcast S1x256 256#32)
  ⟨select take r.above c, ori r.bits (select take (broadcast S1x256 bc) (broadcast S1x256 0#32)),
   broadcastTo S8x256 (shapeCast S1x256 (select take (broadcast S1x256 4294967295#32) (broadcast S1x256 0#32)) shapeCasts_S1x256_S1x256) broadcasts_S1x256_S8x256⟩

/-- `n` whole rounds, the first at bit `b`. -/
noncomputable def rounds : (b n : Nat) → Reg → (Reg → Pg F α) → Pg F α
  | _, 0, r, k => k r
  | b, n + 1, r, k => groups arg6 arg7 b r.keep 0 32 Parts.zero fun p => rounds (b - 1) n (regEnd (BitVec.ofNat 32 (2 ^ b)) r p) k

/-- `n` groups from `g` on, made active below `lim`. -/
noncomputable def initA (lim : BitVec 32) : (g n : Nat) → Pg F α → Pg F α
  | _, 0, k => k
  | g, n + 1, k => ldA arg7 (gi g) fun _ => stA arg7 (gi g) (addi (broadcast S8x256 0#32)
      (broadcast S8x256 (Scalar.select (Scalar.cmpi .sgt lim (BitVec.ofNat 32 g)) 4294967295#32 0#32))) (initA lim (g + 1) n k)

/-- `n` groups from `g` on, counted at the sign bit. -/
noncomputable def groups31 : (g n : Nat) → Parts → (Parts → Pg F α) → Pg F α
  | _, 0, p, k => k p
  | g, n + 1, p, k => ldA arg7 (gi g) fun act => ldP arg6 (gi 31) (gi g) fun pl => groups31 (g + 1) n (p.add (andi act (xori pl ones8))) k

/-- `n` groups from `g` on, updated after the last decision. -/
noncomputable def lastUpd (keep : IVec S8x256 32) : (g n : Nat) → Pg F α → Pg F α
  | _, 0, k => k
  | g, n + 1, k => upd arg6 arg7 0 g keep fun _ => lastUpd keep (g + 1) n k

/-- Reads `n` groups' active bits from `g` on, adding them to `av`. -/
noncomputable def ldAll : (g n : Nat) → (Nat → IVec S8x256 32) → ((Nat → IVec S8x256 32) → Pg F α) → Pg F α
  | _, 0, av, k => k av
  | g, n + 1, av, k => ldA arg7 (gi g) fun a => ldAll (g + 1) n (fun m => match Nat.decEq m g with | .isTrue _ => a | .isFalse _ => av m) k

end

/-- What a search for the first reaching position carries. -/
structure FR where
  cum : IVec S1x256 32
  idx : IVec S1x256 32
  before : IVec S1x256 32
  found : IVec S1x256 32

/-- The search before its first position. -/
noncomputable def FR.zero : FR := ⟨broadcast S1x256 0#32, broadcast S1x256 0#32, broadcast S1x256 0#32, broadcast S1x256 0#32⟩

/-- One position `n` of count `c` of a search. -/
noncomputable def FR.step (target c : IVec S1x256 32) (n : Nat) (s : FR) : FR :=
  let new := addi s.cum c
  let hit := select (cmpi .sge new target) (subi (broadcast S1x256 1#32) s.found) (broadcast S1x256 0#32)
  ⟨new, select (cmpi .sgt hit (broadcast S1x256 0#32)) (broadcast S1x256 (BitVec.ofNat 32 n)) s.idx,
   select (cmpi .sgt hit (broadcast S1x256 0#32)) s.cum s.before, addi s.found hit⟩

/-- The search over the first `n` positions of counts `c`. -/
noncomputable def FR.run (target : IVec S1x256 32) (c : Nat → IVec S1x256 32) : Nat → FR
  | 0 => FR.zero
  | n + 1 => (FR.run target c n).step target (c n) n

/-- The sum of the eight rows. -/
noncomputable def sum8 (x : IVec S8x256 32) : IVec S1x256 32 :=
  shapeCast S1x256 (multiReductionI .add [0] S256 x 0#32 reduces_S8x256_S256 rfl) shapeCasts_S256_S1x256

/-- Column by column, the one of the first `n` tiles `a` that `idx` names. -/
noncomputable def pick (idx : IVec S1x256 32) (a : Nat → IVec S8x256 32) : Nat → IVec S8x256 32
  | 0 => broadcast S8x256 0#32
  | n + 1 => select (broadcastTo S8x256 (shapeCast S1x256 (cmpi .eq idx (broadcast S1x256 (BitVec.ofNat 32 n))) shapeCasts_S1x256_S1x256) broadcasts_S1x256_S8x256)
      (a n) (pick idx a n)

/-- Row `k`'s bits of a word tile. -/
noncomputable def rowBit (word : IVec S8x256 32) (k : Nat) : IVec S8x256 32 :=
  andi (shrsi word (broadcast S8x256 (BitVec.ofNat 32 (31 - k)))) (broadcast S8x256 1#32)

/-- Row `s` of a tile of bits, the other rows zero. -/
noncomputable def onlyRow (x : IVec S8x256 32) (s : Nat) : IVec S8x256 32 :=
  select (cmpi .eq (iota .tc S8x256 32 [0] iota_S8x256_d0_w32) (broadcast S8x256 (BitVec.ofNat 32 s))) x (broadcast S8x256 0#32)

/-- The search for the group. -/
noncomputable def frG (need : IVec S1x256 32) (av : Nat → IVec S8x256 32) : FR := FR.run need (fun g => sum8 (ctpop (av g))) 32

/-- The word tile of the group found. -/
noncomputable def wordOf (need : IVec S1x256 32) (av : Nat → IVec S8x256 32) : IVec S8x256 32 := pick (frG need av).idx av 32

/-- What is still needed within the group found. -/
noncomputable def needK (need : IVec S1x256 32) (av : Nat → IVec S8x256 32) : IVec S1x256 32 := subi need (frG need av).before

/-- The search for the row of words. -/
noncomputable def frK (nk : IVec S1x256 32) (word : IVec S8x256 32) : FR := FR.run nk (fun k => sum8 (rowBit word k)) 32

/-- The search for the sublane. -/
noncomputable def frS (ns : IVec S1x256 32) (rowsel : IVec S8x256 32) : FR := FR.run ns (fun s => sum8 (onlyRow rowsel s)) 8

/-- The index of the entry that reaches the count needed. -/
noncomputable def cutOf (need : IVec S1x256 32) (av : Nat → IVec S8x256 32) : IVec S1x256 32 :=
  let G := frG need av
  let word := wordOf need av
  let nk := needK need av
  let K := frK nk word
  let rowsel := pick K.idx (rowBit word) 32
  let S := frS (subi nk K.before) rowsel
  select (cmpi .sgt G.found (broadcast S1x256 0#32))
    (addi (addi (muli G.idx (broadcast S1x256 256#32)) (muli K.idx (broadcast S1x256 8#32))) S.idx) (broadcast S1x256 1073741824#32)

section
variable (arg2 : Memref sig .tc .vmem S1x16x512x256 .i32) (arg3 : Memref sig .tc .vmem S1x1x256 .i32) (arg4 : Memref sig .tc .vmem S1x1x256 .i32)
  (arg5 : Memref sig .tc .vmem S16x512x256 .i32) (arg6 : Memref sig .tc .vmem S32x32x8x256 .i32) (arg7 : Memref sig .tc .vmem S32x8x256 .i32) {α : Type}

/-- Writes one row of results, after reading the row there. -/
noncomputable def stO (arg : Memref sig .tc .vmem S1x1x256 .i32) (x : IVec S1x256 32) (k : Pg F α) : Pg F α :=
  .op (.load arg (Rect.unit (s := S1x1x256) ![0, 0, 0] S1x1x256.size inb_S1x1x256_S1x1x256_0_0_0).toLoadRect (View.loadsAt_vmem h_S1x1x256))
    fun _ => .op (.store arg (Rect.unit (s := S1x1x256) ![0, 0, 0] S1x1x256.size inb_S1x1x256_S1x1x256_0_0_0) (shapeCast S1x1x256 x shapeCasts_S1x256_S1x1x256)
      Finset.univ (View.stores_vmem_bits_univ h_S1x1x256 rfl) (.inl rfl)) fun _ => k

/-- The key of the 256th entry. -/
noncomputable def keyOf (r : Reg) : IVec S1x256 32 := xori r.bits (broadcast S1x256 2147483648#32)

/-- How many entries of that key are among the 256. -/
noncomputable def needOf (r : Reg) : IVec S1x256 32 := subi (broadcast S1x256 256#32) r.above

/-- Copies a tile of keys. -/
noncomputable def cpTile (o1 : Fin 4 → Nat) (h1 : ∀ a, o1 a + S1x1x128x256.size a ≤ S1x16x512x256.size a)
    (o2 : Fin 3 → Nat) (h2 : ∀ a, o2 a + S1x128x256.size a ≤ S16x512x256.size a) (k : Pg F α) : Pg F α :=
  .op (.load arg2 (Rect.unit (s := S1x16x512x256) o1 S1x1x128x256.size h1).toLoadRect (View.loadsAt_vmem h_S1x1x128x256)) fun v =>
  .op (.load arg5 (Rect.unit (s := S16x512x256) o2 S1x128x256.size h2).toLoadRect (View.loadsAt_vmem h_S1x128x256)) fun _ =>
  .op (.store arg5 (Rect.unit (s := S16x512x256) o2 S1x128x256.size h2)
    (shapeCast S1x128x256 (shapeCast S128x256 v shapeCasts_S1x1x128x256_S128x256) shapeCasts_S128x256_S1x128x256)
    Finset.univ (View.stores_vmem_bits_univ h_S1x128x256 rfl) (.inl rfl)) fun _ => k

/-- Masks a tile of keys. -/
noncomputable def mkTile (o2 : Fin 3 → Nat) (h2 : ∀ a, o2 a + S1x128x256.size a ≤ S16x512x256.size a) (mask : IVec S128x256 1) (k : Pg F α) : Pg F α :=
  .op (.load arg5 (Rect.unit (s := S16x512x256) o2 S1x128x256.size h2).toLoadRect (View.loadsAt_vmem h_S1x128x256)) fun v =>
  .op (.load arg5 (Rect.unit (s := S16x512x256) o2 S1x128x256.size h2).toLoadRect (View.loadsAt_vmem h_S1x128x256)) fun _ =>
  .op (.store arg5 (Rect.unit (s := S16x512x256) o2 S1x128x256.size h2)
    (shapeCast S1x128x256 (select mask (shapeCast S128x256 v shapeCasts_S1x128x256_S128x256) (broadcast S128x256 2155872255#32)) shapeCasts_S128x256_S1x128x256)
    Finset.univ (View.stores_vmem_bits_univ h_S1x128x256 rfl) (.inl rfl)) fun _ => k

/-- Reads the keys of eight positions at `o`. -/
noncomputable def ldK (o : Fin 3 → Nat) (h : ∀ a, o a + S1x8x128.size a ≤ S16x512x256.size a) (k : IVec S8x128 32 → Pg F α) : Pg F α :=
  .op (.load arg5 (Rect.unit (s := S16x512x256) o S1x8x128.size h).toLoadRect (View.loadsAt_vmem h_S1x8x128)) fun v =>
    k (shapeCast S8x128 v shapeCasts_S1x8x128_S8x128)

/-- Writes a tile of a plane at `o`, after reading the tile there. -/
noncomputable def stP (o : Fin 4 → Nat) (h : ∀ a, o a + S1x1x8x128.size a ≤ S32x32x8x256.size a) (x : IVec S8x128 32) (k : Pg F α) : Pg F α :=
  .op (.load arg6 (Rect.unit (s := S32x32x8x256) o S1x1x8x128.size h).toLoadRect (View.loadsAt_vmem h_S1x1x8x128)) fun _ =>
  .op (.store arg6 (Rect.unit (s := S32x32x8x256) o S1x1x8x128.size h) (shapeCast S1x1x8x128 x shapeCasts_S8x128_S1x1x8x128)
    Finset.univ (View.stores_vmem_bits_univ h_S1x1x8x128 rfl) (.inl rfl)) fun _ => k

end

/-- One stage of the transposition of 32 words by 32 bits: the words `j` apart exchange the bits under the mask `m`. -/
noncomputable def stage (j : Nat) (m : BitVec 32) (a : Nat → IVec S8x128 32) : Nat → IVec S8x128 32 := fun k =>
  match Nat.decEq (k / j % 2) 0 with
  | .isTrue _ => xori (a k) (andi (xori (a k) (shrsi (a (k + j)) (broadcast S8x128 (BitVec.ofNat 32 j)))) (broadcast S8x128 m))
  | .isFalse _ => xori (a k) (shli (andi (xori (a (k - j)) (shrsi (a k) (broadcast S8x128 (BitVec.ofNat 32 j)))) (broadcast S8x128 m)) (broadcast S8x128 (BitVec.ofNat 32 j)))

/-- The transposition of 32 words by 32 bits. -/
noncomputable def transposed (a : Nat → IVec S8x128 32) : Nat → IVec S8x128 32 :=
  stage 1 1431655765#32 (stage 2 858993459#32 (stage 4 252645135#32 (stage 8 16711935#32 (stage 16 65535#32 a))))

theorem inbK {jb r c : Nat} (hjb : jb < 16) (hr : r ≤ 504) (hc : c ≤ 128) : ∀ a, (![jb, r, c] : Fin 3 → Nat) a + S1x8x128.size a ≤ S16x512x256.size a := by
  intro a; fin_cases a <;> simp [S1x8x128, S16x512x256] <;> omega

theorem inbQ {b g c : Nat} (hb : b ≤ 31) (hg : g < 32) (hc : c ≤ 128) : ∀ a, (![b, g, 0, c] : Fin 4 → Nat) a + S1x1x8x128.size a ≤ S32x32x8x256.size a := by
  intro a; fin_cases a <;> simp [S1x1x8x128, S32x32x8x256] <;> omega

section
variable (arg5 : Memref sig .tc .vmem S16x512x256 .i32) (arg6 : Memref sig .tc .vmem S32x32x8x256 .i32) {α : Type}

/-- Reads `n` tiles of eight positions from the `k`-th on, of block `jb` from row `r` and column `c`. -/
noncomputable def ldKs (jb r c : Nat) (hjb : jb < 16) (hr : r ≤ 256) (hc : c ≤ 128) : (k n : Nat) → k + n ≤ 32 → (Nat → IVec S8x128 32) → ((Nat → IVec S8x128 32) → Pg F α) → Pg F α
  | _, 0, _, av, f => f av
  | k, n + 1, h, av, f => ldK arg5 ![jb, r + 8 * k, c] (inbK hjb (by omega) hc) fun a =>
      ldKs jb r c hjb hr hc (k + 1) n (by omega) (fun m => match Nat.decEq m k with | .isTrue _ => a | .isFalse _ => av m) f

/-- Writes `n` words from the `w`-th on, word `w` to plane `31 - w` of group `g` at column `c`. -/
noncomputable def stPs (g c : Nat) (hg : g < 32) (hc : c ≤ 128) (x : Nat → IVec S8x128 32) : (w n : Nat) → Pg F α → Pg F α
  | _, 0, f => f
  | w, n + 1, f => stP arg6 ![31 - w, g, 0, c] (inbQ (by omega) hg hc) (x w) (stPs g c hg hc x (w + 1) n f)

/-- One tile of 256 positions by 128 columns made into planes. -/
noncomputable def planeTile (jb g r c : Nat) (hjb : jb < 16) (hg : g < 32) (hr : r ≤ 256) (hc : c ≤ 128) (k : Pg F α) : Pg F α :=
  ldKs arg5 jb r c hjb hr hc 0 32 (by omega) (fun _ => broadcast S8x128 0#32) fun a => stPs arg6 g c hg hc (transposed a) 0 32 k

/-- One block of 512 positions made into planes. -/
noncomputable def planeBlock (jb g0 g1 : Nat) (hjb : jb < 16) (hg0 : g0 < 32) (hg1 : g1 < 32) : Pg F PUnit :=
  planeTile arg5 arg6 jb g0 0 0 hjb hg0 (by omega) (by omega) <| planeTile arg5 arg6 jb g0 0 128 hjb hg0 (by omega) (by omega) <|
  planeTile arg5 arg6 jb g1 256 0 hjb hg1 (by omega) (by omega) <| planeTile arg5 arg6 jb g1 256 128 hjb hg1 (by omega) (by omega) <| pure ⟨⟩

end

section
variable (arg2 : Memref sig .tc .vmem S1x16x512x256 .i32) (arg3 : Memref sig .tc .vmem S1x1x256 .i32) (arg4 : Memref sig .tc .vmem S1x1x256 .i32)
  (arg5 : Memref sig .tc .vmem S16x512x256 .i32) (arg6 : Memref sig .tc .vmem S32x32x8x256 .i32) (arg7 : Memref sig .tc .vmem S32x8x256 .i32) {α : Type}

/-- The rounds from bit `b` on in group `g`, the last update, the search for the index and the results. -/
noncomputable def restFrom (b g : Nat) (r : Reg) (P : Parts) : Pg F PUnit :=
  groups arg6 arg7 b r.keep g (32 - g) P fun P => rounds arg6 arg7 (b - 1) b (regEnd (BitVec.ofNat 32 (2 ^ b)) r P) fun r =>
  lastUpd arg6 arg7 r.keep 0 32 <| ldAll arg7 0 32 (fun _ => broadcast S8x256 0#32) fun av =>
  stO arg3 (keyOf r) <| stO arg4 (cutOf (needOf r) av) <| pure ⟨⟩

/-- The round at the sign bit and all that follows it. -/
noncomputable def selectAll : Pg F PUnit :=
  groups31 arg6 arg7 0 32 Parts.zero fun P =>
  restFrom arg3 arg4 arg6 arg7 30 0 (regEnd 2147483648#32 ⟨broadcast S1x256 0#32, broadcast S1x256 0#32, broadcast S8x256 0#32⟩ P) Parts.zero

end

/-- Writes zero to all planes, after reading them. -/
noncomputable def zeroPlanes (arg6 : Memref sig .tc .vmem S32x32x8x256 .i32) {α : Type} (k : Pg F α) : Pg F α :=
  .op (.load arg6 (Rect.unit (s := S32x32x8x256) ![0, 0, 0, 0] S32x32x8x256.size inb_S32x32x8x256_S32x32x8x256_0_0_0_0).toLoadRect (View.loadsAt_vmem h_S32x32x8x256)) fun _ =>
  .op (.store arg6 (Rect.unit (s := S32x32x8x256) ![0, 0, 0, 0] S32x32x8x256.size inb_S32x32x8x256_S32x32x8x256_0_0_0_0)
    (shapeCast S32x32x8x256 (broadcast S32x32x8x256 0#32) shapeCasts_S32x32x8x256_S32x32x8x256)
    Finset.univ (View.stores_vmem_bits_univ h_S32x32x8x256 rfl) (.inl rfl)) fun _ => k

/-- The number of blocks of keys that the query tile sees. -/
def nkbW (i : grid0.Coords) : BitVec 32 :=
  Scalar.divsi (Scalar.addi (Scalar.muli (Scalar.addi (BitVec.ofNat 32 (i 1).val) 1#32) 256#32) 511#32) 512#32

/-- The number of blocks, as a loop bound. -/
def nkbE (i : grid0.Coords) : BitVec 32 :=
  Scalar.addi 0#32 (Scalar.muli (Scalar.divsi (Scalar.subi (nkbW i) 0#32) 1#32) 1#32)

/-- The causal mask of the `u`-th tile of the last block of keys. -/
noncomputable def maskW (i : grid0.Coords) (u : Nat) : IVec S128x256 1 :=
  cmpi .sle (addi (broadcast S128x256 (Scalar.addi (Scalar.muli (Scalar.subi (nkbW i) 1#32) 512#32) (BitVec.ofNat 32 (128 * u)))) (iota .tc S128x256 32 [0] iota_S128x256_d0_w32))
    (addi (broadcast S128x256 (Scalar.muli (BitVec.ofNat 32 (i 1).val) 256#32)) (iota .tc S128x256 32 [1] iota_S128x256_d1_w32))

/-- Whether this is the first cell of the grid. -/
def firstW (i : grid0.Coords) : BitVec 1 :=
  Scalar.cmpi .ne (Scalar.extui (Scalar.andi (Scalar.cmpi .eq (BitVec.ofNat 32 (i 1).val) 0#32) (Scalar.cmpi .eq (BitVec.ofNat 32 (i 0).val) 0#32)) : BitVec 32) 0#32

end Cert.SelectIdeal
-- ==== Proof.Search.lean ====
module

public import proofs.«01_k».proof.Proof.Count
public import proofs.«01_k».proof.Proof.Clean
public import Idealize.ShloMosaic.Lib.Pointwise.Index
public import Idealize.ShloMosaic.Lib.Pointwise.Reshape
public import Idealize.ShloMosaic.Lib.Pointwise.Reduce

@[expose] public section

/-! The search for the index of the 256th entry. -/

namespace Cert.SelectIdeal

open Idealize.ShloMosaic
open K0.Facts₀ Shapes1.Facts₀ Shapes2.Facts₀

variable [Facts]

/-- The column of an element of a tile. -/
def col8 (y : S8x256.Idx) : Fin 256 := y 1

/-- The row of an element of a tile. -/
def row8 (y : S8x256.Idx) : Nat := (y 0).val

/-- The column of an element of a row. -/
def col1 (y : S1x256.Idx) : Fin 256 := y 1

/-- The tile of group `g` of words that say of the positions which meet `P`, column by column. -/
def tile (P : Fin 256 → Nat → Bool) (g : Nat) : IVec S8x256 32 := fun y => word (P (col8 y)) (256 * g + row8 y)

theorem sle_ofNat {a b : Nat} (ha : a < 2 ^ 31) (hb : b < 2 ^ 31) : (BitVec.ofNat 32 a).sle (BitVec.ofNat 32 b) = decide (a ≤ b) := by
  rw [BitVec.sle_eq_decide, BitVec.toInt_eq_toNat_of_lt, BitVec.toInt_eq_toNat_of_lt, BitVec.toNat_ofNat, BitVec.toNat_ofNat,
    Nat.mod_eq_of_lt, Nat.mod_eq_of_lt]
  · simp
  all_goals (try rw [BitVec.toNat_ofNat]); omega

theorem slt_ofNat {a b : Nat} (ha : a < 2 ^ 31) (hb : b < 2 ^ 31) : (BitVec.ofNat 32 a).slt (BitVec.ofNat 32 b) = decide (a < b) := by
  rw [BitVec.slt_eq_decide, BitVec.toInt_eq_toNat_of_lt, BitVec.toInt_eq_toNat_of_lt, BitVec.toNat_ofNat, BitVec.toNat_ofNat,
    Nat.mod_eq_of_lt, Nat.mod_eq_of_lt]
  · simp
  all_goals (try rw [BitVec.toNat_ofNat]); omega

/-- What a search has found after `n` positions of the counts `c`, at a column. -/
def FR.Found (T : Nat) (c : Nat → Nat) (n : Nat) (s : FR) (y : S1x256.Idx) : Prop :=
  s.cum y = BitVec.ofNat 32 (∑ j ∈ Finset.range n, c j) ∧
  ((∑ j ∈ Finset.range n, c j < T ∧ s.found y = 0#32) ∨
   (s.found y = 1#32 ∧ ∃ j < n, s.idx y = BitVec.ofNat 32 j ∧ s.before y = BitVec.ofNat 32 (∑ i ∈ Finset.range j, c i)
     ∧ ∑ i ∈ Finset.range j, c i < T ∧ T ≤ ∑ i ∈ Finset.range (j + 1), c i))

theorem FR.found_run (target : IVec S1x256 32) (cv : Nat → IVec S1x256 32) (y : S1x256.Idx) (T : Nat) (c : Nat → Nat) (N : Nat)
    (hT : target y = BitVec.ofNat 32 T) (hT31 : T < 2 ^ 31) (hT0 : 0 < T) (hc : ∀ j < N, cv j y = BitVec.ofNat 32 (c j))
    (hS : ∑ j ∈ Finset.range N, c j < 2 ^ 31) : ∀ n, n ≤ N → FR.Found T c n (FR.run target cv n) y := by
  intro n
  induction n with
  | zero => intro _; exact ⟨rfl, .inl ⟨by simpa using hT0, rfl⟩⟩
  | succ n ih =>
    intro hn
    obtain ⟨hcum, h⟩ := ih (by omega)
    have hle : ∑ j ∈ Finset.range (n + 1), c j < 2 ^ 31 :=
      lt_of_le_of_lt (Finset.sum_le_sum_of_subset (Finset.range_mono hn)) hS
    have hnew : (FR.run target cv (n + 1)).cum y = BitVec.ofNat 32 (∑ j ∈ Finset.range (n + 1), c j) := by
      show (FR.run target cv n).cum y + cv n y = _
      rw [hcum, hc n (by omega), ← BitVec.ofNat_add, Finset.sum_range_succ]
    refine ⟨hnew, ?_⟩
    have hge : (cmpi .sge (addi (FR.run target cv n).cum (cv n)) target) y = BitVec.ofBool (decide (T ≤ ∑ j ∈ Finset.range (n + 1), c j)) := by
      show BitVec.ofBool ((target y).sle ((FR.run target cv (n + 1)).cum y)) = _
      rw [hnew, hT, sle_ofNat hT31 hle]
    rcases h with ⟨hlt, hf⟩ | ⟨hf, j, hj, hi, hb, h1, h2⟩
    · by_cases hT' : T ≤ ∑ j ∈ Finset.range (n + 1), c j
      · right
        have hhit : (select (cmpi .sge (addi (FR.run target cv n).cum (cv n)) target) (subi (broadcast S1x256 1#32) (FR.run target cv n).found) (broadcast S1x256 0#32)) y = 1#32 := by
          show Scalar.select ((cmpi .sge (addi (FR.run target cv n).cum (cv n)) target) y) (1#32 - (FR.run target cv n).found y) 0#32 = _
          rw [hge, hf, decide_eq_true hT']; decide
        refine ⟨?_, n, by omega, ?_, ?_, hlt, hT'⟩
        · show (FR.run target cv n).found y + _ = _
          rw [hhit, hf]; decide
        · show Scalar.select (IntOp.cmpi .sgt _ 0#32) (BitVec.ofNat 32 n) _ = _
          rw [hhit]; rfl
        · show Scalar.select (IntOp.cmpi .sgt _ 0#32) ((FR.run target cv n).cum y) _ = _
          rw [hhit, hcum]; rfl
      · left
        refine ⟨by omega, ?_⟩
        show (FR.run target cv n).found y + Scalar.select ((cmpi .sge (addi (FR.run target cv n).cum (cv n)) target) y) (1#32 - (FR.run target cv n).found y) 0#32 = _
        rw [hge, hf, decide_eq_false hT']; decide
    · right
      have hhit : (select (cmpi .sge (addi (FR.run target cv n).cum (cv n)) target) (subi (broadcast S1x256 1#32) (FR.run target cv n).found) (broadcast S1x256 0#32)) y = 0#32 := by
        show Scalar.select ((cmpi .sge (addi (FR.run target cv n).cum (cv n)) target) y) (1#32 - (FR.run target cv n).found y) 0#32 = _
        rw [hf, show (1#32 - 1#32 : BitVec 32) = 0#32 by decide]
        unfold Scalar.select; split <;> rfl
      refine ⟨?_, j, by omega, ?_, ?_, h1, h2⟩
      · show (FR.run target cv n).found y + _ = _
        rw [hhit, hf]; decide
      · show Scalar.select (IntOp.cmpi .sgt _ 0#32) (BitVec.ofNat 32 n) _ = _
        rw [hhit]; exact hi
      · show Scalar.select (IntOp.cmpi .sgt _ 0#32) ((FR.run target cv n).cum y) _ = _
        rw [hhit]; exact hb

/-- A search whose counts reach the target finds the position that reaches it. -/
theorem FR.run_spec (target : IVec S1x256 32) (cv : Nat → IVec S1x256 32) (y : S1x256.Idx) (T : Nat) (c : Nat → Nat) (N : Nat)
    (hT : target y = BitVec.ofNat 32 T) (hT31 : T < 2 ^ 31) (hT0 : 0 < T) (hc : ∀ j < N, cv j y = BitVec.ofNat 32 (c j))
    (hS : ∑ j ∈ Finset.range N, c j < 2 ^ 31) (hreach : T ≤ ∑ j ∈ Finset.range N, c j) :
    (FR.run target cv N).found y = 1#32 ∧ ∃ j < N, (FR.run target cv N).idx y = BitVec.ofNat 32 j
      ∧ (FR.run target cv N).before y = BitVec.ofNat 32 (∑ i ∈ Finset.range j, c i)
      ∧ ∑ i ∈ Finset.range j, c i < T ∧ T ≤ ∑ i ∈ Finset.range (j + 1), c i := by
  obtain ⟨_, h | h⟩ := FR.found_run target cv y T c N hT hT31 hT0 hc hS N le_rfl
  · omega
  · exact h

theorem red8 (x : IVec S8x256 32) (h : S8x256.Reduces [0] S256) (j : S256.Idx) :
    multiReductionI .add [0] S256 x 0 h (by decide) j = Finset.univ.fold IntOp.addi 0 fun k : Fin 8 => x (ix2 (n0 := 8) (n1 := 256) k (j 0)) := by
  simp only [pointwise]

/-- The sum of eight rows, the rows given as numbers. -/
theorem sum8_ofNat (x : IVec S8x256 32) (y : S1x256.Idx) (f : Nat → Nat)
    (h : ∀ s : Fin 8, x (ix2 (n0 := 8) (n1 := 256) s (y 1)) = BitVec.ofNat 32 (f s.val)) :
    sum8 x y = BitVec.ofNat 32 (∑ s ∈ Finset.range 8, f s) := by
  have e : sum8 x y = Finset.univ.fold IntOp.addi 0 fun k : Fin 8 => x (ix2 (n0 := 8) (n1 := 256) k (y 1)) := by
    refine Eq.trans ?_ (red8 x reduces_S8x256_S256 (ix1 (n0 := 256) (y 1)))
    unfold sum8
    rw [Pointwise.shapeCast_apply]
    refine congrArg (multiReductionI .add [0] S256 x 0#32 reduces_S8x256_S256 rfl) ?_
    refine Shape.reshapeEquiv_eq_of_vals _ _ _ (y 1).val (y 1).val (rowMajor_val1 _) ?_ rfl
    rw [rowMajor_val2 _ 256 rfl]
    have : (y 0).val < 1 := (y 0).isLt
    omega
  rw [e]
  rw [Finset.fold_congr (g := fun s : Fin 8 => BitVec.ofNat 32 (f s.val)) (fun s _ => h s)]
  rw [Finset.sum_range]
  generalize (Finset.univ : Finset (Fin 8)) = u
  induction u using Finset.induction_on with
  | empty => rfl
  | insert a u ha ih =>
    rw [Finset.fold_insert ha, Finset.sum_insert ha, BitVec.ofNat_add, ih]; rfl

/-- A row made into eight equal rows. -/
theorem rows_apply {w : Nat} (x : IVec S1x256 w) (y : S8x256.Idx) :
    broadcastTo S8x256 (shapeCast S1x256 x shapeCasts_S1x256_S1x256) broadcasts_S1x256_S8x256 y = x (ix2 (n0 := 1) (n1 := 256) 0 (y 1)) := by
  rw [shapeCast_id]
  unfold broadcastTo
  refine congrArg x (funext fun a => ?_)
  fin_cases a <;> rfl

theorem pick_spec (idx : IVec S1x256 32) (a : Nat → IVec S8x256 32) (j : Nat) (hj : j < 32) (y : S8x256.Idx)
    (hidx : idx (ix2 (n0 := 1) (n1 := 256) 0 (y 1)) = BitVec.ofNat 32 j) : ∀ n, n ≤ 32 → pick idx a n y = if j < n then a j y else 0#32
  | 0, _ => rfl
  | n + 1, hn => by
    show Scalar.select ((broadcastTo S8x256 (shapeCast S1x256 (cmpi .eq idx (broadcast S1x256 (BitVec.ofNat 32 n))) shapeCasts_S1x256_S1x256) broadcasts_S1x256_S8x256) y)
      (a n y) (pick idx a n y) = _
    rw [rows_apply, pick_spec idx a j hj y hidx n (by omega)]
    have e : (cmpi .eq idx (broadcast S1x256 (BitVec.ofNat 32 n))) (ix2 (n0 := 1) (n1 := 256) 0 (y 1)) = BitVec.ofBool (decide (j = n)) := by
      show BitVec.ofBool (idx _ == BitVec.ofNat 32 n) = _
      rw [hidx]
      congr 1
      rw [Bool.eq_iff_iff]
      simp only [beq_iff_eq, decide_eq_true_eq]
      constructor
      · intro h
        have := congrArg BitVec.toNat h
        rw [BitVec.toNat_ofNat, BitVec.toNat_ofNat, Nat.mod_eq_of_lt (by omega), Nat.mod_eq_of_lt (by omega)] at this
        exact this
      · intro h; rw [h]
    rw [e]
    by_cases h : j = n
    · subst h; simp [Scalar.select]
    · rw [decide_eq_false h]
      show (if j < n then a j y else 0#32) = _
      by_cases h' : j < n
      · rw [if_pos h', if_pos (Nat.lt_succ_of_lt h')]
      · rw [if_neg h', if_neg (by omega)]

/-- One bit of a word. -/
theorem rowBit_word (P : Fin 256 → Nat → Bool) (x : IVec S8x256 32) (y : S8x256.Idx) (base k : Nat) (hk : k < 32)
    (hx : x y = word (P (y 1)) base) : rowBit x k y = BitVec.ofNat 32 (P (y 1) (base + 8 * k)).toNat := by
  show IntOp.shrsi .vector (x y) (BitVec.ofNat 32 (31 - k)) &&& 1#32 = _
  have h31 : (BitVec.ofNat 32 (31 - k)).toNat = 31 - k := by rw [BitVec.toNat_ofNat, Nat.mod_eq_of_lt (by omega)]
  have hb : (x y).getLsbD (31 - k) = P (y 1) (base + 8 * k) := by
    rw [hx, getLsbD_word _ _ _ (by omega), show 31 - (31 - k) = k by omega]
  rw [← hb]
  unfold IntOp.shrsi
  rw [if_pos (by omega)]
  apply BitVec.eq_of_getLsbD_eq
  intro i hi
  rw [BitVec.getLsbD_and, BitVec.sshiftRight', h31, BitVec.getLsbD_sshiftRight]
  rcases Nat.eq_zero_or_pos i with rfl | hpos
  · cases hbit : (x y).getLsbD (31 - k) <;> simp [hbit] <;> omega
  · have : (1#32 : BitVec 32).getLsbD i = false := by
      rw [BitVec.getLsbD_one]; simp; omega
    rw [this, Bool.and_false]
    cases (x y).getLsbD (31 - k)
    · simp
    · exact this.symm

theorem onlyRow_apply (x : IVec S8x256 32) (s : Nat) (hs : s < 8) (y : S8x256.Idx) : onlyRow x s y = if (y 0).val = s then x y else 0#32 := by
  have h0 : (y 0).val < 8 := (y 0).isLt
  show Scalar.select (BitVec.ofBool (BitVec.ofNat 32 (0 * 8 + (y 0).val) == BitVec.ofNat 32 s)) (x y) 0#32 = _
  by_cases h : (y 0).val = s
  · rw [if_pos h, h, Nat.zero_mul, Nat.zero_add]; simp [Scalar.select]
  · rw [if_neg h]
    have : (BitVec.ofNat 32 (0 * 8 + (y 0).val) == BitVec.ofNat 32 s) = false := by
      rw [beq_eq_false_iff_ne]
      intro e
      have := congrArg BitVec.toNat e
      rw [BitVec.toNat_ofNat, BitVec.toNat_ofNat, Nat.mod_eq_of_lt (by omega), Nat.mod_eq_of_lt (by omega)] at this
      omega
    rw [this]; rfl

/-- The population count of a group's tile, summed over its rows, counts the group's positions. -/
theorem sum8_tile (P : Fin 256 → Nat → Bool) (g : Nat) (y : S1x256.Idx) :
    sum8 (ctpop (tile P g)) y = BitVec.ofNat 32 (cnt₀ (fun i => P (y 1) (256 * g + i)) 256) := by
  rw [sum8_ofNat _ y (fun s => ∑ k ∈ Finset.range 32, (P (y 1) (256 * g + s + 8 * k)).toNat)]
  · rw [cnt₀_group]
  · intro s
    show IntOp.ctpop (word (P (y 1)) (256 * g + s.val)) = _
    exact ctpop_word _ _

/-- The search returns the position at which the count needed is reached. -/
theorem cut_spec (P : Fin 256 → Nat → Bool) (need : IVec S1x256 32) (av : Nat → IVec S8x256 32) (y : S1x256.Idx) (T : Nat)
    (hneed : need y = BitVec.ofNat 32 T) (hT0 : 0 < T) (hT : T ≤ cnt₀ (P (y 1)) 8192) (hav : ∀ g < 32, av g = tile P g) :
    ∃ s < 8192, cutOf need av y = BitVec.ofNat 32 s ∧ P (y 1) s = true ∧ cnt₀ (P (y 1)) s + 1 = T := by
  have hy : y = ix2 (n0 := 1) (n1 := 256) 0 (y 1) := by
    funext d
    match d with
    | ⟨0, _⟩ => exact Fin.ext (by have : (y 0).val < 1 := (y 0).isLt; show (y 0).val = 0; omega)
    | ⟨1, _⟩ => rfl
  have hcut : cutOf need av y = Scalar.select (IntOp.cmpi .sgt ((frG need av).found y) 0#32)
      ((frG need av).idx y * 256#32 + (frK (needK need av) (wordOf need av)).idx y * 8#32
        + (frS (subi (needK need av) (frK (needK need av) (wordOf need av)).before)
            (pick (frK (needK need av) (wordOf need av)).idx (rowBit (wordOf need av)) 32)).idx y) 1073741824#32 := rfl
  have hT31 : T < 2 ^ 31 := lt_of_le_of_lt (hT.trans (cnt₀_le _ _)) (by decide)
  -- the group
  have hG := FR.run_spec need (fun g => sum8 (ctpop (av g))) y T (fun g => cnt₀ (fun i => P (y 1) (256 * g + i)) 256) 32 hneed hT31 hT0
    (fun g hg => by rw [hav g hg]; exact sum8_tile P g y)
    (by rw [← cnt₀_mul]; exact lt_of_le_of_lt (cnt₀_le _ _) (by decide)) (by rw [← cnt₀_mul]; exact hT)
  obtain ⟨hGf, g, hg, hGi, hGb, hG1, hG2⟩ := hG
  rw [← cnt₀_mul] at hGb hG1
  rw [Finset.sum_range_succ, ← cnt₀_mul] at hG2
  -- its words
  have hword : ∀ s : Fin 8, wordOf need av (ix2 (n0 := 8) (n1 := 256) s (y 1)) = word (P (y 1)) (256 * g + s.val) := by
    intro s
    unfold wordOf
    rw [pick_spec _ _ g hg (ix2 (n0 := 8) (n1 := 256) s (y 1)) (by rw [← hGi]; exact congrArg _ hy.symm) 32 le_rfl, if_pos hg, hav g hg]
    rfl
  have hnk : needK need av y = BitVec.ofNat 32 (T - cnt₀ (P (y 1)) (256 * g)) := by
    show need y - (frG need av).before y = _
    rw [hneed, show (frG need av).before y = _ from hGb]
    apply BitVec.eq_of_toNat_eq
    rw [BitVec.toNat_sub_of_le]
    · simp only [BitVec.toNat_ofNat]; omega
    · rw [BitVec.le_def, BitVec.toNat_ofNat, BitVec.toNat_ofNat, Nat.mod_eq_of_lt (by omega), Nat.mod_eq_of_lt (by omega)]; omega
  generalize needK need av = nk at hnk hcut
  -- the row of words
  have hbits : ∀ k < 32, ∀ s : Fin 8, rowBit (wordOf need av) k (ix2 (n0 := 8) (n1 := 256) s (y 1)) = BitVec.ofNat 32 (P (y 1) (256 * g + 8 * k + s.val)).toNat := by
    intro k hk s
    rw [rowBit_word P _ _ (256 * g + s.val) k hk (hword s)]
    rw [show 256 * g + s.val + 8 * k = 256 * g + 8 * k + s.val by omega]; rfl
  have hKs : cnt₀ (fun i => P (y 1) (256 * g + i)) 256 = ∑ k ∈ Finset.range 32, cnt₀ (fun i => P (y 1) (256 * g + 8 * k + i)) 8 := by
    rw [show 256 = 8 * 32 from rfl, cnt₀_mul]; simp only [Nat.add_assoc]
  have hKp : ∀ k, cnt₀ (P (y 1)) (256 * g) + ∑ k ∈ Finset.range k, cnt₀ (fun i => P (y 1) (256 * g + 8 * k + i)) 8 = cnt₀ (P (y 1)) (256 * g + 8 * k) := by
    intro k
    rw [cnt₀_add, cnt₀_mul _ 8 k]; simp only [Nat.add_assoc]
  have hK := FR.run_spec nk (fun k => sum8 (rowBit (wordOf need av) k)) y (T - cnt₀ (P (y 1)) (256 * g)) (fun k => cnt₀ (fun i => P (y 1) (256 * g + 8 * k + i)) 8) 32 hnk
    (by omega) (by omega) (fun k hk => sum8_ofNat _ y (fun s => (P (y 1) (256 * g + 8 * k + s)).toNat) fun s => hbits k hk s)
    (by rw [← hKs]; exact lt_of_le_of_lt (cnt₀_le _ _) (by decide)) (by rw [← hKs]; omega)
  obtain ⟨hKf, k, hk, hKi, hKb, hK1, hK2⟩ := hK
  have hKk := hKp k
  rw [Finset.sum_range_succ] at hK2
  have hrow : ∀ s : Fin 8, pick (frK nk (wordOf need av)).idx (rowBit (wordOf need av)) 32 (ix2 (n0 := 8) (n1 := 256) s (y 1))
      = BitVec.ofNat 32 (P (y 1) (256 * g + 8 * k + s.val)).toNat := by
    intro s
    rw [pick_spec _ _ k hk (ix2 (n0 := 8) (n1 := 256) s (y 1)) (by rw [← hKi]; exact congrArg _ hy.symm) 32 le_rfl, if_pos hk]
    exact hbits k hk s
  have hns : subi nk (frK nk (wordOf need av)).before y = BitVec.ofNat 32 (T - cnt₀ (P (y 1)) (256 * g + 8 * k)) := by
    show nk y - (frK nk (wordOf need av)).before y = _
    rw [hnk, show (frK nk (wordOf need av)).before y = _ from hKb]
    apply BitVec.eq_of_toNat_eq
    rw [BitVec.toNat_sub_of_le]
    · simp only [BitVec.toNat_ofNat]; omega
    · rw [BitVec.le_def, BitVec.toNat_ofNat, BitVec.toNat_ofNat, Nat.mod_eq_of_lt (by omega), Nat.mod_eq_of_lt (by omega)]; omega
  generalize hrs : pick (frK nk (wordOf need av)).idx (rowBit (wordOf need av)) 32 = rowsel at hrow hcut
  generalize hnss : subi nk (frK nk (wordOf need av)).before = ns at hns hcut
  -- the sublane
  have hS := FR.run_spec ns (fun s => sum8 (onlyRow rowsel s)) y (T - cnt₀ (P (y 1)) (256 * g + 8 * k)) (fun s => (P (y 1) (256 * g + 8 * k + s)).toNat) 8 hns
    (by omega) (by omega) (fun s hs => by
      rw [sum8_ofNat _ y (fun r => if r = s then (P (y 1) (256 * g + 8 * k + s)).toNat else 0)]
      · rw [Finset.sum_ite_eq' , if_pos (Finset.mem_range.mpr hs)]
      · intro r
        rw [onlyRow_apply _ s hs]
        show (if r.val = s then _ else _) = BitVec.ofNat 32 (if r.val = s then _ else _)
        split
        · next h => rw [hrow r, h]
        · rfl)
    (lt_of_le_of_lt (cnt₀_le (fun s => P (y 1) (256 * g + 8 * k + s)) 8) (by decide)) (by
      show _ ≤ cnt₀ (fun s => P (y 1) (256 * g + 8 * k + s)) 8
      omega)
  obtain ⟨hSf, s, hs, hSi, hSb, hS1, hS2⟩ := hS
  rw [Finset.sum_range_succ] at hS2
  have hSs : cnt₀ (P (y 1)) (256 * g + 8 * k + s) = cnt₀ (P (y 1)) (256 * g + 8 * k) + ∑ i ∈ Finset.range s, (P (y 1) (256 * g + 8 * k + i)).toNat := by
    rw [cnt₀_add]; rfl
  have hle := (P (y 1) (256 * g + 8 * k + s)).toNat_le
  refine ⟨256 * g + 8 * k + s, by omega, ?_, ?_, by omega⟩
  · rw [hcut, show (frG need av).found y = _ from hGf, show (frG need av).idx y = _ from hGi, show (frK nk (wordOf need av)).idx y = _ from hKi,
      show (frS ns rowsel).idx y = _ from hSi]
    show BitVec.ofNat 32 g * BitVec.ofNat 32 256 + BitVec.ofNat 32 k * BitVec.ofNat 32 8 + BitVec.ofNat 32 s = _
    rw [← BitVec.ofNat_mul, ← BitVec.ofNat_mul, ← BitVec.ofNat_add, ← BitVec.ofNat_add, Nat.mul_comm g, Nat.mul_comm k]
  · cases h : P (y 1) (256 * g + 8 * k + s) with
    | true => rfl
    | false => rw [h] at hS2; simp at hS2; omega

end Cert.SelectIdeal
-- ==== Proof.Body.lean ====
module

public import proofs.«01_k».proof.Proof.Clean

@[expose] public section

namespace Cert.SelectIdeal

open Idealize.ShloMosaic Idealize.SL.Sem
open K0.Facts₀ Shapes1.Facts₀ Shapes2.Facts₀

variable [Facts] {F : FTy → Type} [FloatOps F]
variable (i : grid0.Coords) (arg2 : Memref sig .tc .vmem S1x16x512x256 .i32) (harg2 : arg2.IsWhole) (arg3 : Memref sig .tc .vmem S1x1x256 .i32) (harg3 : arg3.IsWhole) (arg4 : Memref sig .tc .vmem S1x1x256 .i32) (harg4 : arg4.IsWhole) (arg5 : Memref sig .tc .vmem S16x512x256 .i32) (harg5 : arg5.IsWhole) (arg6 : Memref sig .tc .vmem S32x32x8x256 .i32) (harg6 : arg6.IsWhole) (arg7 : Memref sig .tc .vmem S32x8x256 .i32) (harg7 : arg7.IsWhole)

/-- What follows the first part of the body. -/
theorem body_split : ∃ h : _ → Pg F PUnit, (cc0_dsa_select i arg2 harg2 arg3 harg3 arg4 harg4 arg5 harg5 arg6 harg6 arg7 harg7 : Pg F PUnit) = Prog.bind (k0_part805 i arg2 harg2 arg3 harg3 arg4 harg4 arg5 harg5 arg6 harg6 arg7 harg7) h ∧
    ∀ (r : Reg) (P : Parts) (a pl : IVec S8x256 32), h ⟨r.above, r.bits, r.keep, P.a, P.b, P.c, P.d, a, pl⟩ =
      restFrom arg3 arg4 arg6 arg7 28 9 r (P.add (andi a pl)) := by
  refine ⟨_, Prog.bind_assoc (k0_part805 i arg2 harg2 arg3 harg3 arg4 harg4 arg5 harg5 arg6 harg6 arg7 harg7) _ _, fun r P a pl => ?_⟩
  chain_rfl

/-- What follows the planes, in the first part of the body. -/
theorem part805_split {α : Type} (f : _ → Pg F α) : ∃ h : _ → Pg F α,
    Prog.bind (k0_part805 i arg2 harg2 arg3 harg3 arg4 harg4 arg5 harg5 arg6 harg6 arg7 harg7) f = Prog.bind (k0_part203 i arg2 harg2 arg3 harg3 arg4 harg4 arg5 harg5 arg6 harg6 arg7 harg7) (fun t => Prog.bind (k0_part204 i arg2 harg2 arg3 harg3 arg4 harg4 arg5 harg5 arg6 harg6 arg7 harg7 t.2.1 t.2.2.2.1 t.2.2.2.2.1 t.2.2.2.2.2.1 t.2.2.2.2.2.2)
      fun v71 => Prog.bind (k0_part205 i arg2 harg2 arg3 harg3 arg4 harg4 arg5 harg5 arg6 harg6 arg7 harg7 t.1 t.2.2.1 v71) h) ∧
    ∀ lim : BitVec 32, h ⟨lim, broadcast S8x256 0#32, Scalar.select (Scalar.cmpi .sgt lim 2#32) 4294967295#32 0#32⟩ =
      (ldA arg7 (gi 2) fun _ => stA arg7 (gi 2) (addi (broadcast S8x256 0#32)
        (broadcast S8x256 (Scalar.select (Scalar.cmpi .sgt lim 2#32) 4294967295#32 0#32))) <|
      initA arg7 lim 3 29 <| groups31 arg6 arg7 0 32 Parts.zero fun P =>
      rounds arg6 arg7 30 2 (regEnd 2147483648#32 ⟨broadcast S1x256 0#32, broadcast S1x256 0#32, broadcast S8x256 0#32⟩ P) fun r =>
      groups arg6 arg7 28 r.keep 0 8 Parts.zero fun P => upd arg6 arg7 29 8 r.keep fun a => ldP arg6 (gi 28) (gi 8) fun pl =>
      f ⟨r.above, r.bits, r.keep, P.a, P.b, P.c, P.d, a, pl⟩) := by
  refine ⟨?_, ?_, ?_⟩
  rotate_left
  · refine (Prog.bind_assoc (k0_part203 i arg2 harg2 arg3 harg3 arg4 harg4 arg5 harg5 arg6 harg6 arg7 harg7) _ f).trans (congrArg _ (funext fun t => ?_))
    obtain ⟨a0, a1, a2, a3, a4, a5, a6⟩ := t
    refine (Prog.bind_assoc (k0_part204 i arg2 harg2 arg3 harg3 arg4 harg4 arg5 harg5 arg6 harg6 arg7 harg7 a1 a3 a4 a5 a6) _ f).trans (congrArg _ (funext fun v71 => ?_))
    exact Prog.bind_assoc (k0_part205 i arg2 harg2 arg3 harg3 arg4 harg4 arg5 harg5 arg6 harg6 arg7 harg7 a0 a2 v71) _ f
  · intro lim
    chain_rfl

/-- Loops with equal bodies and equal continuations are equal. -/
theorem for_congr {α β : Type} {L : Scf.Loop 32} {ok : L.OK} {s : β} {b b' : Fin L.trips → β → Pg F β} {c c' : β → Pg F α}
    (hb : ∀ t x, b t x = b' t x) (hc : ∀ x, c x = c' x) :
    Prog.bind (Scf.Loop.for L ok s b) c = Prog.bind (Scf.Loop.for L ok s b') c' := by
  rw [show b = b' from funext fun t => funext (hb t), show c = c' from funext hc]

/-- The copy of block `t` of the keys. -/
noncomputable def copyBlock (t : Fin (k0_t1_loop i).trips) : Pg F PUnit :=
  cpTile arg2 arg5 (k0_off1 i t) (k0_off1_inb i t) (k0_off2 i t) (k0_off2_inb i t) <| cpTile arg2 arg5 (k0_off3 i t) (k0_off3_inb i t) (k0_off4 i t) (k0_off4_inb i t) <|
  cpTile arg2 arg5 (k0_off5 i t) (k0_off5_inb i t) (k0_off6 i t) (k0_off6_inb i t) <| cpTile arg2 arg5 (k0_off7 i t) (k0_off7_inb i t) (k0_off8 i t) (k0_off8_inb i t) <| pure ⟨⟩

/-- The same copy in the loop that has no turn. -/
noncomputable def copyBlock' (t : Fin (k0_t2_loop i).trips) : Pg F PUnit :=
  cpTile arg2 arg5 (k0_off9 i t) (k0_off9_inb i t) (k0_off10 i t) (k0_off10_inb i t) <| cpTile arg2 arg5 (k0_off11 i t) (k0_off11_inb i t) (k0_off12 i t) (k0_off12_inb i t) <|
  cpTile arg2 arg5 (k0_off13 i t) (k0_off13_inb i t) (k0_off14 i t) (k0_off14_inb i t) <| cpTile arg2 arg5 (k0_off15 i t) (k0_off15_inb i t) (k0_off16 i t) (k0_off16_inb i t) <| pure ⟨⟩

/-- The copies of the keys and the first mask. -/
theorem part203_eq {α : Type} (f : _ → Pg F α) :
    Prog.bind (k0_part203 i arg2 harg2 arg3 harg3 arg4 harg4 arg5 harg5 arg6 harg6 arg7 harg7) f =
    Prog.bind (Scf.Loop.for (k0_t1_loop i) (k0_t1_ok i) PUnit.unit fun t _ => copyBlock i arg2 arg5 t) fun _ =>
    Prog.bind (Scf.Loop.for (k0_t2_loop i) (k0_t2_ok i) PUnit.unit fun t _ => copyBlock' i arg2 arg5 t) fun _ =>
    mkTile arg5 (k0_off17 i) (k0_off17_inb i) (maskW i 0) <|
    f ⟨BitVec.ofNat 32 (i 0).val, BitVec.ofNat 32 (i 1).val, nkbW i,
      addi (broadcast S128x256 (Scalar.muli (BitVec.ofNat 32 (i 1).val) 256#32)) (iota .tc S128x256 32 [1] iota_S128x256_d1_w32),
      iota .tc S128x256 32 [0] iota_S128x256_d0_w32, Scalar.subi (nkbW i) 1#32, maskW i 1⟩ := by
  refine (Prog.bind_assoc (Scf.Loop.for _ _ _ _) _ f).trans (for_congr (fun t x => ?_) fun _ =>
    (Prog.bind_assoc (Scf.Loop.for _ _ _ _) _ f).trans (for_congr (fun t x => ?_) fun _ => ?_)) <;> chain_rfl

/-- The other masks. -/
theorem part204_eq {α : Type} (f : _ → Pg F α) :
    Prog.bind (k0_part204 i arg2 harg2 arg3 harg3 arg4 harg4 arg5 harg5 arg6 harg6 arg7 harg7 (BitVec.ofNat 32 (i 1).val)
      (addi (broadcast S128x256 (Scalar.muli (BitVec.ofNat 32 (i 1).val) 256#32)) (iota .tc S128x256 32 [1] iota_S128x256_d1_w32))
      (iota .tc S128x256 32 [0] iota_S128x256_d0_w32) (Scalar.subi (nkbW i) 1#32) (maskW i 1)) f =
    (mkTile arg5 (k0_off18 i) (k0_off18_inb i) (maskW i 1) <| mkTile arg5 (k0_off19 i) (k0_off19_inb i) (maskW i 2) <|
     mkTile arg5 (k0_off20 i) (k0_off20_inb i) (maskW i 3) <| f (Scalar.cmpi .eq (BitVec.ofNat 32 (i 1).val) 0#32)) := by
  chain_rfl

/-- The planes of all blocks, and the first two groups made active. -/
noncomputable def planesAll {α : Type} (f : BitVec 32 → Pg F α) : Pg F α :=
  Prog.bind (Scf.Loop.for (k0_t3_loop i) (k0_t3_ok i) PUnit.unit fun t _ =>
    planeBlock arg5 arg6 (Scalar.indexCast (Scf.iv 0#32 1#32 t)).toNat
      (Scalar.indexCast (Scalar.addi (Scalar.muli (Scf.iv 0#32 1#32 t) 2#32) 0#32)).toNat (Scalar.indexCast (Scalar.addi (Scalar.muli (Scf.iv 0#32 1#32 t) 2#32) 1#32)).toNat
      (k0_off21_inb i t 0) (k0_off53_inb i t 0 1) (k0_off53_inb i t 1 1)) fun _ =>
  Prog.bind (Scf.Loop.for (k0_t4_loop i) (k0_t4_ok i) PUnit.unit fun t _ =>
    planeBlock arg5 arg6 (Scalar.indexCast (Scf.iv (nkbE i) 1#32 t)).toNat
      (Scalar.indexCast (Scalar.addi (Scalar.muli (Scf.iv (nkbE i) 1#32 t) 2#32) 0#32)).toNat (Scalar.indexCast (Scalar.addi (Scalar.muli (Scf.iv (nkbE i) 1#32 t) 2#32) 1#32)).toNat
      (k0_off213_inb i t 0) (k0_off245_inb i t 0 1) (k0_off245_inb i t 1 1)) fun _ =>
  initA arg7 (Scalar.muli (nkbW i) 2#32) 0 2 <| f (Scalar.muli (nkbW i) 2#32)

/-- The planes, and the first two groups made active. -/
theorem part205_eq {α : Type} (f : _ → Pg F α) :
    Prog.bind (k0_part205 i arg2 harg2 arg3 harg3 arg4 harg4 arg5 harg5 arg6 harg6 arg7 harg7 (BitVec.ofNat 32 (i 0).val) (nkbW i) (Scalar.cmpi .eq (BitVec.ofNat 32 (i 1).val) 0#32)) f =
    have X := planesAll i arg5 arg6 arg7 fun lim => f ⟨lim, broadcast S8x256 0#32, Scalar.select (Scalar.cmpi .sgt lim 2#32) 4294967295#32 0#32⟩
    if firstW i = 1#1 then zeroPlanes arg6 X else X := by
  have X : ∀ y : Pg F _, y = (Prog.bind (Scf.Loop.for (k0_t3_loop i) (k0_t3_ok i) PUnit.unit fun t _ =>
    planeBlock arg5 arg6 (Scalar.indexCast (Scf.iv 0#32 1#32 t)).toNat
      (Scalar.indexCast (Scalar.addi (Scalar.muli (Scf.iv 0#32 1#32 t) 2#32) 0#32)).toNat (Scalar.indexCast (Scalar.addi (Scalar.muli (Scf.iv 0#32 1#32 t) 2#32) 1#32)).toNat
      (k0_off21_inb i t 0) (k0_off53_inb i t 0 1) (k0_off53_inb i t 1 1)) fun _ =>
  Prog.bind (Scf.Loop.for (k0_t4_loop i) (k0_t4_ok i) PUnit.unit fun t _ =>
    planeBlock arg5 arg6 (Scalar.indexCast (Scf.iv (nkbE i) 1#32 t)).toNat
      (Scalar.indexCast (Scalar.addi (Scalar.muli (Scf.iv (nkbE i) 1#32 t) 2#32) 0#32)).toNat (Scalar.indexCast (Scalar.addi (Scalar.muli (Scf.iv (nkbE i) 1#32 t) 2#32) 1#32)).toNat
      (k0_off213_inb i t 0) (k0_off245_inb i t 0 1) (k0_off245_inb i t 1 1)) fun _ =>
  initA arg7 (Scalar.muli (nkbW i) 2#32) 0 2 <| pure ⟨Scalar.muli (nkbW i) 2#32, broadcast S8x256 0#32, Scalar.select (Scalar.cmpi .sgt (Scalar.muli (nkbW i) 2#32) 2#32) 4294967295#32 0#32⟩) → Prog.bind y f = planesAll i arg5 arg6 arg7 fun lim => f ⟨lim, broadcast S8x256 0#32, Scalar.select (Scalar.cmpi .sgt lim 2#32) 4294967295#32 0#32⟩ := by
    rintro _ rfl
    exact (Prog.bind_assoc (Scf.Loop.for _ _ _ _) _ f).trans (congrArg _ (funext fun _ =>
      (Prog.bind_assoc (Scf.Loop.for _ _ _ _) _ f)))
  by_cases h : firstW i = 1#1
  · refine Eq.trans ?_ (Eq.trans (congrArg (zeroPlanes arg6) (X _ rfl)) (if_pos h).symm)
    refine Eq.trans (congrArg (fun p => Prog.bind p f) (dif_pos h)) ?_
    chain_rfl
  · refine Eq.trans ?_ (Eq.trans (X _ rfl) (if_neg h).symm)
    refine Eq.trans (congrArg (fun p => Prog.bind p f) (dif_neg h)) ?_
    chain_rfl

theorem groups_add {α : Type} (b : Nat) (keep : IVec S8x256 32) (m : Nat) (k : Parts → Pg F α) : ∀ (n g : Nat) (P : Parts),
    groups arg6 arg7 b keep g (n + m) P k = groups arg6 arg7 b keep g n P fun P => groups arg6 arg7 b keep (g + n) m P k
  | 0, g, P => by rw [Nat.zero_add]; rfl
  | n + 1, g, P => by
    rw [Nat.add_right_comm]
    simp only [groups, groups_add b keep m k n (g + 1)]
    rw [show g + 1 + n = g + (n + 1) by omega]

theorem rounds_add {α : Type} (m : Nat) (k : Reg → Pg F α) : ∀ (n b : Nat) (r : Reg),
    rounds arg6 arg7 b (n + m) r k = rounds arg6 arg7 b n r fun r => rounds arg6 arg7 (b - n) m r k
  | 0, b, r => by rw [Nat.zero_add]; rfl
  | n + 1, b, r => by
    rw [Nat.add_right_comm]
    simp only [rounds, rounds_add m k n (b - 1)]
    rw [show b - 1 - n = b - (n + 1) by omega]

theorem rounds_succ {α : Type} (b n : Nat) (r : Reg) (k : Reg → Pg F α) : rounds arg6 arg7 b (n + 1) r k =
    groups arg6 arg7 b r.keep 0 32 Parts.zero fun p => rounds arg6 arg7 (b - 1) n (regEnd (BitVec.ofNat 32 (2 ^ b)) r p) k := rfl

theorem groups_succ {α : Type} (b g n : Nat) (keep : IVec S8x256 32) (p : Parts) (k : Parts → Pg F α) : groups arg6 arg7 b keep g (n + 1) p k =
    upd arg6 arg7 (b + 1) g keep fun act => ldP arg6 (gi b) (gi g) fun pl => groups arg6 arg7 b keep (g + 1) n (p.add (andi act pl)) k := rfl

/-- What `restFrom` does, over its groups. -/
noncomputable def endAll (r : Reg) : Pg F PUnit :=
  lastUpd arg6 arg7 r.keep 0 32 <| ldAll arg7 0 32 (fun _ => broadcast S8x256 0#32) fun av =>
  stO arg3 (keyOf r) <| stO arg4 (cutOf (needOf r) av) <| pure ⟨⟩

theorem selectAll_eq : (selectAll arg3 arg4 arg6 arg7 : Pg F PUnit) =
    groups31 arg6 arg7 0 32 Parts.zero fun P =>
    rounds arg6 arg7 30 31 (regEnd 2147483648#32 ⟨broadcast S1x256 0#32, broadcast S1x256 0#32, broadcast S8x256 0#32⟩ P) (endAll arg3 arg4 arg6 arg7) := by
  refine congrArg (groups31 arg6 arg7 0 32 Parts.zero) (funext fun P => ?_)
  exact (rounds_succ arg6 arg7 30 30 _ _).symm

theorem rest_eq (r : Reg) : rounds arg6 arg7 28 29 r (endAll (F := F) arg3 arg4 arg6 arg7) =
    groups arg6 arg7 28 r.keep 0 8 Parts.zero fun P => upd arg6 arg7 29 8 r.keep fun a => ldP arg6 (gi 28) (gi 8) fun pl =>
      restFrom arg3 arg4 arg6 arg7 28 9 r (P.add (andi a pl)) := by
  refine (rounds_succ arg6 arg7 28 28 r _).trans ((groups_add arg6 arg7 28 r.keep 24 _ 8 0 Parts.zero).trans
    (congrArg (groups arg6 arg7 28 r.keep 0 8 Parts.zero) (funext fun P => ?_)))
  exact groups_succ arg6 arg7 28 8 23 r.keep P _

theorem tail_eq (lim : BitVec 32) :
    (ldA arg7 (gi 2) fun _ => stA arg7 (gi 2) (addi (broadcast S8x256 0#32)
        (broadcast S8x256 (Scalar.select (Scalar.cmpi .sgt lim 2#32) 4294967295#32 0#32))) <|
      initA arg7 lim 3 29 <| groups31 arg6 arg7 0 32 Parts.zero fun P =>
      rounds arg6 arg7 30 2 (regEnd 2147483648#32 ⟨broadcast S1x256 0#32, broadcast S1x256 0#32, broadcast S8x256 0#32⟩ P) fun r =>
      groups arg6 arg7 28 r.keep 0 8 Parts.zero fun P => upd arg6 arg7 29 8 r.keep fun a => ldP arg6 (gi 28) (gi 8) fun pl =>
      restFrom (F := F) arg3 arg4 arg6 arg7 28 9 r (P.add (andi a pl))) = initA arg7 lim 2 30 (selectAll arg3 arg4 arg6 arg7) := by
  refine congrArg (ldA arg7 (gi 2)) (funext fun _ => congrArg (stA arg7 (gi 2) _) (congrArg (initA arg7 lim 3 29) ?_))
  rw [selectAll_eq]
  refine congrArg (groups31 arg6 arg7 0 32 Parts.zero) (funext fun P => ?_)
  refine Eq.trans ?_ (rounds_add arg6 arg7 29 _ 2 30 _).symm
  exact congrArg (rounds arg6 arg7 30 2 _) (funext fun r => (rest_eq arg3 arg4 arg6 arg7 r).symm)

/-- The body after the copies and the masks. -/
noncomputable def afterMask : Pg F PUnit :=
  have X := planesAll i arg5 arg6 arg7 fun lim => initA arg7 lim 2 30 <| selectAll arg3 arg4 arg6 arg7
  if firstW i = 1#1 then zeroPlanes arg6 X else X

/-- The body, in its clean form. -/
theorem body_eq : (cc0_dsa_select i arg2 harg2 arg3 harg3 arg4 harg4 arg5 harg5 arg6 harg6 arg7 harg7 : Pg F PUnit) =
    Prog.bind (Scf.Loop.for (k0_t1_loop i) (k0_t1_ok i) PUnit.unit fun t _ => copyBlock i arg2 arg5 t) fun _ =>
    Prog.bind (Scf.Loop.for (k0_t2_loop i) (k0_t2_ok i) PUnit.unit fun t _ => copyBlock' i arg2 arg5 t) fun _ =>
    mkTile arg5 (k0_off17 i) (k0_off17_inb i) (maskW i 0) <| mkTile arg5 (k0_off18 i) (k0_off18_inb i) (maskW i 1) <|
    mkTile arg5 (k0_off19 i) (k0_off19_inb i) (maskW i 2) <| mkTile arg5 (k0_off20 i) (k0_off20_inb i) (maskW i 3) <|
    afterMask i arg3 arg4 arg5 arg6 arg7 := by
  obtain ⟨h, h1, h2⟩ := body_split (F := F) i arg2 harg2 arg3 harg3 arg4 harg4 arg5 harg5 arg6 harg6 arg7 harg7
  obtain rfl : h = fun t => restFrom arg3 arg4 arg6 arg7 28 9 ⟨t.1, t.2.1, t.2.2.1⟩
      (Parts.add ⟨t.2.2.2.1, t.2.2.2.2.1, t.2.2.2.2.2.1, t.2.2.2.2.2.2.1⟩ (andi t.2.2.2.2.2.2.2.1 t.2.2.2.2.2.2.2.2)) :=
    funext fun t => h2 ⟨t.1, t.2.1, t.2.2.1⟩ ⟨t.2.2.2.1, t.2.2.2.2.1, t.2.2.2.2.2.1, t.2.2.2.2.2.2.1⟩ _ _
  obtain ⟨g, g1, g2⟩ := part805_split i arg2 harg2 arg3 harg3 arg4 harg4 arg5 harg5 arg6 harg6 arg7 harg7 (fun t => restFrom arg3 arg4 arg6 arg7 28 9 ⟨t.1, t.2.1, t.2.2.1⟩
      (Parts.add ⟨t.2.2.2.1, t.2.2.2.2.1, t.2.2.2.2.2.1, t.2.2.2.2.2.2.1⟩ (andi t.2.2.2.2.2.2.2.1 t.2.2.2.2.2.2.2.2)) : _ → Pg F PUnit)
  refine h1.trans (g1.trans ((part203_eq i arg2 harg2 arg3 harg3 arg4 harg4 arg5 harg5 arg6 harg6 arg7 harg7 _).trans ?_))
  refine congrArg _ (funext fun _ => congrArg _ (funext fun _ => congrArg (mkTile (F := F) arg5 (k0_off17 i) (k0_off17_inb i) (maskW i 0)) ?_))
  refine (part204_eq i arg2 harg2 arg3 harg3 arg4 harg4 arg5 harg5 arg6 harg6 arg7 harg7 _).trans ?_
  rw [part205_eq i arg2 harg2 arg3 harg3 arg4 harg4 arg5 harg5 arg6 harg6 arg7 harg7 g]
  have e : (fun lim => g ⟨lim, broadcast S8x256 0#32, Scalar.select (Scalar.cmpi .sgt lim 2#32) 4294967295#32 0#32⟩) =
      fun lim => initA arg7 lim 2 30 <| selectAll arg3 arg4 arg6 arg7 := funext fun lim => (g2 lim).trans (tail_eq arg3 arg4 arg6 arg7 lim)
  rw [e]
  rfl

end Cert.SelectIdeal
-- ==== Proof.Grid.lean ====
module

public import proofs.«01_k».proof.Proof.Search
public import proofs.«01_k».proof.Proof.Body

@[expose] public section

/-! The kernel's integer computations on the grid's coordinates. -/

namespace Cert.SelectIdeal

open Idealize.ShloMosaic Idealize.SL.Sem
open K0.Facts₀ Shapes1.Facts₀ Shapes2.Facts₀

/-- The number of blocks of 512 positions that the query tile sees. -/
def nkbN (i : grid0.Coords) : Nat := ((i 1).val + 2) / 2

theorem i1_lt (i : grid0.Coords) : (i 1).val < 32 := (i 1).isLt

theorem nkbN_pos (i : grid0.Coords) : 1 ≤ nkbN i := by unfold nkbN; omega

theorem nkbN_le (i : grid0.Coords) : nkbN i ≤ 16 := by have := i1_lt i; unfold nkbN; omega

/-- All blocks but the last lie before the tile's first query. -/
theorem nkbN_before (i : grid0.Coords) : 512 * (nkbN i - 1) ≤ 256 * (i 1).val := by unfold nkbN; omega

/-- The blocks reach the tile's last query. -/
theorem nkbN_reach (i : grid0.Coords) : 256 * (i 1).val + 256 ≤ 512 * nkbN i := by unfold nkbN; omega

theorem nkb_all : ∀ k : Fin 32,
    Scalar.divsi (Scalar.addi (Scalar.muli (Scalar.addi (BitVec.ofNat 32 k.val) 1#32) 256#32) 511#32) 512#32 = BitVec.ofNat 32 ((k.val + 2) / 2) := by
  decide +kernel

theorem nkbW_eq (i : grid0.Coords) : nkbW i = BitVec.ofNat 32 (nkbN i) := nkb_all ⟨(i 1).val, i1_lt i⟩

theorem nkbE_all : ∀ k : Fin 17, Scalar.addi 0#32 (Scalar.muli (Scalar.divsi (Scalar.subi (BitVec.ofNat 32 k.val) 0#32) 1#32) 1#32) = BitVec.ofNat 32 k.val := by
  decide +kernel

theorem nkbE_eq (i : grid0.Coords) : nkbE i = BitVec.ofNat 32 (nkbN i) := by
  have h := nkbE_all ⟨nkbN i, by have := nkbN_le i; omega⟩
  unfold nkbE
  rw [nkbW_eq]
  exact h

theorem trips_all : ∀ k : Fin 17, Scf.trips 0#32 (BitVec.ofNat 32 k.val) 1#32 = k.val := by decide +kernel

theorem notrips_all : ∀ k : Fin 17, Scf.trips (BitVec.ofNat 32 k.val) (Scalar.addi 0#32 (Scalar.subi (BitVec.ofNat 32 k.val) 0#32)) 1#32 = 0 := by decide +kernel

theorem t1_trips (i : grid0.Coords) : (k0_t1_loop i).trips = nkbN i := by
  show Scf.trips 0#32 (nkbE i) 1#32 = _
  rw [nkbE_eq]
  exact trips_all ⟨nkbN i, by have := nkbN_le i; omega⟩

theorem t3_trips (i : grid0.Coords) : (k0_t3_loop i).trips = nkbN i := t1_trips i

theorem t2_trips (i : grid0.Coords) : (k0_t2_loop i).trips = 0 := by
  show Scf.trips (nkbE i) (Scalar.addi 0#32 (Scalar.subi (nkbW i) 0#32)) 1#32 = _
  rw [nkbE_eq, nkbW_eq]
  exact notrips_all ⟨nkbN i, by have := nkbN_le i; omega⟩

theorem t4_trips (i : grid0.Coords) : (k0_t4_loop i).trips = 0 := t2_trips i

theorem iv_all : ∀ k : Fin 16, (Scalar.indexCast (Scf.iv 0#32 1#32 k.val)).toNat = k.val ∧
    (Scalar.indexCast (Scalar.addi (Scalar.muli (Scf.iv 0#32 1#32 k.val) 2#32) 0#32)).toNat = 2 * k.val ∧
    (Scalar.indexCast (Scalar.addi (Scalar.muli (Scf.iv 0#32 1#32 k.val) 2#32) 1#32)).toNat = 2 * k.val + 1 := by decide +kernel

theorem last_all : ∀ k : Fin 17, 1 ≤ k.val → (Scalar.indexCast (Scalar.subi (BitVec.ofNat 32 k.val) 1#32)).toNat = k.val - 1 := by decide +kernel

/-- The last block's number, as an offset. -/
theorem last_eq (i : grid0.Coords) : (Scalar.indexCast (Scalar.subi (nkbW i) 1#32)).toNat = nkbN i - 1 := by
  rw [nkbW_eq]
  exact last_all ⟨nkbN i, by have := nkbN_le i; omega⟩ (nkbN_pos i)

theorem off17_eq (i : grid0.Coords) : k0_off17 i = ![nkbN i - 1, 0, 0] := congrArg (fun x => ![x, 0, 0]) (last_eq i)
theorem off18_eq (i : grid0.Coords) : k0_off18 i = ![nkbN i - 1, 128, 0] := congrArg (fun x => ![x, 128, 0]) (last_eq i)
theorem off19_eq (i : grid0.Coords) : k0_off19 i = ![nkbN i - 1, 256, 0] := congrArg (fun x => ![x, 256, 0]) (last_eq i)
theorem off20_eq (i : grid0.Coords) : k0_off20 i = ![nkbN i - 1, 384, 0] := congrArg (fun x => ![x, 384, 0]) (last_eq i)

section
variable (i : grid0.Coords) (t : Fin (k0_t1_loop i).trips)

theorem t1_lt : t.val < 16 := Nat.lt_of_lt_of_le (Nat.lt_of_lt_of_eq t.isLt (t1_trips i)) (nkbN_le i)

theorem iv_t1 : (Scalar.indexCast (Scf.iv 0#32 1#32 t.val)).toNat = t.val := (iv_all ⟨t.val, t1_lt i t⟩).1

theorem off1_eq : k0_off1 i t = ![0, t.val, 0, 0] := congrArg (fun x => ![0, x, 0, 0]) (iv_t1 i t)
theorem off2_eq : k0_off2 i t = ![t.val, 0, 0] := congrArg (fun x => ![x, 0, 0]) (iv_t1 i t)
theorem off3_eq : k0_off3 i t = ![0, t.val, 128, 0] := congrArg (fun x => ![0, x, 128, 0]) (iv_t1 i t)
theorem off4_eq : k0_off4 i t = ![t.val, 128, 0] := congrArg (fun x => ![x, 128, 0]) (iv_t1 i t)
theorem off5_eq : k0_off5 i t = ![0, t.val, 256, 0] := congrArg (fun x => ![0, x, 256, 0]) (iv_t1 i t)
theorem off6_eq : k0_off6 i t = ![t.val, 256, 0] := congrArg (fun x => ![x, 256, 0]) (iv_t1 i t)
theorem off7_eq : k0_off7 i t = ![0, t.val, 384, 0] := congrArg (fun x => ![0, x, 384, 0]) (iv_t1 i t)
theorem off8_eq : k0_off8 i t = ![t.val, 384, 0] := congrArg (fun x => ![x, 384, 0]) (iv_t1 i t)
end

theorem limW_all : ∀ k : Fin 17, Scalar.muli (BitVec.ofNat 32 k.val) 2#32 = BitVec.ofNat 32 (2 * k.val) := by decide +kernel

theorem lim_eq (i : grid0.Coords) : Scalar.muli (nkbW i) 2#32 = BitVec.ofNat 32 (2 * nkbN i) := by
  rw [nkbW_eq]
  exact limW_all ⟨nkbN i, by have := nkbN_le i; omega⟩

theorem lastRow_all : ∀ k : Fin 17, ∀ u : Fin 4, 1 ≤ k.val → Scalar.addi (Scalar.muli (Scalar.subi (BitVec.ofNat 32 k.val) 1#32) 512#32) (BitVec.ofNat 32 (128 * u.val))
    = BitVec.ofNat 32 (512 * (k.val - 1) + 128 * u.val) := by decide +kernel

theorem firstQ_all : ∀ k : Fin 32, Scalar.muli (BitVec.ofNat 32 k.val) 256#32 = BitVec.ofNat 32 (256 * k.val) := by decide +kernel

variable [Facts]

/-- The causal mask says of a key whether it comes no later than the query. -/
theorem maskW_apply (i : grid0.Coords) (u : Fin 4) (y : S128x256.Idx) :
    maskW i u.val y = if 512 * (nkbN i - 1) + 128 * u.val + (y 0).val ≤ 256 * (i 1).val + (y 1).val then 1#1 else 0#1 := by
  have h1 : (y 0).val < 128 := (y 0).isLt
  have h2 : (y 1).val < 256 := (y 1).isLt
  have hi := i1_lt i
  have hn := nkbN_le i
  have hu := u.isLt
  have e1 := lastRow_all ⟨nkbN i, by omega⟩ u (nkbN_pos i)
  rw [← nkbW_eq] at e1
  have e2 := firstQ_all ⟨(i 1).val, hi⟩
  have a1 : Scalar.addi (Scalar.muli (Scalar.subi (nkbW i) 1#32) 512#32) (BitVec.ofNat 32 (128 * u.val)) + BitVec.ofNat 32 (y 0).val
      = BitVec.ofNat 32 (512 * (nkbN i - 1) + 128 * u.val + (y 0).val) := by rw [e1, BitVec.ofNat_add _ (y 0).val]
  have a2 : Scalar.muli (BitVec.ofNat 32 (i 1).val) 256#32 + BitVec.ofNat 32 (y 1).val = BitVec.ofNat 32 (256 * (i 1).val + (y 1).val) := by
    rw [BitVec.ofNat_add, ← e2]
  have i1 : iota .tc S128x256 32 [0] iota_S128x256_d0_w32 y = BitVec.ofNat 32 (y 0).val := by show BitVec.ofNat 32 (0 * 128 + (y 0).val) = _; rw [Nat.zero_mul, Nat.zero_add]
  have i2 : iota .tc S128x256 32 [1] iota_S128x256_d1_w32 y = BitVec.ofNat 32 (y 1).val := by show BitVec.ofNat 32 (0 * 256 + (y 1).val) = _; rw [Nat.zero_mul, Nat.zero_add]
  have key : maskW i u.val y = IntOp.cmpi .sle
      (Scalar.addi (Scalar.muli (Scalar.subi (nkbW i) 1#32) 512#32) (BitVec.ofNat 32 (128 * u.val)) + iota .tc S128x256 32 [0] iota_S128x256_d0_w32 y)
      (Scalar.muli (BitVec.ofNat 32 (i 1).val) 256#32 + iota .tc S128x256 32 [1] iota_S128x256_d1_w32 y) := rfl
  rw [key, i1, i2, a1, a2]
  show BitVec.ofBool (BitVec.sle _ _) = _
  rw [sle_ofNat (by omega) (by omega)]
  by_cases h : 512 * (nkbN i - 1) + 128 * u.val + (y 0).val ≤ 256 * (i 1).val + (y 1).val
  · rw [if_pos h, decide_eq_true h]; rfl
  · rw [if_neg h, decide_eq_false h]; rfl

end Cert.SelectIdeal
-- ==== Proof.Radix.lean ====
module

public import proofs.«01_k».proof.Proof.Search

@[expose] public section

/-! The search, bit by bit, for the key of the 256th entry. -/

namespace Cert.SelectIdeal

open Idealize.ShloMosaic
open K0.Facts₀ Shapes1.Facts₀ Shapes2.Facts₀

/-- A key with its sign bit turned, as a number: greater where the key is greater. -/
def uk (v : Fin 256 → Nat → BitVec 32) (c : Fin 256) (s : Nat) : Nat := (v c s ^^^ 2147483648#32).toNat

theorem uk_lt (v : Fin 256 → Nat → BitVec 32) (c : Fin 256) (s : Nat) : uk v c s < 2 ^ 32 := BitVec.isLt _

theorem uk_testBit (v : Fin 256 → Nat → BitVec 32) (c : Fin 256) (s b : Nat) (hb : b < 32) :
    (uk v c s).testBit b = ((v c s).getLsbD b != (b == 31)) := by
  unfold uk
  rw [BitVec.testBit_toNat, BitVec.getLsbD_xor]
  congr 1
  interval_cases b <;> decide

variable (v : Fin 256 → Nat → BitVec 32) (n : Nat)

/-- The positions below `n` whose keys begin with `q` above the last `b` bits. -/
def Act (b : Nat) (q : Fin 256 → Nat) (c : Fin 256) (s : Nat) : Bool := decide (s < n) && decide (uk v c s / 2 ^ b = q c)

/-- The positions below `n` whose keys begin with more than `q` above the last `b` bits. -/
def Gt (b : Nat) (q : Fin 256 → Nat) (c : Fin 256) (s : Nat) : Bool := decide (s < n) && decide (q c < uk v c s / 2 ^ b)

/-- Of the positions whose keys begin with `q`, those with the next bit set. -/
def One (b : Nat) (q : Fin 256 → Nat) (c : Fin 256) (s : Nat) : Bool := Act v n (b + 1) q c s && (uk v c s).testBit b

/-- The count with the next bit taken. -/
def withBit (b : Nat) (q : Fin 256 → Nat) (c : Fin 256) : Nat := cnt₀ (Gt v n (b + 1) q c) 8192 + cnt₀ (One v n b q c) 8192

/-- The beginning of the key one bit longer. -/
def next (b : Nat) (q : Fin 256 → Nat) (c : Fin 256) : Nat := if 256 ≤ withBit v n b q c then 2 * q c + 1 else 2 * q c

/-- The 256th entry begins with `q`. -/
def Begins (b : Nat) (q : Fin 256 → Nat) (c : Fin 256) : Prop :=
  cnt₀ (Gt v n b q c) 8192 < 256 ∧ 256 ≤ cnt₀ (Gt v n b q c) 8192 + cnt₀ (Act v n b q c) 8192 ∧ q c < 2 ^ (32 - b)

theorem half (x b : Nat) : x / 2 ^ (b + 1) = x / 2 ^ b / 2 := by rw [Nat.pow_succ, Nat.div_div_eq_div_mul]

variable {v n}

theorem begins_first (hn : 256 ≤ n) (hn' : n ≤ 8192) (c : Fin 256) : Begins v n 32 (fun _ => 0) c := by
  have h0 : ∀ s, uk v c s / 2 ^ 32 = 0 := fun s => Nat.div_eq_of_lt (uk_lt v c s)
  refine ⟨?_, ?_, Nat.zero_lt_one⟩
  · have : cnt₀ (Gt v n 32 (fun _ => 0) c) 8192 = cnt₀ (fun _ => false) 8192 := cnt₀_congr fun s _ => by unfold Gt; rw [h0]; simp
    rw [this]; unfold cnt₀; simp
  · have e : cnt₀ (Act v n 32 (fun _ => 0) c) n = cnt₀ (fun _ => true) n := cnt₀_congr fun s hs => by unfold Act; rw [h0]; simp [hs]
    have e' : cnt₀ (fun _ => true) n = n := by unfold cnt₀; simp
    have := cnt₀_mono (Act v n 32 (fun _ => 0) c) hn'
    omega

theorem gt_even (b : Nat) (q : Fin 256 → Nat) (c : Fin 256) :
    cnt₀ (Gt v n b (fun c => 2 * q c) c) 8192 = withBit v n b q c := by
  unfold withBit
  refine cnt₀_or fun s _ => ?_
  unfold Gt One Act
  rw [half, Nat.testBit_eq_decide_div_mod_eq]
  generalize uk v c s / 2 ^ b = x
  by_cases h : s < n
  · simp only [h, decide_true, Bool.true_and]
    by_cases h1 : q c < x / 2
    · rw [decide_eq_true h1, decide_eq_true (show 2 * q c < x by omega), decide_eq_false (show ¬ x / 2 = q c by omega)]; rfl
    · rw [decide_eq_false h1]
      by_cases h2 : x / 2 = q c
      · rw [decide_eq_true h2]
        by_cases h3 : x % 2 = 1
        · rw [decide_eq_true h3, decide_eq_true (show 2 * q c < x by omega)]; rfl
        · rw [decide_eq_false h3, decide_eq_false (show ¬ 2 * q c < x by omega)]; rfl
      · rw [decide_eq_false h2, decide_eq_false (show ¬ 2 * q c < x by omega)]; rfl
  · simp [h]

theorem gt_odd (b : Nat) (q : Fin 256 → Nat) (c : Fin 256) :
    cnt₀ (Gt v n b (fun c => 2 * q c + 1) c) 8192 = cnt₀ (Gt v n (b + 1) q c) 8192 := by
  refine cnt₀_congr fun s _ => ?_
  unfold Gt
  rw [half]
  generalize uk v c s / 2 ^ b = x
  congr 1
  rw [decide_eq_decide]; dsimp only; omega

theorem one_eq (b : Nat) (q : Fin 256 → Nat) (c : Fin 256) (s : Nat) : One v n b q c s = Act v n b (fun c => 2 * q c + 1) c s := by
  unfold One Act
  rw [half, Nat.testBit_eq_decide_div_mod_eq, Bool.and_assoc, ← Bool.decide_and]
  generalize uk v c s / 2 ^ b = x
  congr 1
  rw [decide_eq_decide]; dsimp only; omega

theorem act_split (b : Nat) (q : Fin 256 → Nat) (c : Fin 256) :
    cnt₀ (Act v n (b + 1) q c) 8192 = cnt₀ (One v n b q c) 8192 + cnt₀ (Act v n b (fun c => 2 * q c) c) 8192 := by
  refine cnt₀_or fun s _ => ?_
  rw [one_eq]
  unfold Act
  rw [half]
  generalize uk v c s / 2 ^ b = x
  by_cases h : s < n
  · simp only [h, decide_true, Bool.true_and]
    by_cases h1 : x / 2 = q c
    · rw [decide_eq_true h1]
      by_cases h3 : x = 2 * q c
      · rw [decide_eq_true h3, decide_eq_false (show ¬ x = 2 * q c + 1 by omega)]; rfl
      · rw [decide_eq_false h3, decide_eq_true (show x = 2 * q c + 1 by omega)]; rfl
    · rw [decide_eq_false h1, decide_eq_false (show ¬ x = 2 * q c + 1 by omega), decide_eq_false (show ¬ x = 2 * q c by omega)]; rfl
  · simp [h]

/-- One bit more. -/
theorem begins_next {b : Nat} (hb : b < 32) {q : Fin 256 → Nat} {c : Fin 256} (h : Begins v n (b + 1) q c) : Begins v n b (next v n b q) c := by
  obtain ⟨h1, h2, h3⟩ := h
  have hp : 2 ^ (32 - b) = 2 * 2 ^ (32 - (b + 1)) := by rw [show 32 - b = (32 - (b + 1)) + 1 by omega, Nat.pow_succ]; omega
  have hsplit := act_split (v := v) (n := n) b q c
  have eg : ∀ q' : Fin 256 → Nat, next v n b q c = q' c → cnt₀ (Gt v n b (next v n b q) c) 8192 = cnt₀ (Gt v n b q' c) 8192
      ∧ cnt₀ (Act v n b (next v n b q) c) 8192 = cnt₀ (Act v n b q' c) 8192 := by
    intro q' h'
    exact ⟨cnt₀_congr fun s _ => by unfold Gt; rw [h'], cnt₀_congr fun s _ => by unfold Act; rw [h']⟩
  unfold Begins
  by_cases ht : 256 ≤ withBit v n b q c
  · have e : next v n b q c = 2 * q c + 1 := if_pos ht
    obtain ⟨e1, e2⟩ := eg (fun c => 2 * q c + 1) e
    have e3 : cnt₀ (Act v n b (fun c => 2 * q c + 1) c) 8192 = cnt₀ (One v n b q c) 8192 := cnt₀_congr fun s _ => (one_eq b q c s).symm
    rw [e1, e2, gt_odd, e3, e]
    unfold withBit at ht
    omega
  · have e : next v n b q c = 2 * q c := if_neg ht
    obtain ⟨e1, e2⟩ := eg (fun c => 2 * q c) e
    rw [e1, e2, gt_even, e]
    unfold withBit at ht ⊢
    omega

/-- The count above, one bit on. -/
theorem above_next (b : Nat) (q : Fin 256 → Nat) (c : Fin 256) :
    cnt₀ (Gt v n b (next v n b q) c) 8192 = if 256 ≤ withBit v n b q c then cnt₀ (Gt v n (b + 1) q c) 8192 else withBit v n b q c := by
  split
  · next h =>
    rw [← gt_odd]; exact cnt₀_congr fun s _ => by unfold Gt next; rw [if_pos h]
  · next h =>
    rw [← gt_even]; exact cnt₀_congr fun s _ => by unfold Gt next; rw [if_neg h]

/-- Whether a position still counts, one bit on. -/
theorem act_next (b : Nat) (q : Fin 256 → Nat) (c : Fin 256) (s : Nat) :
    Act v n b (next v n b q) c s = (Act v n (b + 1) q c s && ((uk v c s).testBit b == decide (256 ≤ withBit v n b q c))) := by
  unfold Act next
  rw [half, Nat.testBit_eq_decide_div_mod_eq, Bool.and_assoc]
  generalize uk v c s / 2 ^ b = x
  congr 1
  by_cases h : 256 ≤ withBit v n b q c
  · rw [if_pos h, decide_eq_true h, show ∀ a : Bool, (a == true) = a by decide, ← Bool.decide_and, decide_eq_decide]; omega
  · rw [if_neg h, decide_eq_false h, show ∀ a : Bool, (a == false) = !a by decide, ← decide_not, ← Bool.decide_and, decide_eq_decide]; omega

end Cert.SelectIdeal
-- ==== Proof.Logic.lean ====
module

public import proofs.«01_k».proof.Proof.Clean
public import Idealize.ShloMosaic.Lib.VecWindow
public import Idealize.ShloMosaic.Lib.Scf
public import Idealize.ShloMosaic.Lib.Memref
public import Idealize.ShloMosaic.Lib.Tactic
public import Idealize.ShloMosaic.Lib.Pointwise.Index
public import Idealize.ShloMosaic.Lib.Pointwise.Reshape

@[expose] public section

/-! Rules for reading and writing the kernel's memory. -/

namespace Cert.SelectIdeal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Memref
open K0.Facts₀ Shapes1.Facts₀ Shapes2.Facts₀

variable [Facts] {F : FTy → Type} [FloatOps F] [∀ e, Nonempty (Elt F e)]

local notation "𝕄" => MT nD τ sig Unit (Elt F) ℕ (UR sig nD τ) ℕ

section
variable (c : Dev nD) {S : Shape} {e : EltTy} (m : Memref sig .tc .vmem S e) {α : Type}

/-- The weakest precondition of one of the kernel's programs. -/
noncomputable abbrev wpK (p : Pg F α) (Q : α → sProp 𝕄) : sProp 𝕄 :=
  wp frame (wpE (defs₀ (F := F)) Variants.none (c : Thread nD τ) none) Set.univ p Q

/-- A memref held, read as `X`. -/
noncomputable abbrev own (X : S.Idx → Elt F e) : sProp 𝕄 := owns (c : Thread nD τ) m fullShare X

/-- A read of a window of a memref that is held. -/
theorem ld_owns (X : S.Idx → Elt F e) {off size : Fin S.rank → ℕ} {inb : ∀ a, off a + size a ≤ S.size a} {hl}
    {k : ((Rect.unit off size inb).toLoadRect.shape.Idx → Elt F e) → Pg F α} (Q : α → sProp 𝕄) :
    own c m X ⊢ iprop((own c m X -∗ wpK c (k (VecWindow.window X off size inb)) Q)
        -∗ wpK c (.op (.load m (Rect.unit off size inb).toLoadRect hl) k) Q) := by
  unfold own owns
  iintro ⟨%f, %hf, H⟩ Hk
  ihave H := pointsTo_rep_of_read (c : Thread nD τ) m f fullShare X hf $$ H
  iapply (wp_load Variants.none (c : Thread nD τ) none Set.univ (m := m) (hl := hl) (k := k) (View.setOn_subset_set _ _)) $$ H
  iintro H
  rw [View.readAt_rep_unit m.view X inb rfl inb]
  iapply Hk
  iexists _
  isplitr
  rotate_left
  · iexact H
  · ipureintro; exact View.read_rep _ _

/-- A write of a window of a memref that is held. -/
theorem st_owns (X : S.Idx → Elt F e) {off size : Fin S.rank → ℕ} {inb : ∀ a, off a + size a ≤ S.size a}
    {w : (Rect.unit off size inb).shape.Idx → Elt F e} {hx hm}
    {k : PUnit → Pg F α} (Q : α → sProp 𝕄) :
    own c m X ⊢ iprop((own c m (VecWindow.put X off size w) -∗ wpK c (k ⟨⟩) Q)
        -∗ wpK c (.op (.store m (Rect.unit off size inb) w Finset.univ hx hm) k) Q) := by
  unfold own owns
  iintro ⟨%f, %hf, H⟩ Hk
  ihave H := pointsTo_rep_of_read (c : Thread nD τ) m f fullShare X hf $$ H
  iapply (wp_store Variants.none (c : Thread nD τ) none Set.univ (m := m) (hx := hx) (hm := hm) (k := k) (Memref.setOn_access_subset m _ _)) $$ H
  iintro H
  iapply Hk
  iexists _
  isplitr
  rotate_left
  · iexact H
  · ipureintro; exact View.read_writes_rep_unit m.view X inb w rfl

end

/-- The contents of the memory that the kernel writes: the copied keys, the planes, the active bits and the two results. -/
structure Mem where
  keys : S16x512x256.Idx → BitVec 32
  planes : S32x32x8x256.Idx → BitVec 32
  act : S32x8x256.Idx → BitVec 32
  o3 : S1x1x256.Idx → BitVec 32
  o4 : S1x1x256.Idx → BitVec 32

/-- The memrefs a cell of the grid works on, the contents of its block of keys with them. -/
structure Env (F : FTy → Type) [FloatOps F] where
  c : Dev nD
  arg2 : Memref sig .tc .vmem S1x16x512x256 .i32
  arg3 : Memref sig .tc .vmem S1x1x256 .i32
  arg4 : Memref sig .tc .vmem S1x1x256 .i32
  arg5 : Memref sig .tc .vmem S16x512x256 .i32
  arg6 : Memref sig .tc .vmem S32x32x8x256 .i32
  arg7 : Memref sig .tc .vmem S32x8x256 .i32
  K : S1x16x512x256.Idx → BitVec 32

/-- All that a cell holds, at contents `s`. -/
noncomputable def held (v : Env F) (s : Mem) : sProp 𝕄 :=
  iprop(own (F := F) (e := .i32) v.c v.arg2 v.K ∗ own (F := F) (e := .i32) v.c v.arg3 s.o3 ∗ own (F := F) (e := .i32) v.c v.arg4 s.o4
    ∗ own (F := F) (e := .i32) v.c v.arg5 s.keys ∗ own (F := F) (e := .i32) v.c v.arg6 s.planes ∗ own (F := F) (e := .i32) v.c v.arg7 s.act)

/-- From the contents `s` the program `p` runs to its return and leaves contents that meet `Q`. -/
def Runs (v : Env F) (p : Pg F PUnit) (s : Mem) (Q : Mem → Prop) : Prop :=
  held v s ⊢ wpK v.c p (fun _ => iprop(∃ s', ⌜Q s'⌝ ∗ held v s'))

namespace Runs
variable {v : Env F} {s : Mem} {Q R : Mem → Prop}

/-- A program that returns. -/
theorem ret (h : Q s) : Runs v (pure ⟨⟩) s Q := by
  unfold Runs
  unfold wpK; rw [wp_pure]
  iintro H
  imodintro
  iexists s
  isplitr
  · ipureintro; exact h
  · iexact H

/-- A weaker end. -/
theorem mono {p : Pg F PUnit} (h : Runs v p s R) (hQ : ∀ s', R s' → Q s') : Runs v p s Q := by
  unfold Runs at h ⊢
  refine h.trans (wp_mono _ _ _ fun _ => ?_)
  iintro ⟨%s', %hs, H⟩
  iexists s'
  isplitr
  · ipureintro; exact hQ _ hs
  · iexact H

/-- One program after another. -/
theorem bind {p : Pg F PUnit} {k : PUnit → Pg F PUnit} (h : Runs v p s R) (hk : ∀ s', R s' → Runs v (k ⟨⟩) s' Q) :
    Runs v (Prog.bind p k) s Q := by
  unfold Runs at h hk ⊢
  show _ ⊢ wpK v.c (p >>= k) _
  unfold wpK
  rw [wp_bind]
  refine h.trans (wp_mono _ _ _ fun _ => ?_)
  iintro ⟨%s', %hs, H⟩
  iapply (hk s' hs)
  iexact H

/-- A loop, by an invariant. -/
theorem loop {w : Nat} (lb ub st : BitVec w) (hok : Scf.OK lb ub st)
    {body : Fin (Scf.trips lb ub st) → PUnit → Pg F PUnit} (I : Nat → Mem → Prop) (h0 : I 0 s)
    (hbody : ∀ (k : Fin (Scf.trips lb ub st)) s, I k s → Runs v (body k ⟨⟩) s (I (k.val + 1))) :
    Runs v (Scf.for lb ub st hok ⟨⟩ body) s (I (Scf.trips lb ub st)) := by
  unfold Runs at hbody ⊢
  iintro H
  iapply (Scf.wp_for _ _ _ lb ub st hok ⟨⟩ body (fun k _ => iprop(∃ s', ⌜I k s'⌝ ∗ held v s')) ?_)
  · intro k acc
    iintro ⟨%s', %hs, H⟩
    iapply (hbody k s' hs)
    iexact H
  · isplitl [H]
    · iexists s
      isplitr
      · ipureintro; exact h0
      · iexact H
    · iintro %acc H
      iexact H

/-- A read of a window of `arg2`. -/
theorem ld2 {off size inb hl} {k : ((Rect.unit off size inb).toLoadRect.shape.Idx → Elt F .i32) → Pg F PUnit} (h : Runs v (k (VecWindow.window v.K off size inb)) s Q) :
    Runs v (.op (.load v.arg2 (Rect.unit off size inb).toLoadRect hl) k) s Q := by
  unfold Runs at h ⊢
  unfold held at h ⊢
  iintro ⟨H2, H3, H4, H5, H6, H7⟩
  iapply (ld_owns (F := F) (e := .i32) v.c v.arg2 v.K _) $$ H2
  iintro H2
  iapply h
  isplitl [H2]; · iexact H2
  isplitl [H3]; · iexact H3
  isplitl [H4]; · iexact H4
  isplitl [H5]; · iexact H5
  isplitl [H6]; · iexact H6
  iexact H7

/-- A read of a window of `arg3`. -/
theorem ld3 {off size inb hl} {k : ((Rect.unit off size inb).toLoadRect.shape.Idx → Elt F .i32) → Pg F PUnit} (h : Runs v (k (VecWindow.window s.o3 off size inb)) s Q) :
    Runs v (.op (.load v.arg3 (Rect.unit off size inb).toLoadRect hl) k) s Q := by
  unfold Runs at h ⊢
  unfold held at h ⊢
  iintro ⟨H2, H3, H4, H5, H6, H7⟩
  iapply (ld_owns (F := F) (e := .i32) v.c v.arg3 s.o3 _) $$ H3
  iintro H3
  iapply h
  isplitl [H2]; · iexact H2
  isplitl [H3]; · iexact H3
  isplitl [H4]; · iexact H4
  isplitl [H5]; · iexact H5
  isplitl [H6]; · iexact H6
  iexact H7

/-- A write of a window of `arg3`. -/
theorem st3 {off size inb w hx hm} {k : _ → Pg F PUnit} (h : Runs v (k ⟨⟩) { s with o3 := VecWindow.put s.o3 off size w } Q) :
    Runs v (.op (.store v.arg3 (Rect.unit off size inb) w Finset.univ hx hm) k) s Q := by
  unfold Runs at h ⊢
  unfold held at h ⊢
  iintro ⟨H2, H3, H4, H5, H6, H7⟩
  iapply (st_owns (F := F) (e := .i32) v.c v.arg3 s.o3 _) $$ H3
  iintro H3
  iapply h
  isplitl [H2]; · iexact H2
  isplitl [H3]; · iexact H3
  isplitl [H4]; · iexact H4
  isplitl [H5]; · iexact H5
  isplitl [H6]; · iexact H6
  iexact H7

/-- A read of a window of `arg4`. -/
theorem ld4 {off size inb hl} {k : ((Rect.unit off size inb).toLoadRect.shape.Idx → Elt F .i32) → Pg F PUnit} (h : Runs v (k (VecWindow.window s.o4 off size inb)) s Q) :
    Runs v (.op (.load v.arg4 (Rect.unit off size inb).toLoadRect hl) k) s Q := by
  unfold Runs at h ⊢
  unfold held at h ⊢
  iintro ⟨H2, H3, H4, H5, H6, H7⟩
  iapply (ld_owns (F := F) (e := .i32) v.c v.arg4 s.o4 _) $$ H4
  iintro H4
  iapply h
  isplitl [H2]; · iexact H2
  isplitl [H3]; · iexact H3
  isplitl [H4]; · iexact H4
  isplitl [H5]; · iexact H5
  isplitl [H6]; · iexact H6
  iexact H7

/-- A write of a window of `arg4`. -/
theorem st4 {off size inb w hx hm} {k : _ → Pg F PUnit} (h : Runs v (k ⟨⟩) { s with o4 := VecWindow.put s.o4 off size w } Q) :
    Runs v (.op (.store v.arg4 (Rect.unit off size inb) w Finset.univ hx hm) k) s Q := by
  unfold Runs at h ⊢
  unfold held at h ⊢
  iintro ⟨H2, H3, H4, H5, H6, H7⟩
  iapply (st_owns (F := F) (e := .i32) v.c v.arg4 s.o4 _) $$ H4
  iintro H4
  iapply h
  isplitl [H2]; · iexact H2
  isplitl [H3]; · iexact H3
  isplitl [H4]; · iexact H4
  isplitl [H5]; · iexact H5
  isplitl [H6]; · iexact H6
  iexact H7

/-- A read of a window of `arg5`. -/
theorem ld5 {off size inb hl} {k : ((Rect.unit off size inb).toLoadRect.shape.Idx → Elt F .i32) → Pg F PUnit} (h : Runs v (k (VecWindow.window s.keys off size inb)) s Q) :
    Runs v (.op (.load v.arg5 (Rect.unit off size inb).toLoadRect hl) k) s Q := by
  unfold Runs at h ⊢
  unfold held at h ⊢
  iintro ⟨H2, H3, H4, H5, H6, H7⟩
  iapply (ld_owns (F := F) (e := .i32) v.c v.arg5 s.keys _) $$ H5
  iintro H5
  iapply h
  isplitl [H2]; · iexact H2
  isplitl [H3]; · iexact H3
  isplitl [H4]; · iexact H4
  isplitl [H5]; · iexact H5
  isplitl [H6]; · iexact H6
  iexact H7

/-- A write of a window of `arg5`. -/
theorem st5 {off size inb w hx hm} {k : _ → Pg F PUnit} (h : Runs v (k ⟨⟩) { s with keys := VecWindow.put s.keys off size w } Q) :
    Runs v (.op (.store v.arg5 (Rect.unit off size inb) w Finset.univ hx hm) k) s Q := by
  unfold Runs at h ⊢
  unfold held at h ⊢
  iintro ⟨H2, H3, H4, H5, H6, H7⟩
  iapply (st_owns (F := F) (e := .i32) v.c v.arg5 s.keys _) $$ H5
  iintro H5
  iapply h
  isplitl [H2]; · iexact H2
  isplitl [H3]; · iexact H3
  isplitl [H4]; · iexact H4
  isplitl [H5]; · iexact H5
  isplitl [H6]; · iexact H6
  iexact H7

/-- A read of a window of `arg6`. -/
theorem ld6 {off size inb hl} {k : ((Rect.unit off size inb).toLoadRect.shape.Idx → Elt F .i32) → Pg F PUnit} (h : Runs v (k (VecWindow.window s.planes off size inb)) s Q) :
    Runs v (.op (.load v.arg6 (Rect.unit off size inb).toLoadRect hl) k) s Q := by
  unfold Runs at h ⊢
  unfold held at h ⊢
  iintro ⟨H2, H3, H4, H5, H6, H7⟩
  iapply (ld_owns (F := F) (e := .i32) v.c v.arg6 s.planes _) $$ H6
  iintro H6
  iapply h
  isplitl [H2]; · iexact H2
  isplitl [H3]; · iexact H3
  isplitl [H4]; · iexact H4
  isplitl [H5]; · iexact H5
  isplitl [H6]; · iexact H6
  iexact H7

/-- A write of a window of `arg6`. -/
theorem st6 {off size inb w hx hm} {k : _ → Pg F PUnit} (h : Runs v (k ⟨⟩) { s with planes := VecWindow.put s.planes off size w } Q) :
    Runs v (.op (.store v.arg6 (Rect.unit off size inb) w Finset.univ hx hm) k) s Q := by
  unfold Runs at h ⊢
  unfold held at h ⊢
  iintro ⟨H2, H3, H4, H5, H6, H7⟩
  iapply (st_owns (F := F) (e := .i32) v.c v.arg6 s.planes _) $$ H6
  iintro H6
  iapply h
  isplitl [H2]; · iexact H2
  isplitl [H3]; · iexact H3
  isplitl [H4]; · iexact H4
  isplitl [H5]; · iexact H5
  isplitl [H6]; · iexact H6
  iexact H7

/-- A read of a window of `arg7`. -/
theorem ld7 {off size inb hl} {k : ((Rect.unit off size inb).toLoadRect.shape.Idx → Elt F .i32) → Pg F PUnit} (h : Runs v (k (VecWindow.window s.act off size inb)) s Q) :
    Runs v (.op (.load v.arg7 (Rect.unit off size inb).toLoadRect hl) k) s Q := by
  unfold Runs at h ⊢
  unfold held at h ⊢
  iintro ⟨H2, H3, H4, H5, H6, H7⟩
  iapply (ld_owns (F := F) (e := .i32) v.c v.arg7 s.act _) $$ H7
  iintro H7
  iapply h
  isplitl [H2]; · iexact H2
  isplitl [H3]; · iexact H3
  isplitl [H4]; · iexact H4
  isplitl [H5]; · iexact H5
  isplitl [H6]; · iexact H6
  iexact H7

/-- A write of a window of `arg7`. -/
theorem st7 {off size inb w hx hm} {k : _ → Pg F PUnit} (h : Runs v (k ⟨⟩) { s with act := VecWindow.put s.act off size w } Q) :
    Runs v (.op (.store v.arg7 (Rect.unit off size inb) w Finset.univ hx hm) k) s Q := by
  unfold Runs at h ⊢
  unfold held at h ⊢
  iintro ⟨H2, H3, H4, H5, H6, H7⟩
  iapply (st_owns (F := F) (e := .i32) v.c v.arg7 s.act _) $$ H7
  iintro H7
  iapply h
  isplitl [H2]; · iexact H2
  isplitl [H3]; · iexact H3
  isplitl [H4]; · iexact H4
  isplitl [H5]; · iexact H5
  isplitl [H6]; · iexact H6
  iexact H7

end Runs

end Cert.SelectIdeal
-- ==== Proof.Ops.lean ====
module

public import proofs.«01_k».proof.Proof.Logic

@[expose] public section

/-! The kernel's reads and writes, element by element. -/

namespace Cert.SelectIdeal

open Idealize.ShloMosaic Idealize.SL.Sem
open K0.Facts₀ Shapes1.Facts₀ Shapes2.Facts₀

/-- The active bits with group `g` replaced. -/
def setA (a : S32x8x256.Idx → BitVec 32) (g : Fin 32) (x : IVec S8x256 32) : S32x8x256.Idx → BitVec 32 :=
  fun y => if (y 0).val = g.val then x (ix2 (n0 := 8) (n1 := 256) (y 1) (y 2)) else a y

/-- The planes with columns `c` to `c + 127` of plane `b` of group `g` replaced. -/
def setP (a : S32x32x8x256.Idx → BitVec 32) (b g c : Nat) (x : IVec S8x128 32) : S32x32x8x256.Idx → BitVec 32 :=
  fun y => if h : (y 0).val = b ∧ (y 1).val = g ∧ c ≤ (y 3).val ∧ (y 3).val < c + 128 then x (ix2 (n0 := 8) (n1 := 128) (y 2) ⟨(y 3).val - c, by omega⟩) else a y

/-- The keys with rows `r` to `r + 127` of block `jb` replaced. -/
def setK (a : S16x512x256.Idx → BitVec 32) (jb r : Nat) (x : IVec S128x256 32) : S16x512x256.Idx → BitVec 32 :=
  fun y => if h : (y 0).val = jb ∧ r ≤ (y 1).val ∧ (y 1).val < r + 128 then x (ix2 (n0 := 128) (n1 := 256) ⟨(y 1).val - r, by omega⟩ (y 2)) else a y

variable [Facts] {F : FTy → Type} [FloatOps F]

/-- The active bits of a group, element by element. -/
def getA (a : S32x8x256.Idx → BitVec 32) (g : Fin 32) : IVec S8x256 32 := fun y => a (ix3 (n0 := 32) (n1 := 8) (n2 := 256) g (y 0) (y 1))

/-- A plane of a group, element by element. -/
def getP (a : S32x32x8x256.Idx → BitVec 32) (b g : Fin 32) : IVec S8x256 32 := fun y => a (ix4 (n0 := 32) (n1 := 32) (n2 := 8) (n3 := 256) b g (y 0) (y 1))

theorem cast_A (a : S32x8x256.Idx → BitVec 32) (g : Fin 32) :
    shapeCast S8x256 (VecWindow.window a ![g.val, 0, 0] S1x8x256.size (inbA g)) shapeCasts_S1x8x256_S8x256 = getA a g := by
  funext y
  simp only [pointwise]
  unfold VecWindow.window getA
  refine congrArg a (funext fun b => ?_)
  fin_cases b <;> apply Fin.ext <;> simp [Rect.emb, Rect.unit]

theorem cast_P (a : S32x32x8x256.Idx → BitVec 32) (b g : Fin 32) :
    shapeCast S8x256 (VecWindow.window a ![b.val, g.val, 0, 0] S1x1x8x256.size (inbP b g)) shapeCasts_S1x1x8x256_S8x256 = getP a b g := by
  funext y
  simp only [pointwise]
  unfold VecWindow.window getP
  refine congrArg a (funext fun b => ?_)
  fin_cases b <;> apply Fin.ext <;> simp [Rect.emb, Rect.unit]

theorem put_A (a : S32x8x256.Idx → BitVec 32) (g : Fin 32) (x : IVec S8x256 32) :
    VecWindow.put a ![g.val, 0, 0] S1x8x256.size (shapeCast S1x8x256 x shapeCasts_S8x256_S1x8x256) = setA a g x := by
  funext y
  unfold VecWindow.put setA
  have h1 : (y 1).val < 8 := (y 1).isLt; have h2 : (y 2).val < 256 := (y 2).isLt
  by_cases h : (y 0).val = g.val
  · have hh : ∀ b, (![g.val, 0, 0] : Fin 3 → Nat) b ≤ (y b).val ∧ (y b).val < (![g.val, 0, 0] : Fin 3 → Nat) b + S1x8x256.size b := by
      intro b; fin_cases b <;> simp [S1x8x256] <;> omega
    rw [dif_pos hh, if_pos h]
    simp only [pointwise]
    refine congrArg x (funext fun b => ?_)
    fin_cases b <;> apply Fin.ext <;> simp [Rect.unitLocal]
  · rw [if_neg h, dif_neg]
    intro hh
    have := hh 0
    simp [S1x8x256] at this
    exact h (by omega)

theorem put_P (a : S32x32x8x256.Idx → BitVec 32) (b g c : Nat) (x : IVec S8x128 32) :
    VecWindow.put a ![b, g, 0, c] S1x1x8x128.size (shapeCast S1x1x8x128 x shapeCasts_S8x128_S1x1x8x128) = setP a b g c x := by
  funext y
  unfold VecWindow.put setP
  have h2 : (y 2).val < 8 := (y 2).isLt
  by_cases h : (y 0).val = b ∧ (y 1).val = g ∧ c ≤ (y 3).val ∧ (y 3).val < c + 128
  · have hh : ∀ d, (![b, g, 0, c] : Fin 4 → Nat) d ≤ (y d).val ∧ (y d).val < (![b, g, 0, c] : Fin 4 → Nat) d + S1x1x8x128.size d := by
      intro d; fin_cases d <;> simp [S1x1x8x128] <;> omega
    rw [dif_pos hh, dif_pos h]
    simp only [pointwise]
    refine congrArg x (funext fun d => ?_)
    fin_cases d <;> apply Fin.ext <;> simp [Rect.unitLocal]
  · rw [dif_neg h, dif_neg]
    intro hh
    have h0 := hh 0; have h1 := hh 1; have h3 := hh 3
    simp [S1x1x8x128] at h0 h1 h3
    exact h (by omega)

theorem put_K (a : S16x512x256.Idx → BitVec 32) (jb r : Nat) (x : IVec S128x256 32) :
    VecWindow.put a ![jb, r, 0] S1x128x256.size (shapeCast S1x128x256 x shapeCasts_S128x256_S1x128x256) = setK a jb r x := by
  funext y
  unfold VecWindow.put setK
  have h2 : (y 2).val < 256 := (y 2).isLt
  by_cases h : (y 0).val = jb ∧ r ≤ (y 1).val ∧ (y 1).val < r + 128
  · have hh : ∀ d, (![jb, r, 0] : Fin 3 → Nat) d ≤ (y d).val ∧ (y d).val < (![jb, r, 0] : Fin 3 → Nat) d + S1x128x256.size d := by
      intro d; fin_cases d <;> simp [S1x128x256] <;> omega
    rw [dif_pos hh, dif_pos h]
    simp only [pointwise]
    refine congrArg x (funext fun d => ?_)
    fin_cases d <;> apply Fin.ext <;> simp [Rect.unitLocal]
  · rw [dif_neg h, dif_neg]
    intro hh
    have h0 := hh 0; have h1 := hh 1
    simp [S1x128x256] at h0 h1
    exact h (by omega)

theorem getA_setA_same (a : S32x8x256.Idx → BitVec 32) (g : Fin 32) (x : IVec S8x256 32) : getA (setA a g x) g = x := by
  funext y
  exact (if_pos rfl).trans (congrArg x (funext fun d => by fin_cases d <;> rfl))

theorem getA_setA_ne (a : S32x8x256.Idx → BitVec 32) (g g' : Fin 32) (x : IVec S8x256 32) (h : g'.val ≠ g.val) : getA (setA a g x) g' = getA a g' := by
  funext y
  exact if_neg h

theorem put_O (a : S1x1x256.Idx → BitVec 32) (x : IVec S1x256 32) :
    VecWindow.put a ![0, 0, 0] S1x1x256.size (shapeCast S1x1x256 x shapeCasts_S1x256_S1x1x256) = fun y => x (ix2 (n0 := 1) (n1 := 256) 0 (y 2)) := by
  funext y
  unfold VecWindow.put
  have h0 : (y 0).val < 1 := (y 0).isLt; have h1 : (y 1).val < 1 := (y 1).isLt; have h2 : (y 2).val < 256 := (y 2).isLt
  have hh : ∀ b, (![0, 0, 0] : Fin 3 → Nat) b ≤ (y b).val ∧ (y b).val < (![0, 0, 0] : Fin 3 → Nat) b + S1x1x256.size b := by
    intro b; fin_cases b <;> simp [S1x1x256] <;> omega
  rw [dif_pos hh]
  rw [Pointwise.shapeCast_apply]
  refine congrArg x (Shape.reshapeEquiv_eq_of_vals _ _ _ (y 2).val (y 2).val ?_ ?_ rfl)
  · rw [rowMajor_val2 _ 256 rfl]; show 0 * 256 + (y 2).val = _; omega
  · rw [rowMajor_val3 _ 256 256 rfl rfl]
    simp [Rect.unitLocal]; omega

namespace Runs
variable [∀ e, Nonempty (Elt F e)] {v : Env F} {s : Mem} {Q : Mem → Prop}

theorem ldA {g : Fin 32} {k : IVec S8x256 32 → Pg F PUnit} (h : Runs v (k (getA s.act g)) s Q) : Runs v (ldA v.arg7 g k) s Q := by
  unfold SelectIdeal.ldA
  apply ld7
  rw [cast_A]; exact h

theorem stA {g : Fin 32} {x : IVec S8x256 32} {k : Pg F PUnit} (h : Runs v k { s with act := setA s.act g x } Q) : Runs v (stA v.arg7 g x k) s Q := by
  unfold SelectIdeal.stA
  apply st7
  rw [put_A]; exact h

theorem ldP {b g : Fin 32} {k : IVec S8x256 32 → Pg F PUnit} (h : Runs v (k (getP s.planes b g)) s Q) : Runs v (ldP v.arg6 b g k) s Q := by
  unfold SelectIdeal.ldP
  apply ld6
  rw [cast_P]; exact h

theorem stP {b g c : Nat} {hh : ∀ a, (![b, g, 0, c] : Fin 4 → Nat) a + S1x1x8x128.size a ≤ S32x32x8x256.size a} {x : IVec S8x128 32} {k : Pg F PUnit}
    (h : Runs v k { s with planes := setP s.planes b g c x } Q) : Runs v (stP v.arg6 ![b, g, 0, c] hh x k) s Q := by
  unfold SelectIdeal.stP
  apply ld6
  apply st6
  rw [put_P]; exact h

theorem stO3 {x : IVec S1x256 32} {k : Pg F PUnit} (h : Runs v k { s with o3 := fun y => x (ix2 (n0 := 1) (n1 := 256) 0 (y 2)) } Q) : Runs v (stO v.arg3 x k) s Q := by
  unfold SelectIdeal.stO
  apply ld3
  apply st3
  rw [put_O]; exact h

theorem stO4 {x : IVec S1x256 32} {k : Pg F PUnit} (h : Runs v k { s with o4 := fun y => x (ix2 (n0 := 1) (n1 := 256) 0 (y 2)) } Q) : Runs v (stO v.arg4 x k) s Q := by
  unfold SelectIdeal.stO
  apply ld4
  apply st4
  rw [put_O]; exact h

/-- One row of eight by 128 keys. -/
theorem ldK {jb r c : Nat} {hh : ∀ a, (![jb, r, c] : Fin 3 → Nat) a + S1x8x128.size a ≤ S16x512x256.size a} {k : IVec S8x128 32 → Pg F PUnit}
    (h : ∀ x : IVec S8x128 32, (∀ y (d : S16x512x256.Idx), (d 0).val = jb → (d 1).val = r + (y 0).val → (d 2).val = c + (y 1).val → x y = s.keys d) → Runs v (k x) s Q) :
    Runs v (ldK v.arg5 ![jb, r, c] hh k) s Q := by
  unfold SelectIdeal.ldK
  apply ld5
  apply h
  intro y d h0 h1 h2
  simp only [pointwise]
  unfold VecWindow.window
  refine congrArg s.keys (funext fun b => ?_)
  fin_cases b <;> apply Fin.ext <;> simp [Rect.emb, Rect.unit] <;> omega

end Runs

end Cert.SelectIdeal
-- ==== Proof.Rounds.lean ====
module

public import proofs.«01_k».proof.Proof.Radix
public import proofs.«01_k».proof.Proof.Ops

@[expose] public section

/-! The rounds of the search run on the planes. -/

namespace Cert.SelectIdeal

open Idealize.ShloMosaic Idealize.SL.Sem
open K0.Facts₀ Shapes1.Facts₀ Shapes2.Facts₀

variable [Facts]

/-- The planes hold the bits of the keys of the positions below `n`. -/
def PlanesOf (v : Fin 256 → Nat → BitVec 32) (n : Nat) (a : S32x32x8x256.Idx → BitVec 32) : Prop :=
  ∀ b < 32, ∀ g < 32, 256 * g < n → ∀ (y : S8x256.Idx), ∀ p < 32,
    (getP a (gi b) (gi g) y).getLsbD p = (v (col8 y) (256 * g + row8 y + 8 * (31 - p))).getLsbD b

/-- Four partial counts that together count, in every lane, the positions of the first `g` groups that meet `P`. -/
def PSum (p : Parts) (P : Fin 256 → Nat → Bool) (g : Nat) : Prop :=
  ∀ y : S8x256.Idx, (p.a y + p.b y) + (p.c y + p.d y)
    = BitVec.ofNat 32 (∑ j ∈ Finset.range g, ∑ k ∈ Finset.range 32, (P (col8 y) (256 * j + row8 y + 8 * k)).toNat)

theorem PSum.zero (P : Fin 256 → Nat → Bool) : PSum Parts.zero P 0 := fun _ => rfl

theorem PSum.add {p : Parts} {P : Fin 256 → Nat → Bool} {g : Nat} (h : PSum p P g) : PSum (p.add (tile P g)) P (g + 1) := by
  intro y
  have hc := ctpop_word (P (col8 y)) (256 * g + row8 y)
  have hy := h y
  rw [Finset.sum_range_succ, BitVec.ofNat_add, ← hy, ← hc]
  have e : ∀ a b c d x : BitVec 32, (b + c) + (d + (a + x)) = (a + b) + (c + d) + x := by intro a b c d x; ac_rfl
  exact e (p.a y) (p.b y) (p.c y) (p.d y) _

variable {v : Fin 256 → Nat → BitVec 32} {n : Nat}

/-- What a register carries when the key begins with `q` above the last `b` bits. -/
structure RegOf (v : Fin 256 → Nat → BitVec 32) (n b : Nat) (q : Fin 256 → Nat) (r : Reg) : Prop where
  above : ∀ y : S1x256.Idx, r.above y = BitVec.ofNat 32 (cnt₀ (Gt v n b q (col1 y)) 8192)
  bits : ∀ y : S1x256.Idx, r.bits y = BitVec.ofNat 32 (q (col1 y) * 2 ^ b)

/-- The mask says of every column whether the bit was taken. -/
def KeepOf (v : Fin 256 → Nat → BitVec 32) (n b : Nat) (q : Fin 256 → Nat) (keep : IVec S8x256 32) : Prop :=
  ∀ (y : S8x256.Idx) (p : Nat), p < 32 → (keep y).getLsbD p = decide (256 ≤ withBit v n b q (col8 y))

/-- One group's active bits, one bit on. -/
theorem actNext_tile {b : Nat} (hb : b < 32) {q : Fin 256 → Nat} {keep pl : IVec S8x256 32} (hkeep : KeepOf v n b q keep) {g : Nat}
    (hpl : 256 * g < n → ∀ (y : S8x256.Idx), ∀ p < 32, (pl y).getLsbD p = (v (col8 y) (256 * g + row8 y + 8 * (31 - p))).getLsbD b) :
    actNext b keep (tile (Act v n (b + 1) q) g) pl = tile (Act v n b (next v n b q)) g := by
  funext y
  apply eq_word
  intro p hp
  have hx : (actNext b keep (tile (Act v n (b + 1) q) g) pl y).getLsbD p
      = (Act v n (b + 1) q (col8 y) (256 * g + row8 y + 8 * (31 - p)) &&
        ((((pl y).getLsbD p ^^ (b == 31)) ^^ decide (256 ≤ withBit v n b q (col8 y))) ^^ true)) := by
    have h1 := getLsbD_ones hp
    have ht : (tile (Act v n (b + 1) q) g y).getLsbD p = Act v n (b + 1) q (col8 y) (256 * g + row8 y + 8 * (31 - p)) := getLsbD_word _ _ p hp
    have hk := hkeep y p hp
    unfold actNext
    cases hb31 : (b == 31) with
    | true =>
      show (tile (Act v n (b + 1) q) g y &&& (((pl y ^^^ 4294967295#32) ^^^ keep y) ^^^ 4294967295#32)).getLsbD p = _
      rw [BitVec.getLsbD_and, BitVec.getLsbD_xor, BitVec.getLsbD_xor, BitVec.getLsbD_xor, hk, h1, ht]
    | false =>
      show (tile (Act v n (b + 1) q) g y &&& ((pl y ^^^ keep y) ^^^ 4294967295#32)).getLsbD p = _
      rw [BitVec.getLsbD_and, BitVec.getLsbD_xor, BitVec.getLsbD_xor, hk, h1, ht, Bool.xor_false]
  rw [hx, act_next]
  by_cases hs : 256 * g + row8 y + 8 * (31 - p) < n
  · rw [uk_testBit _ _ _ _ hb, hpl (by omega) y p hp]
    congr 1
    cases (v (col8 y) (256 * g + row8 y + 8 * (31 - p))).getLsbD b <;> cases (b == 31) <;> cases decide (256 ≤ withBit v n b q (col8 y)) <;> rfl
  · have : Act v n (b + 1) q (col8 y) (256 * g + row8 y + 8 * (31 - p)) = false := by unfold Act; rw [decide_eq_false hs]; rfl
    rw [this]; rfl

/-- One group's positions with the next bit set. -/
theorem and_tile {b : Nat} (hb : b < 32) {q : Fin 256 → Nat} {pl : IVec S8x256 32} {g : Nat}
    (hpl : 256 * g < n → ∀ (y : S8x256.Idx), ∀ p < 32, (pl y).getLsbD p = ((v (col8 y) (256 * g + row8 y + 8 * (31 - p))).getLsbD b != (b == 31))) :
    andi (tile (Act v n (b + 1) q) g) pl = tile (One v n b q) g := by
  funext y
  apply eq_word
  intro p hp
  show (tile (Act v n (b + 1) q) g y &&& pl y).getLsbD p = _
  rw [BitVec.getLsbD_and, show (tile (Act v n (b + 1) q) g y).getLsbD p = _ from getLsbD_word _ _ p hp]
  unfold One
  by_cases hs : 256 * g + row8 y + 8 * (31 - p) < n
  · rw [uk_testBit _ _ _ _ hb, hpl (by omega) y p hp]
  · have : Act v n (b + 1) q (col8 y) (256 * g + row8 y + 8 * (31 - p)) = false := by unfold Act; rw [decide_eq_false hs]; rfl
    rw [this]; rfl

/-- The end of a round. -/
theorem regEnd_spec {b : Nat} (hb : b < 32) {q : Fin 256 → Nat} {r : Reg} {p : Parts} (hr : RegOf v n (b + 1) q r)
    (hp : PSum p (One v n b q) 32) (hq : ∀ c, q c < 2 ^ (32 - (b + 1))) :
    RegOf v n b (next v n b q) (regEnd (BitVec.ofNat 32 (2 ^ b)) r p) ∧ KeepOf v n b q (regEnd (BitVec.ofNat 32 (2 ^ b)) r p).keep := by
  have hlt : ∀ c, withBit v n b q c < 2 ^ 31 := by
    intro c; unfold withBit
    have := cnt₀_le (Gt v n (b + 1) q c) 8192
    have := cnt₀_le (One v n b q c) 8192
    omega
  have hc : ∀ y : S1x256.Idx, addi r.above (sum8 (addi (addi p.a p.b) (addi p.c p.d))) y = BitVec.ofNat 32 (withBit v n b q (col1 y)) := by
    intro y
    show r.above y + _ = _
    rw [hr.above, sum8_ofNat _ y (fun s => ∑ j ∈ Finset.range 32, ∑ k ∈ Finset.range 32, (One v n b q (col1 y) (256 * j + s + 8 * k)).toNat)
      (fun s => hp _), ← BitVec.ofNat_add]
    have e : ∑ s ∈ Finset.range 8, ∑ j ∈ Finset.range 32, ∑ k ∈ Finset.range 32, (One v n b q (col1 y) (256 * j + s + 8 * k)).toNat
        = cnt₀ (One v n b q (col1 y)) 8192 := by
      refine Finset.sum_comm.trans (Eq.trans ?_ (cnt₀_mul (One v n b q (col1 y)) 256 32).symm)
      exact Finset.sum_congr rfl fun j _ => cnt₀_group _ _
    rw [e]; rfl
  have ht : ∀ y : S1x256.Idx, cmpi .sge (addi r.above (sum8 (addi (addi p.a p.b) (addi p.c p.d)))) (broadcast S1x256 256#32) y
      = BitVec.ofBool (decide (256 ≤ withBit v n b q (col1 y))) := by
    intro y
    show BitVec.ofBool ((BitVec.ofNat 32 256).sle (addi r.above (sum8 (addi (addi p.a p.b) (addi p.c p.d))) y)) = _
    rw [hc y, sle_ofNat (by decide) (hlt _)]
  have hsel : ∀ {α : Type} (t : Bool) (a b : α), Scalar.select (BitVec.ofBool t) a b = if t then a else b := by
    intro α t a b; cases t <;> rfl
  refine ⟨⟨fun y => ?_, fun y => ?_⟩, fun y p hp => ?_⟩
  · show Scalar.select (cmpi .sge (addi r.above (sum8 (addi (addi p.a p.b) (addi p.c p.d)))) (broadcast S1x256 256#32) y) (r.above y)
      (addi r.above (sum8 (addi (addi p.a p.b) (addi p.c p.d))) y) = _
    rw [ht y, hc y, hr.above y, above_next, hsel]
    by_cases h : 256 ≤ withBit v n b q (col1 y)
    · rw [decide_eq_true h, if_pos h, if_pos rfl]
    · rw [decide_eq_false h, if_neg h]; rfl
  · show r.bits y ||| Scalar.select (cmpi .sge (addi r.above (sum8 (addi (addi p.a p.b) (addi p.c p.d)))) (broadcast S1x256 256#32) y)
      (BitVec.ofNat 32 (2 ^ b)) 0#32 = _
    rw [ht y, hr.bits y, hsel]
    unfold next
    by_cases h : 256 ≤ withBit v n b q (col1 y)
    · rw [decide_eq_true h, if_pos h, if_pos rfl]
      have e : (2 * q (col1 y) + 1) * 2 ^ b = q (col1 y) * 2 ^ (b + 1) ||| 2 ^ b := by
        rw [Nat.mul_comm (q (col1 y)), ← Nat.two_pow_add_eq_or_of_lt (Nat.pow_lt_pow_right (by omega) (by omega)), Nat.pow_succ]
        ring
      rw [e]
      apply BitVec.eq_of_toNat_eq
      have h1 : q (col1 y) * 2 ^ (b + 1) < 2 ^ 32 := by
        have := hq (col1 y)
        calc q (col1 y) * 2 ^ (b + 1) < 2 ^ (32 - (b + 1)) * 2 ^ (b + 1) := Nat.mul_lt_mul_of_pos_right this (Nat.two_pow_pos _)
          _ = 2 ^ 32 := by rw [← Nat.pow_add]; congr 1; omega
      have h2 : 2 ^ b < 2 ^ 32 := Nat.pow_lt_pow_right (by omega) hb
      rw [BitVec.toNat_or, BitVec.toNat_ofNat, BitVec.toNat_ofNat, BitVec.toNat_ofNat, Nat.mod_eq_of_lt h1, Nat.mod_eq_of_lt h2, Nat.mod_eq_of_lt (Nat.or_lt_two_pow h1 h2)]
    · rw [decide_eq_false h, if_neg h]
      show _ ||| 0#32 = _
      rw [BitVec.or_zero]
      congr 1
      rw [Nat.pow_succ]; ring
  · show (broadcastTo S8x256 (shapeCast S1x256 (select (cmpi .sge (addi r.above (sum8 (addi (addi _ _) (addi _ _)))) (broadcast S1x256 256#32))
      (broadcast S1x256 4294967295#32) (broadcast S1x256 0#32)) shapeCasts_S1x256_S1x256) broadcasts_S1x256_S8x256 y).getLsbD p = _
    rw [rows_apply]
    show (Scalar.select (cmpi .sge (addi r.above (sum8 (addi (addi _ _) (addi _ _)))) (broadcast S1x256 256#32) (ix2 (n0 := 1) (n1 := 256) 0 (col8 y))) 4294967295#32 0#32).getLsbD p = _
    rw [ht, hsel]
    show (if decide (256 ≤ withBit v n b q (col8 y)) = true then _ else _ : BitVec 32).getLsbD p = _
    cases decide (256 ≤ withBit v n b q (col8 y)) with
    | true => exact getLsbD_ones hp
    | false => exact getLsbD_zero'

end Cert.SelectIdeal
-- ==== Proof.Select.lean ====
module

public import proofs.«01_k».proof.Proof.Rounds
public import proofs.«01_k».proof.Proof.Body

@[expose] public section

/-! From the planes and the active bits, the key and the index of the 256th entry. -/

namespace Cert.SelectIdeal

open Idealize.ShloMosaic Idealize.SL.Sem
open K0.Facts₀ Shapes1.Facts₀ Shapes2.Facts₀

variable [Facts] {F : FTy → Type} [FloatOps F] [∀ e, Nonempty (Elt F e)]

/-- Position `s` holds the 256th entry of the positions below `n`: of those, 255 have a greater key, or the same key and come before. -/
def Cut (v : Fin 256 → Nat → BitVec 32) (n : Nat) (c : Fin 256) (s : Nat) : Prop :=
  s < n ∧ cnt₀ (fun t => decide (t < n) && decide (uk v c s < uk v c t)) 8192 + cnt₀ (fun t => decide (t < n) && decide (uk v c t = uk v c s)) s = 255

theorem gi_val {g : Nat} (h : g < 32) : (gi g).val = g := Nat.mod_eq_of_lt h

/-- The active bits of the groups below `g` are the tiles of `P`, those of the others the tiles of `P'`. -/
def ActsAt (P P' : Fin 256 → Nat → Bool) (g : Nat) (a : S32x8x256.Idx → BitVec 32) : Prop :=
  ∀ j < 32, getA a (gi j) = if j < g then tile P j else tile P' j

theorem ActsAt.set {P P' : Fin 256 → Nat → Bool} {g : Nat} {a : S32x8x256.Idx → BitVec 32} (h : ActsAt P P' g a) (hg : g < 32) :
    ActsAt P P' (g + 1) (setA a (gi g) (tile P g)) := by
  intro j hj
  by_cases e : j = g
  · subst e; rw [getA_setA_same, if_pos (by omega)]
  · rw [getA_setA_ne _ _ _ _ (by rw [gi_val hg, gi_val hj]; exact e), h j hj]
    by_cases h' : j < g
    · rw [if_pos h', if_pos (by omega)]
    · rw [if_neg h', if_neg (by omega)]

theorem ActsAt.turn {P P' P'' : Fin 256 → Nat → Bool} {a : S32x8x256.Idx → BitVec 32} (h : ActsAt P P' 32 a) : ActsAt P'' P 0 a := by
  intro j hj
  rw [h j hj, if_pos hj, if_neg (by omega)]

variable {v : Fin 256 → Nat → BitVec 32} {n : Nat} {E : Env F} {Q : Mem → Prop}

/-- The groups of the round at the sign bit. -/
theorem run_groups31 {q : Fin 256 → Nat} {s : Mem} (hpl : PlanesOf v n s.planes) (ha : ActsAt (Act v n 32 q) (Act v n 32 q) 0 s.act) {k : Parts → Pg F PUnit}
    (hk : ∀ p, PSum p (One v n 31 q) 32 → Runs E (k p) s Q) :
    ∀ (m g : Nat) (p : Parts), g + m = 32 → PSum p (One v n 31 q) g → Runs E (groups31 E.arg6 E.arg7 g m p k) s Q
  | 0, g, p, hgm, hp => by
    obtain rfl : g = 32 := hgm
    exact hk p hp
  | m + 1, g, p, hgm, hp => by
    have hg : g < 32 := by omega
    refine Runs.ldA (Runs.ldP ?_)
    have e : andi (getA s.act (gi g)) (xori (getP s.planes (gi 31) (gi g)) ones8) = tile (One v n 31 q) g := by
      rw [ha g hg, if_neg (Nat.not_lt_zero _)]
      refine and_tile (by decide) fun hgn y p hp => ?_
      have h1 := getLsbD_ones hp
      have h2 := hpl 31 (by decide) g hg hgn y p hp
      show (getP s.planes (gi 31) (gi g) y ^^^ 4294967295#32).getLsbD p = _
      rw [BitVec.getLsbD_xor, h1, h2]
      rfl
    rw [e]
    exact run_groups31 hpl ha hk m (g + 1) _ (by omega) hp.add

/-- One group's update. -/
theorem run_upd {b : Nat} (hb : b < 32) {q : Fin 256 → Nat} {keep : IVec S8x256 32} (hkeep : KeepOf v n b q keep) {s : Mem} (hpl : PlanesOf v n s.planes)
    {g : Nat} (hg : g < 32) (ha : ActsAt (Act v n b (next v n b q)) (Act v n (b + 1) q) g s.act) {k : IVec S8x256 32 → Pg F PUnit}
    (hk : Runs E (k (tile (Act v n b (next v n b q)) g)) { s with act := setA s.act (gi g) (tile (Act v n b (next v n b q)) g) } Q) :
    Runs E (upd E.arg6 E.arg7 b g keep k) s Q := by
  unfold upd updL
  refine Runs.ldA (Runs.ldP (Runs.ldA (Runs.stA ?_)))
  have e : actNext b keep (getA s.act (gi g)) (getP s.planes (gi b) (gi g)) = tile (Act v n b (next v n b q)) g := by
    rw [ha g hg, if_neg (Nat.lt_irrefl _)]
    exact actNext_tile hb hkeep fun hgn y p hp => hpl b hb g hg hgn y p hp
  rw [e]
  exact hk

/-- The groups of a round: updated after the last decision, counted at the next bit. -/
theorem run_groups {b : Nat} (hb : b + 1 < 32) {q q' : Fin 256 → Nat} (hq' : q' = next v n (b + 1) q) {keep : IVec S8x256 32} (hkeep : KeepOf v n (b + 1) q keep)
    {pl : S32x32x8x256.Idx → BitVec 32} (hpl : PlanesOf v n pl) {k : Parts → Pg F PUnit}
    (hk : ∀ p s, s.planes = pl → ActsAt (Act v n (b + 1) q') (Act v n (b + 2) q) 32 s.act → PSum p (One v n b q') 32 → Runs E (k p) s Q) :
    ∀ (m g : Nat) (p : Parts) (s : Mem), g + m = 32 → s.planes = pl → ActsAt (Act v n (b + 1) q') (Act v n (b + 2) q) g s.act → PSum p (One v n b q') g →
      Runs E (groups E.arg6 E.arg7 b keep g m p k) s Q
  | 0, g, p, s, hgm, hs, ha, hp => by
    obtain rfl : g = 32 := hgm
    exact hk p s hs ha hp
  | m + 1, g, p, s, hgm, hs, ha, hp => by
    have hg : g < 32 := by omega
    subst hq'
    refine run_upd hb hkeep (hs ▸ hpl) hg ha ?_
    refine Runs.ldP ?_
    have e : andi (tile (Act v n (b + 1) (next v n (b + 1) q)) g) (getP s.planes (gi b) (gi g)) = tile (One v n b (next v n (b + 1) q)) g := by
      refine and_tile (by omega) fun hgn y p hp => ?_
      rw [hs, hpl b (by omega) g hg hgn y p hp, show (b == 31) = false from beq_false_of_ne (by omega), Bool.bne_false]
    show Runs E (groups E.arg6 E.arg7 b keep (g + 1) m (p.add (andi _ (getP s.planes (gi b) (gi g)))) k) _ Q
    rw [e]
    exact run_groups hb rfl hkeep hpl hk m (g + 1) _ _ (by omega) hs (ha.set hg) hp.add

/-- The rounds. -/
theorem run_rounds {pl : S32x32x8x256.Idx → BitVec 32} (hpl : PlanesOf v n pl) {k : Reg → Pg F PUnit}
    (hk : ∀ q r s, (∀ c, Begins v n 0 q c) → RegOf v n 0 q r → (∃ q₀, q = next v n 0 q₀ ∧ KeepOf v n 0 q₀ r.keep ∧ ActsAt (Act v n 0 q) (Act v n 1 q₀) 0 s.act) →
      s.planes = pl → Runs E (k r) s Q) :
    ∀ (b : Nat) (q : Fin 256 → Nat) (r : Reg) (s : Mem), b < 32 → (∀ c, Begins v n b (next v n b q) c) → RegOf v n b (next v n b q) r → KeepOf v n b q r.keep →
      ActsAt (Act v n b (next v n b q)) (Act v n (b + 1) q) 0 s.act → s.planes = pl → Runs E (rounds E.arg6 E.arg7 (b - 1) b r k) s Q := by
  intro b
  induction b with
  | zero => intro q r s _ hB hr hkeep ha hs; exact hk _ r s hB hr ⟨q, rfl, hkeep, ha⟩ hs
  | succ b ih =>
    intro q r s hb hB hr hkeep ha hs
    rw [Nat.add_sub_cancel, rounds_succ]
    refine run_groups hb rfl hkeep hpl (fun p s' hs' ha' hp => ?_) 32 0 _ s (Nat.zero_add _) hs ha (PSum.zero _)
    obtain ⟨h1, h2⟩ := regEnd_spec (b := b) (by omega) hr hp fun c => (hB c).2.2
    exact ih _ _ s' (by omega) (fun c => begins_next (by omega) (hB c)) h1 h2 ha'.turn hs'

/-- The last update. -/
theorem run_lastUpd {q : Fin 256 → Nat} {keep : IVec S8x256 32} (hkeep : KeepOf v n 0 q keep) {pl : S32x32x8x256.Idx → BitVec 32} (hpl : PlanesOf v n pl) {k : Pg F PUnit}
    (hk : ∀ s, ActsAt (Act v n 0 (next v n 0 q)) (Act v n 1 q) 32 s.act → Runs E k s Q) :
    ∀ (m g : Nat) (s : Mem), g + m = 32 → s.planes = pl → ActsAt (Act v n 0 (next v n 0 q)) (Act v n 1 q) g s.act → Runs E (lastUpd E.arg6 E.arg7 keep g m k) s Q
  | 0, g, s, hgm, _, ha => by
    obtain rfl : g = 32 := hgm
    exact hk s ha
  | m + 1, g, s, hgm, hs, ha => by
    have hg : g < 32 := by omega
    refine run_upd (by decide) hkeep (hs ▸ hpl) hg ha ?_
    exact run_lastUpd hkeep hpl hk m (g + 1) _ (by omega) hs (ha.set hg)

/-- Reading all active bits. -/
theorem run_ldAll {P P' : Fin 256 → Nat → Bool} {s : Mem} (ha : ActsAt P P' 32 s.act) {k : (Nat → IVec S8x256 32) → Pg F PUnit}
    (hk : ∀ av, (∀ g < 32, av g = tile P g) → Runs E (k av) s Q) :
    ∀ (m g : Nat) (av : Nat → IVec S8x256 32), g + m = 32 → (∀ j < g, av j = tile P j) → Runs E (ldAll E.arg7 g m av k) s Q
  | 0, g, av, hgm, hav => by
    obtain rfl : g = 32 := hgm
    exact hk av hav
  | m + 1, g, av, hgm, hav => by
    refine Runs.ldA (run_ldAll ha hk m (g + 1) _ (by omega) fun j hj => ?_)
    cases h : Nat.decEq j g with
    | isTrue e => subst e; rw [ha j (by omega), if_pos (by omega)]
    | isFalse e => exact hav j (by omega)

/-- The results: every column's key and index of the 256th entry. -/
def Results (v : Fin 256 → Nat → BitVec 32) (n : Nat) (s : Mem) : Prop :=
  ∀ c : Fin 256, ∃ t, Cut v n c t ∧ s.o3 (ix3 (n0 := 1) (n1 := 1) (n2 := 256) 0 0 c) = v c t ∧ s.o4 (ix3 (n0 := 1) (n1 := 1) (n2 := 256) 0 0 c) = BitVec.ofNat 32 t

theorem results_end {q : Fin 256 → Nat} {r : Reg} {av : Nat → IVec S8x256 32} (hB : ∀ c, Begins v n 0 q c) (hr : RegOf v n 0 q r) (hav : ∀ g < 32, av g = tile (Act v n 0 q) g)
    (c : Fin 256) : ∃ t, Cut v n c t ∧ keyOf r (ix2 (n0 := 1) (n1 := 256) 0 c) = v c t ∧ cutOf (needOf r) av (ix2 (n0 := 1) (n1 := 256) 0 c) = BitVec.ofNat 32 t := by
  obtain ⟨h1, h2, _⟩ := hB c
  have hneed : needOf r (ix2 (n0 := 1) (n1 := 256) 0 c) = BitVec.ofNat 32 (256 - cnt₀ (Gt v n 0 q c) 8192) := by
    show 256#32 - r.above (ix2 (n0 := 1) (n1 := 256) 0 c) = _
    rw [hr.above]
    show 256#32 - BitVec.ofNat 32 (cnt₀ (Gt v n 0 q c) 8192) = _
    apply BitVec.eq_of_toNat_eq
    rw [BitVec.toNat_sub_of_le]
    · simp only [BitVec.toNat_ofNat]; omega
    · rw [BitVec.le_def, BitVec.toNat_ofNat, BitVec.toNat_ofNat, Nat.mod_eq_of_lt (by omega), Nat.mod_eq_of_lt (by omega)]; omega
  obtain ⟨t, ht, hcut, hP, hc⟩ := cut_spec (Act v n 0 q) (needOf r) av (ix2 (n0 := 1) (n1 := 256) 0 c) _ hneed (by omega)
    (by show _ ≤ cnt₀ (Act v n 0 q c) 8192; omega) hav
  have hP' : (decide (t < n) && decide (uk v c t / 2 ^ 0 = q c)) = true := hP
  rw [Bool.and_eq_true, decide_eq_true_eq, decide_eq_true_eq, Nat.pow_zero, Nat.div_one] at hP'
  have hc' : cnt₀ (Act v n 0 q c) t + 1 = 256 - cnt₀ (Gt v n 0 q c) 8192 := hc
  have e1 : cnt₀ (fun t' => decide (t' < n) && decide (uk v c t < uk v c t')) 8192 = cnt₀ (Gt v n 0 q c) 8192 :=
    cnt₀_congr fun s _ => by unfold Gt; rw [hP'.2, Nat.pow_zero, Nat.div_one]
  have e2 : cnt₀ (fun t' => decide (t' < n) && decide (uk v c t' = uk v c t)) t = cnt₀ (Act v n 0 q c) t :=
    cnt₀_congr fun s _ => by unfold Act; rw [hP'.2, Nat.pow_zero, Nat.div_one]
  refine ⟨t, ⟨hP'.1, by rw [e1, e2]; omega⟩, ?_, hcut⟩
  show r.bits (ix2 (n0 := 1) (n1 := 256) 0 c) ^^^ 2147483648#32 = _
  rw [hr.bits]
  show BitVec.ofNat 32 (q c * 2 ^ 0) ^^^ 2147483648#32 = _
  rw [Nat.pow_zero, Nat.mul_one, ← hP'.2]
  unfold uk
  rw [BitVec.ofNat_toNat, BitVec.setWidth_eq, BitVec.xor_assoc, BitVec.xor_self, BitVec.xor_zero]

theorem results_of {x3 x4 : IVec S1x256 32} (h : ∀ c, ∃ t, Cut v n c t ∧ x3 (ix2 (n0 := 1) (n1 := 256) 0 c) = v c t ∧ x4 (ix2 (n0 := 1) (n1 := 256) 0 c) = BitVec.ofNat 32 t)
    (s : Mem) (h3 : s.o3 = fun y => x3 (ix2 (n0 := 1) (n1 := 256) 0 (y 2))) (h4 : s.o4 = fun y => x4 (ix2 (n0 := 1) (n1 := 256) 0 (y 2))) : Results v n s := by
  intro c
  rw [h3, h4]
  exact h c

theorem run_out {r : Reg} {s : Mem} {av : Nat → IVec S8x256 32}
    (h : ∀ c, ∃ t, Cut v n c t ∧ keyOf r (ix2 (n0 := 1) (n1 := 256) 0 c) = v c t ∧ cutOf (needOf r) av (ix2 (n0 := 1) (n1 := 256) 0 c) = BitVec.ofNat 32 t) :
    Runs E (stO E.arg3 (keyOf r) <| stO E.arg4 (cutOf (needOf r) av) <| pure ⟨⟩) s (Results v n) := by
  refine Runs.stO3 (Runs.stO4 (Runs.ret ?_))
  generalize keyOf r = x3 at h ⊢
  generalize cutOf (needOf r) av = x4 at h ⊢
  exact results_of h _ rfl rfl

/-- The end of the selection. -/
theorem run_end {q : Fin 256 → Nat} {r : Reg} {s : Mem} (hpl : PlanesOf v n s.planes) (hB : ∀ c, Begins v n 0 (next v n 0 q) c) (hr : RegOf v n 0 (next v n 0 q) r)
    (hkeep : KeepOf v n 0 q r.keep) (ha : ActsAt (Act v n 0 (next v n 0 q)) (Act v n 1 q) 0 s.act) :
    Runs E (endAll E.arg3 E.arg4 E.arg6 E.arg7 r) s (Results v n) := by
  unfold endAll
  refine run_lastUpd hkeep hpl (fun s'' ha'' => ?_) 32 0 s (Nat.zero_add _) rfl ha
  refine run_ldAll ha'' (fun av hav => ?_) 32 0 _ (Nat.zero_add _) (fun j hj => absurd hj (Nat.not_lt_zero j))
  exact run_out (results_end hB hr hav)

/-- The registers before the first round. -/
theorem regOf_first (v : Fin 256 → Nat → BitVec 32) (n : Nat) :
    RegOf v n 32 (fun _ => 0) ⟨broadcast S1x256 0#32, broadcast S1x256 0#32, broadcast S8x256 0#32⟩ := by
  refine ⟨fun y => ?_, fun y => ?_⟩
  · have : cnt₀ (Gt v n 32 (fun _ => 0) (col1 y)) 8192 = 0 := by
      have : cnt₀ (Gt v n 32 (fun _ => 0) (col1 y)) 8192 = cnt₀ (fun _ => false) 8192 := cnt₀_congr fun s _ => by
        unfold Gt; rw [Nat.div_eq_of_lt (uk_lt v _ s)]; simp
      rw [this]; unfold cnt₀; simp
    rw [this]; rfl
  · show 0#32 = BitVec.ofNat 32 (0 * 2 ^ 32)
    rw [Nat.zero_mul]

/-- The selection. -/
theorem run_selectAll (hn : 256 ≤ n) (hn' : n ≤ 8192) {s : Mem} (hpl : PlanesOf v n s.planes)
    (ha : ∀ g < 32, getA s.act (gi g) = tile (fun _ t => decide (t < n)) g) :
    Runs E (selectAll E.arg3 E.arg4 E.arg6 E.arg7) s (Results v n) := by
  have h0 : ∀ c t, Act v n 32 (fun _ => 0) c t = decide (t < n) := by
    intro c t
    unfold Act
    rw [Nat.div_eq_of_lt (uk_lt v c t)]; simp
  have hfun : Act v n 32 (fun _ => 0) = fun _ t => decide (t < n) := funext fun c => funext fun t => h0 c t
  have ha0 : ∀ P, ActsAt P (Act v n 32 (fun _ => 0)) 0 s.act := by
    intro P j hj; rw [if_neg (by omega), ha j hj, hfun]
  rw [selectAll_eq]
  refine run_groups31 (q := fun _ => 0) hpl (ha0 _) (fun p hp => ?_) 32 0 _ (Nat.zero_add _) (PSum.zero _)
  have hB := fun c => begins_first (v := v) hn hn' c
  have hr0 := regOf_first v n
  obtain ⟨h1, h2⟩ := regEnd_spec (b := 31) (by decide) hr0 hp fun c => (hB c).2.2
  rw [show BitVec.ofNat 32 (2 ^ 31) = 2147483648#32 by decide] at h1 h2
  generalize regEnd 2147483648#32 _ p = r₁ at h1 h2 ⊢
  refine run_rounds (b := 31) hpl (fun q r s' hB' hr' hx hs' => ?_) _ _ s (by decide) (fun c => begins_next (by decide) (hB c)) h1 h2 (ha0 _) rfl
  obtain ⟨q₀, hq, hkeep, hacts⟩ := hx
  subst hq
  exact run_end (by rw [hs']; exact hpl) hB' hr' hkeep hacts

end Cert.SelectIdeal
-- ==== Proof.Transpose.lean ====
module

public import proofs.«01_k».proof.Proof.Ops

@[expose] public section

/-! The transposition of 32 words by 32 bits. -/

namespace Cert.SelectIdeal

open Idealize.ShloMosaic

/-- `x` with its digit at `j` turned. -/
def swp (j x : Nat) : Nat := if x / j % 2 = 0 then x + j else x - j

/-- Where a stage takes bit `p` of word `k` from. -/
def from1 (j : Nat) (kp : Nat × Nat) : Nat × Nat := if kp.1 / j % 2 = kp.2 / j % 2 then (swp j kp.1, swp j kp.2) else kp

/-- The mask of a stage: the bits whose digit at `j` is zero. -/
def MaskOf (j : Nat) (m : BitVec 32) : Prop := ∀ p < 32, m.getLsbD p = decide (p / j % 2 = 0)

theorem mask16 : MaskOf 16 65535#32 := by unfold MaskOf; decide
theorem mask8 : MaskOf 8 16711935#32 := by unfold MaskOf; decide
theorem mask4 : MaskOf 4 252645135#32 := by unfold MaskOf; decide
theorem mask2 : MaskOf 2 858993459#32 := by unfold MaskOf; decide
theorem mask1 : MaskOf 1 1431655765#32 := by unfold MaskOf; decide

theorem shrsi_bit (x : BitVec 32) {j p : Nat} (hj : j < 32) (h : p + j < 32) :
    (IntOp.shrsi .vector x (BitVec.ofNat 32 j)).getLsbD p = x.getLsbD (p + j) := by
  have hj' : (BitVec.ofNat 32 j).toNat = j := by rw [BitVec.toNat_ofNat, Nat.mod_eq_of_lt (by omega)]
  unfold IntOp.shrsi
  rw [if_pos (by omega), BitVec.sshiftRight', hj', BitVec.getLsbD_sshiftRight]
  rw [if_pos (by omega), Nat.add_comm j p]
  simp; omega

theorem shli_bit (x : BitVec 32) {j p : Nat} (hj : j < 32) (hp : p < 32) :
    (IntOp.shli .vector x (BitVec.ofNat 32 j)).getLsbD p = (decide (j ≤ p) && x.getLsbD (p - j)) := by
  have hj' : (BitVec.ofNat 32 j).toNat = j := by rw [BitVec.toNat_ofNat, Nat.mod_eq_of_lt (by omega)]
  unfold IntOp.shli
  rw [if_pos (by omega), BitVec.shiftLeft_eq', hj', BitVec.getLsbD_shiftLeft]
  by_cases h : p < j
  · simp [h, hp]
  · simp [h, hp]; omega

/-- One stage, bit by bit. -/
theorem stage_bit {j : Nat} {m : BitVec 32} (hj : j < 32) (hm : MaskOf j m) (hdig : ∀ p < 32, p / j % 2 = 0 → p + j < 32 ∧ (p + j) / j % 2 = 1)
    (hdig' : ∀ p < 32, p / j % 2 = 1 → j ≤ p ∧ (p - j) / j % 2 = 0) (hlow : ∀ p < 32, p / j % 2 = 0 → j ≤ p → (p - j) / j % 2 = 1)
    (a : Nat → IVec S8x128 32) (y : S8x128.Idx) {k p : Nat} (hp : p < 32) :
    (stage j m a k y).getLsbD p = (a (from1 j (k, p)).1 y).getLsbD (from1 j (k, p)).2 := by
  unfold stage from1 swp
  cases hk : Nat.decEq (k / j % 2) 0 with
  | isTrue h =>
    show (a k y ^^^ ((a k y ^^^ IntOp.shrsi .vector (a (k + j) y) (BitVec.ofNat 32 j)) &&& m)).getLsbD p = _
    rw [BitVec.getLsbD_xor, BitVec.getLsbD_and, BitVec.getLsbD_xor, hm p hp, h]
    by_cases hpj : p / j % 2 = 0
    · rw [decide_eq_true hpj, shrsi_bit _ hj (hdig p hp hpj).1]
      simp only [hpj, if_true, h]
      cases (a k y).getLsbD p <;> simp
    · rw [decide_eq_false hpj, if_neg (by dsimp only; omega)]
      simp
  | isFalse h =>
    have h1 : k / j % 2 = 1 := by omega
    show (a k y ^^^ IntOp.shli .vector ((a (k - j) y ^^^ IntOp.shrsi .vector (a k y) (BitVec.ofNat 32 j)) &&& m) (BitVec.ofNat 32 j)).getLsbD p = _
    rw [BitVec.getLsbD_xor, shli_bit _ hj hp, BitVec.getLsbD_and, BitVec.getLsbD_xor, hm (p - j) (by omega)]
    by_cases hpj : p / j % 2 = 0
    · have : (decide (j ≤ p) && decide ((p - j) / j % 2 = 0)) = false := by
        by_cases hle : j ≤ p
        · rw [decide_eq_false (by have := hlow p hp hpj hle; omega : ¬ (p - j) / j % 2 = 0), Bool.and_false]
        · rw [decide_eq_false hle, Bool.false_and]
      rw [if_neg (by dsimp only; omega)]
      generalize ((a (k - j) y).getLsbD (p - j) ^^ (IntOp.shrsi .vector (a k y) (BitVec.ofNat 32 j)).getLsbD (p - j)) = z
      rw [Bool.and_comm z, ← Bool.and_assoc, this]
      simp
    · have hp1 : p / j % 2 = 1 := by omega
      obtain ⟨hle, hd⟩ := hdig' p hp hp1
      rw [decide_eq_true hle, decide_eq_true hd, shrsi_bit _ hj (by omega), Nat.sub_add_cancel hle, if_pos (by dsimp only; omega)]
      simp only [h1, hp1]
      cases (a k y).getLsbD p <;> simp

/-- Where the whole transposition takes bit `p` of word `k` from. -/
theorem from_all : ∀ k : Fin 32, ∀ p : Fin 32, from1 16 (from1 8 (from1 4 (from1 2 (from1 1 (k.val, p.val))))) = (31 - p.val, 31 - k.val) := by
  decide +kernel

theorem from_lt : ∀ j ∈ [1, 2, 4, 8, 16], ∀ k : Fin 32, ∀ p : Fin 32, (from1 j (k.val, p.val)).1 < 32 ∧ (from1 j (k.val, p.val)).2 < 32 := by
  decide +kernel

/-- Bit `p` of word `k` of the transposed words is bit `31 - k` of word `31 - p`. -/
theorem transposed_bit (a : Nat → IVec S8x128 32) (y : S8x128.Idx) {k p : Nat} (hk : k < 32) (hp : p < 32) :
    (transposed a k y).getLsbD p = (a (31 - p) y).getLsbD (31 - k) := by
  have hl : ∀ j ∈ [1, 2, 4, 8, 16], ∀ kp : Nat × Nat, kp.1 < 32 → kp.2 < 32 → (from1 j kp).1 < 32 ∧ (from1 j kp).2 < 32 :=
    fun j hj kp h1 h2 => from_lt j hj ⟨kp.1, h1⟩ ⟨kp.2, h2⟩
  have h0 := hl 1 (by simp) (k, p) hk hp
  have h1 := hl 2 (by simp) _ h0.1 h0.2
  have h2 := hl 4 (by simp) _ h1.1 h1.2
  have h3 := hl 8 (by simp) _ h2.1 h2.2
  unfold transposed
  rw [stage_bit (by decide) mask1 (by decide) (by decide) (by decide) _ y hp,
    stage_bit (by decide) mask2 (by decide) (by decide) (by decide) _ y h0.2,
    stage_bit (by decide) mask4 (by decide) (by decide) (by decide) _ y h1.2,
    stage_bit (by decide) mask8 (by decide) (by decide) (by decide) _ y h2.2,
    stage_bit (by decide) mask16 (by decide) (by decide) (by decide) _ y h3.2]
  have := from_all ⟨k, hk⟩ ⟨p, hp⟩
  simp only [Prod.mk.eta]
  dsimp only at this
  rw [this]

end Cert.SelectIdeal
-- ==== Proof.Tiles.lean ====
module

public import proofs.«01_k».proof.Proof.Grid
public import proofs.«01_k».proof.Proof.Select
public import proofs.«01_k».proof.Proof.Transpose

@[expose] public section

/-! The copy and the mask of the keys, the planes, and the first active bits. -/

namespace Cert.SelectIdeal

open Idealize.ShloMosaic Idealize.SL.Sem
open K0.Facts₀ Shapes1.Facts₀ Shapes2.Facts₀

variable [Facts] {F : FTy → Type} [FloatOps F] [∀ e, Nonempty (Elt F e)]
variable {E : Env F} {s : Mem} {Q : Mem → Prop}

/-- An element lies in rows `r` to `r + 127` of block `jb`. -/
def InTile (jb r : Nat) (d : S16x512x256.Idx) : Prop := (d 0).val = jb ∧ r ≤ (d 1).val ∧ (d 1).val < r + 128

/-- The block's key at an element of the copy. -/
def blockKey (K : S1x16x512x256.Idx → BitVec 32) (d : S16x512x256.Idx) : BitVec 32 := K (ix4 (n0 := 1) (n1 := 16) (n2 := 512) (n3 := 256) 0 (d 0) (d 1) (d 2))

/-- The copy of one tile of keys. -/
theorem run_cpTile {jb r : Nat} {o1 o2 h1 h2} (e1 : o1 = ![0, jb, r, 0]) (e2 : o2 = ![jb, r, 0]) {k : Pg F PUnit}
    (h : ∀ keys, (∀ d, InTile jb r d → keys d = blockKey E.K d) → (∀ d, ¬InTile jb r d → keys d = s.keys d) → Runs E k { s with keys := keys } Q) :
    Runs E (cpTile E.arg2 E.arg5 o1 h1 o2 h2 k) s Q := by
  subst e1 e2
  unfold cpTile
  apply Runs.ld2
  apply Runs.ld5
  apply Runs.st5
  rw [put_K]
  refine h _ (fun d hd => ?_) fun d hd => dif_neg hd
  refine (dif_pos hd).trans ?_
  obtain ⟨h0, hr, hr'⟩ := hd
  simp only [pointwise]
  unfold VecWindow.window blockKey
  refine congrArg E.K (funext fun b => ?_)
  fin_cases b <;> apply Fin.ext <;> simp [Rect.emb, Rect.unit] <;> omega

/-- The mask of one tile of keys. -/
theorem run_mkTile {jb r : Nat} {o2 h2} (e2 : o2 = ![jb, r, 0]) {mask : IVec S128x256 1} {vis : S16x512x256.Idx → Prop}
    (hm : ∀ (y : S128x256.Idx) (d : S16x512x256.Idx), (d 0).val = jb → (d 1).val = r + (y 0).val → (d 2).val = (y 1).val →
      (vis d → mask y = 1#1) ∧ (¬vis d → mask y = 0#1)) {k : Pg F PUnit}
    (h : ∀ keys, (∀ d, InTile jb r d → vis d → keys d = s.keys d) → (∀ d, InTile jb r d → ¬vis d → keys d = 2155872255#32) →
      (∀ d, ¬InTile jb r d → keys d = s.keys d) → Runs E k { s with keys := keys } Q) :
    Runs E (mkTile E.arg5 o2 h2 mask k) s Q := by
  subst e2
  unfold mkTile
  apply Runs.ld5
  apply Runs.ld5
  apply Runs.st5
  rw [put_K]
  refine h _ (fun d hd hv => ?_) (fun d hd hv => ?_) fun d hd => dif_neg hd
  · refine (dif_pos hd).trans ?_
    have hh := hd
    obtain ⟨h0, hr, hr'⟩ := hh
    refine (congrArg (fun b => Scalar.select b _ _) ((hm (ix2 (n0 := 128) (n1 := 256) ⟨(d 1).val - r, by omega⟩ (d 2)) d h0
      (by show (d 1).val = r + ((d 1).val - r); omega) rfl).1 hv)).trans ?_
    refine (if_pos rfl).trans ?_
    simp only [pointwise]
    unfold VecWindow.window
    refine congrArg s.keys (funext fun b => ?_)
    fin_cases b <;> apply Fin.ext <;> simp [Rect.emb, Rect.unit] <;> omega
  · refine (dif_pos hd).trans ?_
    have hh := hd
    obtain ⟨h0, hr, hr'⟩ := hh
    exact congrArg (fun b => Scalar.select b _ _) ((hm (ix2 (n0 := 128) (n1 := 256) ⟨(d 1).val - r, by omega⟩ (d 2)) d h0
      (by show (d 1).val = r + ((d 1).val - r); omega) rfl).2 hv)

/-- The reads of 32 tiles of eight positions. -/
theorem run_ldKs {jb r c : Nat} {hjb : jb < 16} {hr : r ≤ 256} {hc : c ≤ 128} {f : (Nat → IVec S8x128 32) → Pg F PUnit}
    (hf : ∀ av : Nat → IVec S8x128 32, (∀ m < 32, ∀ y (d : S16x512x256.Idx), (d 0).val = jb → (d 1).val = r + 8 * m + (y 0).val → (d 2).val = c + (y 1).val → av m y = s.keys d) →
      Runs E (f av) s Q) :
    ∀ (n k : Nat) (hk : k + n ≤ 32) (av : Nat → IVec S8x128 32), k + n = 32 →
      (∀ m < k, ∀ y (d : S16x512x256.Idx), (d 0).val = jb → (d 1).val = r + 8 * m + (y 0).val → (d 2).val = c + (y 1).val → av m y = s.keys d) →
      Runs E (ldKs E.arg5 jb r c hjb hr hc k n hk av f) s Q
  | 0, k, hk, av, e, h => by
    obtain rfl : k = 32 := e
    exact hf av h
  | n + 1, k, hk, av, e, h => by
    unfold ldKs
    refine Runs.ldK fun x hx => run_ldKs hf n (k + 1) _ _ (by omega) fun m hm => ?_
    intro y d a0 a1 a2
    cases Nat.decEq m k with
    | isTrue em => subst em; exact hx y d a0 a1 a2
    | isFalse em => exact h m (by omega) y d a0 a1 a2

/-- An element lies in columns `c` to `c + 127` of group `g`. -/
def InGroup (g c : Nat) (d : S32x32x8x256.Idx) : Prop := (d 1).val = g ∧ c ≤ (d 3).val ∧ (d 3).val < c + 128

/-- The writes of 32 words, one to a plane. -/
theorem run_stPs {g c : Nat} {hg : g < 32} {hc : c ≤ 128} {x : Nat → IVec S8x128 32} {k : Pg F PUnit} {pl₀ : S32x32x8x256.Idx → BitVec 32}
    (hf : ∀ pl, (∀ d, ¬InGroup g c d → pl d = pl₀ d) →
      (∀ d (y : S8x128.Idx), InGroup g c d → (d 2).val = (y 0).val → (d 3).val = c + (y 1).val → pl d = x (31 - (d 0).val) y) → Runs E k { s with planes := pl } Q) :
    ∀ (n w : Nat) (pl : S32x32x8x256.Idx → BitVec 32), w + n = 32 → (∀ d, ¬InGroup g c d → pl d = pl₀ d) →
      (∀ d (y : S8x128.Idx), InGroup g c d → (d 2).val = (y 0).val → (d 3).val = c + (y 1).val → 31 - (d 0).val < w → pl d = x (31 - (d 0).val) y) →
      Runs E (stPs E.arg6 g c hg hc x w n k) { s with planes := pl } Q
  | 0, w, pl, e, h1, h2 => by
    obtain rfl : w = 32 := e
    exact hf pl h1 fun d y hd hy hy' => h2 d y hd hy hy' (by omega)
  | n + 1, w, pl, e, h1, h2 => by
    unfold stPs
    refine Runs.stP (run_stPs hf n (w + 1) _ (by omega) (fun d hd => ?_) fun d y hd hy hy' hw => ?_)
    · exact (dif_neg fun h => hd h.2).trans (h1 d hd)
    · have h0 : (d 0).val < 32 := (d 0).isLt
      by_cases ew : (d 0).val = 31 - w
      · refine (dif_pos (⟨ew, hd⟩ : (d 0).val = 31 - w ∧ InGroup g c d)).trans ?_
        have : 31 - (d 0).val = w := by omega
        rw [this]
        refine congrArg (x w) (funext fun b => ?_)
        fin_cases b <;> apply Fin.ext
        · exact hy
        · show (d 3).val - c = (y 1).val; omega
      · exact (dif_neg fun h => ew h.1).trans (h2 d y hd hy hy' (by omega))

/-- The planes hold the bits of the keys in columns `c` to `c + 127` of group `g`. -/
def PlaneAt (keys : S16x512x256.Idx → BitVec 32) (g c : Nat) (pl : S32x32x8x256.Idx → BitVec 32) : Prop :=
  ∀ i, InGroup g c i → ∀ p < 32, ∀ d : S16x512x256.Idx, 512 * (d 0).val + (d 1).val = 256 * g + (i 2).val + 8 * (31 - p) → (d 2).val = (i 3).val →
    (pl i).getLsbD p = (keys d).getLsbD (i 0).val

/-- One tile of keys made into planes. -/
theorem run_planeTile {jb g r c : Nat} {hjb : jb < 16} {hg : g < 32} {hr : r ≤ 256} {hc : c ≤ 128} (hgr : 512 * jb + r = 256 * g) {k : Pg F PUnit}
    (hk : ∀ pl, (∀ d, ¬InGroup g c d → pl d = s.planes d) → PlaneAt s.keys g c pl → Runs E k { s with planes := pl } Q) :
    Runs E (planeTile E.arg5 E.arg6 jb g r c hjb hg hr hc k) s Q := by
  unfold planeTile
  refine run_ldKs (fun av hav => ?_) 32 0 (by omega) _ rfl fun m hm => absurd hm (Nat.not_lt_zero m)
  refine run_stPs (s := s) (pl₀ := s.planes) (fun pl h1 h2 => hk pl h1 fun i hi p hp d hd hd' => ?_) 32 0 s.planes rfl (fun _ _ => rfl) fun d y _ _ _ hw => absurd hw (Nat.not_lt_zero _)
  have hh := hi
  obtain ⟨e1, e2, e3⟩ := hh
  have i0 : (i 0).val < 32 := (i 0).isLt
  have i2 : (i 2).val < 8 := (i 2).isLt
  have d1 : (d 1).val < 512 := (d 1).isLt
  rw [h2 i (ix2 (n0 := 8) (n1 := 128) (i 2) ⟨(i 3).val - c, by omega⟩) hi rfl (by show (i 3).val = c + ((i 3).val - c); omega),
    transposed_bit av _ (by omega) hp]
  have h31 : 31 - (31 - (i 0).val) = (i 0).val := by omega
  rw [h31]
  refine congrArg (fun x : BitVec 32 => x.getLsbD (i 0).val) (hav (31 - p) (by omega) _ d (by omega) ?_ ?_)
  · show (d 1).val = r + 8 * (31 - p) + (i 2).val
    omega
  · show (d 2).val = c + ((i 3).val - c)
    omega

theorem PlaneAt.keep {keys : S16x512x256.Idx → BitVec 32} {g c g' c' : Nat} {pl pl' : S32x32x8x256.Idx → BitVec 32} (h : PlaneAt keys g c pl)
    (hne : g' ≠ g ∨ (c + 128 ≤ c' ∨ c' + 128 ≤ c)) (hpl : ∀ d, ¬InGroup g' c' d → pl' d = pl d) : PlaneAt keys g c pl' := by
  intro i hi p hp d hd hd'
  rw [hpl i, h i hi p hp d hd hd']
  intro hi'
  obtain ⟨a1, a2, a3⟩ := hi
  obtain ⟨b1, b2, b3⟩ := hi'
  omega

/-- One block of keys made into planes. -/
theorem run_planeBlock {jb g0 g1 : Nat} {hjb : jb < 16} {hg0 : g0 < 32} {hg1 : g1 < 32} (e0 : g0 = 2 * jb) (e1 : g1 = 2 * jb + 1)
    (h : ∀ g < 2 * jb, PlaneAt s.keys g 0 s.planes ∧ PlaneAt s.keys g 128 s.planes) :
    Runs E (planeBlock E.arg5 E.arg6 jb g0 g1 hjb hg0 hg1) s fun s' => s'.keys = s.keys ∧ ∀ g < 2 * (jb + 1), PlaneAt s.keys g 0 s'.planes ∧ PlaneAt s.keys g 128 s'.planes := by
  unfold planeBlock
  refine run_planeTile (by omega) fun pl1 k1 P1 => run_planeTile (by omega) fun pl2 k2 P2 => run_planeTile (by omega) fun pl3 k3 P3 => run_planeTile (by omega) fun pl4 k4 P4 => ?_
  refine Runs.ret ⟨rfl, fun g hg => ?_⟩
  have a1 := ((P1.keep (.inr (by omega)) k2).keep (.inl (by omega)) k3).keep (.inl (by omega)) k4
  have a2 := (P2.keep (.inl (by omega)) k3).keep (.inl (by omega)) k4
  have a3 := P3.keep (.inr (by omega)) k4
  by_cases h0 : g = g0
  · subst h0; exact ⟨a1, a2⟩
  · by_cases h1 : g = g1
    · subst h1; exact ⟨a3, P4⟩
    · have := h g (by omega)
      exact ⟨(((this.1.keep (.inl (by omega)) k1).keep (.inl (by omega)) k2).keep (.inl (by omega)) k3).keep (.inl (by omega)) k4,
        (((this.2.keep (.inl (by omega)) k1).keep (.inl (by omega)) k2).keep (.inl (by omega)) k3).keep (.inl (by omega)) k4⟩

/-- The active bits of a group below or from the limit on. -/
theorem init_tile {n g : Nat} (hn : n ≤ 16) (hg : g < 32) :
    addi (broadcast S8x256 0#32) (broadcast S8x256 (Scalar.select (Scalar.cmpi .sgt (BitVec.ofNat 32 (2 * n)) (BitVec.ofNat 32 g)) 4294967295#32 0#32))
      = tile (fun _ t => decide (t < 512 * n)) g := by
  funext y
  apply eq_word
  intro p hp
  have hr : row8 y < 8 := (y 0).isLt
  show (0#32 + Scalar.select (BitVec.ofBool (BitVec.slt (BitVec.ofNat 32 g) (BitVec.ofNat 32 (2 * n)))) 4294967295#32 0#32).getLsbD p = _
  rw [slt_ofNat (by omega) (by omega), BitVec.zero_add]
  by_cases h : g < 2 * n
  · rw [decide_eq_true h]
    exact (getLsbD_ones hp).trans (decide_eq_true (show 256 * g + row8 y + 8 * (31 - p) < 512 * n by omega)).symm
  · rw [decide_eq_false h]
    exact getLsbD_zero'.trans (decide_eq_false (show ¬256 * g + row8 y + 8 * (31 - p) < 512 * n by omega)).symm

/-- The first active bits of `m` groups. -/
theorem run_initA {n : Nat} (hn : n ≤ 16) {k : Pg F PUnit} {S : Mem} {G : Nat} (hG : G ≤ 32)
    (hk : ∀ a, (∀ g < G, getA a (gi g) = tile (fun _ t => decide (t < 512 * n)) g) → Runs E k { S with act := a } Q) :
    ∀ (m g : Nat) (a : S32x8x256.Idx → BitVec 32), g + m = G → (∀ j < g, getA a (gi j) = tile (fun _ t => decide (t < 512 * n)) j) →
      Runs E (initA E.arg7 (BitVec.ofNat 32 (2 * n)) g m k) { S with act := a } Q
  | 0, g, a, e, h => by
    obtain rfl : g = G := e
    exact hk a h
  | m + 1, g, a, e, h => by
    have hg : g < 32 := by omega
    unfold initA
    refine Runs.ldA (Runs.stA ?_)
    rw [init_tile hn hg]
    refine run_initA hn hG hk m (g + 1) _ (by omega) fun j hj => ?_
    by_cases ej : j = g
    · subst ej; exact getA_setA_same _ _ _
    · exact (getA_setA_ne _ _ _ _ (by rw [gi_val hg, gi_val (by omega)]; exact ej)).trans (h j (by omega))

end Cert.SelectIdeal
-- ==== Proof.Run.lean ====
module

public import proofs.«01_k».proof.Proof.Tiles

@[expose] public section

/-! The run of the body: from its block of keys to the keys and indices of the 256th entries. -/

namespace Cert.SelectIdeal

open Idealize.ShloMosaic Idealize.SL.Sem
open K0.Facts₀ Shapes1.Facts₀ Shapes2.Facts₀

variable [Facts] {F : FTy → Type} [FloatOps F] [∀ e, Nonempty (Elt F e)]

/-- The keys that the queries of a tile see: at a position after the query, the key of minus infinity. -/
def seen (i : grid0.Coords) (K : S1x16x512x256.Idx → BitVec 32) (c : Fin 256) (t : Nat) : BitVec 32 :=
  if t ≤ 256 * (i 1).val + c.val then K (ix4 (n0 := 1) (n1 := 16) (n2 := 512) (n3 := 256) 0 (Fin.ofNat 16 (t / 512)) (Fin.ofNat 512 (t % 512)) c) else 2155872255#32

/-- The position of an element of the copy. -/
def pos (d : S16x512x256.Idx) : Nat := 512 * (d 0).val + (d 1).val

/-- The column of an element of the copy. -/
def colK (d : S16x512x256.Idx) : Fin 256 := d 2

theorem seen_pos (i : grid0.Coords) (K : S1x16x512x256.Idx → BitVec 32) (d : S16x512x256.Idx) :
    seen i K (colK d) (pos d) = if pos d ≤ 256 * (i 1).val + (colK d).val then blockKey K d else 2155872255#32 := by
  have d0 : (d 0).val < 16 := (d 0).isLt
  have d1 : (d 1).val < 512 := (d 1).isLt
  unfold seen blockKey
  refine congrArg (fun x => ite _ x _) (congrArg K (funext fun b => ?_))
  fin_cases b <;> apply Fin.ext
  · rfl
  · show (pos d / 512) % 16 = (d 0).val; unfold pos; omega
  · show (pos d % 512) % 512 = (d 1).val; unfold pos; omega
  · rfl

variable {E : Env F} {s : Mem} {i : grid0.Coords}

/-- The keys of the first `t` blocks are copied. -/
def Copied (K : S1x16x512x256.Idx → BitVec 32) (t : Nat) (s : Mem) : Prop := ∀ d : S16x512x256.Idx, (d 0).val < t → s.keys d = blockKey K d

theorem run_copyBlock (t : Fin (k0_t1_loop i).trips) (h : Copied E.K t.val s) : Runs E (copyBlock i E.arg2 E.arg5 t) s (Copied E.K (t.val + 1)) := by
  unfold copyBlock
  refine run_cpTile (off1_eq i t) (off2_eq i t) fun k1 a1 b1 => run_cpTile (off3_eq i t) (off4_eq i t) fun k2 a2 b2 =>
    run_cpTile (off5_eq i t) (off6_eq i t) fun k3 a3 b3 => run_cpTile (off7_eq i t) (off8_eq i t) fun k4 a4 b4 => Runs.ret fun d hd => ?_
  have d1 : (d 1).val < 512 := (d 1).isLt
  show k4 d = _
  by_cases h4 : InTile t.val 384 d
  · exact a4 d h4
  rw [b4 d h4]; dsimp only
  by_cases h3 : InTile t.val 256 d
  · exact a3 d h3
  rw [b3 d h3]; dsimp only
  by_cases h2 : InTile t.val 128 d
  · exact a2 d h2
  rw [b2 d h2]; dsimp only
  by_cases h1 : InTile t.val 0 d
  · exact a1 d h1
  rw [b1 d h1]
  refine h d ?_
  unfold InTile at h1 h2 h3 h4
  omega

/-- The keys of the first `n` blocks are those seen. -/
def Masked (i : grid0.Coords) (K : S1x16x512x256.Idx → BitVec 32) (s : Mem) : Prop :=
  ∀ d : S16x512x256.Idx, (d 0).val < nkbN i → s.keys d = seen i K (colK d) (pos d)

/-- An element of the copy comes no later than its query. -/
def Vis (i : grid0.Coords) (d : S16x512x256.Idx) : Prop := pos d ≤ 256 * (i 1).val + (colK d).val

instance (i : grid0.Coords) (d : S16x512x256.Idx) : Decidable (Vis i d) := inferInstanceAs (Decidable (_ ≤ _))

theorem mask_vis (u : Fin 4) (y : S128x256.Idx) (d : S16x512x256.Idx) (h0 : (d 0).val = nkbN i - 1) (h1 : (d 1).val = 128 * u.val + (y 0).val) (h2 : (d 2).val = (y 1).val) :
    (Vis i d → maskW i u.val y = 1#1) ∧ (¬Vis i d → maskW i u.val y = 0#1) := by
  have e : Vis i d ↔ 512 * (nkbN i - 1) + 128 * u.val + (y 0).val ≤ 256 * (i 1).val + (y 1).val := by
    unfold Vis pos colK; omega
  rw [e, maskW_apply]
  exact ⟨fun h => if_pos h, fun h => if_neg h⟩

/-- The masks of the last block. -/
theorem run_masks (h : Copied E.K (nkbN i) s) {Q : Mem → Prop} {k : Pg F PUnit} (hk : ∀ s', Masked i E.K s' → Runs E k s' Q) :
    Runs E (mkTile E.arg5 (k0_off17 i) (k0_off17_inb i) (maskW i 0) <| mkTile E.arg5 (k0_off18 i) (k0_off18_inb i) (maskW i 1) <|
      mkTile E.arg5 (k0_off19 i) (k0_off19_inb i) (maskW i 2) <| mkTile E.arg5 (k0_off20 i) (k0_off20_inb i) (maskW i 3) k) s Q := by
  refine run_mkTile (off17_eq i) (mask_vis 0) fun k1 a1 b1 c1 => run_mkTile (off18_eq i) (mask_vis 1) fun k2 a2 b2 c2 =>
    run_mkTile (off19_eq i) (mask_vis 2) fun k3 a3 b3 c3 => run_mkTile (off20_eq i) (mask_vis 3) fun k4 a4 b4 c4 => hk _ fun d hd => ?_
  have d1 : (d 1).val < 512 := (d 1).isLt
  rw [seen_pos]
  show k4 d = if Vis i d then blockKey E.K d else 2155872255#32
  dsimp only at a2 b2 c2 a3 b3 c3 a4 b4 c4
  have hK := h d hd
  have hin : ¬Vis i d → InTile (nkbN i - 1) 0 d ∨ InTile (nkbN i - 1) 128 d ∨ InTile (nkbN i - 1) 256 d ∨ InTile (nkbN i - 1) 384 d := by
    intro hv
    have := nkbN_before i
    unfold Vis pos at hv
    unfold InTile
    have : (d 0).val = nkbN i - 1 := by omega
    omega
  have dis : ∀ r r' : Nat, r + 128 ≤ r' → InTile (nkbN i - 1) r d → ¬InTile (nkbN i - 1) r' d := by
    intro r r' hr h1 h2
    unfold InTile at h1 h2; omega
  by_cases hv : Vis i d
  · rw [if_pos hv, ← hK]
    have e1 : k1 d = s.keys d := by
      by_cases hh : InTile (nkbN i - 1) 0 d
      · exact a1 d hh hv
      · exact c1 d hh
    have e2 : k2 d = k1 d := by
      by_cases hh : InTile (nkbN i - 1) 128 d
      · exact a2 d hh hv
      · exact c2 d hh
    have e3 : k3 d = k2 d := by
      by_cases hh : InTile (nkbN i - 1) 256 d
      · exact a3 d hh hv
      · exact c3 d hh
    have e4 : k4 d = k3 d := by
      by_cases hh : InTile (nkbN i - 1) 384 d
      · exact a4 d hh hv
      · exact c4 d hh
    rw [e4, e3, e2, e1]
  · rw [if_neg hv]
    rcases hin hv with hh | hh | hh | hh
    · rw [c4 d (dis 0 384 (by decide) hh), c3 d (dis 0 256 (by decide) hh), c2 d (dis 0 128 (by decide) hh)]
      exact b1 d hh hv
    · rw [c4 d (dis 128 384 (by decide) hh), c3 d (dis 128 256 (by decide) hh)]
      exact b2 d hh hv
    · rw [c4 d (dis 256 384 (by decide) hh)]
      exact b3 d hh hv
    · exact b4 d hh hv

/-- The planes of the first `t` blocks. -/
def Planed (i : grid0.Coords) (K : S1x16x512x256.Idx → BitVec 32) (t : Nat) (s : Mem) : Prop :=
  Masked i K s ∧ ∀ g < 2 * t, PlaneAt s.keys g 0 s.planes ∧ PlaneAt s.keys g 128 s.planes

/-- The planes of all blocks hold the bits of the keys seen. -/
theorem planesOf_planed (h : Planed i E.K (nkbN i) s) : PlanesOf (seen i E.K) (512 * nkbN i) s.planes := by
  intro b hb g hg hgn y p hp
  have hr : row8 y < 8 := (y 0).isLt
  have hc := (col8 y).isLt
  have hn := nkbN_le i
  obtain ⟨hm, hpl⟩ := h
  have hg2 : g < 2 * nkbN i := by omega
  let idx : S32x32x8x256.Idx := ix4 (n0 := 32) (n1 := 32) (n2 := 8) (n3 := 256) (gi b) (gi g) (y 0) (y 1)
  let t := 256 * g + row8 y + 8 * (31 - p)
  let d : S16x512x256.Idx := ix3 (n0 := 16) (n1 := 512) (n2 := 256) (Fin.ofNat 16 (t / 512)) (Fin.ofNat 512 (t % 512)) (y 1)
  have ht : t = 256 * g + row8 y + 8 * (31 - p) := rfl
  have e0 : (d 0).val = t / 512 := Nat.mod_eq_of_lt (show t / 512 < 16 by omega)
  have e1 : (d 1).val = t % 512 := Nat.mod_eq_of_lt (show t % 512 < 512 by omega)
  have ep : pos d = t := by unfold pos; omega
  have hk : s.keys d = seen i E.K (col8 y) t := by
    rw [hm d (by omega), ep]; rfl
  have hb' : (idx 0).val = b := gi_val hb
  have key : ∀ c, InGroup g c idx → PlaneAt s.keys g c s.planes → (s.planes idx).getLsbD p = (s.keys d).getLsbD b := by
    intro c hi hP
    have := hP idx hi p hp d (by rw [e0, e1]; show _ = 256 * g + row8 y + 8 * (31 - p); omega) rfl
    rw [hb'] at this
    exact this
  have h1 : (idx 1).val = g := gi_val hg
  have h3 : (idx 3).val = (col8 y).val := rfl
  show (s.planes idx).getLsbD p = _
  rw [← ht, ← hk]
  by_cases hcc : (col8 y).val < 128
  · exact key 0 ⟨h1, by omega, by omega⟩ (hpl g hg2).1
  · exact key 128 ⟨h1, by omega, by omega⟩ (hpl g hg2).2

/-- The planes and the active bits of all groups. -/
theorem run_planesAll (h : Masked i E.K s) :
    Runs E (planesAll i E.arg5 E.arg6 E.arg7 fun lim => initA E.arg7 lim 2 30 <| selectAll E.arg3 E.arg4 E.arg6 E.arg7) s
      (Results (seen i E.K) (512 * nkbN i)) := by
  have hn := nkbN_le i
  unfold planesAll
  refine Runs.bind (Runs.loop _ _ _ (k0_t3_ok i) (Planed i E.K) ⟨h, fun g hg => absurd hg (by omega)⟩ fun t s ht => ?_) fun s1 h1 => ?_
  · have hI := iv_all ⟨t.val, t1_lt i t⟩
    refine (run_planeBlock (s := s) ?_ ?_ ?_).mono ?_
    · rw [hI.2.1, hI.1]
    · rw [hI.2.2, hI.1]
    · rw [hI.1]; exact ht.2
    · intro s' hs'
      rw [hI.1] at hs'
      exact ⟨fun d hd => by rw [hs'.1]; exact ht.1 d hd, fun g hg => by rw [hs'.1]; exact hs'.2 g hg⟩
  · have h1' : Planed i E.K (nkbN i) s1 := by
      have e := t3_trips i
      rw [← e]; exact h1
    refine Runs.bind (R := fun s' => s' = s1) (Runs.loop _ _ _ (k0_t4_ok i) (fun _ s' => s' = s1) rfl fun t s _ => ?_) fun s2 h2 => ?_
    · exact absurd t.isLt (by have := t4_trips i; show ¬t.val < (k0_t4_loop i).trips; omega)
    · subst h2
      rw [lim_eq]
      refine run_initA (S := s2) (G := 2) hn (by decide) (fun a ha => ?_) 2 0 s2.act rfl fun j hj => absurd hj (Nat.not_lt_zero j)
      refine run_initA (S := s2) (G := 32) hn (by decide) (fun a ha => ?_) 30 2 a rfl ha
      have := nkbN_pos i
      exact run_selectAll (by omega) (by omega) (planesOf_planed h1') ha

theorem run_zeroPlanes {k : Pg F PUnit} {Q : Mem → Prop} (h : ∀ pl, Runs E k { s with planes := pl } Q) : Runs E (zeroPlanes E.arg6 k) s Q := by
  unfold zeroPlanes
  apply Runs.ld6
  apply Runs.st6
  exact h _

/-- The body runs and leaves the keys and indices of the 256th entries. -/
theorem run_body {h2 h3 h4 h5 h6 h7} (s : Mem) :
    Runs E (cc0_dsa_select i E.arg2 h2 E.arg3 h3 E.arg4 h4 E.arg5 h5 E.arg6 h6 E.arg7 h7) s (Results (seen i E.K) (512 * nkbN i)) := by
  rw [body_eq]
  refine Runs.bind (Runs.loop _ _ _ (k0_t1_ok i) (Copied E.K) (fun d hd => absurd hd (Nat.not_lt_zero _)) fun t s ht => run_copyBlock t ht) fun s1 h1 => ?_
  refine Runs.bind (R := fun s' => s' = s1) (Runs.loop _ _ _ (k0_t2_ok i) (fun _ s' => s' = s1) rfl fun t s _ => ?_) fun s2 h2 => ?_
  · exact absurd t.isLt (by have := t2_trips i; show ¬t.val < (k0_t2_loop i).trips; omega)
  · subst h2
    refine run_masks (by have e := t1_trips i; rw [← e]; exact h1) fun s3 h3 => ?_
    unfold afterMask
    by_cases hf : firstW i = 1#1
    · rw [if_pos hf]
      exact run_zeroPlanes fun pl => run_planesAll (s := { s3 with planes := pl }) h3
    · rw [if_neg hf]
      exact run_planesAll h3

end Cert.SelectIdeal
-- ==== Proof.Rank.lean ====
module

public import proofs.«01_k».proof.Proof.Select
public import Idealize.ShloMosaic.Lib.SortFacts

@[expose] public section

/-! Ranks: the 256th entry is the one that 255 others come before, in the kernel's selection and in a stable sort. -/

namespace Cert.SelectIdeal

open Idealize.ShloMosaic

/-- Entry `t` comes before entry `s`: it is greater, or equal and at a lower index. -/
def Ahead (f : Nat → Nat) (s t : Nat) : Prop := f s < f t ∨ (f t = f s ∧ t < s)

instance (f : Nat → Nat) (s t : Nat) : Decidable (Ahead f s t) := inferInstanceAs (Decidable (_ ∨ _))

/-- How many of the first `n` entries come before entry `s`. -/
def rank (f : Nat → Nat) (n s : Nat) : Nat := cnt₀ (fun t => decide (Ahead f s t)) n

/-- Counting below `s` only. -/
theorem cnt₀_below (P : Nat → Bool) {s N : Nat} (h : s ≤ N) : cnt₀ (fun t => decide (t < s) && P t) N = cnt₀ P s := by
  obtain ⟨k, rfl⟩ := Nat.exists_eq_add_of_le h
  rw [cnt₀_add]
  have h1 : cnt₀ (fun t => decide (t < s) && P t) s = cnt₀ P s := cnt₀_congr fun t ht => by rw [decide_eq_true ht, Bool.true_and]
  have h2 : cnt₀ (fun k => decide (s + k < s) && P (s + k)) k = cnt₀ (fun _ => false) k :=
    cnt₀_congr fun t _ => by rw [decide_eq_false (by omega), Bool.false_and]
  have h3 : cnt₀ (fun _ => false) k = 0 := by unfold cnt₀; simp
  rw [h1, h2, h3, Nat.add_zero]

/-- A smaller property counts less, when one index has the greater and not the smaller. -/
theorem cnt₀_lt {P Q : Nat → Bool} {N : Nat} (h : ∀ t < N, P t = true → Q t = true) {s : Nat} (hs : s < N) (hP : P s = false) (hQ : Q s = true) : cnt₀ P N < cnt₀ Q N := by
  have e : cnt₀ Q N = cnt₀ P N + cnt₀ (fun t => Q t && !P t) N := cnt₀_or fun t ht => by
    have := h t ht
    cases hp : P t <;> cases hq : Q t <;> simp_all
  have : cnt₀ (fun t => Q t && !P t) (s + 1) ≤ cnt₀ (fun t => Q t && !P t) N := cnt₀_mono _ hs
  rw [cnt₀_succ, hP, hQ] at this
  simp at this
  omega

theorem rank_lt (f : Nat → Nat) {n s s' : Nat} (hs' : s' < n) (h : Ahead f s s') : rank f n s' < rank f n s := by
  refine cnt₀_lt (fun t _ ht => ?_) hs' (decide_eq_false ?_) (decide_eq_true h)
  · have ht := of_decide_eq_true ht
    refine decide_eq_true ?_
    unfold Ahead at *; omega
  · unfold Ahead; omega

/-- A rank belongs to one entry only. -/
theorem rank_inj (f : Nat → Nat) {n s s' : Nat} (hs : s < n) (hs' : s' < n) (h : rank f n s = rank f n s') : s = s' := by
  by_contra hne
  have : Ahead f s s' ∨ Ahead f s' s := by unfold Ahead; omega
  rcases this with h' | h'
  · have := rank_lt f hs' h'; omega
  · have := rank_lt f hs h'; omega

/-- The two counts of a cut make up the rank. -/
theorem cut_sum (v : Fin 256 → Nat → BitVec 32) {n : Nat} (c : Fin 256) {s : Nat} (hn : n ≤ 8192) (hs : s < n) :
    cnt₀ (fun t => decide (t < n) && decide (uk v c s < uk v c t)) 8192 + cnt₀ (fun t => decide (t < n) && decide (uk v c t = uk v c s)) s = rank (uk v c) n s := by
  have e1 := cnt₀_below (fun t => decide (Ahead (uk v c) s t)) hn
  have e2 := cnt₀_below (fun t => decide (t < n) && decide (uk v c t = uk v c s)) (show s ≤ 8192 by omega)
  unfold rank
  rw [← e1, ← e2]
  refine (cnt₀_or fun t _ => ?_).symm
  unfold Ahead
  by_cases h1 : t < n <;> by_cases h2 : uk v c s < uk v c t <;> by_cases h3 : uk v c t = uk v c s <;> by_cases h4 : t < s <;>
    simp only [h1, h2, h3, h4, decide_true, decide_false, Bool.true_and, Bool.false_and, Bool.and_true, Bool.and_false, true_or, false_or, or_false, true_and, and_true, and_false, false_and, or_true, Bool.toNat_true, Bool.toNat_false, lt_self_iff_false] <;> omega

/-- The kernel's 256th entry is the one that has 255 before it. -/
theorem cut_iff {v : Fin 256 → Nat → BitVec 32} {n : Nat} {c : Fin 256} {s : Nat} (hn : n ≤ 8192) : Cut v n c s ↔ s < n ∧ rank (uk v c) n s = 255 :=
  ⟨fun h => ⟨h.1, (cut_sum v c hn h.1).symm.trans h.2⟩, fun h => ⟨h.1, (cut_sum v c hn h.1).trans h.2⟩⟩

/-- There is one 256th entry. -/
theorem cut_unique {v : Fin 256 → Nat → BitVec 32} {n : Nat} {c : Fin 256} {s s' : Nat} (hn : n ≤ 8192) (h : Cut v n c s) (h' : Cut v n c s') : s = s' :=
  rank_inj (uk v c) h.1 h'.1 (((cut_iff hn).mp h).2.trans ((cut_iff hn).mp h').2.symm)

/-- The entries from `n` on do not count when none comes before an entry below `n`. -/
theorem rank_extend {f : Nat → Nat} {n N s : Nat} (hn : n ≤ N) (h : ∀ t, n ≤ t → t < N → ¬Ahead f s t) : rank f N s = rank f n s := by
  unfold rank
  rw [← cnt₀_below (fun t => decide (Ahead f s t)) hn]
  refine cnt₀_congr fun t ht => ?_
  by_cases h' : t < n
  · rw [decide_eq_true h', Bool.true_and]
  · rw [decide_eq_false h', Bool.false_and, decide_eq_false (h t (by omega) ht)]

/-- Two keys that agree on the entries below `n` rank them alike. -/
theorem rank_congr {f g : Nat → Nat} {n s : Nat} (hs : s < n) (h : ∀ t < n, f t = g t) : rank f n s = rank g n s := by
  refine cnt₀_congr fun t ht => ?_
  refine decide_eq_decide.mpr ?_
  unfold Ahead
  rw [h t ht, h s hs]

/-! ## A stable sort -/

section
variable {n : Nat} (f : Nat → Nat)

/-- The order of a stable sort, greater first. -/
def Ord (a b : Fin n) : Prop := Ahead f b.val a.val

theorem pairwise_insert (a : Fin n) (l : List (Fin n)) (hl : l.Pairwise (Ord f)) (ha : ∀ b ∈ l, a < b) :
    (insertBefore (fun x y : Fin n => decide (f y.val < f x.val)) a l).Pairwise (Ord f) := by
  induction l with
  | nil => exact List.pairwise_singleton _ _
  | cons b l ih =>
    rw [List.pairwise_cons] at hl
    unfold insertBefore
    split
    · rename_i hba
      have hba := of_decide_eq_true hba
      refine List.pairwise_cons.mpr ⟨fun c hc => ?_, ih hl.2 fun c hc => ha c (List.mem_cons_of_mem _ hc)⟩
      rcases List.mem_cons.mp ((perm_insertBefore _ a l).mem_iff.mp hc) with rfl | hc
      · exact .inl hba
      · exact hl.1 c hc
    · rename_i hba
      have hba : ¬f a.val < f b.val := fun h => hba (decide_eq_true h)
      have hab : a.val < b.val := ha b List.mem_cons_self
      have h1 : Ord f a b := by unfold Ord Ahead; omega
      refine List.pairwise_cons.mpr ⟨fun c hc => ?_, List.pairwise_cons.mpr hl⟩
      rcases List.mem_cons.mp hc with rfl | hc
      · exact h1
      · have h2 := hl.1 c hc
        unfold Ord Ahead at *; omega

theorem pairwise_sort (l : List (Fin n)) (hl : l.Pairwise (· < ·)) :
    (stableSort (fun x y : Fin n => decide (f y.val < f x.val)) l).Pairwise (Ord f) := by
  induction l with
  | nil => exact List.Pairwise.nil
  | cons a l ih =>
    rw [List.pairwise_cons] at hl
    unfold stableSort
    exact pairwise_insert f a _ (ih hl.2) fun b hb => hl.1 b ((perm_stableSort _ l).mem_iff.mp hb)

theorem sortedFrom_ord (i j : Fin n) (hij : i < j) :
    Ord f (sortedFrom (fun x y : Fin n => decide (f y.val < f x.val)) i) (sortedFrom (fun x y : Fin n => decide (f y.val < f x.val)) j) := by
  have hp := List.pairwise_iff_get.mp (pairwise_sort f (List.finRange n) (List.pairwise_lt_finRange n))
  unfold sortedFrom
  exact hp _ _ hij

/-- The entry that a stable sort puts at `k` has `k` before it. -/
theorem rank_sortedFrom (k : Fin n) : rank f n (sortedFrom (fun x y : Fin n => decide (f y.val < f x.val)) k).val = k.val := by
  set σ := sortedFrom (fun x y : Fin n => decide (f y.val < f x.val)) with hσ
  have hinj : Function.Injective σ := sortedFrom_injective _
  have hsurj : Function.Surjective σ := sortedFrom_surjective _
  unfold rank cnt₀
  rw [Finset.sum_range (fun s => (decide (Ahead f (σ k).val s)).toNat), ← Equiv.sum_comp (Equiv.ofBijective σ ⟨hinj, hsurj⟩)]
  have e : ∀ i : Fin n, (decide (Ahead f (σ k).val (Equiv.ofBijective σ ⟨hinj, hsurj⟩ i).val)).toNat = (decide (i.val < k.val)).toNat := by
    intro i
    show (decide (Ahead f (σ k).val (σ i).val)).toNat = _
    refine congrArg Bool.toNat (decide_eq_decide.mpr ⟨fun h => ?_, fun h => sortedFrom_ord f i k h⟩)
    by_contra hik
    rcases Nat.lt_or_ge k.val i.val with h' | h'
    · have := sortedFrom_ord f k i h'
      rw [← hσ] at this
      unfold Ord Ahead at *; omega
    · have : i = k := Fin.ext (by omega)
      subst this
      unfold Ahead at h; omega
  rw [Finset.sum_congr rfl fun i _ => e i, ← Finset.sum_range (fun s => (decide (s < k.val)).toNat)]
  have h1 := cnt₀_below (fun _ => true) (Nat.le_of_lt k.isLt)
  have h2 : cnt₀ (fun _ => true) k.val = k.val := by unfold cnt₀; simp
  rw [h2] at h1
  refine Eq.trans ?_ h1
  unfold cnt₀
  exact Finset.sum_congr rfl fun t _ => by simp only [Bool.and_true]

end

end Cert.SelectIdeal
-- ==== Proof.Frame.lean ====
module

public import proofs.«01_k».proof.Proof.Run
public import proofs.«01_k».proof.Proof.Rank
public import proofs.«01_k».proof.Proof.Gen.SelectIdeal.Frame

@[expose] public section

/-! The whole program's run: every cell of the grid writes the keys and indices of its queries' 256th entries. -/

set_option maxRecDepth 16384

noncomputable section

namespace Cert.SelectIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [∀ e, Nonempty (Elt F e)]

local notation "𝕄" => MT nD τ sig Unit (Elt F) ℕ (UR sig nD τ) ℕ

/-- The position of the 256th entry of a cell's column. -/
def cutPos (v : Fin 256 → Nat → BitVec 32) (n : Nat) (c : Fin 256) : Nat := Classical.epsilon (Cut v n c)

/-- The column of an element of a result's block. -/
def colO (y : S1x1x256.Idx) : Fin 256 := y 2

/-- The block of keys that a cell writes, from its block of scores. -/
def outKey (i : grid0.Coords) (K : S1x16x512x256.Idx → BitVec 32) (y : S1x1x256.Idx) : BitVec 32 :=
  seen i K (colO y) (cutPos (seen i K) (512 * nkbN i) (colO y))

/-- The block of indices that a cell writes. -/
def outIdx (i : grid0.Coords) (K : S1x16x512x256.Idx → BitVec 32) (y : S1x1x256.Idx) : BitVec 32 :=
  BitVec.ofNat 32 (cutPos (seen i K) (512 * nkbN i) (colO y))

theorem ix3_colO (y : S1x1x256.Idx) : ix3 (n0 := 1) (n1 := 1) (n2 := 256) 0 0 (colO y) = y := by
  have h0 : (y 0).val < 1 := (y 0).isLt
  have h1 : (y 1).val < 1 := (y 1).isLt
  funext b
  fin_cases b <;> apply Fin.ext
  · show 0 = (y 0).val; omega
  · show 0 = (y 1).val; omega
  · rfl

/-- What the body's run leaves in the results' blocks. -/
theorem results_eq {i : grid0.Coords} {K : S1x16x512x256.Idx → BitVec 32} {s : Mem} (h : Results (seen i K) (512 * nkbN i) s) :
    s.o3 = outKey i K ∧ s.o4 = outIdx i K := by
  have hn : 512 * nkbN i ≤ 8192 := by have := nkbN_le (i := i); omega
  have key : ∀ y, s.o3 y = outKey i K y ∧ s.o4 y = outIdx i K y := fun y => by
    obtain ⟨t, ht, h3, h4⟩ := h (colO y)
    have e : cutPos (seen i K) (512 * nkbN i) (colO y) = t := cut_unique hn (Classical.epsilon_spec ⟨t, ht⟩) ht
    rw [ix3_colO] at h3 h4
    unfold outKey outIdx
    rw [e]
    exact ⟨h3, h4⟩
  exact ⟨funext fun y => (key y).1, funext fun y => (key y).2⟩

variable (m : (ℓ : Loc nD τ sig) → Buf (Elt F) ℓ) (ρ : Dev nD → PrngReg)

/-- The pipeline's data: every input block is kept, every output block is what the cell computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outKey (grid0.coords t) (iblk m c 0 t)
    | ⟨2, _⟩ => outIdx (grid0.coords t) (iblk m c 0 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = outKey (grid0.coords t) (iblk m c 0 t) := by dsimp only [dats]
theorem after0_2 (c : Dev nD) (t : Fin cfg0.N) : (dats m 0 c).after 2 t = outIdx (grid0.coords t) (iblk m c 0 t) := by dsimp only [dats]
theorem before0_0 (c : Dev nD) (t : Fin cfg0.N) (d) : (dats m 0 c).before 0 t d = iblk m c 0 t :=
  before0_0_of m (dats m 0 c) (A_eq m c 0) (after0_0 m c) t d

/-- The memrefs and the block of keys of the cell at a grid point. -/
def env (c : Dev nD) (t : Fin cfg0.N) : Env F where
  c := c
  arg2 := win0_0.stage (cfg0.slots t 0)
  arg3 := win0_1.stage (cfg0.slots t 1)
  arg4 := win0_2.stage (cfg0.slots t 2)
  arg5 := Memref.whole cc0_scratch0
  arg6 := Memref.whole cc0_scratch1
  arg7 := Memref.whole cc0_scratch2
  K := iblk m c 0 t

/-- The body at a grid point, on what it holds. -/
theorem run_cell (c : Dev nD) (t : Fin cfg0.N) (s : Mem) :
    held (env m c t) s ⊢ wp frame (wpE (defs₀ (F := F)) Variants.none c none) Set.univ (bodyAt0 t)
      (fun _ => iprop(∃ s', ⌜Results (seen (grid0.coords t) (iblk m c 0 t)) (512 * nkbN (grid0.coords t)) s'⌝ ∗ held (env m c t) s')) :=
  run_body (E := env m c t) (i := grid0.coords t) s

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl]
  unfold Pipeline.ΦA
  rw [scopedRest0_eq]
  iintro ⟨⟨⟨⟨%f5, H5⟩, ⟨%f6, H6⟩, ⟨%f7, H7⟩⟩, Hp⟩, Ho, ⟨%d0, H0⟩, ⟨%d1, H1⟩, ⟨%d2, H2⟩⟩
  iapply (wp_wand_r frame (wpE (defs₀ (F := F)) Variants.none (c : Thread nD τ) none) Set.univ (p := bodyAt0 t)
    (Q := fun _ => iprop(∃ s', ⌜Results (seen (grid0.coords t) (iblk m c 0 t)) (512 * nkbN (grid0.coords t)) s'⌝ ∗ held (env m c t) s')))
  isplitl [H0 H1 H2 H5 H6 H7]
  · iapply (run_cell m c t ⟨f5, f6, f7, (dats m 0 c).before 1 t d1, (dats m 0 c).before 2 t d2⟩)
    unfold held own
    dsimp only [env]
    rw [owns_whole, owns_whole, owns_whole]
    isplitl [H0]; · iexact H0
    isplitl [H1]; · iexact H1
    isplitl [H2]; · iexact H2
    isplitl [H5]; · iexact H5
    isplitl [H6]; · iexact H6
    iexact H7
  iintro %u ⟨%s', %hs, H⟩
  obtain ⟨h3, h4⟩ := results_eq hs
  unfold held own
  dsimp only [env]
  rw [owns_whole, owns_whole, owns_whole, h3, h4]
  icases H with ⟨H0, H1, H2, H5, H6, H7⟩
  isplitl [H5 H6 H7 Hp]
  · isplitr [Hp]
    · isplitl [H5]; · iexists _; iexact H5
      isplitl [H6]; · iexists _; iexact H6
      iexists _; iexact H7
    · iexact Hp
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end at what the data say, every other buffer at what the host lines after the call leave, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- The frame: the argument ends unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_with_sems (frame_of m ρ (dats m) (A_eq m)) (run_main m ρ)

end Cert.SelectIdeal

end
-- ==== Proof.Exact.lean ====
module

public import proofs.«01_k».proof.Defs
public import proofs.«01_k».proof.Proof.Frame
public import proofs.«01_k».proof.Proof.Gen.Select.Frame

@[expose] public section

/-! The frame at the bit-exact instance: the selection is printed twice, and the two programs are one. -/

noncomputable section

namespace Cert.Proof

open Idealize.ShloMosaic Idealize.SL.Sem

/-- The two printings of the body table are one. -/
theorem defs₀_eq : Cert.Select.defs₀ (F := Bits) = Cert.SelectIdeal.defs₀ (F := Bits) := by
  unfold Cert.Select.defs₀ Cert.SelectIdeal.defs₀
  refine congrArg (Defs.onTc (nD := Cert.SelectIdeal.nD) (τ := Cert.SelectIdeal.τ) (sig := Cert.SelectIdeal.sig) (Val := Elt Bits) (Λ := Cert.SelectIdeal.Λ₀)) (funext fun l => funext fun a => ?_)
  match l, a with
  | 0, (t, s) => rfl
  | ⟨_ + 1, h⟩, _ => exact absurd h (Nat.not_lt.2 (Nat.le_add_left _ _))

/-- So are the two tables with the pipeline's entries. -/
theorem defs_eq : Cert.Select.defs (F := Bits) = Cert.SelectIdeal.defs (F := Bits) :=
  congrArg (Pipeline.defs (Cert.SelectIdeal.pcfgs (F := Bits))) defs₀_eq

/-- The selection at the bit-exact instance runs, leaves its argument as it was and every counter at zero. -/
theorem frame_select : Cert.quiescent_Select := fun m ρ _ => by
  rw [defs_eq]
  exact Cert.SelectIdeal.frame_run (F := Bits) m ρ

end Cert.Proof

end
-- ==== Proof.Order.lean ====
module

public import Idealize.ShloMosaic.PureOps.Float

@[expose] public section

/-! Signed order: a word with its sign bit flipped, read as a natural number, is the signed word moved up. -/

namespace Cert.SelectIdeal

open Idealize.ShloMosaic

/-- The place of a word in the signed order. -/
def ordk (w : BitVec 32) : Nat := (w ^^^ 2147483648#32).toNat

theorem xor_low (x : Nat) (h : x < 2147483648) : x ^^^ 2147483648 = 2147483648 + x := by
  refine Nat.eq_of_testBit_eq fun j => ?_
  rw [Nat.testBit_xor, show (2147483648 : Nat) = 2 ^ 31 from rfl, Nat.testBit_two_pow]
  rcases Nat.lt_trichotomy j 31 with hj | hj | hj
  · rw [Nat.testBit_two_pow_add_gt hj, decide_eq_false (by omega), Bool.xor_false]
  · subst hj
    rw [Nat.testBit_two_pow_add_eq, decide_eq_true rfl, Bool.xor_true]
  · have h2 : 2 ^ 32 ≤ 2 ^ j := Nat.pow_le_pow_right (by omega) hj
    rw [Nat.testBit_lt_two_pow (by omega), Nat.testBit_lt_two_pow (by omega), decide_eq_false (by omega)]
    rfl

theorem ordk_eq (w : BitVec 32) : ordk w = if w.toNat < 2147483648 then w.toNat + 2147483648 else w.toNat - 2147483648 := by
  have hw : w.toNat < 4294967296 := w.isLt
  have e : ordk w = w.toNat ^^^ 2147483648 := BitVec.toNat_xor w 2147483648#32
  rw [e]
  split
  · rename_i h
    rw [xor_low _ h, Nat.add_comm]
  · rename_i h
    have h1 := xor_low (w.toNat - 2147483648) (by omega)
    have h2 : 2147483648 + (w.toNat - 2147483648) = w.toNat := by omega
    rw [h2] at h1
    rw [← h1, Nat.xor_assoc, Nat.xor_self, Nat.xor_zero]
    rw [h1]

theorem toInt_ordk (w : BitVec 32) : w.toInt = (ordk w : Int) - 2147483648 := by
  have hw : w.toNat < 4294967296 := w.isLt
  rw [ordk_eq, BitVec.toInt_eq_toNat_cond]
  split <;> split <;> omega

/-- The signed order of words is the order of their places. -/
theorem sgt_iff (x y : BitVec 32) : (IntOp.cmpi .sgt x y == 1#1) = decide (ordk y < ordk x) := by
  show (BitVec.ofBool (BitVec.slt y x) == 1#1) = _
  have e : BitVec.slt y x = decide (ordk y < ordk x) := by
    unfold BitVec.slt
    refine decide_eq_decide.mpr ?_
    rw [toInt_ordk, toInt_ordk]
    omega
  rw [e]
  cases decide (ordk y < ordk x) <;> rfl

theorem sge_iff (x y : BitVec 32) : IntOp.cmpi .sge x y = 1#1 ↔ ordk y ≤ ordk x := by
  show BitVec.ofBool (BitVec.sle y x) = 1#1 ↔ _
  have e : BitVec.sle y x = decide (ordk y ≤ ordk x) := by
    unfold BitVec.sle
    refine decide_eq_decide.mpr ?_
    rw [toInt_ordk, toInt_ordk]
    omega
  rw [e]
  by_cases h : ordk y ≤ ordk x
  · rw [decide_eq_true h]; exact ⟨fun _ => h, fun _ => rfl⟩
  · rw [decide_eq_false h]; exact ⟨fun h' => absurd h' (by decide), fun h' => absurd h' h⟩

/-- A comparison of two small indices, as words. -/
theorem sle_index {a b : Nat} (ha : a < 8192) (hb : b < 8192) : IntOp.cmpi .sle (BitVec.ofNat 32 a) (BitVec.ofNat 32 b) = BitVec.ofBool (decide (a ≤ b)) := by
  show BitVec.ofBool (BitVec.sle _ _) = _
  refine congrArg BitVec.ofBool ?_
  unfold BitVec.sle
  refine decide_eq_decide.mpr ?_
  rw [toInt_ordk, toInt_ordk, ordk_eq, ordk_eq, BitVec.toNat_ofNat, BitVec.toNat_ofNat, Nat.mod_eq_of_lt (by omega), Nat.mod_eq_of_lt (by omega), if_pos (by omega), if_pos (by omega)]
  omega

end Cert.SelectIdeal
-- ==== Proof.Sorted.lean ====
module

public import proofs.«01_k».proof.Proof.Order
public import proofs.«01_k».proof.Proof.Rank
public import proofs.«01_k».proof.Proof.Gen.SelectReferenceIdeal.Run
public import Idealize.ShloMosaic.Lib.Pointwise.Index
public import Idealize.ShloMosaic.Lib.Pointwise.Reshape

@[expose] public section

/-! The reference: the 256th entry of a row is the one that a stable sort, greater first, puts at place 255. -/

noncomputable section

namespace Cert.SelectReferenceIdeal

open Idealize.ShloMosaic Idealize.ShloMosaic.TcCoe Idealize.SL.Sem
open Cert.SelectIdeal (ordk sgt_iff sle_index rank rank_sortedFrom)

/-- The row of keys that a query sees: at a position after the query, the key of minus infinity. -/
def row (X : S2x8192x8192.Idx → BitVec 32) (b : Fin 2) (q : Fin 8192) (t : Nat) : BitVec 32 :=
  if t ≤ q.val then X (ix3 (n0 := 2) (n1 := 8192) (n2 := 8192) b q (Fin.ofNat 8192 t)) else 2155872255#32

/-- The place of a key of that row in the signed order. -/
def rowk (X : S2x8192x8192.Idx → BitVec 32) (b : Fin 2) (q : Fin 8192) (t : Nat) : Nat := ordk (row X b q t)

/-- The position of the row's 256th entry. -/
def entry (X : S2x8192x8192.Idx → BitVec 32) (b : Fin 2) (q : Fin 8192) : Fin 8192 :=
  sortedFrom (fun k k' : Fin 8192 => decide (rowk X b q k'.val < rowk X b q k.val)) ⟨255, by omega⟩

/-- It has 255 before it. -/
theorem rank_entry (X : S2x8192x8192.Idx → BitVec 32) (b : Fin 2) (q : Fin 8192) : rank (rowk X b q) 8192 (entry X b q).val = 255 :=
  rank_sortedFrom (rowk X b q) ⟨255, by omega⟩

/-- A top-k's place in the array that it sorts. -/
def big (y : S2x8192x256.Idx) : S2x8192x8192.Idx := ix3 (n0 := 2) (n1 := 8192) (n2 := 8192) (y 0) (y 1) (Fin.castLE (by decide : 256 ≤ 8192) (y 2 : Fin 256))

/-- The position that a top-k puts at an index. -/
def topPos (x : S2x8192x8192.Idx → BitVec 32) (y : S2x8192x256.Idx) : Fin 8192 :=
  sortedFrom (fun k k' : Fin 8192 => IntOp.cmpi .sgt (x ((big y).along 2 k)) (x ((big y).along 2 k')) == 1#1) (big y 2)

theorem slice_big (x : S2x8192x8192.Idx → BitVec 32) (h) (y : S2x8192x256.Idx) :
    extractStridedSlice S2x8192x256 (fun _ => 0) x h y = x (big y) := by
  refine congrArg x (funext fun a => ?_)
  fin_cases a <;> apply Fin.ext
  · exact Nat.zero_add _
  · exact Nat.zero_add _
  · exact Nat.zero_add _

/-- The sort of an array along its last axis, greater first, with the positions carried. -/
def sorted (x : S2x8192x8192.Idx → BitVec 32) : (S2x8192x8192.Idx → BitVec 32) × (S2x8192x8192.Idx → BitVec 32) :=
  Host.sort2 S2x8192x8192 2 (fun l r => IntOp.cmpi .sgt l.1 r.1) x
    (fun i => if hd : 2 < S2x8192x8192.rank then iotaInDim S2x8192x8192 32 ⟨2, hd⟩ i else 0#32)

theorem topK_val (x : S2x8192x8192.Idx → BitVec 32) (h) (y : S2x8192x256.Idx) :
    (Host.topK S2x8192x256 2 (IntOp.cmpi .sgt) x h).1 y = x ((big y).along 2 (topPos x y)) := by
  show extractStridedSlice S2x8192x256 (fun _ => 0) (sorted x).1 h y = _
  rw [slice_big]
  unfold sorted Host.sort2
  rw [dif_pos (by decide)]
  rfl

theorem along_last (j : S2x8192x8192.Idx) (k : Fin 8192) : (j.along 2 k : S2x8192x8192.Idx) 2 = k :=
  Function.update_self (β := fun a : Fin 3 => Fin (S2x8192x8192.size a)) 2 k j

theorem topK_idx (x : S2x8192x8192.Idx → BitVec 32) (h) (y : S2x8192x256.Idx) :
    (Host.topK S2x8192x256 2 (IntOp.cmpi .sgt) x h).2 y = BitVec.ofNat 32 (topPos x y).val := by
  show extractStridedSlice S2x8192x256 (fun _ => 0) (sorted x).2 h y = _
  rw [slice_big]
  unfold sorted Host.sort2
  rw [dif_pos (by decide)]
  show (if hd : 2 < S2x8192x8192.rank then iotaInDim S2x8192x8192 32 ⟨2, hd⟩ ((big y).along 2 (topPos x y)) else 0#32) = _
  rw [dif_pos (by decide)]
  show BitVec.ofNat 32 (((big y).along 2 (topPos x y)) 2).val = _
  rw [along_last]

/-! ## The masked rows -/

open Facts₀
variable [Facts]

/-- The rows as the reference masks them: at a position after the query, the key of minus infinity. -/
abbrev masked (X : S2x8192x8192.Idx → BitVec 32) : S2x8192x8192.Idx → BitVec 32 :=
  select (broadcastInDim S2x8192x8192 ![0, 1, 2] bcast_S1x8192x8192_S2x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) X (broadcastInDim S2x8192x8192 ![] bcast_S_S2x8192x8192 (id (constantI S_ 32 2155872255#32)))

theorem masked_apply (X : S2x8192x8192.Idx → BitVec 32) (b : Fin 2) (q t : Fin 8192) :
    masked X (ix3 (n0 := 2) (n1 := 8192) (n2 := 8192) b q t) = row X b q t.val := by
  have hq : q.val < 8192 := q.isLt
  have ht : t.val < 8192 := t.isLt
  have et : Fin.ofNat 8192 t.val = t := Fin.ext (Nat.mod_eq_of_lt ht)
  unfold row
  rw [et]
  have e := sle_index ht hq
  show (if IntOp.cmpi .sle (BitVec.ofNat 32 t.val) (BitVec.ofNat 32 q.val) = 1#1 then X (ix3 (n0 := 2) (n1 := 8192) (n2 := 8192) b q t) else 2155872255#32) = _
  rw [e]
  by_cases h : t.val ≤ q.val
  · rw [decide_eq_true h, if_pos h]; rfl
  · rw [decide_eq_false h, if_neg h]; rfl

theorem along_ix (b : Fin 2) (q k₀ k : Fin 8192) :
    ((ix3 (n0 := 2) (n1 := 8192) (n2 := 8192) b q k₀ : S2x8192x8192.Idx).along 2 k : S2x8192x8192.Idx) = ix3 (n0 := 2) (n1 := 8192) (n2 := 8192) b q k := by
  funext a
  unfold Shape.Idx.along
  fin_cases a
  · exact Function.update_of_ne (by decide) _ _
  · exact Function.update_of_ne (by decide) _ _
  · exact Function.update_self _ _ _

/-- Place 255 of the query's row of the top-k. -/
abbrev last (b : Fin 2) (q : Fin 8192) : S2x8192x256.Idx := ix3 (n0 := 2) (n1 := 8192) (n2 := 256) b q ⟨255, by omega⟩

theorem topPos_last (X : S2x8192x8192.Idx → BitVec 32) (b : Fin 2) (q : Fin 8192) : topPos (masked X) (last b q) = entry X b q := by
  have e : ∀ k : Fin 8192, masked X ((big (last b q)).along 2 k) = row X b q k.val := fun k =>
    (congrArg (masked X) (along_ix b q _ k)).trans (masked_apply X b q k)
  have h : (fun k k' : Fin 8192 => IntOp.cmpi .sgt (masked X ((big (last b q)).along 2 k)) (masked X ((big (last b q)).along 2 k')) == 1#1)
      = fun k k' : Fin 8192 => decide (rowk X b q k'.val < rowk X b q k.val) := by
    funext k k'
    rw [e, e, sgt_iff]
    rfl
  unfold topPos entry
  rw [h]
  rfl

theorem val_last (X : S2x8192x8192.Idx → BitVec 32) (h) (b : Fin 2) (q : Fin 8192) :
    (Host.topK S2x8192x256 2 (IntOp.cmpi .sgt) (masked X) h).1 (last b q) = row X b q (entry X b q).val := by
  rw [topK_val, topPos_last]
  exact (congrArg (masked X) (along_ix b q _ _)).trans (masked_apply X b q _)

theorem idx_last (X : S2x8192x8192.Idx → BitVec 32) (h) (b : Fin 2) (q : Fin 8192) :
    (Host.topK S2x8192x256 2 (IntOp.cmpi .sgt) (masked X) h).2 (last b q) = BitVec.ofNat 32 (entry X b q).val := by
  rw [topK_idx, topPos_last]

/-- What the reference reads off a top-k: place 255 of every row. -/
theorem read_last (Y : S2x8192x256.Idx → BitVec 32) (h1) (h2) (b : Fin 2) (q : Fin 8192) :
    shapeCast S2x8192 (extractStridedSlice S2x8192x1 ![0, 0, 255] Y h1) h2 (ix2 (n0 := 2) (n1 := 8192) b q) = Y (last b q) := by
  simp only [pointwise]
  refine congrArg Y (funext fun a => ?_)
  fin_cases a <;> apply Fin.ext
  · exact Nat.zero_add _
  · exact Nat.zero_add _
  · rfl

end Cert.SelectReferenceIdeal

end
-- ==== Proof.Arrays.lean ====
module

public import proofs.«01_k».proof.Proof.Frame
public import proofs.«01_k».proof.Proof.Sorted
public import Idealize.ShloMosaic.Lib.Pipeline.ValueKit
public import Idealize.ShloMosaic.Lib.Pipeline.Covers

@[expose] public section

/-! The kernel's results: each query's is the 256th entry of its row. -/

set_option maxRecDepth 16384

noncomputable section

namespace Cert.SelectIdeal

open Idealize.ShloMosaic Idealize.ShloMosaic.TcCoe
open Idealize.SL Idealize.SL.Sem
open Idealize.ShloMosaic.Pipeline (Dat Cfg Window)
open Gen
open Cert.SelectReferenceIdeal (row rowk entry rank_entry)

/-- A cell's cut is the row's 256th entry, when no key is below the fill and the positions from `n` on hold the fill. -/
theorem cutPos_of_rank {v : Fin 256 → Nat → BitVec 32} {n : Nat} {c : Fin 256} {g : Nat → Nat} {low : Nat} (hn : 256 ≤ n) (hn' : n ≤ 8192)
    (hv : ∀ t < n, uk v c t = g t) (hlow : ∀ t < 8192, low ≤ g t) (hfill : ∀ t, n ≤ t → t < 8192 → g t = low)
    {e : Nat} (he : e < 8192) (hr : rank g 8192 e = 255) : cutPos v n c = e := by
  have hen : e < n := by
    by_contra h
    have h1 : cnt₀ (fun t => decide (Ahead g e t)) n = cnt₀ (fun _ => true) n := cnt₀_congr fun t ht => decide_eq_true (by
      have h2 := hfill e (by omega) he
      have h3 := hlow t (by omega)
      unfold Ahead; omega)
    have h2 : cnt₀ (fun _ => true) n = n := by unfold cnt₀; simp
    have h3 := cnt₀_mono (fun t => decide (Ahead g e t)) hn'
    unfold rank at hr
    omega
  have h1 : rank g 8192 e = rank g n e := rank_extend hn' fun t h1 h2 => by
    have h3 := hfill t h1 h2
    have h4 := hlow e he
    unfold Ahead; omega
  have h2 : rank (uk v c) n e = 255 := (rank_congr hen hv).trans (h1.symm.trans hr)
  have hc : Cut v n c e := (cut_iff hn').mpr ⟨hen, h2⟩
  exact cut_unique hn' (Classical.epsilon_spec ⟨e, hc⟩) hc

variable {F : FTy → Type} [FloatOps F] [∀ e, Nonempty (Elt F e)]
variable (m : (ℓ : Loc nD τ sig) → Buf (Elt F) ℓ)

/-- The keys that the kernel is given. -/
abbrev keysOf (c : Dev nD) : Cert.SelectReferenceIdeal.S2x8192x8192.Idx → BitVec 32 := m ((c : Thread nD τ).loc main_arg0)

/-- The array of keys that the grid's blocks are cut from, as the host lines before the call leave it. -/
theorem V_main_v1 (c : Dev nD) : V m c main_v1 = shapeCast S2x16x512x8192 (transpose S2x8192x8192 [0, 2, 1] (keysOf m c) transposes_S2x8192x8192_S2x8192x8192_0_2_1) shapeCasts_S2x8192x8192_S2x16x512x8192 := by
  unfold V V0 hostOps0
  after_results
  rfl

/-- Its elements: positions before queries, positions in blocks of 512. -/
theorem V_main_v1_apply (c : Dev nD) (b : Fin 2) (a : Fin 16) (s : Fin 512) (q : Fin 8192) :
    V m c main_v1 (ix4 (n0 := 2) (n1 := 16) (n2 := 512) (n3 := 8192) b a s q)
      = keysOf m c (ix3 (n0 := 2) (n1 := 8192) (n2 := 8192) b q ⟨512 * a.val + s.val, by omega⟩) := by
  rw [V_main_v1]
  simp only [pointwise]
  refine congrArg (fun k : Fin 8192 => keysOf m c (ix3 (n0 := 2) (n1 := 8192) (n2 := 8192) b q k)) (Fin.ext ?_)
  show a.val * 512 + s.val = 512 * a.val + s.val
  omega

/-- The blocks that the windows take at a grid point. -/
theorem index0 : ∀ t : Fin cfg0.N, win0_0.index t = ![(grid0.coords t 0).val, 0, 0, (grid0.coords t 1).val] :=
  (by decide +kernel : ∀ t : Fin grid0.N, win0_0.index t = ![(grid0.coords t 0).val, 0, 0, (grid0.coords t 1).val])
theorem index1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem index2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])

/-- A grid point's batch and, in it, a column's query. -/
def batch (t : Fin cfg0.N) : Fin 2 := grid0.coords t 0
def query (t : Fin cfg0.N) (k : Fin 256) : Fin 8192 := ⟨256 * (grid0.coords t 1).val + k.val, by have := i1_lt (grid0.coords t); omega⟩

/-- A grid point's block of keys. -/
theorem iblk_apply (c : Dev nD) (t : Fin cfg0.N) (a : Fin 16) (s : Fin 512) (k : Fin 256) :
    (iblk m c 0 t : S1x16x512x256.Idx → BitVec 32) (ix4 (n0 := 1) (n1 := 16) (n2 := 512) (n3 := 256) 0 a s k)
      = keysOf m c (ix3 (n0 := 2) (n1 := 8192) (n2 := 8192) (batch t) (query t k) ⟨512 * a.val + s.val, by omega⟩) := by
  rw [← V_main_v1_apply]
  blk_simp [iblk]
  refine congrArg (V m c main_v1) ?_
  funext x
  have e := index0 t
  fin_cases x <;> apply Fin.ext <;> blk_simp [e]
  · rfl
  · rfl
  · rfl
  · show (grid0.coords t 1).val * 256 + k.val = 256 * (grid0.coords t 1).val + k.val; omega

/-- What a column of a grid point sees is its query's row. -/
theorem seen_row (c : Dev nD) (t : Fin cfg0.N) (k : Fin 256) {p : Nat} (hp : p < 8192) :
    seen (grid0.coords t) (iblk m c 0 t) k p = row (keysOf m c) (batch t) (query t k) p := by
  unfold seen row
  refine congrArg (fun x => ite _ x _) ((iblk_apply m c t _ _ k).trans (congrArg (fun k' : Fin 8192 => keysOf m c (ix3 (n0 := 2) (n1 := 8192) (n2 := 8192) (batch t) (query t k) k')) (Fin.ext ?_)))
  show 512 * (p / 512 % 16) + p % 512 % 512 = p % 8192
  omega

/-- No key is below the key of minus infinity. -/
def NoneBelow (X : Cert.SelectReferenceIdeal.S2x8192x8192.Idx → BitVec 32) : Prop := ∀ j, ordk 2155872255#32 ≤ ordk (X j)

/-- A grid point finds its query's 256th entry. -/
theorem cell_cut (c : Dev nD) (hpre : NoneBelow (keysOf m c)) (t : Fin cfg0.N) (k : Fin 256) :
    cutPos (seen (grid0.coords t) (iblk m c 0 t)) (512 * nkbN (grid0.coords t)) k = (entry (keysOf m c) (batch t) (query t k)).val := by
  have hp := nkbN_pos (grid0.coords t)
  have hl := nkbN_le (grid0.coords t)
  have hr := nkbN_reach (grid0.coords t)
  refine cutPos_of_rank (g := rowk (keysOf m c) (batch t) (query t k)) (low := ordk 2155872255#32) (by omega) (by omega) (fun p hp => ?_) (fun p _ => ?_) (fun p h1 _ => ?_)
    (Fin.isLt _) (rank_entry _ _ _)
  · exact congrArg ordk (seen_row m c t k (by omega))
  · unfold rowk row
    split
    · exact hpre _
    · exact Nat.le_refl _
  · unfold rowk row
    rw [if_neg]
    show ¬p ≤ 256 * (grid0.coords t 1).val + k.val
    omega

/-- The keys of all queries' 256th entries. -/
def G1 (X : Cert.SelectReferenceIdeal.S2x8192x8192.Idx → BitVec 32) (y : S2x1x8192.Idx) : BitVec 32 := row X (y 0) (y 2) (entry X (y 0) (y 2)).val

/-- The positions of all queries' 256th entries. -/
def G2 (X : Cert.SelectReferenceIdeal.S2x8192x8192.Idx → BitVec 32) (y : S2x1x8192.Idx) : BitVec 32 := BitVec.ofNat 32 (entry X (y 0) (y 2)).val

/-- Where the elements of a grid point's blocks of results lie. -/
theorem emb1 (t : Fin cfg0.N) (y : S1x1x256.Idx) : ((win0_1.blk t).view.emb y : S2x1x8192.Idx) 0 = batch t ∧ ((win0_1.blk t).view.emb y : S2x1x8192.Idx) 2 = query t (colO y) := by
  have e := index1 t
  refine ⟨Fin.ext ?_, Fin.ext ?_⟩ <;> blk_simp [e]
  · rfl
  · show (grid0.coords t 1).val * 256 + (y 2).val = 256 * (grid0.coords t 1).val + (y 2).val; omega
theorem emb2 (t : Fin cfg0.N) (y : S1x1x256.Idx) : ((win0_2.blk t).view.emb y : S2x1x8192.Idx) 0 = batch t ∧ ((win0_2.blk t).view.emb y : S2x1x8192.Idx) 2 = query t (colO y) := by
  have e := index2 t
  refine ⟨Fin.ext ?_, Fin.ext ?_⟩ <;> blk_simp [e]
  · rfl
  · show (grid0.coords t 1).val * 256 + (y 2).val = 256 * (grid0.coords t 1).val + (y 2).val; omega

/-- The array of keys after the call. -/
theorem final1 (c : Dev nD) (hpre : NoneBelow (keysOf m c)) : (dats m 0 c).arrAt 1 cfg0.N = G1 (keysOf m c) := by
  refine (dats m 0 c).arrAt_eq_of_covers 1 _ (by decide +kernel) fun t hf y => ?_
  blk_simp
  rw [after0_1]
  unfold outKey
  rw [cell_cut m c hpre, seen_row m c t _ (Fin.isLt _)]
  have h := emb1 t y
  unfold G1
  rw [h.1, h.2]

/-- The array of positions after the call. -/
theorem final2 (c : Dev nD) (hpre : NoneBelow (keysOf m c)) : (dats m 0 c).arrAt 2 cfg0.N = G2 (keysOf m c) := by
  refine (dats m 0 c).arrAt_eq_of_covers 2 _ (by decide +kernel) fun t hf y => ?_
  blk_simp
  rw [after0_2]
  unfold outIdx
  rw [cell_cut m c hpre]
  have h := emb2 t y
  unfold G2
  rw [h.1, h.2]

/-- The results, as the host lines after the call leave them. -/
theorem W_main_v3 (c : Dev nD) : Pipeline.afterTail₀ cfgs (dats m) 0 (V0 m) [hostOps1] c main_v3 = shapeCast S2x8192 ((dats m 0 c).arrAt 1 cfg0.N) shapeCasts_S2x1x8192_S2x8192 := by
  have h : Pipeline.withArrays (cfgs 0).spec c (V0 m c) (fun w => (dats m 0 c).arrAt w (cfgs 0).N) (Proc.devRef .tc main_v2_0) = (dats m 0 c).arrAt 1 cfg0.N :=
    Pipeline.withArrays_arr spec0 launch0.win.arr_inj c (V0 m c) (fun w => (dats m 0 c).arrAt w (cfgs 0).N) 1
  unfold Pipeline.afterTail₀ hostOps1
  rw [← h]
  generalize Pipeline.withArrays (cfgs 0).spec c (V0 m c) (fun w => (dats m 0 c).arrAt w (cfgs 0).N) = W
  simp only [List.flatten_cons, List.flatten_nil, List.append_nil]
  after_results
  rfl
theorem W_main_v4 (c : Dev nD) : Pipeline.afterTail₀ cfgs (dats m) 0 (V0 m) [hostOps1] c main_v4 = shapeCast S2x8192 ((dats m 0 c).arrAt 2 cfg0.N) shapeCasts_S2x1x8192_S2x8192 := by
  have h : Pipeline.withArrays (cfgs 0).spec c (V0 m c) (fun w => (dats m 0 c).arrAt w (cfgs 0).N) (Proc.devRef .tc main_v2_1) = (dats m 0 c).arrAt 2 cfg0.N :=
    Pipeline.withArrays_arr spec0 launch0.win.arr_inj c (V0 m c) (fun w => (dats m 0 c).arrAt w (cfgs 0).N) 2
  unfold Pipeline.afterTail₀ hostOps1
  rw [← h]
  generalize Pipeline.withArrays (cfgs 0).spec c (V0 m c) (fun w => (dats m 0 c).arrAt w (cfgs 0).N) = W
  simp only [List.flatten_cons, List.flatten_nil, List.append_nil]
  after_results
  rfl

/-- The results of the run: every query's 256th entry, its key and its position. -/
theorem run_values (ρ : Dev nD → PrngReg) (hpre : ∀ c : Dev nD, NoneBelow (keysOf m c)) :
    θ_run defs (onTc (τ := τ) (main (F := F))) ⟨m, fun _ => 0, ρ⟩ (fun r => ∀ c : Dev nD,
      r.2.mem ((c.tc : Thread nD τ).loc main_v3) = shapeCast S2x8192 (G1 (keysOf m c)) shapeCasts_S2x1x8192_S2x8192
      ∧ r.2.mem ((c.tc : Thread nD τ).loc main_v4) = shapeCast S2x8192 (G2 (keysOf m c)) shapeCasts_S2x1x8192_S2x8192
      ∧ r.2.mem ((c.tc : Thread nD τ).loc main_arg0) = m ((c.tc : Thread nD τ).loc main_arg0)) :=
  (θ_run defs _ _).mono (fun r h c => by
    obtain ⟨h, -⟩ := h
    refine ⟨?_, ?_, ?_⟩
    · rw [← final1 m c (hpre c), ← W_main_v3]
      exact (h c).2 main_v3 (Pipeline.mem_restRefs_of main_v3 (by decide) (by decide))
    · rw [← final2 m c (hpre c), ← W_main_v4]
      exact (h c).2 main_v4 (Pipeline.mem_restRefs_of main_v4 (by decide) (by decide))
    · exact ((h c).2 main_arg0 (Pipeline.mem_restRefs_of main_arg0 (by decide) (by decide))).trans (W_main_arg0 m (dats m) c)) (run_main m ρ)

/-- The kernel's results at a query. -/
theorem G1_apply (X : Cert.SelectReferenceIdeal.S2x8192x8192.Idx → BitVec 32) (b : Fin 2) (q : Fin 8192) :
    shapeCast S2x8192 (G1 X) shapeCasts_S2x1x8192_S2x8192 (ix2 (n0 := 2) (n1 := 8192) b q) = row X b q (entry X b q).val := by
  simp only [pointwise]
  rfl
theorem G2_apply (X : Cert.SelectReferenceIdeal.S2x8192x8192.Idx → BitVec 32) (b : Fin 2) (q : Fin 8192) :
    shapeCast S2x8192 (G2 X) shapeCasts_S2x1x8192_S2x8192 (ix2 (n0 := 2) (n1 := 8192) b q) = BitVec.ofNat 32 (entry X b q).val := by
  simp only [pointwise]
  rfl

end Cert.SelectIdeal

end
-- ==== Proof.Values.lean ====
module

public import proofs.«01_k».proof.Defs
public import proofs.«01_k».proof.Proof.Arrays
public import proofs.«01_k».proof.Proof.Gen.SelectReferenceIdeal.Run
public import Idealize.ShloMosaic.Lib.ReduceAll

@[expose] public section

/-! The kernel's results are the reference's: both are every row's 256th entry. -/

noncomputable section

namespace Cert.Pre_keys_of_scores

open Idealize.ShloMosaic

/-- The shape facts the precondition states. -/
instance facts : Facts where
  bcast_S_S2x8192x8192 := by decide
  reducesTo_S2x8192x8192_S_d0_1_2 := by decide
  h_S_ := by decide

/-- The precondition says that no key is below the one of minus infinity. -/
theorem noneBelow (X : IVec S2x8192x8192 32) (h : fn (F := Ideal) X = fun _ => 1#1) : Cert.SelectIdeal.NoneBelow X := fun j => by
  haveI : Subsingleton S_.Idx := ⟨fun a b => funext fun i => i.elim0⟩
  have e := Host.reduce_andi_all _ _ _ _ _ (congrFun h fun i => i.elim0) j
  exact (Cert.SelectIdeal.sge_iff _ _).1 e

end Cert.Pre_keys_of_scores

namespace Cert.Proof

open Idealize.ShloMosaic Idealize.SL.Sem
open Cert.SelectReferenceIdeal (masked val_last idx_last read_last)
open Cert.SelectIdeal (keysOf G1 G2 G1_apply G2_apply)

/-- An index of a result is its batch and its query. -/
theorem ix2_eta (y : Cert.SelectIdeal.S2x8192.Idx) : y = ix2 (n0 := 2) (n1 := 8192) (y 0) (y 1) := by
  funext a
  fin_cases a <;> rfl

/-- The keys of the kernel are those of the reference. -/
theorem keys_eq (X : Cert.SelectReferenceIdeal.S2x8192x8192.Idx → BitVec 32) (h) (h1) (h2) :
    shapeCast Cert.SelectReferenceIdeal.S2x8192 (extractStridedSlice Cert.SelectReferenceIdeal.S2x8192x1 ![0, 0, 255]
      (Host.topK Cert.SelectReferenceIdeal.S2x8192x256 2 (IntOp.cmpi .sgt) (masked X) h).1 h1) h2
      = shapeCast Cert.SelectIdeal.S2x8192 (G1 X) Cert.SelectIdeal.Gen.shapeCasts_S2x1x8192_S2x8192 := by
  funext y
  rw [ix2_eta y]
  exact ((read_last _ h1 h2 (y 0) (y 1)).trans (val_last X h (y 0) (y 1))).trans (G1_apply X (y 0) (y 1)).symm

/-- The positions of the kernel are those of the reference. -/
theorem positions_eq (X : Cert.SelectReferenceIdeal.S2x8192x8192.Idx → BitVec 32) (h) (h1) (h2) :
    shapeCast Cert.SelectReferenceIdeal.S2x8192 (extractStridedSlice Cert.SelectReferenceIdeal.S2x8192x1 ![0, 0, 255]
      (Host.topK Cert.SelectReferenceIdeal.S2x8192x256 2 (IntOp.cmpi .sgt) (masked X) h).2 h1) h2
      = shapeCast Cert.SelectIdeal.S2x8192 (G2 X) Cert.SelectIdeal.Gen.shapeCasts_S2x1x8192_S2x8192 := by
  funext y
  rw [ix2_eta y]
  exact ((read_last _ h1 h2 (y 0) (y 1)).trans (idx_last X h (y 0) (y 1))).trans (G2_apply X (y 0) (y 1)).symm

/-- On equal keys, none below the one of minus infinity, the kernel and the reference leave the same results. -/
theorem same_results : Cert.algebraic_SelectIdeal_SelectReferenceIdeal_pre_keys_of_scores := by
  intro m g m' g' hpre hsame
  have hn : ∀ c, Cert.SelectIdeal.NoneBelow (keysOf (F := Ideal) m c) := fun c => Cert.Pre_keys_of_scores.noneBelow _ (hpre c)
  refine ⟨fun c => shapeCast Cert.SelectIdeal.S2x8192 (G1 (keysOf (F := Ideal) m c)) Cert.SelectIdeal.Gen.shapeCasts_S2x1x8192_S2x8192,
    fun c => shapeCast Cert.SelectIdeal.S2x8192 (G2 (keysOf (F := Ideal) m c)) Cert.SelectIdeal.Gen.shapeCasts_S2x1x8192_S2x8192,
    Cert.SelectIdeal.run_values m g hn, ?_⟩
  refine (θ_run Cert.SelectReferenceIdeal.defs _ _).mono (fun r h c => ?_) (Cert.SelectReferenceIdeal.Value.run (F := Ideal) m' g')
  obtain ⟨h1, h2, h3⟩ := h c
  refine ⟨h1.trans ?_, h2.trans ?_, h3⟩
  · rw [hsame c]
    exact keys_eq (keysOf (F := Ideal) m c) _ _ _
  · rw [hsame c]
    exact positions_eq (keysOf (F := Ideal) m c) _ _ _

end Cert.Proof

end
-- ==== Proof.FfnRow.lean ====
module

public import Idealize.ShloMosaic.Lib.ValueIdx
public import Idealize.ShloMosaic.Lib.Pointwise

@[expose] public section

/-! The gated feed-forward layer of one token, over the extended reals. -/

noncomputable section

namespace Cert.FfnRow

open Idealize.ShloMosaic

/-- A row of an array. -/
abbrev rowOf {n m : Nat} (x : Shape.Idx ⟨2, ![n, m]⟩ → EReal) (r : Fin n) (j : Fin m) : EReal := x (ix2 (n0 := n) (n1 := m) r j)

/-- A vector's entries. -/
abbrev vecOf {n : Nat} (x : Shape.Idx ⟨1, ![n]⟩ → EReal) (j : Fin n) : EReal := x (ix1 (n0 := n) j)

/-- A row's normalizing factor: one over the root of its mean square, `10⁻⁶` added. -/
def inv (A : Fin 1024 → EReal) : EReal :=
  Ideal.rsqrt (Ideal.div (∑ k, A k * A k) (Ideal.ofBits .f32 0x44800000#32) + Ideal.ofBits .f32 0x358637BD#32)

/-- A row normalized, each entry times its gain. -/
def norm (A g : Fin 1024 → EReal) (j : Fin 1024) : EReal := A j * inv A * g j

/-- The sigmoid. -/
def logis (x : EReal) : EReal := Ideal.div 1 (1 + Ideal.exp (-x))

/-- A gated unit. -/
def act (g u : EReal) : EReal := g * logis g * u

/-- A unit's share of an output: its gated value times its weight. -/
def term (h wg wu : Fin 1024 → EReal) (w : EReal) : EReal := act (∑ k, h k * wg k) (∑ k, h k * wu k) * w

/-- The mixers' three outputs beside each other. -/
def cat (a : Fin 384 → EReal) (b : Fin 256 → EReal) (c : Fin 384 → EReal) (k : Fin 1024) : EReal :=
  if h1 : k.val < 384 then a ⟨k.val, h1⟩ else if h2 : k.val - 384 < 256 then b ⟨k.val - 384, h2⟩ else c ⟨k.val - 384 - 256, by omega⟩

/-- The residual row after the output projection. -/
def mix (x : Fin 1024 → EReal) (s : Fin 1024 → EReal) (wo : Fin 1024 → Fin 1024 → EReal) (j : Fin 1024) : EReal := x j + ∑ k, s k * wo k j

/-- The feed-forward part. -/
def down (h : Fin 1024 → EReal) (wg wu : Fin 1024 → Fin 2816 → EReal) (wd : Fin 2816 → Fin 1024 → EReal) (j : Fin 1024) : EReal :=
  ∑ f, term h (fun k => wg k f) (fun k => wu k f) (wd f j)

/-- The residual row after the feed-forward part. -/
def resid (x : Fin 1024 → EReal) (g2 : Fin 1024 → EReal) (wg wu : Fin 1024 → Fin 2816 → EReal) (wd : Fin 2816 → Fin 1024 → EReal) (j : Fin 1024) : EReal :=
  x j + down (norm x g2) wg wu wd j

/-- A token's result. -/
def out (x s : Fin 1024 → EReal) (wo : Fin 1024 → Fin 1024 → EReal) (g2 : Fin 1024 → EReal) (wg wu : Fin 1024 → Fin 2816 → EReal)
    (wd : Fin 2816 → Fin 1024 → EReal) (gf : Fin 1024 → EReal) (j : Fin 1024) : EReal :=
  norm (resid (mix x s wo) g2 wg wu wd) gf j

/-- A sum over a range in two parts. -/
theorem sum_two {α : Type} [AddCommMonoid α] (f : Nat → α) (n m : Nat) :
    ∑ k : Fin (n + m), f k.val = (∑ k : Fin n, f k.val) + ∑ k : Fin m, f (n + k.val) := by
  rw [Fin.sum_univ_eq_sum_range f, Fin.sum_univ_eq_sum_range f, Fin.sum_univ_eq_sum_range fun k => f (n + k), Finset.sum_range_add]

/-- The output projection's sum in the three mixers' parts. -/
theorem sum_cat (a : Fin 384 → EReal) (b : Fin 256 → EReal) (c : Fin 384 → EReal) (w : Fin 1024 → EReal) :
    ∑ k, cat a b c k * w k = (∑ k : Fin 384, a k * w ⟨k.val, by omega⟩) + (∑ k : Fin 256, b k * w ⟨384 + k.val, by omega⟩)
      + ∑ k : Fin 384, c k * w ⟨640 + k.val, by omega⟩ := by
  let f : Nat → EReal := fun k => if h : k < 1024 then cat a b c ⟨k, h⟩ * w ⟨k, h⟩ else 0
  have e : ∑ k, cat a b c k * w k = ∑ k : Fin (384 + 256 + 384), f k.val :=
    Finset.sum_congr rfl fun k _ => Eq.symm (show f k.val = _ from dif_pos (show k.val < 1024 from k.isLt))
  rw [e, sum_two, sum_two]
  refine congrArg₂ (· + ·) (congrArg₂ (· + ·) ?_ ?_) ?_ <;> refine Finset.sum_congr rfl fun k _ => ?_
  · refine (dif_pos (show k.val < 1024 by omega)).trans (congrArg (· * _) ?_)
    exact dif_pos k.isLt
  · refine (dif_pos (show 384 + k.val < 1024 by omega)).trans (congrArg (· * _) ?_)
    refine (dif_neg (show ¬384 + k.val < 384 by omega)).trans ((dif_pos (show 384 + k.val - 384 < 256 by omega)).trans (congrArg b (Fin.ext ?_)))
    show 384 + k.val - 384 = k.val
    omega
  · refine (dif_pos (show 384 + 256 + k.val < 1024 by omega)).trans (congrArg (· * _) ?_)
    refine (dif_neg (show ¬384 + 256 + k.val < 384 by omega)).trans ((dif_neg (show ¬384 + 256 + k.val - 384 < 256 by omega)).trans (congrArg c (Fin.ext ?_)))
    show 384 + 256 + k.val - 384 - 256 = k.val
    omega

/-- A sum over the units in eleven chunks of 256. -/
theorem sum_chunks (g : Fin 2816 → EReal) : ∑ f, g f =
    (∑ f : Fin 256, g ⟨0 + f.val, by omega⟩) + (∑ f : Fin 256, g ⟨256 + f.val, by omega⟩) + (∑ f : Fin 256, g ⟨512 + f.val, by omega⟩)
      + (∑ f : Fin 256, g ⟨768 + f.val, by omega⟩) + (∑ f : Fin 256, g ⟨1024 + f.val, by omega⟩) + (∑ f : Fin 256, g ⟨1280 + f.val, by omega⟩)
      + (∑ f : Fin 256, g ⟨1536 + f.val, by omega⟩) + (∑ f : Fin 256, g ⟨1792 + f.val, by omega⟩) + (∑ f : Fin 256, g ⟨2048 + f.val, by omega⟩)
      + (∑ f : Fin 256, g ⟨2304 + f.val, by omega⟩) + (∑ f : Fin 256, g ⟨2560 + f.val, by omega⟩) := by
  let f' : Nat → EReal := fun k => if h : k < 2816 then g ⟨k, h⟩ else 0
  have e : ∑ f, g f = ∑ k : Fin (256 + 256 + 256 + 256 + 256 + 256 + 256 + 256 + 256 + 256 + 256), f' k.val :=
    Finset.sum_congr rfl fun k _ => Eq.symm (show f' k.val = _ from dif_pos (show k.val < 2816 from k.isLt))
  have e' (n : Nat) (hn : n + 256 ≤ 2816) : ∑ f : Fin 256, f' (n + f.val) = ∑ f : Fin 256, g ⟨n + f.val, by omega⟩ :=
    Finset.sum_congr rfl fun k _ => dif_pos (show n + k.val < 2816 by omega)
  have e0 : ∑ f : Fin 256, f' f.val = ∑ f : Fin 256, g ⟨0 + f.val, by omega⟩ := by
    rw [← e' 0 (by omega)]
    exact Finset.sum_congr rfl fun k _ => by rw [Nat.zero_add]
  rw [e]
  simp only [sum_two]
  rw [e0, ← e' 256 (by omega), ← e' 512 (by omega), ← e' 768 (by omega), ← e' 1024 (by omega), ← e' 1280 (by omega), ← e' 1536 (by omega), ← e' 1792 (by omega),
    ← e' 2048 (by omega), ← e' 2304 (by omega), ← e' 2560 (by omega)]

end Cert.FfnRow

end
-- ==== Proof.FfnBlock.lean ====
module

public import proofs.«01_k».proof.Proof.Gen.FfnIdeal.Frame
public import proofs.«01_k».proof.Proof.FfnRow
public import Idealize.ShloMosaic.Lib.Pipeline.ValueKit

@[expose] public section

/-! What the feed-forward kernel computes in a block of 512 tokens, row by row. -/

set_option maxRecDepth 16384

noncomputable section

namespace Cert.FfnIdeal

open Idealize.ShloMosaic Idealize.ShloMosaic.TcCoe
open Gen
open Cert.FfnRow

/-- A chunk of 256 units' part of a row's sum. -/
def part (h : FVec Ideal S512x1024 .bf16) (g u : Vec Ideal S1024x256 .bf16) (d : Vec Ideal S256x1024 .bf16) (r : Fin 512) (j : Fin 1024) : EReal :=
  ∑ f : Fin 256, term (rowOf h r) (fun k => rowOf g k f) (fun k => rowOf u k f) (rowOf d f j)

section
variable (h : FVec Ideal S512x1024 .bf16) (x : FVec Ideal S512x1024 .f32)
variable (g1 g2 g3 g4 g5 g6 g7 g8 g9 g10 g11 u1 u2 u3 u4 u5 u6 u7 u8 u9 u10 u11 : Vec Ideal S1024x256 .bf16)
variable (d1 d2 d3 d4 d5 d6 d7 d8 d9 d10 d11 : Vec Ideal S256x1024 .bf16) (r : Fin 512) (j : Fin 1024)

/-- The residual row after all eleven chunks. -/
theorem chunks_apply :
    k0_pay19 h (k0_pay15 h (k0_pay11 h (k0_pay8 h (k0_pay6 h (k0_pay4 x h g1 u1 d1) (k0_pay5 h g2 u2 d2) g3 u3 d3) (k0_pay7 h g4 u4) d4 g5 u5 d5)
      (k0_pay9 h u6) (k0_pay10 h g6) d6 g7 u7 d7) (k0_pay12 h g8) (k0_pay13 h u8) (k0_pay14 h g8) d8 g9 u9 d9) (k0_pay16 h g10) (k0_pay17 h u10) (k0_pay18 h g10) d10 g11 u11 d11
      (ix2 (n0 := 512) (n1 := 1024) r j)
    = rowOf x r j + part h g1 u1 d1 r j + part h g2 u2 d2 r j + part h g3 u3 d3 r j + part h g4 u4 d4 r j + part h g5 u5 d5 r j + part h g6 u6 d6 r j
      + part h g7 u7 d7 r j + part h g8 u8 d8 r j + part h g9 u9 d9 r j + part h g10 u10 d10 r j + part h g11 u11 d11 r j := by
  unfold k0_pay19 k0_pay15 k0_pay11 k0_pay8 k0_pay6 k0_pay4 k0_pay5 k0_pay7 k0_pay9 k0_pay10 k0_pay14 k0_pay18 k0_pay12 k0_pay13 k0_pay16 k0_pay17
  simp only [pointwise]
  simp only [zero_add, zero_sub, part, term, act, logis, rowOf, pointwise]
end

section
variable (a c : Vec Ideal S512x384 .f32) (w1 w3 : Vec Ideal S384x1024 .bf16) (b : Vec Ideal S512x256 .f32) (w2 : Vec Ideal S256x1024 .bf16)
variable (x : Vec Ideal S512x1024 .f32) (g : Vec Ideal S1x1024 .f32) (r : Fin 512) (j : Fin 1024)

/-- The residual row after the output projection. -/
theorem pay2_apply : k0_pay2 a w1 b w2 c w3 x (ix2 (n0 := 512) (n1 := 1024) r j)
    = rowOf x r j + ((∑ k, rowOf a r k * rowOf w1 k j) + (∑ k, rowOf b r k * rowOf w2 k j) + ∑ k, rowOf c r k * rowOf w3 k j) := by
  unfold k0_pay2
  simp only [pointwise]
  simp only [zero_add, rowOf, pointwise]

/-- That row normalized. -/
theorem pay3_apply : k0_pay3 a w1 b w2 c w3 x g (ix2 (n0 := 512) (n1 := 1024) r j)
    = norm (rowOf (k0_pay2 a w1 b w2 c w3 x) r) (rowOf g 0) j := by
  unfold k0_pay3
  generalize k0_pay2 a w1 b w2 c w3 x = y
  simp only [pointwise]
  rfl
end

section
variable (h : FVec Ideal S512x1024 .bf16) (y : FVec Ideal S512x1024 .f32) (g : Vec Ideal S1x1024 .f32)
variable (q1 q2 q3 : FVec Ideal S512x256 .f32) (g11 u11 : Vec Ideal S1024x256 .bf16) (d10 d11 : Vec Ideal S256x1024 .bf16) (r : Fin 512) (j : Fin 1024)

/-- The last normalization. -/
theorem pay1_apply : k0_pay1 (k0_pay19 h y q1 q2 q3 d10 g11 u11 d11) (k0_pay20 h y q1 q2 q3 d10 g11 u11 d11) g (ix2 (n0 := 512) (n1 := 1024) r j)
    = norm (rowOf (k0_pay19 h y q1 q2 q3 d10 g11 u11 d11) r) (rowOf g 0) j := by
  unfold k0_pay1 k0_pay20
  generalize k0_pay19 h y q1 q2 q3 d10 g11 u11 d11 = z
  simp only [pointwise]
  rfl
end

/-- Offsets of zero. -/
theorem off_zero : (![0, 0] : Fin 2 → Nat) = fun _ => 0 := by funext a; fin_cases a <;> rfl

/-- A chunk of columns of a weight. -/
theorem ld_cols (x : Vec Ideal S1024x2816 .bf16) (o : Nat) (inb : ∀ a, (![0, o] : Fin 2 → Nat) a + S1024x256.size a ≤ S1024x2816.size a) (ho : o + 256 ≤ 2816)
    (k : Fin 1024) (f : Fin 256) :
    View.ld x (Rect.unit (s := S1024x2816) ![0, o] S1024x256.size inb) (ix2 (n0 := 1024) (n1 := 256) k f) = rowOf x k ⟨o + f.val, by omega⟩ := by
  unfold rowOf
  simp only [pointwise]
  refine congrArg x ?_
  idx_ext

/-- A chunk of rows of the down projection's weight. -/
theorem ld_rows (x : Vec Ideal S2816x1024 .bf16) (o : Nat) (inb : ∀ a, (![o, 0] : Fin 2 → Nat) a + S256x1024.size a ≤ S2816x1024.size a) (ho : o + 256 ≤ 2816)
    (f : Fin 256) (j : Fin 1024) :
    View.ld x (Rect.unit (s := S2816x1024) ![o, 0] S256x1024.size inb) (ix2 (n0 := 256) (n1 := 1024) f j) = rowOf x ⟨o + f.val, by omega⟩ j := by
  unfold rowOf
  simp only [pointwise]
  refine congrArg x ?_
  idx_ext

/-- The mixers' parts of the output projection's weight. -/
theorem ld_head (x : Vec Ideal S1024x1024 .bf16) (o : Nat) (inb : ∀ a, (![o, 0] : Fin 2 → Nat) a + S384x1024.size a ≤ S1024x1024.size a) (ho : o + 384 ≤ 1024)
    (f : Fin 384) (j : Fin 1024) :
    View.ld x (Rect.unit (s := S1024x1024) ![o, 0] S384x1024.size inb) (ix2 (n0 := 384) (n1 := 1024) f j) = rowOf x ⟨o + f.val, by omega⟩ j := by
  unfold rowOf
  simp only [pointwise]
  refine congrArg x ?_
  idx_ext
theorem ld_mid (x : Vec Ideal S1024x1024 .bf16) (o : Nat) (inb : ∀ a, (![o, 0] : Fin 2 → Nat) a + S256x1024.size a ≤ S1024x1024.size a) (ho : o + 256 ≤ 1024)
    (f : Fin 256) (j : Fin 1024) :
    View.ld x (Rect.unit (s := S1024x1024) ![o, 0] S256x1024.size inb) (ix2 (n0 := 256) (n1 := 1024) f j) = rowOf x ⟨o + f.val, by omega⟩ j := by
  unfold rowOf
  simp only [pointwise]
  refine congrArg x ?_
  idx_ext

/-- A chunk's part, by the whole weights. -/
theorem part_ld (h : FVec Ideal S512x1024 .bf16) (x6 x7 : Vec Ideal S1024x2816 .bf16) (x8 : Vec Ideal S2816x1024 .bf16) (o : Nat) (inb inb') (ho : o + 256 ≤ 2816) (r : Fin 512) (j : Fin 1024) :
    part h (View.ld x6 (Rect.unit (s := S1024x2816) ![0, o] S1024x256.size inb)) (View.ld x7 (Rect.unit (s := S1024x2816) ![0, o] S1024x256.size inb))
      (View.ld x8 (Rect.unit (s := S2816x1024) ![o, 0] S256x1024.size inb')) r j
    = ∑ f : Fin 256, (fun f => term (rowOf h r) (fun k => rowOf x6 k f) (fun k => rowOf x7 k f) (rowOf x8 f j)) ⟨o + f.val, by omega⟩ := by
  unfold part
  refine Finset.sum_congr rfl fun f _ => ?_
  have e6 := fun k => ld_cols x6 o inb ho k f
  have e7 := fun k => ld_cols x7 o inb ho k f
  have e8 := ld_rows x8 o inb' ho f j
  exact congr (congrArg₂ (term (rowOf h r)) (funext e6) (funext e7)) e8

section
variable (x0 : Vec Ideal S512x1024 .f32) (x1 : Vec Ideal S512x384 .f32) (x2 : Vec Ideal S512x256 .f32) (x3 : Vec Ideal S512x384 .f32)
variable (x4 : Vec Ideal S1024x1024 .bf16) (x5 : Vec Ideal S1x1024 .f32) (x6 x7 : Vec Ideal S1024x2816 .bf16) (x8 : Vec Ideal S2816x1024 .bf16) (x9 : Vec Ideal S1x1024 .f32)
variable (r : Fin 512) (j : Fin 1024)

/-- The residual row after the output projection, from the blocks. -/
theorem mix_apply : k0_pay2 (View.ld x1 r0_0) (View.ld x4 r0_1) (View.ld x2 r0_2) (View.ld x4 r0_3) (View.ld x3 r0_0) (View.ld x4 r0_4) (View.ld x0 r0_5)
      (ix2 (n0 := 512) (n1 := 1024) r j)
    = mix (rowOf x0 r) (cat (rowOf x1 r) (rowOf x2 r) (rowOf x3 r)) (rowOf x4) j := by
  rw [pay2_apply, View.ld_unit_zero off_zero, View.ld_unit_zero off_zero, View.ld_unit_zero off_zero, View.ld_unit_zero off_zero]
  unfold mix
  rw [sum_cat]
  refine congrArg (_ + ·) (congrArg₂ (· + ·) (congrArg₂ (· + ·) ?_ ?_) ?_) <;> refine Finset.sum_congr rfl fun k _ => congrArg (_ * ·) ?_
  · exact (ld_head x4 0 _ (by omega) k j).trans (congrArg (fun i => rowOf x4 i j) (Fin.ext (Nat.zero_add _)))
  · exact ld_mid x4 384 _ (by omega) k j
  · exact ld_head x4 640 _ (by omega) k j

/-- It normalized. -/
theorem hid_apply : k0_pay21 x0 x1 x2 x3 x4 x5 x6 x7 x8 x9 (ix2 (n0 := 512) (n1 := 1024) r j)
    = norm (mix (rowOf x0 r) (cat (rowOf x1 r) (rowOf x2 r) (rowOf x3 r)) (rowOf x4)) (rowOf x5 0) j := by
  unfold k0_pay21
  refine (pay3_apply ..).trans ?_
  exact congrArg₂ (fun A g => norm A g j) (funext fun k => mix_apply x0 x1 x2 x3 x4 r k) (congrArg (fun y => rowOf y 0) (View.ld_unit_zero off_zero _ x5))

/-- A row of the block that the kernel leaves. -/
theorem out_apply : out0_10 x0 x1 x2 x3 x4 x5 x6 x7 x8 x9 (ix2 (n0 := 512) (n1 := 1024) r j)
    = FfnRow.out (rowOf x0 r) (cat (rowOf x1 r) (rowOf x2 r) (rowOf x3 r)) (rowOf x4) (rowOf x5 0) (rowOf x6) (rowOf x7) (rowOf x8) (rowOf x9 0) j := by
  unfold out0_10
  rw [View.canon_unit_zero off_zero, pay1_apply, View.ld_unit_zero off_zero]
  unfold FfnRow.out
  refine congrArg (fun A => norm A (rowOf x9 0) j) (funext fun k => ?_)
  have hh : rowOf (k0_pay21 x0 x1 x2 x3 x4 x5 x6 x7 x8 x9) r = norm (mix (rowOf x0 r) (cat (rowOf x1 r) (rowOf x2 r) (rowOf x3 r)) (rowOf x4)) (rowOf x5 0) :=
    funext fun k => hid_apply x0 x1 x2 x3 x4 x5 x6 x7 x8 x9 r k
  unfold k0_pay22 k0_pay23 k0_pay24 k0_pay25
  generalize k0_pay21 x0 x1 x2 x3 x4 x5 x6 x7 x8 x9 = h at hh ⊢
  refine (chunks_apply ..).trans ?_
  unfold resid down
  rw [sum_chunks, part_ld h x6 x7 x8 0 _ _ (by omega), part_ld h x6 x7 x8 256 _ _ (by omega), part_ld h x6 x7 x8 512 _ _ (by omega), part_ld h x6 x7 x8 768 _ _ (by omega),
    part_ld h x6 x7 x8 1024 _ _ (by omega), part_ld h x6 x7 x8 1280 _ _ (by omega), part_ld h x6 x7 x8 1536 _ _ (by omega), part_ld h x6 x7 x8 1792 _ _ (by omega),
    part_ld h x6 x7 x8 2048 _ _ (by omega), part_ld h x6 x7 x8 2304 _ _ (by omega), part_ld h x6 x7 x8 2560 _ _ (by omega), hh, ← mix_apply x0 x1 x2 x3 x4 r k]
  simp only [add_assoc]
end

end Cert.FfnIdeal

end
-- ==== Proof.FfnArrays.lean ====
module

public import proofs.«01_k».proof.Proof.FfnBlock
public import Idealize.ShloMosaic.Lib.Pipeline.Covers

@[expose] public section

/-! The feed-forward kernel's result: every token's row. -/

set_option maxRecDepth 16384

noncomputable section

namespace Cert.FfnIdeal

open Idealize.ShloMosaic Idealize.ShloMosaic.TcCoe
open Idealize.SL Idealize.SL.Sem
open Idealize.ShloMosaic.Pipeline (Dat Cfg Window)
open Gen
open Cert.FfnRow

variable (m : (ℓ : Loc nD τ sig) → Buf (Elt Ideal) ℓ)

/-- The weights that the grid's blocks are cut from, as the host lines before the call leave them. -/
theorem V_main_v0 (c : Dev nD) (k j : Fin 1024) : rowOf (V m c main_v0 : S1024x1024.Idx → EReal) k j = rowOf (m ((c : Thread nD τ).loc main_arg4) : S1024x1024.Idx → EReal) k j := by
  unfold V hostOps0
  after_results
  rfl
theorem V_main_v1 (c : Dev nD) (j : Fin 1024) : rowOf (V m c main_v1 : S1x1024.Idx → EReal) 0 j = vecOf (m ((c : Thread nD τ).loc main_arg5) : S1024.Idx → EReal) j := by
  have e : V m c main_v1 = shapeCast S1x1024 (m ((c : Thread nD τ).loc main_arg5)) shapeCasts_S1024_S1x1024 := by
    unfold V hostOps0
    after_results
    rfl
  unfold rowOf vecOf
  rw [e]
  simp only [pointwise]
theorem V_main_v2 (c : Dev nD) (k : Fin 1024) (j : Fin 2816) : rowOf (V m c main_v2 : S1024x2816.Idx → EReal) k j = rowOf (m ((c : Thread nD τ).loc main_arg6) : S1024x2816.Idx → EReal) k j := by
  unfold V hostOps0
  after_results
  rfl
theorem V_main_v3 (c : Dev nD) (k : Fin 1024) (j : Fin 2816) : rowOf (V m c main_v3 : S1024x2816.Idx → EReal) k j = rowOf (m ((c : Thread nD τ).loc main_arg7) : S1024x2816.Idx → EReal) k j := by
  unfold V hostOps0
  after_results
  rfl
theorem V_main_v4 (c : Dev nD) (k : Fin 2816) (j : Fin 1024) : rowOf (V m c main_v4 : S2816x1024.Idx → EReal) k j = rowOf (m ((c : Thread nD τ).loc main_arg8) : S2816x1024.Idx → EReal) k j := by
  unfold V hostOps0
  after_results
  rfl
theorem V_main_v5 (c : Dev nD) (j : Fin 1024) : rowOf (V m c main_v5 : S1x1024.Idx → EReal) 0 j = vecOf (m ((c : Thread nD τ).loc main_arg9) : S1024.Idx → EReal) j := by
  have e : V m c main_v5 = shapeCast S1x1024 (m ((c : Thread nD τ).loc main_arg9)) shapeCasts_S1024_S1x1024 := by
    unfold V hostOps0
    after_results
    rfl
  unfold rowOf vecOf
  rw [e]
  simp only [pointwise]

/-- The blocks that the windows take at a grid point. -/
theorem index_tok0 : ∀ t : Fin cfg0.N, win0_0.index t = ![t.val, 0] := (by decide +kernel : ∀ t : Fin grid0.N, win0_0.index t = ![t.val, 0])
theorem index_tok1 : ∀ t : Fin cfg0.N, win0_1.index t = ![t.val, 0] := (by decide +kernel : ∀ t : Fin grid0.N, win0_1.index t = ![t.val, 0])
theorem index_tok2 : ∀ t : Fin cfg0.N, win0_2.index t = ![t.val, 0] := (by decide +kernel : ∀ t : Fin grid0.N, win0_2.index t = ![t.val, 0])
theorem index_tok3 : ∀ t : Fin cfg0.N, win0_3.index t = ![t.val, 0] := (by decide +kernel : ∀ t : Fin grid0.N, win0_3.index t = ![t.val, 0])
theorem index_tok10 : ∀ t : Fin cfg0.N, win0_10.index t = ![t.val, 0] := (by decide +kernel : ∀ t : Fin grid0.N, win0_10.index t = ![t.val, 0])
theorem index_w4 : ∀ t : Fin cfg0.N, win0_4.index t = ![0, 0] := (by decide +kernel : ∀ t : Fin grid0.N, win0_4.index t = ![0, 0])
theorem index_w5 : ∀ t : Fin cfg0.N, win0_5.index t = ![0, 0] := (by decide +kernel : ∀ t : Fin grid0.N, win0_5.index t = ![0, 0])
theorem index_w6 : ∀ t : Fin cfg0.N, win0_6.index t = ![0, 0] := (by decide +kernel : ∀ t : Fin grid0.N, win0_6.index t = ![0, 0])
theorem index_w7 : ∀ t : Fin cfg0.N, win0_7.index t = ![0, 0] := (by decide +kernel : ∀ t : Fin grid0.N, win0_7.index t = ![0, 0])
theorem index_w8 : ∀ t : Fin cfg0.N, win0_8.index t = ![0, 0] := (by decide +kernel : ∀ t : Fin grid0.N, win0_8.index t = ![0, 0])
theorem index_w9 : ∀ t : Fin cfg0.N, win0_9.index t = ![0, 0] := (by decide +kernel : ∀ t : Fin grid0.N, win0_9.index t = ![0, 0])

/-- A grid point's token. -/
def token (t : Fin cfg0.N) (r : Fin 512) : Fin 16384 := ⟨512 * t.val + r.val, by have : t.val < 32 := t.isLt; omega⟩

section
variable (c : Dev nD) (t : Fin cfg0.N)

/-- The blocks' rows are the arguments' rows. -/
theorem blk0 (r : Fin 512) (k : Fin 1024) : rowOf (iblk m c 0 t : S512x1024.Idx → EReal) r k = rowOf (m ((c : Thread nD τ).loc main_arg0) : S16384x1024.Idx → EReal) (token t r) k := by
  rw [← V_main_arg0 m c]
  unfold rowOf
  blk_simp [iblk]
  refine congrArg (V m c main_arg0) ?_
  have e := index_tok0 t
  funext x
  fin_cases x <;> apply Fin.ext <;> blk_simp [e]
  · show t.val * 512 + r.val = 512 * t.val + r.val; omega
  · rfl
theorem blk1 (r : Fin 512) (k : Fin 384) : rowOf (iblk m c 1 t : S512x384.Idx → EReal) r k = rowOf (m ((c : Thread nD τ).loc main_arg1) : S16384x384.Idx → EReal) (token t r) k := by
  rw [← V_main_arg1 m c]
  unfold rowOf
  blk_simp [iblk]
  refine congrArg (V m c main_arg1) ?_
  have e := index_tok1 t
  funext x
  fin_cases x <;> apply Fin.ext <;> blk_simp [e]
  · show t.val * 512 + r.val = 512 * t.val + r.val; omega
  · rfl
theorem blk2 (r : Fin 512) (k : Fin 256) : rowOf (iblk m c 2 t : S512x256.Idx → EReal) r k = rowOf (m ((c : Thread nD τ).loc main_arg2) : S16384x256.Idx → EReal) (token t r) k := by
  rw [← V_main_arg2 m c]
  unfold rowOf
  blk_simp [iblk]
  refine congrArg (V m c main_arg2) ?_
  have e := index_tok2 t
  funext x
  fin_cases x <;> apply Fin.ext <;> blk_simp [e]
  · show t.val * 512 + r.val = 512 * t.val + r.val; omega
  · rfl
theorem blk3 (r : Fin 512) (k : Fin 384) : rowOf (iblk m c 3 t : S512x384.Idx → EReal) r k = rowOf (m ((c : Thread nD τ).loc main_arg3) : S16384x384.Idx → EReal) (token t r) k := by
  rw [← V_main_arg3 m c]
  unfold rowOf
  blk_simp [iblk]
  refine congrArg (V m c main_arg3) ?_
  have e := index_tok3 t
  funext x
  fin_cases x <;> apply Fin.ext <;> blk_simp [e]
  · show t.val * 512 + r.val = 512 * t.val + r.val; omega
  · rfl
theorem blk4 (k j : Fin 1024) : rowOf (iblk m c 4 t : S1024x1024.Idx → EReal) k j = rowOf (m ((c : Thread nD τ).loc main_arg4) : S1024x1024.Idx → EReal) k j := by
  refine Eq.trans ?_ (V_main_v0 m c k j)
  unfold rowOf
  blk_simp [iblk]
  refine congrArg (V m c main_v0) ?_
  have e := index_w4 t
  funext x
  fin_cases x <;> apply Fin.ext <;> blk_simp [e] <;> rfl
theorem blk5 (j : Fin 1024) : rowOf (iblk m c 5 t : S1x1024.Idx → EReal) 0 j = vecOf (m ((c : Thread nD τ).loc main_arg5) : S1024.Idx → EReal) j := by
  refine Eq.trans ?_ (V_main_v1 m c j)
  unfold rowOf
  blk_simp [iblk]
  refine congrArg (V m c main_v1) ?_
  have e := index_w5 t
  funext x
  fin_cases x <;> apply Fin.ext <;> blk_simp [e] <;> rfl
theorem blk6 (k : Fin 1024) (j : Fin 2816) : rowOf (iblk m c 6 t : S1024x2816.Idx → EReal) k j = rowOf (m ((c : Thread nD τ).loc main_arg6) : S1024x2816.Idx → EReal) k j := by
  refine Eq.trans ?_ (V_main_v2 m c k j)
  unfold rowOf
  blk_simp [iblk]
  refine congrArg (V m c main_v2) ?_
  have e := index_w6 t
  funext x
  fin_cases x <;> apply Fin.ext <;> blk_simp [e] <;> rfl
theorem blk7 (k : Fin 1024) (j : Fin 2816) : rowOf (iblk m c 7 t : S1024x2816.Idx → EReal) k j = rowOf (m ((c : Thread nD τ).loc main_arg7) : S1024x2816.Idx → EReal) k j := by
  refine Eq.trans ?_ (V_main_v3 m c k j)
  unfold rowOf
  blk_simp [iblk]
  refine congrArg (V m c main_v3) ?_
  have e := index_w7 t
  funext x
  fin_cases x <;> apply Fin.ext <;> blk_simp [e] <;> rfl
theorem blk8 (k : Fin 2816) (j : Fin 1024) : rowOf (iblk m c 8 t : S2816x1024.Idx → EReal) k j = rowOf (m ((c : Thread nD τ).loc main_arg8) : S2816x1024.Idx → EReal) k j := by
  refine Eq.trans ?_ (V_main_v4 m c k j)
  unfold rowOf
  blk_simp [iblk]
  refine congrArg (V m c main_v4) ?_
  have e := index_w8 t
  funext x
  fin_cases x <;> apply Fin.ext <;> blk_simp [e] <;> rfl
theorem blk9 (j : Fin 1024) : rowOf (iblk m c 9 t : S1x1024.Idx → EReal) 0 j = vecOf (m ((c : Thread nD τ).loc main_arg9) : S1024.Idx → EReal) j := by
  refine Eq.trans ?_ (V_main_v5 m c j)
  unfold rowOf
  blk_simp [iblk]
  refine congrArg (V m c main_v5) ?_
  have e := index_w9 t
  funext x
  fin_cases x <;> apply Fin.ext <;> blk_simp [e] <;> rfl
end

/-- All tokens' rows, from the arguments. -/
def rows (c : Dev nD) (i : Fin 16384) (j : Fin 1024) : EReal :=
  FfnRow.out (rowOf (m ((c.tc : Thread nD τ).loc main_arg0)) i)
    (cat (rowOf (m ((c.tc : Thread nD τ).loc main_arg1)) i) (rowOf (m ((c.tc : Thread nD τ).loc main_arg2)) i) (rowOf (m ((c.tc : Thread nD τ).loc main_arg3)) i))
    (rowOf (m ((c.tc : Thread nD τ).loc main_arg4))) (vecOf (m ((c.tc : Thread nD τ).loc main_arg5))) (rowOf (m ((c.tc : Thread nD τ).loc main_arg6)))
    (rowOf (m ((c.tc : Thread nD τ).loc main_arg7))) (rowOf (m ((c.tc : Thread nD τ).loc main_arg8))) (vecOf (m ((c.tc : Thread nD τ).loc main_arg9))) j

/-- The array that holds them. -/
def result (c : Dev nD) (y : S16384x1024.Idx) : EReal := rows m c (y 0) (y 1)

/-- A block of the array. -/
theorem block_row (c : Dev nD) (t : Fin cfg0.N) (r : Fin 512) (j : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t)
      (ix2 (n0 := 512) (n1 := 1024) r j) = rows m c (token t r) j := by
  refine (out_apply _ _ _ _ _ _ _ _ _ _ r j).trans ?_
  unfold rows
  rw [show rowOf (iblk m c 0 t : S512x1024.Idx → EReal) r = _ from funext (blk0 m c t r), show rowOf (iblk m c 1 t : S512x384.Idx → EReal) r = _ from funext (blk1 m c t r),
    show rowOf (iblk m c 2 t : S512x256.Idx → EReal) r = _ from funext (blk2 m c t r), show rowOf (iblk m c 3 t : S512x384.Idx → EReal) r = _ from funext (blk3 m c t r),
    show rowOf (iblk m c 4 t : S1024x1024.Idx → EReal) = _ from funext fun k => funext (blk4 m c t k), show rowOf (iblk m c 5 t : S1x1024.Idx → EReal) 0 = _ from funext (blk5 m c t),
    show rowOf (iblk m c 6 t : S1024x2816.Idx → EReal) = _ from funext fun k => funext (blk6 m c t k), show rowOf (iblk m c 7 t : S1024x2816.Idx → EReal) = _ from funext fun k => funext (blk7 m c t k),
    show rowOf (iblk m c 8 t : S2816x1024.Idx → EReal) = _ from funext fun k => funext (blk8 m c t k), show rowOf (iblk m c 9 t : S1x1024.Idx → EReal) 0 = _ from funext (blk9 m c t)]

/-- Where a block's elements lie. -/
theorem emb10 (t : Fin cfg0.N) (y : S512x1024.Idx) : ((win0_10.blk t).view.emb y : S16384x1024.Idx) 0 = token t (y 0) ∧ ((win0_10.blk t).view.emb y : S16384x1024.Idx) 1 = y 1 := by
  have e := index_tok10 t
  refine ⟨Fin.ext ?_, Fin.ext ?_⟩ <;> blk_simp [e]
  · show t.val * 512 + (y 0).val = 512 * t.val + (y 0).val; omega

/-- The array after the call. -/
theorem final10 (c : Dev nD) : (dats m 0 c).arrAt 10 cfg0.N = result m c := by
  refine (dats m 0 c).arrAt_eq_of_covers 10 _ (by decide +kernel) fun t hf y => ?_
  blk_simp
  rw [after0_10]
  have h := emb10 t y
  unfold result
  rw [h.1, h.2]
  exact (congrArg _ (ValueIdx.eq_ix2 y)).trans (block_row m c t (y 0) (y 1))

/-- The run's result is every token's row, and the arguments are as they were. -/
theorem run_values (ρ : Dev nD → PrngReg) :
    θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 10).trans (final10 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) (run_main m ρ)

end Cert.FfnIdeal

end
-- ==== Proof.FfnReference.lean ====
module

public import proofs.«01_k».proof.Proof.Gen.FfnReferenceIdeal.Run
public import proofs.«01_k».proof.Proof.FfnRow

@[expose] public section

/-! What the feed-forward reference computes, row by row. -/

set_option maxRecDepth 16384

noncomputable section

namespace Cert.FfnReferenceIdeal

open Idealize.ShloMosaic Idealize.ShloMosaic.TcCoe
open Gen Value
open Cert.FfnRow

/-- The normalization, as the reference spells it. -/
def nrm (A : FVec Ideal S16384x1024 .f32) (g : FVec Ideal S1024 .f32) : FVec Ideal S16384x1024 .f32 :=
  mulf (mulf A (broadcastInDim S16384x1024 ![0, 1] bcast_S16384x1_S16384x1024_0_1 (Host.rsqrt (addf (Host.divf (broadcastInDim S16384x1 ![0] bcast_S16384_S16384x1_0
    (Host.reduceAdd (mulf A A) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Its rows are normalized. -/
theorem nrm_apply (A : FVec Ideal S16384x1024 .f32) (g : FVec Ideal S1024 .f32) (r : Fin 16384) (j : Fin 1024) :
    nrm A g (ix2 (n0 := 16384) (n1 := 1024) r j) = norm (rowOf A r) (vecOf g) j := by
  unfold nrm
  simp only [pointwise]
  simp only [zero_add]
  rfl

/-- The residual rows after the output projection, as the reference spells them. -/
def mixed (x : FVec Ideal S16384x1024 .f32) (a : FVec Ideal S16384x384 .f32) (b : FVec Ideal S16384x256 .f32) (c : FVec Ideal S16384x384 .f32) (wo : FVec Ideal S1024x1024 .f32) :
    FVec Ideal S16384x1024 .f32 :=
  addf x (Host.dotGeneral dot_S16384x1024_S1024x1024_S16384x1024_1_0_0_1_n_n none (concatenate S16384x1024 1 [⟨S16384x384, a⟩, ⟨S16384x256, b⟩, ⟨S16384x384, c⟩]
    concatenates_S16384x384_S16384x256_S16384x384_S16384x1024_d1) wo)

/-- A row of them. -/
theorem mixed_apply (x : FVec Ideal S16384x1024 .f32) (a : FVec Ideal S16384x384 .f32) (b : FVec Ideal S16384x256 .f32) (c : FVec Ideal S16384x384 .f32) (wo : FVec Ideal S1024x1024 .f32)
    (r : Fin 16384) (j : Fin 1024) :
    mixed x a b c wo (ix2 (n0 := 16384) (n1 := 1024) r j) = mix (rowOf x r) (cat (rowOf a r) (rowOf b r) (rowOf c r)) (rowOf wo) j := by
  unfold mixed
  simp only [pointwise]
  exact congrArg (_ + ·) (zero_add _)

/-- The gated units, as the reference spells them. -/
def gated (g u : FVec Ideal S16384x2816 .f32) : FVec Ideal S16384x2816 .f32 :=
  mulf (mulf g (Host.divf (broadcastInDim S16384x2816 ![] bcast_S_S16384x2816 (constant S_ .f32 0x3F800000#32))
    (addf (broadcastInDim S16384x2816 ![] bcast_S_S16384x2816 (constant S_ .f32 0x3F800000#32)) (Host.exp (Host.negf g))))) u

/-- A unit of them. -/
theorem gated_apply (g u : FVec Ideal S16384x2816 .f32) (r : Fin 16384) (f : Fin 2816) :
    gated g u (ix2 (n0 := 16384) (n1 := 2816) r f) = act (rowOf g r f) (rowOf u r f) := by
  unfold gated
  simp only [pointwise]
  rfl

/-- The feed-forward part, as the reference spells it. -/
def ffn (h : FVec Ideal S16384x1024 .f32) (wg wu : FVec Ideal S1024x2816 .f32) (wd : FVec Ideal S2816x1024 .f32) : FVec Ideal S16384x1024 .f32 :=
  Host.dotGeneral dot_S16384x2816_S2816x1024_S16384x1024_1_0_0_1_n_n none (gated (Host.dotGeneral dot_S16384x1024_S1024x2816_S16384x2816_1_0_0_1_n_n none h wg)
    (Host.dotGeneral dot_S16384x1024_S1024x2816_S16384x2816_1_0_0_1_n_n none h wu)) wd

/-- A row of it. -/
theorem ffn_apply (h : FVec Ideal S16384x1024 .f32) (wg wu : FVec Ideal S1024x2816 .f32) (wd : FVec Ideal S2816x1024 .f32) (r : Fin 16384) (j : Fin 1024) :
    ffn h wg wu wd (ix2 (n0 := 16384) (n1 := 1024) r j) = down (rowOf h r) (rowOf wg) (rowOf wu) (rowOf wd) j := by
  unfold ffn
  simp only [pointwise, gated_apply, rowOf, zero_add]
  rfl

variable (m : (ℓ : Loc nD τ sig) → Buf (Elt Ideal) ℓ) (c : Dev nD)

/-- The result is the composition of these. -/
theorem res_eq : res_main_v34 m c =
    (let X := mixed (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4))
     nrm (addf X (ffn (nrm X (m ((c.tc : Thread nD τ).loc main_arg5))) (m ((c.tc : Thread nD τ).loc main_arg6)) (m ((c.tc : Thread nD τ).loc main_arg7)) (m ((c.tc : Thread nD τ).loc main_arg8))))
       (m ((c.tc : Thread nD τ).loc main_arg9))) := rfl

/-- A row of the result. -/
theorem res_apply (r : Fin 16384) (j : Fin 1024) : (res_main_v34 m c : S16384x1024.Idx → EReal) (ix2 (n0 := 16384) (n1 := 1024) r j)
    = FfnRow.out (rowOf (m ((c.tc : Thread nD τ).loc main_arg0)) r)
        (cat (rowOf (m ((c.tc : Thread nD τ).loc main_arg1)) r) (rowOf (m ((c.tc : Thread nD τ).loc main_arg2)) r) (rowOf (m ((c.tc : Thread nD τ).loc main_arg3)) r))
        (rowOf (m ((c.tc : Thread nD τ).loc main_arg4))) (vecOf (m ((c.tc : Thread nD τ).loc main_arg5))) (rowOf (m ((c.tc : Thread nD τ).loc main_arg6)))
        (rowOf (m ((c.tc : Thread nD τ).loc main_arg7))) (rowOf (m ((c.tc : Thread nD τ).loc main_arg8))) (vecOf (m ((c.tc : Thread nD τ).loc main_arg9))) j := by
  rw [res_eq]
  refine (nrm_apply _ _ r j).trans ?_
  unfold FfnRow.out
  refine congrArg (fun A => norm A _ j) (funext fun k => ?_)
  refine (show _ = mixed _ _ _ _ _ (ix2 (n0 := 16384) (n1 := 1024) r k) + ffn _ _ _ _ (ix2 (n0 := 16384) (n1 := 1024) r k) from rfl).trans ?_
  unfold resid
  refine congrArg₂ (· + ·) (mixed_apply _ _ _ _ _ r k) ((ffn_apply _ _ _ _ r k).trans ?_)
  refine congrArg (fun h => down h _ _ _ k) (funext fun i => (nrm_apply _ _ r i).trans ?_)
  exact congrArg (fun A => norm A _ i) (funext fun l => mixed_apply _ _ _ _ _ r l)

end Cert.FfnReferenceIdeal

end
-- ==== Proof.FfnValues.lean ====
module

public import proofs.«01_k».proof.Defs
public import proofs.«01_k».proof.Proof.FfnArrays
public import proofs.«01_k».proof.Proof.FfnReference

@[expose] public section

/-! The feed-forward kernel's result is the reference's. -/

noncomputable section

namespace Cert.Proof

open Idealize.ShloMosaic Idealize.SL.Sem

/-- On equal arguments, the feed-forward kernel and its reference leave the same result. -/
theorem same_rows : Cert.algebraic_FfnIdeal_FfnReferenceIdeal := by
  intro m g m' g' _ hsame
  refine ⟨fun c => Cert.FfnIdeal.result m c, Cert.FfnIdeal.run_values m g, ?_⟩
  refine (θ_run Cert.FfnReferenceIdeal.defs _ _).mono (fun r h c => ?_) (Cert.FfnReferenceIdeal.Value.run (F := Ideal) m' g')
  refine ⟨(h c).1.trans ?_, (h c).2⟩
  funext y
  refine (congrArg (Cert.FfnReferenceIdeal.Value.res_main_v34 (F := Ideal) m' c) (ValueIdx.eq_ix2 y)).trans ((Cert.FfnReferenceIdeal.res_apply m' c (y 0) (y 1)).trans ?_)
  obtain ⟨h0, h1, h2, h3, h4, h5, h6, h7, h8, h9⟩ := hsame c
  rw [h0, h1, h2, h3, h4, h5, h6, h7, h8, h9]
  rfl

end Cert.Proof

end
-- ==== Proof.InProjRow.lean ====
module

public import proofs.«01_k».proof.Proof.FfnRow

@[expose] public section

/-! The input projection of one token and the rotation of its heads, over the extended reals. -/

noncomputable section

namespace Cert.InProjRow

open Idealize.ShloMosaic
open Cert.FfnRow

/-- A weight's column, and zero beyond the last. -/
def colOf (w : Fin 1024 → Fin 3280 → EReal) (c : Nat) (k : Fin 1024) : EReal := if h : c < 3280 then w k ⟨c, h⟩ else 0

/-- A column of the projection of the normalized row. -/
def proj (A g : Fin 1024 → EReal) (w : Fin 1024 → Fin 3280 → EReal) (c : Nat) : EReal := ∑ k, norm A g k * colOf w c k

/-- Beyond the last column the projection is zero. -/
theorem proj_out (A g : Fin 1024 → EReal) (w : Fin 1024 → Fin 3280 → EReal) (c : Nat) (h : 3280 ≤ c) : proj A g w c = 0 := by
  unfold proj
  refine Finset.sum_eq_zero fun k _ => ?_
  rw [show colOf w c k = 0 from dif_neg (by omega), mul_zero]

/-- The column that the kernel's order of the columns takes from. -/
def src (c : Nat) : Nat := if c < 1536 then c else if c < 3268 then c + 12 else if c < 3280 then c - 1732 else c

/-- A position's angle at a frequency. -/
def angle (p i : Nat) : EReal :=
  Scalar.sitofp (F := Ideal) .f32 (BitVec.ofNat 32 p)
    * Ideal.pow (Ideal.ofBits .f32 0x48F42400#32) (Ideal.div (-(Scalar.sitofp (F := Ideal) .f32 (BitVec.ofNat 32 i) : EReal)) (Ideal.ofBits .f32 0x41000000#32))

/-- Its cosine and its sine. -/
def cosOf (p i : Nat) : EReal := Ideal.cos (angle p i)
def sinOf (p i : Nat) : EReal := Ideal.sin (angle p i)

/-- A row with the first sixteen entries of every head of 64 rotated. -/
def rot (y : Nat → EReal) (p j : Nat) : EReal :=
  if j % 64 < 8 then y j * cosOf p (j % 64) - y (j + 8) * sinOf p (j % 64)
  else if j % 64 < 16 then y j * cosOf p (j % 64 - 8) + y (j - 8) * sinOf p (j % 64 - 8)
  else y j

/-- Of the first head. -/
theorem rot_head (y : Nat → EReal) (p j : Nat) (h : j < 64) : rot y p j =
    if j < 8 then y j * cosOf p j - y (j + 8) * sinOf p j else if j < 16 then y j * cosOf p (j - 8) + y (j - 8) * sinOf p (j - 8) else y j := by
  unfold rot
  rw [Nat.mod_eq_of_lt h]

/-- The kernel's three tables: the factors of an entry, of the one eight after it and of the one eight before it. -/
def tabC (p l : Nat) : EReal := if l % 64 < 8 then cosOf p (l % 64) else if l % 64 < 16 then cosOf p (l % 64 - 8) else 1
def tabA (p l : Nat) : EReal := if l % 64 < 8 then -sinOf p (l % 64) else 0
def tabB (p l : Nat) : EReal := if l % 64 < 8 then 0 else if l % 64 < 16 then sinOf p (l % 64 - 8) else 0

/-- They repeat every 64 columns. -/
theorem tabC_mod (p l l' : Nat) (h : l % 64 = l' % 64) : tabC p l = tabC p l' := by unfold tabC; rw [h]
theorem tabA_mod (p l l' : Nat) (h : l % 64 = l' % 64) : tabA p l = tabA p l' := by unfold tabA; rw [h]
theorem tabB_mod (p l l' : Nat) (h : l % 64 = l' % 64) : tabB p l = tabB p l' := by unfold tabB; rw [h]

/-- By the tables a row is rotated. -/
theorem rot_of_tabs (y : Nat → EReal) (p j a b : Nat) (ha : j % 64 < 8 → a = j + 8) (hb : 8 ≤ j % 64 → j % 64 < 16 → b = j - 8) :
    y j * tabC p j + y a * tabA p j + y b * tabB p j = rot y p j := by
  unfold tabC tabA tabB rot
  by_cases h1 : j % 64 < 8
  · rw [if_pos h1, if_pos h1, if_pos h1, if_pos h1, mul_zero, add_zero, ha h1, mul_neg, sub_eq_add_neg]
  · by_cases h2 : j % 64 < 16
    · rw [if_neg h1, if_neg h1, if_neg h1, if_neg h1, if_pos h2, if_pos h2, if_pos h2, mul_zero, add_zero, hb (by omega) h2]
    · rw [if_neg h1, if_neg h1, if_neg h1, if_neg h1, if_neg h2, if_neg h2, if_neg h2, mul_zero, mul_zero, add_zero, add_zero, mul_one]

/-- A rotated row depends on the entries of the row's heads only. -/
theorem rot_congr (y z : Nat → EReal) (p j n : Nat) (hn : n % 64 = 0) (hj : j < n) (h : ∀ i, i < n → y i = z i) : rot y p j = rot z p j := by
  unfold rot
  by_cases h1 : j % 64 < 8
  · rw [if_pos h1, if_pos h1, h j hj, h (j + 8) (by omega)]
  · by_cases h2 : j % 64 < 16
    · rw [if_neg h1, if_neg h1, if_pos h2, if_pos h2, h j hj, h (j - 8) (by omega)]
    · rw [if_neg h1, if_neg h1, if_neg h2, if_neg h2, h j hj]

/-- The last columns of a token: the rotated indexer key, and beside it the indexer's weights, the two gates and zeros. -/
def small (A g : Fin 1024 → EReal) (w : Fin 1024 → Fin 3280 → EReal) (p l : Nat) : EReal :=
  if l < 64 then rot (fun i => proj A g w (3212 + i)) p l else proj A g w (src (3200 + l))

end Cert.InProjRow

end
-- ==== Proof.InProjBlock.lean ====
module

public import proofs.«01_k».proof.Proof.Gen.InProjIdeal.Frame
public import proofs.«01_k».proof.Proof.InProjRow
public import Idealize.ShloMosaic.Lib.Pipeline.ValueKit

@[expose] public section

/-! What the projection kernel computes in a block of 512 tokens, row by row. -/

set_option maxRecDepth 16384

noncomputable section

namespace Cert.InProjIdeal

open Idealize.ShloMosaic Idealize.ShloMosaic.TcCoe
open Gen
open Cert.FfnRow Cert.InProjRow

/-- Offsets of zero. -/
theorem off_zero : (![0, 0] : Fin 2 → Nat) = fun _ => 0 := by funext a; fin_cases a <;> rfl

/-- The normalized block. -/
theorem pay3_apply (x : Vec Ideal S512x1024 .f32) (g : Vec Ideal S1x1024 .f32) (r : Fin 512) (j : Fin 1024) :
    k0_pay3 x g (ix2 (n0 := 512) (n1 := 1024) r j) = norm (rowOf x r) (rowOf g 0) j := by
  unfold k0_pay3
  simp only [pointwise]
  rfl

section
variable (h : FVec Ideal S512x1024 .bf16) (r : Fin 512)

/-- A block's products with a part of the weight, as the kernel spells them. -/
def mm1152 (w : Vec Ideal S1024x1152 .bf16) : FVec Ideal S512x1152 .f32 :=
  matmul (φ₂ := .bf16) dot_S512x1024_S1024x1152_S512x1152_1_0_0_1_n_n none h (shapeCast S1024x1152 w shapeCasts_S1024x1152_S1024x1152) (constant S512x1152 .f32 0x00000000#32)
def mm384 (w : Vec Ideal S1024x384 .bf16) : FVec Ideal S512x384 .f32 :=
  matmul (φ₂ := .bf16) dot_S512x1024_S1024x384_S512x384_1_0_0_1_n_n none h (shapeCast S1024x384 w shapeCasts_S1024x384_S1024x384) (constant S512x384 .f32 0x00000000#32)
def mm256 (w : Vec Ideal S1024x256 .bf16) : FVec Ideal S512x256 .f32 :=
  matmul (φ₂ := .bf16) dot_S512x1024_S1024x256_S512x256_1_0_0_1_n_n none h (shapeCast S1024x256 w shapeCasts_S1024x256_S1024x256) (constant S512x256 .f32 0x00000000#32)
def mm128 (w : Vec Ideal S1024x128 .bf16) : FVec Ideal S512x128 .f32 :=
  matmul (φ₂ := .bf16) dot_S512x1024_S1024x128_S512x128_1_0_0_1_n_n none h (shapeCast S1024x128 w shapeCasts_S1024x128_S1024x128) (constant S512x128 .f32 0x00000000#32)

/-- Each of them is a sum over the row. -/
theorem mm1152_apply (w : Vec Ideal S1024x1152 .bf16) (j : Fin 1152) : mm1152 h w (ix2 (n0 := 512) (n1 := 1152) r j) = ∑ k, rowOf h r k * rowOf w k j := by
  unfold mm1152
  simp only [pointwise]
  exact zero_add _
theorem mm384_apply (w : Vec Ideal S1024x384 .bf16) (j : Fin 384) : mm384 h w (ix2 (n0 := 512) (n1 := 384) r j) = ∑ k, rowOf h r k * rowOf w k j := by
  unfold mm384
  simp only [pointwise]
  exact zero_add _
theorem mm256_apply (w : Vec Ideal S1024x256 .bf16) (j : Fin 256) : mm256 h w (ix2 (n0 := 512) (n1 := 256) r j) = ∑ k, rowOf h r k * rowOf w k j := by
  unfold mm256
  simp only [pointwise]
  exact zero_add _
theorem mm128_apply (w : Vec Ideal S1024x128 .bf16) (j : Fin 128) : mm128 h w (ix2 (n0 := 512) (n1 := 128) r j) = ∑ k, rowOf h r k * rowOf w k j := by
  unfold mm128
  simp only [pointwise]
  exact zero_add _
end

/-- A table three times beside itself, and twice. -/
def three (x : FVec Ideal S512x128 .f32) : FVec Ideal S512x384 .f32 :=
  concatenate S512x384 1 [⟨S512x128, x⟩, ⟨S512x128, x⟩, ⟨S512x128, x⟩] concatenates_S512x128_S512x128_S512x128_S512x384_d1
def two (x : FVec Ideal S512x128 .f32) : FVec Ideal S512x256 .f32 :=
  concatenate S512x256 1 [⟨S512x128, x⟩, ⟨S512x128, x⟩] concatenates_S512x128_S512x128_S512x256_d1

section
variable (x : FVec Ideal S512x128 .f32) (f : Nat → EReal) (hf : ∀ l l', l % 64 = l' % 64 → f l = f l') (r : Fin 512) (hx : ∀ l : Fin 128, rowOf x r l = f l.val)
include hf hx

/-- A table that repeats every 64 columns goes on so. -/
theorem three_apply (j : Fin 384) : three x (ix2 (n0 := 512) (n1 := 384) r j) = f j.val := by
  unfold three
  simp only [pointwise]
  by_cases h1 : j.val < 128
  · exact (dif_pos h1).trans (hx ⟨j.val, h1⟩)
  · refine (dif_neg h1).trans ?_
    by_cases h2 : j.val - 128 < 128
    · exact (dif_pos h2).trans ((hx ⟨j.val - 128, h2⟩).trans (hf _ _ (by show (j.val - 128) % 64 = _; omega)))
    · exact (dif_neg h2).trans ((hx ⟨j.val - 128 - 128, by omega⟩).trans (hf _ _ (by show (j.val - 128 - 128) % 64 = _; omega)))
theorem two_apply (j : Fin 256) : two x (ix2 (n0 := 512) (n1 := 256) r j) = f j.val := by
  unfold two
  simp only [pointwise]
  by_cases h1 : j.val < 128
  · exact (dif_pos h1).trans (hx ⟨j.val, h1⟩)
  · exact (dif_neg h1).trans ((hx ⟨j.val - 128, by omega⟩).trans (hf _ _ (by show (j.val - 128) % 64 = _; omega)))
end

/-- Columns moved around by eight, to the left and to the right. -/
theorem left384 (P : FVec Ideal S512x384 .f32) (r : Fin 512) (j : Fin 384) :
    dynamicRotate 1 376#32 none P rotates_S512x384_d1 (ix2 (n0 := 512) (n1 := 384) r j) = rowOf P r ⟨(j.val + 8) % 384, by omega⟩ := by
  unfold rowOf
  simp only [pointwise]
  refine congrArg P ?_
  idx_ext
theorem right384 (P : FVec Ideal S512x384 .f32) (r : Fin 512) (j : Fin 384) :
    dynamicRotate 1 8#32 none P rotates_S512x384_d1 (ix2 (n0 := 512) (n1 := 384) r j) = rowOf P r ⟨(j.val + 376) % 384, by omega⟩ := by
  unfold rowOf
  simp only [pointwise]
  refine congrArg P ?_
  idx_ext
theorem left256 (P : FVec Ideal S512x256 .f32) (r : Fin 512) (j : Fin 256) :
    dynamicRotate 1 248#32 none P rotates_S512x256_d1 (ix2 (n0 := 512) (n1 := 256) r j) = rowOf P r ⟨(j.val + 8) % 256, by omega⟩ := by
  unfold rowOf
  simp only [pointwise]
  refine congrArg P ?_
  idx_ext
theorem right256 (P : FVec Ideal S512x256 .f32) (r : Fin 512) (j : Fin 256) :
    dynamicRotate 1 8#32 none P rotates_S512x256_d1 (ix2 (n0 := 512) (n1 := 256) r j) = rowOf P r ⟨(j.val + 248) % 256, by omega⟩ := by
  unfold rowOf
  simp only [pointwise]
  refine congrArg P ?_
  idx_ext
theorem left128 (P : FVec Ideal S512x128 .f32) (r : Fin 512) (j : Fin 128) :
    dynamicRotate 1 120#32 none P rotates_S512x128_d1 (ix2 (n0 := 512) (n1 := 128) r j) = rowOf P r ⟨(j.val + 8) % 128, by omega⟩ := by
  unfold rowOf
  simp only [pointwise]
  refine congrArg P ?_
  idx_ext
theorem right128 (P : FVec Ideal S512x128 .f32) (r : Fin 512) (j : Fin 128) :
    dynamicRotate 1 8#32 none P rotates_S512x128_d1 (ix2 (n0 := 512) (n1 := 128) r j) = rowOf P r ⟨(j.val + 120) % 128, by omega⟩ := by
  unfold rowOf
  simp only [pointwise]
  refine congrArg P ?_
  idx_ext

/-- A table's first 64 columns, and another value beyond them. -/
def half (x : FVec Ideal S512x128 .f32) (v : BitVec 32) : FVec Ideal S512x128 .f32 :=
  select (cmpi .slt (iota .tc S512x128 32 [1] iota_S512x128_d1_w32) (broadcast S512x128 64#32)) x (broadcast S512x128 (Scalar.ofBits .f32 v))

theorem half_apply (x : FVec Ideal S512x128 .f32) (v : BitVec 32) (r : Fin 512) (j : Fin 128) :
    half x v (ix2 (n0 := 512) (n1 := 128) r j) = if j.val < 64 then rowOf x r j else Ideal.ofBits .f32 v := by
  have hs : ∀ j : Fin 128, (IntOp.cmpi .slt (BitVec.ofNat 32 j.val) 64#32 : BitVec 1) = if j.val < 64 then 1#1 else 0#1 := by decide
  have e : half x v (ix2 (n0 := 512) (n1 := 128) r j) = Scalar.select (IntOp.cmpi .slt (BitVec.ofNat 32 (0 * 128 + j.val)) 64#32) (rowOf x r j) (Ideal.ofBits .f32 v) := by
    unfold half
    simp only [pointwise]
    rfl
  rw [e, show 0 * 128 + j.val = j.val by omega, hs]
  by_cases h : j.val < 64
  · rw [if_pos h, if_pos h]; rfl
  · rw [if_neg h, if_neg h]; rfl

section
variable (x3 x4 x5 : FVec Ideal S512x128 .f32) (p : Nat) (r : Fin 512)
variable (h3 : ∀ l : Fin 128, rowOf x3 r l = tabC p l.val) (h4 : ∀ l : Fin 128, rowOf x4 r l = tabA p l.val) (h5 : ∀ l : Fin 128, rowOf x5 r l = tabB p l.val)
include h3 h4 h5

/-- With the tables a row of heads is rotated. -/
theorem turn384 (P : FVec Ideal S512x384 .f32) (Y : Nat → EReal) (hP : ∀ i : Fin 384, rowOf P r i = Y i.val) (j : Fin 384) :
    addf (addf (mulf P (three x3)) (mulf (dynamicRotate 1 376#32 none P rotates_S512x384_d1) (three x4))) (mulf (dynamicRotate 1 8#32 none P rotates_S512x384_d1) (three x5))
      (ix2 (n0 := 512) (n1 := 384) r j) = rot Y p j.val := by
  refine (show _ = rowOf P r j * three x3 (ix2 (n0 := 512) (n1 := 384) r j)
    + dynamicRotate 1 376#32 none P rotates_S512x384_d1 (ix2 (n0 := 512) (n1 := 384) r j) * three x4 (ix2 (n0 := 512) (n1 := 384) r j)
    + dynamicRotate 1 8#32 none P rotates_S512x384_d1 (ix2 (n0 := 512) (n1 := 384) r j) * three x5 (ix2 (n0 := 512) (n1 := 384) r j) from rfl).trans ?_
  rw [left384, right384, hP, hP, hP, three_apply x3 _ (tabC_mod p) r h3, three_apply x4 _ (tabA_mod p) r h4, three_apply x5 _ (tabB_mod p) r h5]
  exact rot_of_tabs Y p j.val _ _ (fun _ => by show (j.val + 8) % 384 = _; omega) (fun _ _ => by show (j.val + 376) % 384 = _; omega)
theorem turn256 (P : FVec Ideal S512x256 .f32) (Y : Nat → EReal) (hP : ∀ i : Fin 256, rowOf P r i = Y i.val) (j : Fin 256) :
    addf (addf (mulf P (two x3)) (mulf (dynamicRotate 1 248#32 none P rotates_S512x256_d1) (two x4))) (mulf (dynamicRotate 1 8#32 none P rotates_S512x256_d1) (two x5))
      (ix2 (n0 := 512) (n1 := 256) r j) = rot Y p j.val := by
  refine (show _ = rowOf P r j * two x3 (ix2 (n0 := 512) (n1 := 256) r j)
    + dynamicRotate 1 248#32 none P rotates_S512x256_d1 (ix2 (n0 := 512) (n1 := 256) r j) * two x4 (ix2 (n0 := 512) (n1 := 256) r j)
    + dynamicRotate 1 8#32 none P rotates_S512x256_d1 (ix2 (n0 := 512) (n1 := 256) r j) * two x5 (ix2 (n0 := 512) (n1 := 256) r j) from rfl).trans ?_
  rw [left256, right256, hP, hP, hP, two_apply x3 _ (tabC_mod p) r h3, two_apply x4 _ (tabA_mod p) r h4, two_apply x5 _ (tabB_mod p) r h5]
  exact rot_of_tabs Y p j.val _ _ (fun _ => by show (j.val + 8) % 256 = _; omega) (fun _ _ => by show (j.val + 248) % 256 = _; omega)

/-- The last block's first head is rotated, the rest stays. -/
theorem turn128 (P : FVec Ideal S512x128 .f32) (Y : Nat → EReal) (hP : ∀ i : Fin 128, rowOf P r i = Y i.val) (j : Fin 128) :
    addf (addf (mulf P (half x3 0x3F800000#32)) (mulf (dynamicRotate 1 120#32 none P rotates_S512x128_d1) (half x4 0x00000000#32)))
      (mulf (dynamicRotate 1 8#32 none P rotates_S512x128_d1) (half x5 0x00000000#32))
      (ix2 (n0 := 512) (n1 := 128) r j) = if j.val < 64 then rot Y p j.val else Y j.val := by
  refine (show _ = rowOf P r j * half x3 0x3F800000#32 (ix2 (n0 := 512) (n1 := 128) r j)
    + dynamicRotate 1 120#32 none P rotates_S512x128_d1 (ix2 (n0 := 512) (n1 := 128) r j) * half x4 0x00000000#32 (ix2 (n0 := 512) (n1 := 128) r j)
    + dynamicRotate 1 8#32 none P rotates_S512x128_d1 (ix2 (n0 := 512) (n1 := 128) r j) * half x5 0x00000000#32 (ix2 (n0 := 512) (n1 := 128) r j) from rfl).trans ?_
  rw [left128, right128, hP, hP, hP, half_apply, half_apply, half_apply, h3, h4, h5]
  by_cases h : j.val < 64
  · rw [if_pos h, if_pos h, if_pos h, if_pos h]
    exact rot_of_tabs Y p j.val _ _ (fun _ => by show (j.val + 8) % 128 = _; omega) (fun _ _ => by show (j.val + 120) % 128 = _; omega)
  · rw [if_neg h, if_neg h, if_neg h, if_neg h, show Ideal.ofBits .f32 0x3F800000#32 = (1 : EReal) by simp only [pointwise], show Ideal.ofBits .f32 0x00000000#32 = (0 : EReal) by simp only [pointwise],
      mul_zero, mul_zero, mul_one, add_zero, add_zero]
end

/-- A part of the weight's columns. -/
theorem ld1152 (x : Vec Ideal S1024x3328 .bf16) (o : Nat) (inb : ∀ a, (![0, o] : Fin 2 → Nat) a + S1024x1152.size a ≤ S1024x3328.size a) (ho : o + 1152 ≤ 3328)
    (k : Fin 1024) (f : Fin 1152) :
    rowOf (View.ld x (Rect.unit (s := S1024x3328) ![0, o] S1024x1152.size inb)) k f = rowOf x k ⟨o + f.val, by omega⟩ := by
  unfold rowOf
  simp only [pointwise]
  refine congrArg x ?_
  idx_ext
theorem ld384 (x : Vec Ideal S1024x3328 .bf16) (o : Nat) (inb : ∀ a, (![0, o] : Fin 2 → Nat) a + S1024x384.size a ≤ S1024x3328.size a) (ho : o + 384 ≤ 3328)
    (k : Fin 1024) (f : Fin 384) :
    rowOf (View.ld x (Rect.unit (s := S1024x3328) ![0, o] S1024x384.size inb)) k f = rowOf x k ⟨o + f.val, by omega⟩ := by
  unfold rowOf
  simp only [pointwise]
  refine congrArg x ?_
  idx_ext
theorem ld256 (x : Vec Ideal S1024x3328 .bf16) (o : Nat) (inb : ∀ a, (![0, o] : Fin 2 → Nat) a + S1024x256.size a ≤ S1024x3328.size a) (ho : o + 256 ≤ 3328)
    (k : Fin 1024) (f : Fin 256) :
    rowOf (View.ld x (Rect.unit (s := S1024x3328) ![0, o] S1024x256.size inb)) k f = rowOf x k ⟨o + f.val, by omega⟩ := by
  unfold rowOf
  simp only [pointwise]
  refine congrArg x ?_
  idx_ext
theorem ld128 (x : Vec Ideal S1024x3328 .bf16) (o : Nat) (inb : ∀ a, (![0, o] : Fin 2 → Nat) a + S1024x128.size a ≤ S1024x3328.size a) (ho : o + 128 ≤ 3328)
    (k : Fin 1024) (f : Fin 128) :
    rowOf (View.ld x (Rect.unit (s := S1024x3328) ![0, o] S1024x128.size inb)) k f = rowOf x k ⟨o + f.val, by omega⟩ := by
  unfold rowOf
  simp only [pointwise]
  refine congrArg x ?_
  idx_ext

section
variable (x0 : Vec Ideal S512x1024 .f32) (x1 : Vec Ideal S1x1024 .f32) (x2 : Vec Ideal S1024x3328 .bf16) (x3 x4 x5 : Vec Ideal S512x128 .f32)
variable (A g : Fin 1024 → EReal) (W : Fin 1024 → Fin 3280 → EReal) (p : Nat) (r : Fin 512)
variable (h0 : rowOf x0 r = A) (h1 : rowOf x1 0 = g) (h2 : ∀ (k : Fin 1024) (l : Fin 3328), rowOf x2 k l = colOf W (src l.val) k)
include h0 h1 h2

/-- The normalized row, from the blocks. -/
theorem hid_apply : rowOf (k0_pay3 (View.ld x0 r0_0) (View.ld x1 r0_1)) r = norm A g := by
  funext k
  refine (pay3_apply _ _ r k).trans ?_
  exact congrArg₂ (fun A g => norm A g k) ((congrArg (fun y => rowOf y r) (View.ld_unit_zero off_zero _ x0)).trans h0)
    ((congrArg (fun y => rowOf y 0) (View.ld_unit_zero off_zero _ x1)).trans h1)

/-- The sum over the row, from the weight's columns. -/
theorem sum_proj (h w : Fin 1024 → EReal) (hh : h = norm A g) (c : Nat) (hc : c < 3328) (hw : ∀ k, w k = rowOf x2 k ⟨c, hc⟩) : ∑ k, h k * w k = proj A g W (src c) := by
  subst hh
  exact Finset.sum_congr rfl fun k _ => congrArg (_ * ·) ((hw k).trans (h2 k _))

/-- The rows of the parts that aren't rotated. -/
theorem out6_apply (j : Fin 1152) : out0_6 x0 x1 x2 x3 x4 x5 (ix2 (n0 := 512) (n1 := 1152) r j) = proj A g W (0 + j.val) := by
  unfold out0_6
  rw [View.canon_unit_zero off_zero]
  unfold k0_pay4
  refine (show _ = mm1152 (k0_pay3 (View.ld x0 r0_0) (View.ld x1 r0_1)) (View.ld x2 r0_2) (ix2 (n0 := 512) (n1 := 1152) r j) from rfl).trans ?_
  refine (mm1152_apply _ r _ j).trans ((sum_proj x0 x1 x2 A g W r h0 h1 h2 _ _ (hid_apply x0 x1 x2 A g W r h0 h1 h2) (0 + j.val) (by omega) (fun k => ld1152 x2 0 _ (by omega) k j)).trans ?_)
  exact congrArg _ (by unfold src; split_ifs <;> omega)
theorem out7_apply (j : Fin 384) : out0_7 x0 x1 x2 x3 x4 x5 (ix2 (n0 := 512) (n1 := 384) r j) = proj A g W (1152 + j.val) := by
  unfold out0_7
  rw [View.canon_unit_zero off_zero]
  unfold k0_pay5
  refine (show _ = mm384 (k0_pay3 (View.ld x0 r0_0) (View.ld x1 r0_1)) (View.ld x2 r0_4) (ix2 (n0 := 512) (n1 := 384) r j) from rfl).trans ?_
  refine (mm384_apply _ r _ j).trans ((sum_proj x0 x1 x2 A g W r h0 h1 h2 _ _ (hid_apply x0 x1 x2 A g W r h0 h1 h2) (1152 + j.val) (by omega) (fun k => ld384 x2 1152 _ (by omega) k j)).trans ?_)
  exact congrArg _ (by unfold src; split_ifs <;> omega)
theorem out8_apply (j : Fin 256) : out0_8 x0 x1 x2 x3 x4 x5 (ix2 (n0 := 512) (n1 := 256) r j) = proj A g W (1548 + j.val) := by
  unfold out0_8
  rw [View.canon_unit_zero off_zero]
  unfold k0_pay6
  refine (show _ = mm256 (k0_pay3 (View.ld x0 r0_0) (View.ld x1 r0_1)) (View.ld x2 r0_6) (ix2 (n0 := 512) (n1 := 256) r j) from rfl).trans ?_
  refine (mm256_apply _ r _ j).trans ((sum_proj x0 x1 x2 A g W r h0 h1 h2 _ _ (hid_apply x0 x1 x2 A g W r h0 h1 h2) (1536 + j.val) (by omega) (fun k => ld256 x2 1536 _ (by omega) k j)).trans ?_)
  exact congrArg _ (by unfold src; split_ifs <;> omega)
theorem out11_apply (j : Fin 384) : out0_11 x0 x1 x2 x3 x4 x5 (ix2 (n0 := 512) (n1 := 384) r j) = proj A g W (2572 + j.val) := by
  unfold out0_11
  rw [View.canon_unit_zero off_zero]
  unfold k0_pay7
  refine (show _ = mm384 (k0_pay3 (View.ld x0 r0_0) (View.ld x1 r0_1)) (View.ld x2 r0_8) (ix2 (n0 := 512) (n1 := 384) r j) from rfl).trans ?_
  refine (mm384_apply _ r _ j).trans ((sum_proj x0 x1 x2 A g W r h0 h1 h2 _ _ (hid_apply x0 x1 x2 A g W r h0 h1 h2) (2560 + j.val) (by omega) (fun k => ld384 x2 2560 _ (by omega) k j)).trans ?_)
  exact congrArg _ (by unfold src; split_ifs <;> omega)

variable (h3 : ∀ l : Fin 128, rowOf x3 r l = tabC p l.val) (h4 : ∀ l : Fin 128, rowOf x4 r l = tabA p l.val) (h5 : ∀ l : Fin 128, rowOf x5 r l = tabB p l.val)
include h3 h4 h5

omit h0 h1 h2 h4 h5 in
/-- The tables' rows, as the kernel reads them. -/
theorem tab3 (l : Fin 128) : rowOf (k0_pay8 (View.ld x3 r0_9)) r l = tabC p l.val := by
  rw [View.ld_unit_zero off_zero]
  refine Eq.trans ?_ (h3 l)
  unfold rowOf k0_pay8
  simp only [pointwise]
omit h0 h1 h2 h3 h5 in
theorem tab4 (l : Fin 128) : rowOf (k0_pay9 (View.ld x4 r0_9)) r l = tabA p l.val := by
  rw [View.ld_unit_zero off_zero]
  refine Eq.trans ?_ (h4 l)
  unfold rowOf k0_pay9
  simp only [pointwise]
omit h0 h1 h2 h3 h4 in
theorem tab5 (l : Fin 128) : rowOf (k0_pay10 (View.ld x5 r0_9)) r l = tabB p l.val := by
  rw [View.ld_unit_zero off_zero]
  refine Eq.trans ?_ (h5 l)
  unfold rowOf k0_pay10
  simp only [pointwise]

/-- The rows of the rotated parts. -/
theorem out9_apply (j : Fin 384) : out0_9 x0 x1 x2 x3 x4 x5 (ix2 (n0 := 512) (n1 := 384) r j) = rot (fun i => proj A g W (1804 + i)) p j.val := by
  unfold out0_9
  rw [View.canon_unit_zero off_zero]
  unfold k0_pay11 k0_pay13
  refine turn384 _ _ _ p r (tab3 x3 p r h3) (tab4 x4 p r h4) (tab5 x5 p r h5) (mm384 (k0_pay3 (View.ld x0 r0_0) (View.ld x1 r0_1)) (View.ld x2 r0_10)) _ (fun i => (mm384_apply _ r _ i).trans ?_) j
  refine (sum_proj x0 x1 x2 A g W r h0 h1 h2 _ _ (hid_apply x0 x1 x2 A g W r h0 h1 h2) (1792 + i.val) (by omega) (fun k => ld384 x2 1792 _ (by omega) k i)).trans ?_
  exact congrArg (proj A g W) (by unfold src; split_ifs <;> omega)
theorem out10_apply (j : Fin 384) : out0_10 x0 x1 x2 x3 x4 x5 (ix2 (n0 := 512) (n1 := 384) r j) = rot (fun i => proj A g W (2188 + i)) p j.val := by
  unfold out0_10
  rw [View.canon_unit_zero off_zero]
  unfold k0_pay12 k0_pay13
  refine turn384 _ _ _ p r (tab3 x3 p r h3) (tab4 x4 p r h4) (tab5 x5 p r h5) (mm384 (k0_pay3 (View.ld x0 r0_0) (View.ld x1 r0_1)) (View.ld x2 r0_11)) _ (fun i => (mm384_apply _ r _ i).trans ?_) j
  refine (sum_proj x0 x1 x2 A g W r h0 h1 h2 _ _ (hid_apply x0 x1 x2 A g W r h0 h1 h2) (2176 + i.val) (by omega) (fun k => ld384 x2 2176 _ (by omega) k i)).trans ?_
  exact congrArg (proj A g W) (by unfold src; split_ifs <;> omega)
theorem out12_apply (j : Fin 256) : out0_12 x0 x1 x2 x3 x4 x5 (ix2 (n0 := 512) (n1 := 256) r j) = rot (fun i => proj A g W (2956 + i)) p j.val := by
  unfold out0_12
  rw [View.canon_unit_zero off_zero]
  unfold k0_pay1 k0_pay13 k0_pay14 k0_pay15 k0_pay16
  refine turn256 _ _ _ p r (tab3 x3 p r h3) (tab4 x4 p r h4) (tab5 x5 p r h5) (mm256 (k0_pay3 (View.ld x0 r0_0) (View.ld x1 r0_1)) (View.ld x2 r0_12)) _ (fun i => (mm256_apply _ r _ i).trans ?_) j
  refine (sum_proj x0 x1 x2 A g W r h0 h1 h2 _ _ (hid_apply x0 x1 x2 A g W r h0 h1 h2) (2944 + i.val) (by omega) (fun k => ld256 x2 2944 _ (by omega) k i)).trans ?_
  exact congrArg (proj A g W) (by unfold src; split_ifs <;> omega)
theorem out13_apply (j : Fin 128) : out0_13 x0 x1 x2 x3 x4 x5 (ix2 (n0 := 512) (n1 := 128) r j) = small A g W p j.val := by
  unfold out0_13
  rw [View.canon_unit_zero off_zero]
  unfold k0_pay2 k0_pay13 k0_pay14 k0_pay15 k0_pay16
  refine (turn128 _ _ _ p r (tab3 x3 p r h3) (tab4 x4 p r h4) (tab5 x5 p r h5) (mm128 (k0_pay3 (View.ld x0 r0_0) (View.ld x1 r0_1)) (View.ld x2 r0_13)) (fun l => proj A g W (src (3200 + l))) (fun i => (mm128_apply _ r _ i).trans ?_) j).trans ?_
  · exact sum_proj x0 x1 x2 A g W r h0 h1 h2 _ _ (hid_apply x0 x1 x2 A g W r h0 h1 h2) (3200 + i.val) (by omega) (fun k => ld128 x2 3200 _ (by omega) k i)
  · unfold small
    by_cases h : j.val < 64
    · rw [if_pos h, if_pos h]
      exact rot_congr _ _ p j.val 64 rfl h fun i hi => congrArg (proj A g W) (by unfold src; split_ifs <;> omega)
    · rw [if_neg h, if_neg h]
end

end Cert.InProjIdeal

end
-- ==== Proof.InProjHost.lean ====
module

public import proofs.«01_k».proof.Proof.Gen.InProjIdeal.Frame
public import proofs.«01_k».proof.Proof.InProjRow
public import Idealize.ShloMosaic.Lib.Pipeline.ValueKit

@[expose] public section

/-! What the host lines prepare for the projection kernel: the weight's columns in its order and the rotation's three tables. -/

set_option maxRecDepth 16384

noncomputable section

namespace Cert.InProjIdeal

open Idealize.ShloMosaic Idealize.ShloMosaic.TcCoe
open Gen
open Cert.FfnRow Cert.InProjRow

variable (m : (ℓ : Loc nD τ sig) → Buf (Elt Ideal) ℓ)

/-- The weight's columns in the order that the kernel takes them in. -/
def wPrep (w : FVec Ideal S1024x3280 .f32) : FVec Ideal S1024x3328 .bf16 :=
  Host.convertf .bf16 (concatenate S1024x3328 1 [⟨S1024x1152, extractStridedSlice S1024x1152 ![0, 0] w slices_S1024x3280_S1024x1152_0_0⟩,
    ⟨S1024x384, extractStridedSlice S1024x384 ![0, 1152] w slices_S1024x3280_S1024x384_0_1152⟩,
    ⟨S1024x256, extractStridedSlice S1024x256 ![0, 1548] w slices_S1024x3280_S1024x256_0_1548⟩,
    ⟨S1024x384, extractStridedSlice S1024x384 ![0, 1804] w slices_S1024x3280_S1024x384_0_1804⟩,
    ⟨S1024x384, extractStridedSlice S1024x384 ![0, 2188] w slices_S1024x3280_S1024x384_0_2188⟩,
    ⟨S1024x384, extractStridedSlice S1024x384 ![0, 2572] w slices_S1024x3280_S1024x384_0_2572⟩,
    ⟨S1024x256, extractStridedSlice S1024x256 ![0, 2956] w slices_S1024x3280_S1024x256_0_2956⟩,
    ⟨S1024x64, extractStridedSlice S1024x64 ![0, 3212] w slices_S1024x3280_S1024x64_0_3212⟩,
    ⟨S1024x4, extractStridedSlice S1024x4 ![0, 3276] w slices_S1024x3280_S1024x4_0_3276⟩,
    ⟨S1024x6, extractStridedSlice S1024x6 ![0, 1536] w slices_S1024x3280_S1024x6_0_1536⟩,
    ⟨S1024x6, extractStridedSlice S1024x6 ![0, 1542] w slices_S1024x3280_S1024x6_0_1542⟩,
    ⟨S1024x48, broadcastInDim S1024x48 ![] bcast_S_S1024x48 (constant S_ .f32 0x00000000#32)⟩] concatenates_S1024x1152_S1024x384_S1024x256_S1024x384_S1024x384_S1024x384_S1024x256_S1024x64_S1024x4_S1024x6_S1024x6_S1024x48_S1024x3328_d1)

/-- The weight that the call takes. -/
theorem V_main_v14 (c : Dev nD) : V m c main_v14 = wPrep (m ((c : Thread nD τ).loc main_arg2)) := by
  unfold V hostOps0
  after_results_simp <;> (try dsimp only [Matrix.cons_val]) <;> (try after_results_simp) <;> (try dsimp only [Matrix.cons_val]) <;> (try after_results_simp) <;> rfl

/-- A column of the weight. -/
theorem at_col (w : FVec Ideal S1024x3280 .f32) (k : Fin 1024) (c : Nat) (hc : c < 3280) (l : Nat) (h : src l = c) :
    w (ix2 (n0 := 1024) (n1 := 3280) k ⟨c, hc⟩) = colOf (rowOf w) (src l) k := by
  subst h
  exact Eq.symm (show colOf (rowOf w) (src l) k = w (ix2 (n0 := 1024) (n1 := 3280) k ⟨src l, hc⟩) from dif_pos hc)

/-- The columns are the weight's, in the kernel's order. -/
theorem wPrep_apply (w : FVec Ideal S1024x3280 .f32) (k : Fin 1024) (l : Fin 3328) : wPrep w (ix2 (n0 := 1024) (n1 := 3328) k l) = colOf (rowOf w) (src l.val) k := by
  unfold wPrep
  simp only [pointwise]
  by_cases h0 : l.val < 1152
  · refine (dif_pos h0).trans (Eq.trans (congrArg w ?_) (at_col w k (0 + (l.val)) (by omega) l.val (by unfold src; split_ifs <;> omega)))
    idx_ext
  refine (dif_neg h0).trans ?_
  by_cases h1 : l.val - 1152 < 384
  · refine (dif_pos h1).trans (Eq.trans (congrArg w ?_) (at_col w k (1152 + (l.val - 1152)) (by omega) l.val (by unfold src; split_ifs <;> omega)))
    idx_ext
  refine (dif_neg h1).trans ?_
  by_cases h2 : l.val - 1152 - 384 < 256
  · refine (dif_pos h2).trans (Eq.trans (congrArg w ?_) (at_col w k (1548 + (l.val - 1152 - 384)) (by omega) l.val (by unfold src; split_ifs <;> omega)))
    idx_ext
  refine (dif_neg h2).trans ?_
  by_cases h3 : l.val - 1152 - 384 - 256 < 384
  · refine (dif_pos h3).trans (Eq.trans (congrArg w ?_) (at_col w k (1804 + (l.val - 1152 - 384 - 256)) (by omega) l.val (by unfold src; split_ifs <;> omega)))
    idx_ext
  refine (dif_neg h3).trans ?_
  by_cases h4 : l.val - 1152 - 384 - 256 - 384 < 384
  · refine (dif_pos h4).trans (Eq.trans (congrArg w ?_) (at_col w k (2188 + (l.val - 1152 - 384 - 256 - 384)) (by omega) l.val (by unfold src; split_ifs <;> omega)))
    idx_ext
  refine (dif_neg h4).trans ?_
  by_cases h5 : l.val - 1152 - 384 - 256 - 384 - 384 < 384
  · refine (dif_pos h5).trans (Eq.trans (congrArg w ?_) (at_col w k (2572 + (l.val - 1152 - 384 - 256 - 384 - 384)) (by omega) l.val (by unfold src; split_ifs <;> omega)))
    idx_ext
  refine (dif_neg h5).trans ?_
  by_cases h6 : l.val - 1152 - 384 - 256 - 384 - 384 - 384 < 256
  · refine (dif_pos h6).trans (Eq.trans (congrArg w ?_) (at_col w k (2956 + (l.val - 1152 - 384 - 256 - 384 - 384 - 384)) (by omega) l.val (by unfold src; split_ifs <;> omega)))
    idx_ext
  refine (dif_neg h6).trans ?_
  by_cases h7 : l.val - 1152 - 384 - 256 - 384 - 384 - 384 - 256 < 64
  · refine (dif_pos h7).trans (Eq.trans (congrArg w ?_) (at_col w k (3212 + (l.val - 1152 - 384 - 256 - 384 - 384 - 384 - 256)) (by omega) l.val (by unfold src; split_ifs <;> omega)))
    idx_ext
  refine (dif_neg h7).trans ?_
  by_cases h8 : l.val - 1152 - 384 - 256 - 384 - 384 - 384 - 256 - 64 < 4
  · refine (dif_pos h8).trans (Eq.trans (congrArg w ?_) (at_col w k (3276 + (l.val - 1152 - 384 - 256 - 384 - 384 - 384 - 256 - 64)) (by omega) l.val (by unfold src; split_ifs <;> omega)))
    idx_ext
  refine (dif_neg h8).trans ?_
  by_cases h9 : l.val - 1152 - 384 - 256 - 384 - 384 - 384 - 256 - 64 - 4 < 6
  · refine (dif_pos h9).trans (Eq.trans (congrArg w ?_) (at_col w k (1536 + (l.val - 1152 - 384 - 256 - 384 - 384 - 384 - 256 - 64 - 4)) (by omega) l.val (by unfold src; split_ifs <;> omega)))
    idx_ext
  refine (dif_neg h9).trans ?_
  by_cases h10 : l.val - 1152 - 384 - 256 - 384 - 384 - 384 - 256 - 64 - 4 - 6 < 6
  · refine (dif_pos h10).trans (Eq.trans (congrArg w ?_) (at_col w k (1542 + (l.val - 1152 - 384 - 256 - 384 - 384 - 384 - 256 - 64 - 4 - 6)) (by omega) l.val (by unfold src; split_ifs <;> omega)))
    idx_ext
  refine (dif_neg h10).trans ?_
  exact Eq.symm (dif_neg (by unfold src; split_ifs <;> omega))

/-- The angles. -/
def ang : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 (Host.powf (broadcastInDim S8 ![] bcast_S_S8 (constant S_ .f32 0x48F42400#32))
      (Host.divf (Host.negf (sitofp .f32 (iotaInDim S8 32 0))) (broadcastInDim S8 ![] bcast_S_S8 (constant S_ .f32 0x41000000#32))))))

/-- Position by position. -/
theorem ang_apply (p : Fin 8192) (i : Fin 8) : ang (ix2 (n0 := 8192) (n1 := 8) p i) = angle p.val i.val := by
  unfold ang
  simp only [pointwise]
  rfl

/-- A table of 64 columns twice beside itself. -/
def twice (x : FVec Ideal S8192x64 .f32) : FVec Ideal S8192x128 .f32 :=
  shapeCast _ (broadcastInDim S1x8192x2x64 ![0, 1, 2, 3] bcast_S1x8192x1x64_S1x8192x2x64_0_1_2_3 (shapeCast _ x shapeCasts_S8192x64_S1x8192x1x64)) shapeCasts_S1x8192x2x64_S8192x128

/-- Its columns repeat. -/
theorem twice_apply (x : FVec Ideal S8192x64 .f32) (p : Fin 8192) (l : Fin 128) :
    twice x (ix2 (n0 := 8192) (n1 := 128) p l) = x (ix2 (n0 := 8192) (n1 := 64) p ⟨l.val % 64, by omega⟩) := by
  unfold twice
  simp only [pointwise]
  rfl

/-- The factors of 64 columns, from the angles. -/
def tC : FVec Ideal S8192x64 .f32 :=
  concatenate S8192x64 1 [⟨S8192x8, Host.cos ang⟩, ⟨S8192x8, Host.cos ang⟩, ⟨S8192x48, broadcastInDim S8192x48 ![] bcast_S_S8192x48 (constant S_ .f32 0x3F800000#32)⟩] concatenates_S8192x8_S8192x8_S8192x48_S8192x64_d1
def tA : FVec Ideal S8192x64 .f32 :=
  concatenate S8192x64 1 [⟨S8192x8, Host.negf (Host.sin ang)⟩, ⟨S8192x56, broadcastInDim S8192x56 ![] bcast_S_S8192x56 (constant S_ .f32 0x00000000#32)⟩] concatenates_S8192x8_S8192x56_S8192x64_d1
def tB : FVec Ideal S8192x64 .f32 :=
  concatenate S8192x64 1 [⟨S8192x8, broadcastInDim S8192x8 ![] bcast_S_S8192x8 (constant S_ .f32 0x00000000#32)⟩, ⟨S8192x8, Host.sin ang⟩,
    ⟨S8192x48, broadcastInDim S8192x48 ![] bcast_S_S8192x48 (constant S_ .f32 0x00000000#32)⟩] concatenates_S8192x8_S8192x8_S8192x48_S8192x64_d1

/-- They are the rotation's factors. -/
theorem tC_apply (p : Fin 8192) (l : Fin 64) : tC (ix2 (n0 := 8192) (n1 := 64) p l) = tabC p.val l.val := by
  unfold tC tabC cosOf
  simp only [pointwise, ang_apply]
  rw [Nat.mod_eq_of_lt l.isLt]
  by_cases h1 : l.val < 8
  · exact (dif_pos h1).trans (if_pos h1).symm
  · refine (dif_neg h1).trans (Eq.trans ?_ (if_neg h1).symm)
    by_cases h2 : l.val - 8 < 8
    · exact (dif_pos h2).trans (if_pos (show l.val < 16 by omega)).symm
    · exact (dif_neg h2).trans (if_neg (show ¬ l.val < 16 by omega)).symm
theorem tA_apply (p : Fin 8192) (l : Fin 64) : tA (ix2 (n0 := 8192) (n1 := 64) p l) = tabA p.val l.val := by
  unfold tA tabA sinOf
  simp only [pointwise, ang_apply]
  rw [Nat.mod_eq_of_lt l.isLt]
  by_cases h1 : l.val < 8
  · exact (dif_pos h1).trans (if_pos h1).symm
  · exact (dif_neg h1).trans (if_neg h1).symm
theorem tB_apply (p : Fin 8192) (l : Fin 64) : tB (ix2 (n0 := 8192) (n1 := 64) p l) = tabB p.val l.val := by
  unfold tB tabB sinOf
  simp only [pointwise, ang_apply]
  rw [Nat.mod_eq_of_lt l.isLt]
  by_cases h1 : l.val < 8
  · exact (dif_pos h1).trans (if_pos h1).symm
  · refine (dif_neg h1).trans (Eq.trans ?_ (if_neg h1).symm)
    by_cases h2 : l.val - 8 < 8
    · exact (dif_pos h2).trans (if_pos (show l.val < 16 by omega)).symm
    · exact (dif_neg h2).trans (if_neg (show ¬ l.val < 16 by omega)).symm

/-- The three tables that the call takes. -/
theorem V_main_v40 (c : Dev nD) : V m c main_v40 = twice tC := by
  unfold V hostOps0
  after_results_simp <;> (try dsimp only [Matrix.cons_val]) <;> (try after_results_simp) <;> (try dsimp only [Matrix.cons_val]) <;> (try after_results_simp) <;> rfl
theorem V_main_v43 (c : Dev nD) : V m c main_v43 = twice tA := by
  unfold V hostOps0
  after_results_simp <;> (try dsimp only [Matrix.cons_val]) <;> (try after_results_simp) <;> (try dsimp only [Matrix.cons_val]) <;> (try after_results_simp) <;> rfl
theorem V_main_v46 (c : Dev nD) : V m c main_v46 = twice tB := by
  unfold V hostOps0
  after_results_simp <;> (try dsimp only [Matrix.cons_val]) <;> (try after_results_simp) <;> (try dsimp only [Matrix.cons_val]) <;> (try after_results_simp) <;> rfl

/-- The norm's gains, as a row. -/
theorem V_main_v0 (c : Dev nD) : V m c main_v0 = shapeCast S1x1024 (m ((c : Thread nD τ).loc main_arg1)) shapeCasts_S1024_S1x1024 := by
  unfold V hostOps0
  after_results
  rfl

/-- The entries of these arrays. -/
theorem gain_apply (c : Dev nD) (j : Fin 1024) : rowOf (V m c main_v0 : S1x1024.Idx → EReal) 0 j = vecOf (m ((c : Thread nD τ).loc main_arg1) : S1024.Idx → EReal) j := by
  unfold rowOf vecOf
  rw [V_main_v0]
  simp only [pointwise]
theorem weight_apply (c : Dev nD) (k : Fin 1024) (l : Fin 3328) :
    rowOf (V m c main_v14 : S1024x3328.Idx → EReal) k l = colOf (rowOf (m ((c : Thread nD τ).loc main_arg2) : S1024x3280.Idx → EReal)) (src l.val) k := by
  unfold rowOf
  rw [V_main_v14]
  exact wPrep_apply _ k l
theorem tabC_apply (c : Dev nD) (p : Fin 8192) (l : Fin 128) : rowOf (V m c main_v40 : S8192x128.Idx → EReal) p l = tabC p.val l.val := by
  unfold rowOf
  rw [V_main_v40]
  exact (twice_apply _ p l).trans ((tC_apply p _).trans (tabC_mod _ _ _ (Nat.mod_mod _ _)))
theorem tabA_apply (c : Dev nD) (p : Fin 8192) (l : Fin 128) : rowOf (V m c main_v43 : S8192x128.Idx → EReal) p l = tabA p.val l.val := by
  unfold rowOf
  rw [V_main_v43]
  exact (twice_apply _ p l).trans ((tA_apply p _).trans (tabA_mod _ _ _ (Nat.mod_mod _ _)))
theorem tabB_apply (c : Dev nD) (p : Fin 8192) (l : Fin 128) : rowOf (V m c main_v46 : S8192x128.Idx → EReal) p l = tabB p.val l.val := by
  unfold rowOf
  rw [V_main_v46]
  exact (twice_apply _ p l).trans ((tB_apply p _).trans (tabB_mod _ _ _ (Nat.mod_mod _ _)))

end Cert.InProjIdeal

end
-- ==== Proof.InProjArrays.lean ====
module

public import proofs.«01_k».proof.Proof.InProjBlock
public import proofs.«01_k».proof.Proof.InProjHost
public import Idealize.ShloMosaic.Lib.Pipeline.Covers

@[expose] public section

/-! The projection kernel's eight results: every token's row of each. -/

set_option maxRecDepth 16384

noncomputable section

namespace Cert.InProjIdeal

open Idealize.ShloMosaic Idealize.ShloMosaic.TcCoe
open Idealize.SL Idealize.SL.Sem
open Idealize.ShloMosaic.Pipeline (Dat Cfg Window)
open Gen
open Cert.FfnRow Cert.InProjRow

variable (m : (ℓ : Loc nD τ sig) → Buf (Elt Ideal) ℓ)

/-- The blocks that the windows take at a grid point. -/
theorem index_tok0 : ∀ t : Fin cfg0.N, win0_0.index t = ![t.val, 0] := (by decide +kernel : ∀ t : Fin grid0.N, win0_0.index t = ![t.val, 0])
theorem index_tok6 : ∀ t : Fin cfg0.N, win0_6.index t = ![t.val, 0] := (by decide +kernel : ∀ t : Fin grid0.N, win0_6.index t = ![t.val, 0])
theorem index_tok7 : ∀ t : Fin cfg0.N, win0_7.index t = ![t.val, 0] := (by decide +kernel : ∀ t : Fin grid0.N, win0_7.index t = ![t.val, 0])
theorem index_tok8 : ∀ t : Fin cfg0.N, win0_8.index t = ![t.val, 0] := (by decide +kernel : ∀ t : Fin grid0.N, win0_8.index t = ![t.val, 0])
theorem index_tok9 : ∀ t : Fin cfg0.N, win0_9.index t = ![t.val, 0] := (by decide +kernel : ∀ t : Fin grid0.N, win0_9.index t = ![t.val, 0])
theorem index_tok10 : ∀ t : Fin cfg0.N, win0_10.index t = ![t.val, 0] := (by decide +kernel : ∀ t : Fin grid0.N, win0_10.index t = ![t.val, 0])
theorem index_tok11 : ∀ t : Fin cfg0.N, win0_11.index t = ![t.val, 0] := (by decide +kernel : ∀ t : Fin grid0.N, win0_11.index t = ![t.val, 0])
theorem index_tok12 : ∀ t : Fin cfg0.N, win0_12.index t = ![t.val, 0] := (by decide +kernel : ∀ t : Fin grid0.N, win0_12.index t = ![t.val, 0])
theorem index_tok13 : ∀ t : Fin cfg0.N, win0_13.index t = ![t.val, 0] := (by decide +kernel : ∀ t : Fin grid0.N, win0_13.index t = ![t.val, 0])
theorem index_w1 : ∀ t : Fin cfg0.N, win0_1.index t = ![0, 0] := (by decide +kernel : ∀ t : Fin grid0.N, win0_1.index t = ![0, 0])
theorem index_w2 : ∀ t : Fin cfg0.N, win0_2.index t = ![0, 0] := (by decide +kernel : ∀ t : Fin grid0.N, win0_2.index t = ![0, 0])
theorem index_t3 : ∀ t : Fin cfg0.N, win0_3.index t = ![t.val % 16, 0] := (by decide +kernel : ∀ t : Fin grid0.N, win0_3.index t = ![t.val % 16, 0])
theorem index_t4 : ∀ t : Fin cfg0.N, win0_4.index t = ![t.val % 16, 0] := (by decide +kernel : ∀ t : Fin grid0.N, win0_4.index t = ![t.val % 16, 0])
theorem index_t5 : ∀ t : Fin cfg0.N, win0_5.index t = ![t.val % 16, 0] := (by decide +kernel : ∀ t : Fin grid0.N, win0_5.index t = ![t.val % 16, 0])

/-- A grid point's token, and its position in its sequence. -/
def token (t : Fin cfg0.N) (r : Fin 512) : Fin 16384 := ⟨512 * t.val + r.val, by have : t.val < 32 := t.isLt; omega⟩
def place (t : Fin cfg0.N) (r : Fin 512) : Fin 8192 := ⟨(token t r).val % 8192, by omega⟩

section
variable (c : Dev nD) (t : Fin cfg0.N)

/-- The blocks' rows. -/
theorem blk0 (r : Fin 512) (k : Fin 1024) : rowOf (iblk m c 0 t : S512x1024.Idx → EReal) r k = rowOf (m ((c : Thread nD τ).loc main_arg0) : S16384x1024.Idx → EReal) (token t r) k := by
  rw [← V_main_arg0 m c]
  unfold rowOf
  blk_simp [iblk]
  refine congrArg (V m c main_arg0) ?_
  have e := index_tok0 t
  funext x
  fin_cases x <;> apply Fin.ext <;> blk_simp [e]
  · show t.val * 512 + r.val = 512 * t.val + r.val; omega
  · rfl
theorem blk1 (j : Fin 1024) : rowOf (iblk m c 1 t : S1x1024.Idx → EReal) 0 j = vecOf (m ((c : Thread nD τ).loc main_arg1) : S1024.Idx → EReal) j := by
  refine Eq.trans ?_ (gain_apply m c j)
  unfold rowOf
  blk_simp [iblk]
  refine congrArg (V m c main_v0) ?_
  have e := index_w1 t
  funext x
  fin_cases x <;> apply Fin.ext <;> blk_simp [e] <;> rfl
theorem blk2 (k : Fin 1024) (l : Fin 3328) : rowOf (iblk m c 2 t : S1024x3328.Idx → EReal) k l = colOf (rowOf (m ((c : Thread nD τ).loc main_arg2) : S1024x3280.Idx → EReal)) (src l.val) k := by
  refine Eq.trans ?_ (weight_apply m c k l)
  unfold rowOf
  blk_simp [iblk]
  refine congrArg (V m c main_v14) ?_
  have e := index_w2 t
  funext x
  fin_cases x <;> apply Fin.ext <;> blk_simp [e] <;> rfl
theorem blk3 (r : Fin 512) (l : Fin 128) : rowOf (iblk m c 3 t : S512x128.Idx → EReal) r l = tabC (place t r).val l.val := by
  refine Eq.trans ?_ (tabC_apply m c (place t r) l)
  unfold rowOf
  blk_simp [iblk]
  refine congrArg (V m c main_v40) ?_
  have e := index_t3 t
  funext x
  fin_cases x <;> apply Fin.ext <;> blk_simp [e]
  · show t.val % 16 * 512 + r.val = (512 * t.val + r.val) % 8192; omega
  · rfl
theorem blk4 (r : Fin 512) (l : Fin 128) : rowOf (iblk m c 4 t : S512x128.Idx → EReal) r l = tabA (place t r).val l.val := by
  refine Eq.trans ?_ (tabA_apply m c (place t r) l)
  unfold rowOf
  blk_simp [iblk]
  refine congrArg (V m c main_v43) ?_
  have e := index_t4 t
  funext x
  fin_cases x <;> apply Fin.ext <;> blk_simp [e]
  · show t.val % 16 * 512 + r.val = (512 * t.val + r.val) % 8192; omega
  · rfl
theorem blk5 (r : Fin 512) (l : Fin 128) : rowOf (iblk m c 5 t : S512x128.Idx → EReal) r l = tabB (place t r).val l.val := by
  refine Eq.trans ?_ (tabB_apply m c (place t r) l)
  unfold rowOf
  blk_simp [iblk]
  refine congrArg (V m c main_v46) ?_
  have e := index_t5 t
  funext x
  fin_cases x <;> apply Fin.ext <;> blk_simp [e]
  · show t.val % 16 * 512 + r.val = (512 * t.val + r.val) % 8192; omega
  · rfl
end

/-- A token's projection, from the arguments, and the rotated rows. -/
def prj (c : Dev nD) (i : Fin 16384) (l : Nat) : EReal :=
  proj (rowOf (m ((c.tc : Thread nD τ).loc main_arg0)) i) (vecOf (m ((c.tc : Thread nD τ).loc main_arg1))) (rowOf (m ((c.tc : Thread nD τ).loc main_arg2))) l
def turned (c : Dev nD) (o : Nat) (i : Fin 16384) (j : Nat) : EReal := rot (fun l => prj m c i (o + l)) (i.val % 8192) j
def rest (c : Dev nD) (i : Fin 16384) (j : Nat) : EReal :=
  small (rowOf (m ((c.tc : Thread nD τ).loc main_arg0)) i) (vecOf (m ((c.tc : Thread nD τ).loc main_arg1))) (rowOf (m ((c.tc : Thread nD τ).loc main_arg2))) (i.val % 8192) j

/-- The arrays that hold them. -/
def result6 (c : Dev nD) (y : S16384x1152.Idx) : EReal := prj m c (y 0) (0 + (y 1).val)
def result7 (c : Dev nD) (y : S16384x384.Idx) : EReal := prj m c (y 0) (1152 + (y 1).val)
def result8 (c : Dev nD) (y : S16384x256.Idx) : EReal := prj m c (y 0) (1548 + (y 1).val)
def result9 (c : Dev nD) (y : S16384x384.Idx) : EReal := turned m c 1804 (y 0) (y 1).val
def result10 (c : Dev nD) (y : S16384x384.Idx) : EReal := turned m c 2188 (y 0) (y 1).val
def result11 (c : Dev nD) (y : S16384x384.Idx) : EReal := prj m c (y 0) (2572 + (y 1).val)
def result12 (c : Dev nD) (y : S16384x256.Idx) : EReal := turned m c 2956 (y 0) (y 1).val
def result13 (c : Dev nD) (y : S16384x128.Idx) : EReal := rest m c (y 0) (y 1).val

section
variable (c : Dev nD) (t : Fin cfg0.N)

/-- A block of each array. -/
theorem block6 (r : Fin 512) (j : Fin 1152) :
    out0_6 (iblk m c 0 t) (iblk m c 1 t) (iblk m c 2 t) (iblk m c 3 t) (iblk m c 4 t) (iblk m c 5 t) (ix2 (n0 := 512) (n1 := 1152) r j) = prj m c (token t r) (0 + j.val) :=
  out6_apply _ _ _ _ _ _ _ _ _ r (funext (blk0 m c t r)) (funext (blk1 m c t)) (blk2 m c t) j
theorem block7 (r : Fin 512) (j : Fin 384) :
    out0_7 (iblk m c 0 t) (iblk m c 1 t) (iblk m c 2 t) (iblk m c 3 t) (iblk m c 4 t) (iblk m c 5 t) (ix2 (n0 := 512) (n1 := 384) r j) = prj m c (token t r) (1152 + j.val) :=
  out7_apply _ _ _ _ _ _ _ _ _ r (funext (blk0 m c t r)) (funext (blk1 m c t)) (blk2 m c t) j
theorem block8 (r : Fin 512) (j : Fin 256) :
    out0_8 (iblk m c 0 t) (iblk m c 1 t) (iblk m c 2 t) (iblk m c 3 t) (iblk m c 4 t) (iblk m c 5 t) (ix2 (n0 := 512) (n1 := 256) r j) = prj m c (token t r) (1548 + j.val) :=
  out8_apply _ _ _ _ _ _ _ _ _ r (funext (blk0 m c t r)) (funext (blk1 m c t)) (blk2 m c t) j
theorem block9 (r : Fin 512) (j : Fin 384) :
    out0_9 (iblk m c 0 t) (iblk m c 1 t) (iblk m c 2 t) (iblk m c 3 t) (iblk m c 4 t) (iblk m c 5 t) (ix2 (n0 := 512) (n1 := 384) r j) = turned m c 1804 (token t r) j.val :=
  out9_apply _ _ _ _ _ _ _ _ _ (place t r).val r (funext (blk0 m c t r)) (funext (blk1 m c t)) (blk2 m c t) (blk3 m c t r) (blk4 m c t r) (blk5 m c t r) j
theorem block10 (r : Fin 512) (j : Fin 384) :
    out0_10 (iblk m c 0 t) (iblk m c 1 t) (iblk m c 2 t) (iblk m c 3 t) (iblk m c 4 t) (iblk m c 5 t) (ix2 (n0 := 512) (n1 := 384) r j) = turned m c 2188 (token t r) j.val :=
  out10_apply _ _ _ _ _ _ _ _ _ (place t r).val r (funext (blk0 m c t r)) (funext (blk1 m c t)) (blk2 m c t) (blk3 m c t r) (blk4 m c t r) (blk5 m c t r) j
theorem block11 (r : Fin 512) (j : Fin 384) :
    out0_11 (iblk m c 0 t) (iblk m c 1 t) (iblk m c 2 t) (iblk m c 3 t) (iblk m c 4 t) (iblk m c 5 t) (ix2 (n0 := 512) (n1 := 384) r j) = prj m c (token t r) (2572 + j.val) :=
  out11_apply _ _ _ _ _ _ _ _ _ r (funext (blk0 m c t r)) (funext (blk1 m c t)) (blk2 m c t) j
theorem block12 (r : Fin 512) (j : Fin 256) :
    out0_12 (iblk m c 0 t) (iblk m c 1 t) (iblk m c 2 t) (iblk m c 3 t) (iblk m c 4 t) (iblk m c 5 t) (ix2 (n0 := 512) (n1 := 256) r j) = turned m c 2956 (token t r) j.val :=
  out12_apply _ _ _ _ _ _ _ _ _ (place t r).val r (funext (blk0 m c t r)) (funext (blk1 m c t)) (blk2 m c t) (blk3 m c t r) (blk4 m c t r) (blk5 m c t r) j
theorem block13 (r : Fin 512) (j : Fin 128) :
    out0_13 (iblk m c 0 t) (iblk m c 1 t) (iblk m c 2 t) (iblk m c 3 t) (iblk m c 4 t) (iblk m c 5 t) (ix2 (n0 := 512) (n1 := 128) r j) = rest m c (token t r) j.val :=
  out13_apply _ _ _ _ _ _ _ _ _ (place t r).val r (funext (blk0 m c t r)) (funext (blk1 m c t)) (blk2 m c t) (blk3 m c t r) (blk4 m c t r) (blk5 m c t r) j
end

/-- Where a block's elements lie. -/
theorem emb6 (t : Fin cfg0.N) (y : S512x1152.Idx) : ((win0_6.blk t).view.emb y : S16384x1152.Idx) 0 = token t (y 0) ∧ ((win0_6.blk t).view.emb y : S16384x1152.Idx) 1 = y 1 := by
  have e := index_tok6 t
  refine ⟨Fin.ext ?_, Fin.ext ?_⟩ <;> blk_simp [e]
  · show t.val * 512 + (y 0).val = 512 * t.val + (y 0).val; omega
theorem emb7 (t : Fin cfg0.N) (y : S512x384.Idx) : ((win0_7.blk t).view.emb y : S16384x384.Idx) 0 = token t (y 0) ∧ ((win0_7.blk t).view.emb y : S16384x384.Idx) 1 = y 1 := by
  have e := index_tok7 t
  refine ⟨Fin.ext ?_, Fin.ext ?_⟩ <;> blk_simp [e]
  · show t.val * 512 + (y 0).val = 512 * t.val + (y 0).val; omega
theorem emb8 (t : Fin cfg0.N) (y : S512x256.Idx) : ((win0_8.blk t).view.emb y : S16384x256.Idx) 0 = token t (y 0) ∧ ((win0_8.blk t).view.emb y : S16384x256.Idx) 1 = y 1 := by
  have e := index_tok8 t
  refine ⟨Fin.ext ?_, Fin.ext ?_⟩ <;> blk_simp [e]
  · show t.val * 512 + (y 0).val = 512 * t.val + (y 0).val; omega
theorem emb9 (t : Fin cfg0.N) (y : S512x384.Idx) : ((win0_9.blk t).view.emb y : S16384x384.Idx) 0 = token t (y 0) ∧ ((win0_9.blk t).view.emb y : S16384x384.Idx) 1 = y 1 := by
  have e := index_tok9 t
  refine ⟨Fin.ext ?_, Fin.ext ?_⟩ <;> blk_simp [e]
  · show t.val * 512 + (y 0).val = 512 * t.val + (y 0).val; omega
theorem emb10 (t : Fin cfg0.N) (y : S512x384.Idx) : ((win0_10.blk t).view.emb y : S16384x384.Idx) 0 = token t (y 0) ∧ ((win0_10.blk t).view.emb y : S16384x384.Idx) 1 = y 1 := by
  have e := index_tok10 t
  refine ⟨Fin.ext ?_, Fin.ext ?_⟩ <;> blk_simp [e]
  · show t.val * 512 + (y 0).val = 512 * t.val + (y 0).val; omega
theorem emb11 (t : Fin cfg0.N) (y : S512x384.Idx) : ((win0_11.blk t).view.emb y : S16384x384.Idx) 0 = token t (y 0) ∧ ((win0_11.blk t).view.emb y : S16384x384.Idx) 1 = y 1 := by
  have e := index_tok11 t
  refine ⟨Fin.ext ?_, Fin.ext ?_⟩ <;> blk_simp [e]
  · show t.val * 512 + (y 0).val = 512 * t.val + (y 0).val; omega
theorem emb12 (t : Fin cfg0.N) (y : S512x256.Idx) : ((win0_12.blk t).view.emb y : S16384x256.Idx) 0 = token t (y 0) ∧ ((win0_12.blk t).view.emb y : S16384x256.Idx) 1 = y 1 := by
  have e := index_tok12 t
  refine ⟨Fin.ext ?_, Fin.ext ?_⟩ <;> blk_simp [e]
  · show t.val * 512 + (y 0).val = 512 * t.val + (y 0).val; omega
theorem emb13 (t : Fin cfg0.N) (y : S512x128.Idx) : ((win0_13.blk t).view.emb y : S16384x128.Idx) 0 = token t (y 0) ∧ ((win0_13.blk t).view.emb y : S16384x128.Idx) 1 = y 1 := by
  have e := index_tok13 t
  refine ⟨Fin.ext ?_, Fin.ext ?_⟩ <;> blk_simp [e]
  · show t.val * 512 + (y 0).val = 512 * t.val + (y 0).val; omega

/-- The arrays after the call. -/
theorem final6 (c : Dev nD) : (dats m 0 c).arrAt 6 cfg0.N = result6 m c := by
  refine (dats m 0 c).arrAt_eq_of_covers 6 _ (by decide +kernel) fun t hf y => ?_
  blk_simp
  rw [after0_6]
  have h := emb6 t y
  unfold result6
  rw [h.1, h.2]
  exact (congrArg _ (ValueIdx.eq_ix2 y)).trans (block6 m c t (y 0) (y 1))
theorem final7 (c : Dev nD) : (dats m 0 c).arrAt 7 cfg0.N = result7 m c := by
  refine (dats m 0 c).arrAt_eq_of_covers 7 _ (by decide +kernel) fun t hf y => ?_
  blk_simp
  rw [after0_7]
  have h := emb7 t y
  unfold result7
  rw [h.1, h.2]
  exact (congrArg _ (ValueIdx.eq_ix2 y)).trans (block7 m c t (y 0) (y 1))
theorem final8 (c : Dev nD) : (dats m 0 c).arrAt 8 cfg0.N = result8 m c := by
  refine (dats m 0 c).arrAt_eq_of_covers 8 _ (by decide +kernel) fun t hf y => ?_
  blk_simp
  rw [after0_8]
  have h := emb8 t y
  unfold result8
  rw [h.1, h.2]
  exact (congrArg _ (ValueIdx.eq_ix2 y)).trans (block8 m c t (y 0) (y 1))
theorem final9 (c : Dev nD) : (dats m 0 c).arrAt 9 cfg0.N = result9 m c := by
  refine (dats m 0 c).arrAt_eq_of_covers 9 _ (by decide +kernel) fun t hf y => ?_
  blk_simp
  rw [after0_9]
  have h := emb9 t y
  unfold result9
  rw [h.1, h.2]
  exact (congrArg _ (ValueIdx.eq_ix2 y)).trans (block9 m c t (y 0) (y 1))
theorem final10 (c : Dev nD) : (dats m 0 c).arrAt 10 cfg0.N = result10 m c := by
  refine (dats m 0 c).arrAt_eq_of_covers 10 _ (by decide +kernel) fun t hf y => ?_
  blk_simp
  rw [after0_10]
  have h := emb10 t y
  unfold result10
  rw [h.1, h.2]
  exact (congrArg _ (ValueIdx.eq_ix2 y)).trans (block10 m c t (y 0) (y 1))
theorem final11 (c : Dev nD) : (dats m 0 c).arrAt 11 cfg0.N = result11 m c := by
  refine (dats m 0 c).arrAt_eq_of_covers 11 _ (by decide +kernel) fun t hf y => ?_
  blk_simp
  rw [after0_11]
  have h := emb11 t y
  unfold result11
  rw [h.1, h.2]
  exact (congrArg _ (ValueIdx.eq_ix2 y)).trans (block11 m c t (y 0) (y 1))
theorem final12 (c : Dev nD) : (dats m 0 c).arrAt 12 cfg0.N = result12 m c := by
  refine (dats m 0 c).arrAt_eq_of_covers 12 _ (by decide +kernel) fun t hf y => ?_
  blk_simp
  rw [after0_12]
  have h := emb12 t y
  unfold result12
  rw [h.1, h.2]
  exact (congrArg _ (ValueIdx.eq_ix2 y)).trans (block12 m c t (y 0) (y 1))
theorem final13 (c : Dev nD) : (dats m 0 c).arrAt 13 cfg0.N = result13 m c := by
  refine (dats m 0 c).arrAt_eq_of_covers 13 _ (by decide +kernel) fun t hf y => ?_
  blk_simp
  rw [after0_13]
  have h := emb13 t y
  unfold result13
  rw [h.1, h.2]
  exact (congrArg _ (ValueIdx.eq_ix2 y)).trans (block13 m c t (y 0) (y 1))

set_option maxHeartbeats 2000000 in
/-- The run's results are these arrays, and the arguments are as they were. -/
theorem run_values (ρ : Dev nD → PrngReg) :
    θ_run defs (onTc (τ := τ) (main (F := Ideal))) ⟨m, fun _ => 0, ρ⟩ (fun r => ∀ c : Dev nD,
      r.2.mem ((c.tc : Thread nD τ).loc main_v47_0) = result6 m c
      ∧ r.2.mem ((c.tc : Thread nD τ).loc main_v47_1) = result7 m c
      ∧ r.2.mem ((c.tc : Thread nD τ).loc main_v47_2) = result8 m c
      ∧ r.2.mem ((c.tc : Thread nD τ).loc main_v47_3) = result9 m c
      ∧ r.2.mem ((c.tc : Thread nD τ).loc main_v47_4) = result10 m c
      ∧ r.2.mem ((c.tc : Thread nD τ).loc main_v47_5) = result11 m c
      ∧ r.2.mem ((c.tc : Thread nD τ).loc main_v47_6) = result12 m c
      ∧ r.2.mem ((c.tc : Thread nD τ).loc main_v47_7) = result13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 6).trans (final6 m c), ((h c).1 7).trans (final7 m c), ((h c).1 8).trans (final8 m c), ((h c).1 9).trans (final9 m c), ((h c).1 10).trans (final10 m c), ((h c).1 11).trans (final11 m c), ((h c).1 12).trans (final12 m c), ((h c).1 13).trans (final13 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Cert.InProjIdeal

end
-- ==== Proof.InProjReference.lean ====
module

public import proofs.«01_k».proof.Proof.Gen.InProjReferenceIdeal.Run
public import proofs.«01_k».proof.Proof.InProjRow

@[expose] public section

/-! What the projection's reference computes, row by row. -/

set_option maxRecDepth 16384

noncomputable section

namespace Cert.InProjReferenceIdeal

open Idealize.ShloMosaic Idealize.ShloMosaic.TcCoe
open Gen Value
open Cert.FfnRow Cert.InProjRow

/-- The normalization, as the reference spells it. -/
def nrm (A : FVec Ideal S16384x1024 .f32) (g : FVec Ideal S1024 .f32) : FVec Ideal S16384x1024 .f32 :=
  mulf (mulf A (broadcastInDim S16384x1024 ![0, 1] bcast_S16384x1_S16384x1024_0_1 (Host.rsqrt (addf (Host.divf (broadcastInDim S16384x1 ![0] bcast_S16384_S16384x1_0
    (Host.reduceAdd (mulf A A) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Its rows are normalized. -/
theorem nrm_apply (A : FVec Ideal S16384x1024 .f32) (g : FVec Ideal S1024 .f32) (r : Fin 16384) (j : Fin 1024) :
    nrm A g (ix2 (n0 := 16384) (n1 := 1024) r j) = norm (rowOf A r) (vecOf g) j := by
  unfold nrm
  simp only [pointwise]
  simp only [zero_add]
  rfl

/-- The projection of all tokens. -/
def prod (A : FVec Ideal S16384x1024 .f32) (g : FVec Ideal S1024 .f32) (w : FVec Ideal S1024x3280 .f32) : FVec Ideal S16384x3280 .f32 :=
  Host.dotGeneral dot_S16384x1024_S1024x3280_S16384x3280_1_0_0_1_n_n none (nrm A g) w

/-- Its entries are sums over the normalized row. -/
theorem prod_apply (A : FVec Ideal S16384x1024 .f32) (g : FVec Ideal S1024 .f32) (w : FVec Ideal S1024x3280 .f32) (r : Fin 16384) (c : Nat) (hc : c < 3280) :
    rowOf (prod A g w) r ⟨c, hc⟩ = proj (rowOf A r) (vecOf g) (rowOf w) c := by
  unfold rowOf prod proj
  simp only [pointwise]
  refine (zero_add _).trans (Finset.sum_congr rfl fun k _ => congrArg₂ (· * ·) (nrm_apply A g r k) ?_)
  exact Eq.symm (show colOf (rowOf w) c k = w (ix2 (n0 := 1024) (n1 := 3280) k ⟨c, hc⟩) from dif_pos hc)

/-- A part of its columns. -/
theorem cut1152 (P : FVec Ideal S16384x3280 .f32) (o : Nat) (ho : o + 1152 ≤ 3280) (h) (r : Fin 16384) (j : Fin 1152) :
    extractStridedSlice S16384x1152 ![0, o] P h (ix2 (n0 := 16384) (n1 := 1152) r j) = rowOf P r ⟨o + j.val, by omega⟩ := by
  unfold rowOf
  simp only [pointwise]
  refine congrArg P ?_
  idx_ext
theorem cut384 (P : FVec Ideal S16384x3280 .f32) (o : Nat) (ho : o + 384 ≤ 3280) (h) (r : Fin 16384) (j : Fin 384) :
    extractStridedSlice S16384x384 ![0, o] P h (ix2 (n0 := 16384) (n1 := 384) r j) = rowOf P r ⟨o + j.val, by omega⟩ := by
  unfold rowOf
  simp only [pointwise]
  refine congrArg P ?_
  idx_ext
theorem cut256 (P : FVec Ideal S16384x3280 .f32) (o : Nat) (ho : o + 256 ≤ 3280) (h) (r : Fin 16384) (j : Fin 256) :
    extractStridedSlice S16384x256 ![0, o] P h (ix2 (n0 := 16384) (n1 := 256) r j) = rowOf P r ⟨o + j.val, by omega⟩ := by
  unfold rowOf
  simp only [pointwise]
  refine congrArg P ?_
  idx_ext
theorem cut64 (P : FVec Ideal S16384x3280 .f32) (o : Nat) (ho : o + 64 ≤ 3280) (h) (r : Fin 16384) (j : Fin 64) :
    extractStridedSlice S16384x64 ![0, o] P h (ix2 (n0 := 16384) (n1 := 64) r j) = rowOf P r ⟨o + j.val, by omega⟩ := by
  unfold rowOf
  simp only [pointwise]
  refine congrArg P ?_
  idx_ext

/-- The angles. -/
def ang : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 (Host.powf (broadcastInDim S8 ![] bcast_S_S8 (constant S_ .f32 0x48F42400#32))
      (Host.divf (Host.negf (sitofp .f32 (iotaInDim S8 32 0))) (broadcastInDim S8 ![] bcast_S_S8 (constant S_ .f32 0x41000000#32))))))

/-- Position by position. -/
theorem ang_apply (p : Fin 8192) (i : Fin 8) : ang (ix2 (n0 := 8192) (n1 := 8) p i) = angle p.val i.val := by
  unfold ang
  simp only [pointwise]
  rfl

/-- The rotation of 6 heads, as the reference spells it. -/
def rope6 (y : FVec Ideal S2x8192x6x64 .f32) : FVec Ideal S2x8192x6x64 .f32 :=
  concatenate S2x8192x6x64 3 [⟨S2x8192x6x8, subf (mulf (extractStridedSlice S2x8192x6x8 ![0, 0, 0, 0] y slices_S2x8192x6x64_S2x8192x6x8_0_0_0_0) (broadcastInDim S2x8192x6x8 ![0, 1, 2, 3] bcast_S1x8192x1x8_S2x8192x6x8_0_1_2_3 (broadcastInDim S1x8192x1x8 ![1, 2, 3] bcast_S8192x1x8_S1x8192x1x8_1_2_3 (shapeCast S8192x1x8 (Host.cos ang) shapeCasts_S8192x8_S8192x1x8)))) (mulf (extractStridedSlice S2x8192x6x8 ![0, 0, 0, 8] y slices_S2x8192x6x64_S2x8192x6x8_0_0_0_8) (broadcastInDim S2x8192x6x8 ![0, 1, 2, 3] bcast_S1x8192x1x8_S2x8192x6x8_0_1_2_3 (broadcastInDim S1x8192x1x8 ![1, 2, 3] bcast_S8192x1x8_S1x8192x1x8_1_2_3 (shapeCast S8192x1x8 (Host.sin ang) shapeCasts_S8192x8_S8192x1x8))))⟩,
    ⟨S2x8192x6x8, addf (mulf (extractStridedSlice S2x8192x6x8 ![0, 0, 0, 8] y slices_S2x8192x6x64_S2x8192x6x8_0_0_0_8) (broadcastInDim S2x8192x6x8 ![0, 1, 2, 3] bcast_S1x8192x1x8_S2x8192x6x8_0_1_2_3 (broadcastInDim S1x8192x1x8 ![1, 2, 3] bcast_S8192x1x8_S1x8192x1x8_1_2_3 (shapeCast S8192x1x8 (Host.cos ang) shapeCasts_S8192x8_S8192x1x8)))) (mulf (extractStridedSlice S2x8192x6x8 ![0, 0, 0, 0] y slices_S2x8192x6x64_S2x8192x6x8_0_0_0_0) (broadcastInDim S2x8192x6x8 ![0, 1, 2, 3] bcast_S1x8192x1x8_S2x8192x6x8_0_1_2_3 (broadcastInDim S1x8192x1x8 ![1, 2, 3] bcast_S8192x1x8_S1x8192x1x8_1_2_3 (shapeCast S8192x1x8 (Host.sin ang) shapeCasts_S8192x8_S8192x1x8))))⟩,
    ⟨S2x8192x6x48, extractStridedSlice S2x8192x6x48 ![0, 0, 0, 16] y slices_S2x8192x6x64_S2x8192x6x48_0_0_0_16⟩] concatenates_S2x8192x6x8_S2x8192x6x8_S2x8192x6x48_S2x8192x6x64_d3

/-- In every head the first sixteen entries are rotated by the token's position. -/
theorem flat6_apply (Q : FVec Ideal S16384x384 .f32) (Y : Nat → EReal) (r : Fin 16384) (hQ : ∀ i : Fin 384, rowOf Q r i = Y i.val) (j : Fin 384) :
    shapeCast S16384x384 (rope6 (shapeCast S2x8192x6x64 Q shapeCasts_S16384x384_S2x8192x6x64)) shapeCasts_S2x8192x6x64_S16384x384 (ix2 (n0 := 16384) (n1 := 384) r j)
      = rot Y (r.val % 8192) j.val := by
  unfold rope6 rot
  simp only [pointwise]
  by_cases h1 : j.val % 64 < 8
  · refine (dif_pos h1).trans (Eq.trans ?_ (if_pos h1).symm)
    refine congrArg₂ (· - ·) (congrArg₂ (· * ·) ((congrArg Q ?_).trans (hQ j)) (congrArg Ideal.cos ((congrArg ang ?_).trans (ang_apply ⟨r.val % 8192, by omega⟩ ⟨j.val % 64, h1⟩))))
      (congrArg₂ (· * ·) ((congrArg Q ?_).trans (hQ ⟨j.val + 8, by omega⟩)) (congrArg Ideal.sin ((congrArg ang ?_).trans (ang_apply ⟨r.val % 8192, by omega⟩ ⟨j.val % 64, h1⟩)))) <;> idx_ext
  · refine (dif_neg h1).trans (Eq.trans ?_ (if_neg h1).symm)
    by_cases h2 : j.val % 64 - 8 < 8
    · refine (dif_pos h2).trans (Eq.trans ?_ (if_pos (show j.val % 64 < 16 by omega)).symm)
      refine congrArg₂ (· + ·) (congrArg₂ (· * ·) ((congrArg Q ?_).trans (hQ j)) (congrArg Ideal.cos ((congrArg ang ?_).trans (ang_apply ⟨r.val % 8192, by omega⟩ ⟨j.val % 64 - 8, h2⟩))))
        (congrArg₂ (· * ·) ((congrArg Q ?_).trans (hQ ⟨j.val - 8, by omega⟩)) (congrArg Ideal.sin ((congrArg ang ?_).trans (ang_apply ⟨r.val % 8192, by omega⟩ ⟨j.val % 64 - 8, h2⟩)))) <;> idx_ext
    · refine (dif_neg h2).trans (Eq.trans ?_ (if_neg (show ¬ j.val % 64 < 16 by omega)).symm)
      exact (congrArg Q (by idx_ext)).trans (hQ j)

/-- The rotation of 4 heads, as the reference spells it. -/
def rope4 (y : FVec Ideal S2x8192x4x64 .f32) : FVec Ideal S2x8192x4x64 .f32 :=
  concatenate S2x8192x4x64 3 [⟨S2x8192x4x8, subf (mulf (extractStridedSlice S2x8192x4x8 ![0, 0, 0, 0] y slices_S2x8192x4x64_S2x8192x4x8_0_0_0_0) (broadcastInDim S2x8192x4x8 ![0, 1, 2, 3] bcast_S1x8192x1x8_S2x8192x4x8_0_1_2_3 (broadcastInDim S1x8192x1x8 ![1, 2, 3] bcast_S8192x1x8_S1x8192x1x8_1_2_3 (shapeCast S8192x1x8 (Host.cos ang) shapeCasts_S8192x8_S8192x1x8)))) (mulf (extractStridedSlice S2x8192x4x8 ![0, 0, 0, 8] y slices_S2x8192x4x64_S2x8192x4x8_0_0_0_8) (broadcastInDim S2x8192x4x8 ![0, 1, 2, 3] bcast_S1x8192x1x8_S2x8192x4x8_0_1_2_3 (broadcastInDim S1x8192x1x8 ![1, 2, 3] bcast_S8192x1x8_S1x8192x1x8_1_2_3 (shapeCast S8192x1x8 (Host.sin ang) shapeCasts_S8192x8_S8192x1x8))))⟩,
    ⟨S2x8192x4x8, addf (mulf (extractStridedSlice S2x8192x4x8 ![0, 0, 0, 8] y slices_S2x8192x4x64_S2x8192x4x8_0_0_0_8) (broadcastInDim S2x8192x4x8 ![0, 1, 2, 3] bcast_S1x8192x1x8_S2x8192x4x8_0_1_2_3 (broadcastInDim S1x8192x1x8 ![1, 2, 3] bcast_S8192x1x8_S1x8192x1x8_1_2_3 (shapeCast S8192x1x8 (Host.cos ang) shapeCasts_S8192x8_S8192x1x8)))) (mulf (extractStridedSlice S2x8192x4x8 ![0, 0, 0, 0] y slices_S2x8192x4x64_S2x8192x4x8_0_0_0_0) (broadcastInDim S2x8192x4x8 ![0, 1, 2, 3] bcast_S1x8192x1x8_S2x8192x4x8_0_1_2_3 (broadcastInDim S1x8192x1x8 ![1, 2, 3] bcast_S8192x1x8_S1x8192x1x8_1_2_3 (shapeCast S8192x1x8 (Host.sin ang) shapeCasts_S8192x8_S8192x1x8))))⟩,
    ⟨S2x8192x4x48, extractStridedSlice S2x8192x4x48 ![0, 0, 0, 16] y slices_S2x8192x4x64_S2x8192x4x48_0_0_0_16⟩] concatenates_S2x8192x4x8_S2x8192x4x8_S2x8192x4x48_S2x8192x4x64_d3

/-- In every head the first sixteen entries are rotated by the token's position. -/
theorem flat4_apply (Q : FVec Ideal S16384x256 .f32) (Y : Nat → EReal) (r : Fin 16384) (hQ : ∀ i : Fin 256, rowOf Q r i = Y i.val) (j : Fin 256) :
    shapeCast S16384x256 (rope4 (shapeCast S2x8192x4x64 Q shapeCasts_S16384x256_S2x8192x4x64)) shapeCasts_S2x8192x4x64_S16384x256 (ix2 (n0 := 16384) (n1 := 256) r j)
      = rot Y (r.val % 8192) j.val := by
  unfold rope4 rot
  simp only [pointwise]
  by_cases h1 : j.val % 64 < 8
  · refine (dif_pos h1).trans (Eq.trans ?_ (if_pos h1).symm)
    refine congrArg₂ (· - ·) (congrArg₂ (· * ·) ((congrArg Q ?_).trans (hQ j)) (congrArg Ideal.cos ((congrArg ang ?_).trans (ang_apply ⟨r.val % 8192, by omega⟩ ⟨j.val % 64, h1⟩))))
      (congrArg₂ (· * ·) ((congrArg Q ?_).trans (hQ ⟨j.val + 8, by omega⟩)) (congrArg Ideal.sin ((congrArg ang ?_).trans (ang_apply ⟨r.val % 8192, by omega⟩ ⟨j.val % 64, h1⟩)))) <;> idx_ext
  · refine (dif_neg h1).trans (Eq.trans ?_ (if_neg h1).symm)
    by_cases h2 : j.val % 64 - 8 < 8
    · refine (dif_pos h2).trans (Eq.trans ?_ (if_pos (show j.val % 64 < 16 by omega)).symm)
      refine congrArg₂ (· + ·) (congrArg₂ (· * ·) ((congrArg Q ?_).trans (hQ j)) (congrArg Ideal.cos ((congrArg ang ?_).trans (ang_apply ⟨r.val % 8192, by omega⟩ ⟨j.val % 64 - 8, h2⟩))))
        (congrArg₂ (· * ·) ((congrArg Q ?_).trans (hQ ⟨j.val - 8, by omega⟩)) (congrArg Ideal.sin ((congrArg ang ?_).trans (ang_apply ⟨r.val % 8192, by omega⟩ ⟨j.val % 64 - 8, h2⟩)))) <;> idx_ext
    · refine (dif_neg h2).trans (Eq.trans ?_ (if_neg (show ¬ j.val % 64 < 16 by omega)).symm)
      exact (congrArg Q (by idx_ext)).trans (hQ j)

/-- The rotation of one head, as the reference spells it. -/
def rope1 (y : FVec Ideal S2x8192x64 .f32) : FVec Ideal S2x8192x64 .f32 :=
  concatenate S2x8192x64 2 [⟨S2x8192x8, subf (mulf (extractStridedSlice S2x8192x8 ![0, 0, 0] y slices_S2x8192x64_S2x8192x8_0_0_0) (broadcastInDim S2x8192x8 ![0, 1, 2] bcast_S1x8192x8_S2x8192x8_0_1_2 (broadcastInDim S1x8192x8 ![1, 2] bcast_S8192x8_S1x8192x8_1_2 (Host.cos ang)))) (mulf (extractStridedSlice S2x8192x8 ![0, 0, 8] y slices_S2x8192x64_S2x8192x8_0_0_8) (broadcastInDim S2x8192x8 ![0, 1, 2] bcast_S1x8192x8_S2x8192x8_0_1_2 (broadcastInDim S1x8192x8 ![1, 2] bcast_S8192x8_S1x8192x8_1_2 (Host.sin ang))))⟩,
    ⟨S2x8192x8, addf (mulf (extractStridedSlice S2x8192x8 ![0, 0, 8] y slices_S2x8192x64_S2x8192x8_0_0_8) (broadcastInDim S2x8192x8 ![0, 1, 2] bcast_S1x8192x8_S2x8192x8_0_1_2 (broadcastInDim S1x8192x8 ![1, 2] bcast_S8192x8_S1x8192x8_1_2 (Host.cos ang)))) (mulf (extractStridedSlice S2x8192x8 ![0, 0, 0] y slices_S2x8192x64_S2x8192x8_0_0_0) (broadcastInDim S2x8192x8 ![0, 1, 2] bcast_S1x8192x8_S2x8192x8_0_1_2 (broadcastInDim S1x8192x8 ![1, 2] bcast_S8192x8_S1x8192x8_1_2 (Host.sin ang))))⟩,
    ⟨S2x8192x48, extractStridedSlice S2x8192x48 ![0, 0, 16] y slices_S2x8192x64_S2x8192x48_0_0_16⟩] concatenates_S2x8192x8_S2x8192x8_S2x8192x48_S2x8192x64_d2

/-- Of the one head the first sixteen entries are rotated by the token's position. -/
theorem flat1_apply (Q : FVec Ideal S16384x64 .f32) (Y : Nat → EReal) (r : Fin 16384) (hQ : ∀ i : Fin 64, rowOf Q r i = Y i.val) (j : Fin 64) :
    shapeCast S16384x64 (rope1 (shapeCast S2x8192x64 Q shapeCasts_S16384x64_S2x8192x64)) shapeCasts_S2x8192x64_S16384x64 (ix2 (n0 := 16384) (n1 := 64) r j)
      = rot Y (r.val % 8192) j.val := by
  refine Eq.trans ?_ (rot_head Y (r.val % 8192) j.val j.isLt).symm
  unfold rope1
  simp only [pointwise]
  by_cases h1 : j.val < 8
  · refine (dif_pos h1).trans (Eq.trans ?_ (if_pos h1).symm)
    refine congrArg₂ (· - ·) (congrArg₂ (· * ·) ((congrArg Q ?_).trans (hQ j)) (congrArg Ideal.cos ((congrArg ang ?_).trans (ang_apply ⟨r.val % 8192, by omega⟩ ⟨j.val, h1⟩))))
      (congrArg₂ (· * ·) ((congrArg Q ?_).trans (hQ ⟨j.val + 8, by omega⟩)) (congrArg Ideal.sin ((congrArg ang ?_).trans (ang_apply ⟨r.val % 8192, by omega⟩ ⟨j.val, h1⟩)))) <;> idx_ext
  · refine (dif_neg h1).trans (Eq.trans ?_ (if_neg h1).symm)
    by_cases h2 : j.val - 8 < 8
    · refine (dif_pos h2).trans (Eq.trans ?_ (if_pos (show j.val < 16 by omega)).symm)
      refine congrArg₂ (· + ·) (congrArg₂ (· * ·) ((congrArg Q ?_).trans (hQ j)) (congrArg Ideal.cos ((congrArg ang ?_).trans (ang_apply ⟨r.val % 8192, by omega⟩ ⟨j.val - 8, h2⟩))))
        (congrArg₂ (· * ·) ((congrArg Q ?_).trans (hQ ⟨j.val - 8, by omega⟩)) (congrArg Ideal.sin ((congrArg ang ?_).trans (ang_apply ⟨r.val % 8192, by omega⟩ ⟨j.val - 8, h2⟩)))) <;> idx_ext
    · refine (dif_neg h2).trans (Eq.trans ?_ (if_neg (show ¬ j.val < 16 by omega)).symm)
      exact (congrArg Q (by idx_ext)).trans (hQ j)

/-- The four small parts beside each other, and zeros. -/
def beside (K : FVec Ideal S16384x64 .f32) (P : FVec Ideal S16384x3280 .f32) : FVec Ideal S16384x128 .f32 :=
  concatenate S16384x128 1 [⟨S16384x64, K⟩, ⟨S16384x4, extractStridedSlice S16384x4 ![0, 3276] P slices_S16384x3280_S16384x4_0_3276⟩,
    ⟨S16384x6, extractStridedSlice S16384x6 ![0, 1536] P slices_S16384x3280_S16384x6_0_1536⟩, ⟨S16384x6, extractStridedSlice S16384x6 ![0, 1542] P slices_S16384x3280_S16384x6_0_1542⟩,
    ⟨S16384x48, broadcastInDim S16384x48 ![] bcast_S_S16384x48 (constant S_ .f32 0x00000000#32)⟩] concatenates_S16384x64_S16384x4_S16384x6_S16384x6_S16384x48_S16384x128_d1

/-- Entry by entry. -/
theorem beside_apply (K : FVec Ideal S16384x64 .f32) (P : FVec Ideal S16384x3280 .f32) (A g : Fin 1024 → EReal) (w : Fin 1024 → Fin 3280 → EReal) (p : Nat) (r : Fin 16384)
    (hK : ∀ i : Fin 64, rowOf K r i = rot (fun l => proj A g w (3212 + l)) p i.val) (hP : ∀ (c : Nat) (hc : c < 3280), rowOf P r ⟨c, hc⟩ = proj A g w c) (j : Fin 128) :
    beside K P (ix2 (n0 := 16384) (n1 := 128) r j) = small A g w p j.val := by
  unfold beside small
  simp only [pointwise]
  by_cases h0 : j.val < 64
  · exact (dif_pos h0).trans (((congrArg K (by idx_ext)).trans (hK ⟨j.val, h0⟩)).trans (if_pos h0).symm)
  refine (dif_neg h0).trans (Eq.trans ?_ (if_neg h0).symm)
  by_cases h1 : j.val - 64 < 4
  · exact (dif_pos h1).trans (((congrArg P (by idx_ext)).trans (hP (3276 + (j.val - 64)) _)).trans (congrArg (proj A g w) (by unfold src; split_ifs <;> omega)))
  refine (dif_neg h1).trans ?_
  by_cases h2 : j.val - 64 - 4 < 6
  · exact (dif_pos h2).trans (((congrArg P (by idx_ext)).trans (hP (1536 + (j.val - 64 - 4)) _)).trans (congrArg (proj A g w) (by unfold src; split_ifs <;> omega)))
  refine (dif_neg h2).trans ?_
  by_cases h3 : j.val - 64 - 4 - 6 < 6
  · exact (dif_pos h3).trans (((congrArg P (by idx_ext)).trans (hP (1542 + (j.val - 64 - 4 - 6)) _)).trans (congrArg (proj A g w) (by unfold src; split_ifs <;> omega)))
  exact (dif_neg h3).trans (proj_out A g w _ (by unfold src; split_ifs <;> omega)).symm

section
variable (m : (ℓ : Loc nD τ sig) → Buf (Elt Ideal) ℓ) (c : Dev nD)

/-- The projection from the arguments, and a token's entries of it. -/
abbrev all : FVec Ideal S16384x3280 .f32 := prod (m ((c.tc : Thread nD τ).loc main_arg0)) (m ((c.tc : Thread nD τ).loc main_arg1)) (m ((c.tc : Thread nD τ).loc main_arg2))
def prj (i : Fin 16384) (l : Nat) : EReal :=
  proj (rowOf (m ((c.tc : Thread nD τ).loc main_arg0)) i) (vecOf (m ((c.tc : Thread nD τ).loc main_arg1))) (rowOf (m ((c.tc : Thread nD τ).loc main_arg2))) l
theorem all_apply (i : Fin 16384) (l : Nat) (hl : l < 3280) : rowOf (all m c) i ⟨l, hl⟩ = prj m c i l := prod_apply _ _ _ i l hl

/-- The results that aren't rotated. -/
theorem res14 (r : Fin 16384) (j : Fin 1152) : extractStridedSlice S16384x1152 ![0, 0] (all m c) slices_S16384x3280_S16384x1152_0_0 (ix2 (n0 := 16384) (n1 := 1152) r j) = prj m c r (0 + j.val) :=
  (cut1152 _ 0 (by omega) _ r j).trans (all_apply m c r _ _)
theorem res15 (r : Fin 16384) (j : Fin 384) : extractStridedSlice S16384x384 ![0, 1152] (all m c) slices_S16384x3280_S16384x384_0_1152 (ix2 (n0 := 16384) (n1 := 384) r j) = prj m c r (1152 + j.val) :=
  (cut384 _ 1152 (by omega) _ r j).trans (all_apply m c r _ _)
theorem res18 (r : Fin 16384) (j : Fin 256) : extractStridedSlice S16384x256 ![0, 1548] (all m c) slices_S16384x3280_S16384x256_0_1548 (ix2 (n0 := 16384) (n1 := 256) r j) = prj m c r (1548 + j.val) :=
  (cut256 _ 1548 (by omega) _ r j).trans (all_apply m c r _ _)
theorem res21 (r : Fin 16384) (j : Fin 384) : extractStridedSlice S16384x384 ![0, 2572] (all m c) slices_S16384x3280_S16384x384_0_2572 (ix2 (n0 := 16384) (n1 := 384) r j) = prj m c r (2572 + j.val) :=
  (cut384 _ 2572 (by omega) _ r j).trans (all_apply m c r _ _)

/-- The rotated results. -/
theorem res61 (r : Fin 16384) (j : Fin 384) : (res_main_v61 m c : S16384x384.Idx → EReal) (ix2 (n0 := 16384) (n1 := 384) r j) = rot (fun l => prj m c r (1804 + l)) (r.val % 8192) j.val := by
  refine (show _ = shapeCast S16384x384 (rope6 (shapeCast S2x8192x6x64 (extractStridedSlice S16384x384 ![0, 1804] (all m c) slices_S16384x3280_S16384x384_0_1804)
    shapeCasts_S16384x384_S2x8192x6x64)) shapeCasts_S2x8192x6x64_S16384x384 (ix2 (n0 := 16384) (n1 := 384) r j) from rfl).trans ?_
  exact flat6_apply _ _ r (fun i => (cut384 _ 1804 (by omega) _ r i).trans (all_apply m c r _ _)) j
theorem res83 (r : Fin 16384) (j : Fin 384) : (res_main_v83 m c : S16384x384.Idx → EReal) (ix2 (n0 := 16384) (n1 := 384) r j) = rot (fun l => prj m c r (2188 + l)) (r.val % 8192) j.val := by
  refine (show _ = shapeCast S16384x384 (rope6 (shapeCast S2x8192x6x64 (extractStridedSlice S16384x384 ![0, 2188] (all m c) slices_S16384x3280_S16384x384_0_2188)
    shapeCasts_S16384x384_S2x8192x6x64)) shapeCasts_S2x8192x6x64_S16384x384 (ix2 (n0 := 16384) (n1 := 384) r j) from rfl).trans ?_
  exact flat6_apply _ _ r (fun i => (cut384 _ 2188 (by omega) _ r i).trans (all_apply m c r _ _)) j
theorem res105 (r : Fin 16384) (j : Fin 256) : (res_main_v105 m c : S16384x256.Idx → EReal) (ix2 (n0 := 16384) (n1 := 256) r j) = rot (fun l => prj m c r (2956 + l)) (r.val % 8192) j.val := by
  refine (show _ = shapeCast S16384x256 (rope4 (shapeCast S2x8192x4x64 (extractStridedSlice S16384x256 ![0, 2956] (all m c) slices_S16384x3280_S16384x256_0_2956)
    shapeCasts_S16384x256_S2x8192x4x64)) shapeCasts_S2x8192x4x64_S16384x256 (ix2 (n0 := 16384) (n1 := 256) r j) from rfl).trans ?_
  exact flat4_apply _ _ r (fun i => (cut256 _ 2956 (by omega) _ r i).trans (all_apply m c r _ _)) j

/-- The small parts. -/
theorem res127 (r : Fin 16384) (j : Fin 128) : (res_main_v127 m c : S16384x128.Idx → EReal) (ix2 (n0 := 16384) (n1 := 128) r j)
    = small (rowOf (m ((c.tc : Thread nD τ).loc main_arg0)) r) (vecOf (m ((c.tc : Thread nD τ).loc main_arg1))) (rowOf (m ((c.tc : Thread nD τ).loc main_arg2))) (r.val % 8192) j.val := by
  refine (show _ = beside (shapeCast S16384x64 (rope1 (shapeCast S2x8192x64 (extractStridedSlice S16384x64 ![0, 3212] (all m c) slices_S16384x3280_S16384x64_0_3212)
    shapeCasts_S16384x64_S2x8192x64)) shapeCasts_S2x8192x64_S16384x64) (all m c) (ix2 (n0 := 16384) (n1 := 128) r j) from rfl).trans ?_
  exact beside_apply _ _ _ _ _ _ r (flat1_apply _ _ r fun i => (cut64 _ 3212 (by omega) _ r i).trans (all_apply m c r _ _)) (all_apply m c r) j
end

end Cert.InProjReferenceIdeal

end
-- ==== Proof.InProjValues.lean ====
module

public import proofs.«01_k».proof.Defs
public import proofs.«01_k».proof.Proof.InProjArrays
public import proofs.«01_k».proof.Proof.InProjReference

@[expose] public section

/-! The projection kernel's eight results are the reference's. -/

noncomputable section

namespace Cert.Proof

open Idealize.ShloMosaic Idealize.SL.Sem

section
variable (m : (ℓ : Loc Cert.InProjIdeal.nD Cert.InProjIdeal.τ Cert.InProjIdeal.sig) → Buf (Elt Ideal) ℓ)
variable (m' : (ℓ : Loc Cert.InProjReferenceIdeal.nD Cert.InProjReferenceIdeal.τ Cert.InProjReferenceIdeal.sig) → Buf (Elt Ideal) ℓ)
variable (c : Dev Cert.InProjIdeal.nD)
variable (h0 : m' ((c.tc : Thread Cert.InProjReferenceIdeal.nD Cert.InProjReferenceIdeal.τ).loc Cert.InProjReferenceIdeal.main_arg0)
  = m ((c.tc : Thread Cert.InProjIdeal.nD Cert.InProjIdeal.τ).loc Cert.InProjIdeal.main_arg0))
variable (h1 : m' ((c.tc : Thread Cert.InProjReferenceIdeal.nD Cert.InProjReferenceIdeal.τ).loc Cert.InProjReferenceIdeal.main_arg1)
  = m ((c.tc : Thread Cert.InProjIdeal.nD Cert.InProjIdeal.τ).loc Cert.InProjIdeal.main_arg1))
variable (h2 : m' ((c.tc : Thread Cert.InProjReferenceIdeal.nD Cert.InProjReferenceIdeal.τ).loc Cert.InProjReferenceIdeal.main_arg2)
  = m ((c.tc : Thread Cert.InProjIdeal.nD Cert.InProjIdeal.τ).loc Cert.InProjIdeal.main_arg2))
include h0 h1 h2

/-- On equal arguments, a token's projection is the same on both sides, and so are its small parts. -/
theorem same_prj (i : Fin 16384) (l : Nat) : Cert.InProjReferenceIdeal.prj m' c i l = Cert.InProjIdeal.prj m c i l := by
  unfold Cert.InProjReferenceIdeal.prj
  rw [h0, h1, h2]
  rfl
theorem same_rot (o p : Nat) (i : Fin 16384) (j : Nat) :
    InProjRow.rot (fun l => Cert.InProjReferenceIdeal.prj m' c i (o + l)) p j = InProjRow.rot (fun l => Cert.InProjIdeal.prj m c i (o + l)) p j :=
  congrArg (fun Y => InProjRow.rot Y p j) (funext fun l => same_prj m m' c h0 h1 h2 i (o + l))
theorem same_rest (r : Fin 16384) (j : Fin 128) :
    (Cert.InProjReferenceIdeal.Value.res_main_v127 (F := Ideal) m' c : Cert.InProjReferenceIdeal.S16384x128.Idx → EReal) (ix2 (n0 := 16384) (n1 := 128) r j) = Cert.InProjIdeal.rest m c r j.val := by
  refine (Cert.InProjReferenceIdeal.res127 m' c r j).trans ?_
  rw [h0, h1, h2]
  rfl
end

/-- On equal arguments, the projection kernel and its reference leave the same eight results. -/
theorem same_projections : Cert.algebraic_InProjIdeal_InProjReferenceIdeal := by
  intro m g m' g' _ hsame
  refine ⟨fun c => Cert.InProjIdeal.result6 m c, fun c => Cert.InProjIdeal.result7 m c, fun c => Cert.InProjIdeal.result8 m c, fun c => Cert.InProjIdeal.result9 m c,
    fun c => Cert.InProjIdeal.result10 m c, fun c => Cert.InProjIdeal.result11 m c, fun c => Cert.InProjIdeal.result12 m c, fun c => Cert.InProjIdeal.result13 m c,
    Cert.InProjIdeal.run_values m g, ?_⟩
  refine (θ_run Cert.InProjReferenceIdeal.defs _ _).mono (fun r h c => ?_) (Cert.InProjReferenceIdeal.Value.run (F := Ideal) m' g')
  obtain ⟨h0, h1, h2⟩ := hsame c
  obtain ⟨e0, e1, e2, e3, e4, e5, e6, e7, ha⟩ := h c
  refine ⟨e0.trans (funext fun y => ?_), e1.trans (funext fun y => ?_), e2.trans (funext fun y => ?_), e3.trans (funext fun y => ?_), e4.trans (funext fun y => ?_),
    e5.trans (funext fun y => ?_), e6.trans (funext fun y => ?_), e7.trans (funext fun y => ?_), ha⟩
  · exact (congrArg _ (ValueIdx.eq_ix2 y)).trans ((Cert.InProjReferenceIdeal.res14 m' c (y 0) (y 1)).trans (same_prj m m' c h0 h1 h2 _ _))
  · exact (congrArg _ (ValueIdx.eq_ix2 y)).trans ((Cert.InProjReferenceIdeal.res15 m' c (y 0) (y 1)).trans (same_prj m m' c h0 h1 h2 _ _))
  · exact (congrArg _ (ValueIdx.eq_ix2 y)).trans ((Cert.InProjReferenceIdeal.res18 m' c (y 0) (y 1)).trans (same_prj m m' c h0 h1 h2 _ _))
  · exact (congrArg _ (ValueIdx.eq_ix2 y)).trans ((Cert.InProjReferenceIdeal.res61 m' c (y 0) (y 1)).trans (same_rot m m' c h0 h1 h2 1804 _ _ _))
  · exact (congrArg _ (ValueIdx.eq_ix2 y)).trans ((Cert.InProjReferenceIdeal.res83 m' c (y 0) (y 1)).trans (same_rot m m' c h0 h1 h2 2188 _ _ _))
  · exact (congrArg _ (ValueIdx.eq_ix2 y)).trans ((Cert.InProjReferenceIdeal.res21 m' c (y 0) (y 1)).trans (same_prj m m' c h0 h1 h2 _ _))
  · exact (congrArg _ (ValueIdx.eq_ix2 y)).trans ((Cert.InProjReferenceIdeal.res105 m' c (y 0) (y 1)).trans (same_rot m m' c h0 h1 h2 2956 _ _ _))
  · exact (congrArg _ (ValueIdx.eq_ix2 y)).trans (same_rest m m' c h0 h1 h2 (y 0) (y 1))

end Cert.Proof

end
-- ==== Proof.lean ====
module

public import proofs.«01_k».proof.Defs
public import proofs.«01_k».proof.Proof.Frame
public import proofs.«01_k».proof.Proof.Exact
public import proofs.«01_k».proof.Proof.Values
public import proofs.«01_k».proof.Proof.FfnValues
public import proofs.«01_k».proof.Proof.InProjValues
public import proofs.«01_k».proof.Proof.Gen.Select.Frame
public import proofs.«01_k».proof.Proof.Gen.SelectIdeal.Frame
public import proofs.«01_k».proof.Proof.Gen.SelectReferenceIdeal.Run
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.InProj.Frame
public import proofs.«01_k».proof.Proof.Gen.InProjIdeal.Frame
public import proofs.«01_k».proof.Proof.Gen.InProjReferenceIdeal.Run
public import Idealize.ShloMosaic.Adequacy
public import Idealize.ShloMosaic.Init

@[expose] public section

noncomputable section

namespace Cert.Proof

open Idealize.ShloMosaic Idealize.SL.Sem

/-- The selection at the ideal instance runs, leaves its argument as it was and every counter at zero. -/
theorem frame_ideal : Cert.quiescent_SelectIdeal := fun m ρ _ => Cert.SelectIdeal.frame_run (F := Ideal) m ρ

/-- The reference runs and leaves its argument as it was. -/
theorem frame_reference : Cert.quiescent_SelectReferenceIdeal := fun m ρ _ =>
  (θ_run Cert.SelectReferenceIdeal.defs _ _).mono (fun r h => ⟨fun c => (h c).2.2, Idealize.ShloMosaic.sem_eq_zero_of_no_sems (by decide) r.2⟩)
    (Cert.SelectReferenceIdeal.Value.run (F := Ideal) m ρ)

/-- The feed-forward reference runs and leaves its arguments as they were. -/
theorem frame_ffn_reference : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

/-- The projection's reference runs and leaves its arguments as they were. -/
theorem frame_in_proj_reference : Cert.quiescent_InProjReferenceIdeal := fun m ρ _ =>
  (θ_run Cert.InProjReferenceIdeal.defs _ _).mono (fun r h => ⟨fun c => (h c).2.2.2.2.2.2.2.2, Idealize.ShloMosaic.sem_eq_zero_of_no_sems (by decide) r.2⟩)
    (Cert.InProjReferenceIdeal.Value.run (F := Ideal) m ρ)

/-- Everything that is claimed. -/
theorem claim : Cert.Claim :=
  ⟨Cert.Select.Gen.facts, Cert.SelectIdeal.Gen.facts, Cert.SelectReferenceIdeal.Gen.facts, Cert.Ffn.Gen.facts, Cert.FfnIdeal.Gen.facts,
    Cert.FfnReferenceIdeal.Gen.facts, Cert.InProj.Gen.facts, Cert.InProjIdeal.Gen.facts, Cert.InProjReferenceIdeal.Gen.facts, Cert.Pre_keys_of_scores.facts,
    frame_select, frame_ideal, fun m ρ _ => Cert.SelectIdeal.frame_run (F := Ideal) m ρ, frame_reference,
    fun m ρ _ => frame_reference m ρ trivial, fun m ρ _ => Cert.Ffn.Gen.frame m ρ, fun m ρ _ => Cert.FfnIdeal.Gen.frame m ρ, frame_ffn_reference,
    fun m ρ _ => Cert.InProj.Gen.frame m ρ, fun m ρ _ => Cert.InProjIdeal.Gen.frame m ρ, frame_in_proj_reference,
    trivial, same_results, trivial, same_rows, trivial, same_projections⟩

end Cert.Proof

end
